-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite2 [hPre_finite2 : Cert.Pre_finite2.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite2 [hKernel3Ideal : Cert.Kernel3Ideal.Facts] [hPre_finite2 : Cert.Pre_finite2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite2 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v5_0)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v6)) (v4 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v5_0) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v6) = v3 c
          ∧ r.2.mem ((c.tc : Thread Cert.Kernel2Ideal.nD Cert.Kernel2Ideal.τ).loc Cert.Kernel2Ideal.main_v7) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference2Ideal_pre_finite2 [hKernel3Ideal : Cert.Kernel3Ideal.Facts] [hReference2Ideal : Cert.Reference2Ideal.Facts] [hPre_finite2 : Cert.Pre_finite2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel3Ideal_finite2 m →
    (∀ c : Dev Cert.Kernel3Ideal.nD,
      m' ((c.tc : Thread Cert.Reference2Ideal.nD Cert.Reference2Ideal.τ).loc Cert.Reference2Ideal.main_arg0) = m ((c.tc : Thread Cert.Kernel3Ideal.nD Cert.Kernel3Ideal.τ).loc Cert.Kernel3Ideal.main_arg0)
      ∧ m' ((c.tc : Thread Cert.Reference2Ideal.nD Cert.Reference2Ideal.τ).loc Cert.Reference2Ideal.main_arg1) = m ((c.tc : Thread Cert.Kernel3Ideal.nD Cert.Kernel3Ideal.τ).loc Cert.Kernel3Ideal.main_arg1)
      ∧ m' ((c.tc : Thread Cert.Reference2Ideal.nD Cert.Reference2Ideal.τ).loc Cert.Reference2Ideal.main_arg2) = m ((c.tc : Thread Cert.Kernel3Ideal.nD Cert.Kernel3Ideal.τ).loc Cert.Kernel3Ideal.main_arg2)
      ∧ m' ((c.tc : Thread Cert.Reference2Ideal.nD Cert.Reference2Ideal.τ).loc Cert.Reference2Ideal.main_arg3) = m ((c.tc : Thread Cert.Kernel3Ideal.nD Cert.Kernel3Ideal.τ).loc Cert.Kernel3Ideal.main_arg3)
      ∧ m' ((c.tc : Thread Cert.Reference2Ideal.nD Cert.Reference2Ideal.τ).loc Cert.Reference2Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v6_0)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v7)) (v4 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v6_0) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v7) = v3 c
          ∧ r.2.mem ((c.tc : Thread Cert.Kernel3Ideal.nD Cert.Kernel3Ideal.τ).loc Cert.Kernel3Ideal.main_v8) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_1)) (v1 : (c : Dev Cert.Kernel4Ideal.nD) → Buf (Elt Ideal) ((c.tc : Thread Cert.Kernel4Ideal.nD Cert.Kernel4Ideal.τ).loc Cert.Kernel4Ideal.main_v7_2)) (v2 : (c : Dev Cert.Kernel4Ideal.nD) → Buf (Elt Ideal) ((c.tc : Thread Cert.Kernel4Ideal.nD Cert.Kernel4Ideal.τ).loc Cert.Kernel4Ideal.main_v12)) (v3 : (c : Dev Cert.Kernel4Ideal.nD) → Buf (Elt Ideal) ((c.tc : Thread Cert.Kernel4Ideal.nD Cert.Kernel4Ideal.τ).loc Cert.Kernel4Ideal.main_v8_0)) (v4 : (c : Dev Cert.Kernel4Ideal.nD) → Buf (Elt Ideal) ((c.tc : Thread Cert.Kernel4Ideal.nD Cert.Kernel4Ideal.τ).loc Cert.Kernel4Ideal.main_v8_1)) (v5 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_1) = v0 c
          ∧ r.2.mem ((c.tc : Thread Cert.Kernel4Ideal.nD Cert.Kernel4Ideal.τ).loc Cert.Kernel4Ideal.main_v7_2) = v1 c
          ∧ r.2.mem ((c.tc : Thread Cert.Kernel4Ideal.nD Cert.Kernel4Ideal.τ).loc Cert.Kernel4Ideal.main_v12) = v2 c
          ∧ r.2.mem ((c.tc : Thread Cert.Kernel4Ideal.nD Cert.Kernel4Ideal.τ).loc Cert.Kernel4Ideal.main_v8_0) = v3 c
          ∧ r.2.mem ((c.tc : Thread Cert.Kernel4Ideal.nD Cert.Kernel4Ideal.τ).loc Cert.Kernel4Ideal.main_v8_1) = v4 c
          ∧ r.2.mem ((c.tc : Thread Cert.Kernel4Ideal.nD Cert.Kernel4Ideal.τ).loc Cert.Kernel4Ideal.main_v11) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_v22) = v4 c
          ∧ r.2.mem ((c.tc : Thread Cert.Reference4Ideal.nD Cert.Reference4Ideal.τ).loc Cert.Reference4Ideal.main_v45) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite2 (hKernel3Ideal := hKernel3Ideal) (hPre_finite2 := hPre_finite2)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference2Ideal_pre_finite2 (hKernel3Ideal := hKernel3Ideal) (hReference2Ideal := hReference2Ideal) (hPre_finite2 := hPre_finite2)
    ∧ preserves_Kernel4_Kernel4Ideal
    ∧ algebraic_Kernel4Ideal_Reference4Ideal (hKernel4Ideal := hKernel4Ideal) (hReference4Ideal := hReference4Ideal)
-- ==== Pre_finite.lean ====
abbrev S2048x1536 : Shape := ⟨2, ![2048, 1536]⟩
abbrev S8x2048 : Shape := ⟨2, ![8, 2048]⟩
abbrev S2048x512 : Shape := ⟨2, ![2048, 512]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x1536 .bf16) (main_arg1 : FVec F S8x2048 .f32) (main_arg2 : FVec F S2048x512 .f32) : IVec S_ 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S8x2048 .f32 := Host.absf main_arg1
  let main_cst_0 : FVec F S_ .f32 := constant S_ .f32 0x7F800000#32
  let main_v6 : FVec F S8x2048 .f32 := broadcastInDim S8x2048 ![] bcast_S_S8x2048 main_cst_0
  let main_v7 : IVec S8x2048 1 := cmpf .olt main_v5 main_v6
  let main_c_1 : IVec S_ 1 := constantI S_ 1 1#1
  let main_v8 : IVec S_ 1 := (fun x v => Host.reduce IntOp.andi x v reducesTo_S8x2048_S_d0_1 h_S_) main_v7 main_c_1
  let main_v9 : IVec S_ 1 := andi main_v4 main_v8
  let main_v10 : FVec F S2048x512 .f32 := Host.absf main_arg2
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  let main_c_3 : IVec S_ 1 := constantI S_ 1 1#1
  let main_v13 : IVec S_ 1 := (fun x v => Host.reduce IntOp.andi x v reducesTo_S2048x512_S_d0_1 h_S_) main_v12 main_c_3
  let main_v14 : IVec S_ 1 := andi main_v9 main_v13
  main_v14
-- ==== Pre_finite2.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1x1024 .f32) (main_arg2 : FVec F S1024x5632 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S2048x1536 : Shape := ⟨2, ![2048, 1536]⟩
abbrev S8x2048 : Shape := ⟨2, ![8, 2048]⟩
abbrev S2048x512 : Shape := ⟨2, ![2048, 512]⟩
abbrev S8x1x2048 : Shape := ⟨3, ![8, 1, 2048]⟩
abbrev S8x2048x1 : Shape := ⟨3, ![8, 2048, 1]⟩
abbrev S2048x128 : Shape := ⟨2, ![2048, 128]⟩
abbrev S2x1x2048 : Shape := ⟨3, ![2, 1, 2048]⟩
abbrev S2x2048x1 : Shape := ⟨3, ![2, 2048, 1]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S512x128 : Shape := ⟨2, ![512, 128]⟩
abbrev S1x1x512 : Shape := ⟨3, ![1, 1, 512]⟩
abbrev S1x512 : Shape := ⟨2, ![1, 512]⟩
abbrev S256x512 : Shape := ⟨2, ![256, 512]⟩
abbrev S768x128 : Shape := ⟨2, ![768, 128]⟩
abbrev S1x1x768 : Shape := ⟨3, ![1, 1, 768]⟩
abbrev S1x768 : Shape := ⟨2, ![1, 768]⟩
abbrev S256x768 : Shape := ⟨2, ![256, 768]⟩
abbrev S1024x128 : Shape := ⟨2, ![1024, 128]⟩
abbrev S1x1x1024 : Shape := ⟨3, ![1, 1, 1024]⟩
abbrev S1x1024 : Shape := ⟨2, ![1, 1024]⟩
abbrev S256x1024 : Shape := ⟨2, ![256, 1024]⟩
abbrev S1280x128 : Shape := ⟨2, ![1280, 128]⟩
abbrev S1x1x1280 : Shape := ⟨3, ![1, 1, 1280]⟩
abbrev S1x1280 : Shape := ⟨2, ![1, 1280]⟩
abbrev S256x1280 : Shape := ⟨2, ![256, 1280]⟩
abbrev S1536x128 : Shape := ⟨2, ![1536, 128]⟩
abbrev S1x1x1536 : Shape := ⟨3, ![1, 1, 1536]⟩
abbrev S1x1536 : Shape := ⟨2, ![1, 1536]⟩
abbrev S256x1536 : Shape := ⟨2, ![256, 1536]⟩
abbrev S1792x128 : Shape := ⟨2, ![1792, 128]⟩
abbrev S1x1x1792 : Shape := ⟨3, ![1, 1, 1792]⟩
abbrev S1x1792 : Shape := ⟨2, ![1, 1792]⟩
abbrev S256x1792 : Shape := ⟨2, ![256, 1792]⟩
abbrev S1x1x2048 : Shape := ⟨3, ![1, 1, 2048]⟩
abbrev S1x2048 : Shape := ⟨2, ![1, 2048]⟩
abbrev S256x2048 : Shape := ⟨2, ![256, 2048]⟩
abbrev S512 : Shape := ⟨1, ![512]⟩
abbrev S768 : Shape := ⟨1, ![768]⟩
abbrev S1024 : Shape := ⟨1, ![1024]⟩
abbrev S1280 : Shape := ⟨1, ![1280]⟩
abbrev S1536 : Shape := ⟨1, ![1536]⟩
abbrev S1792 : Shape := ⟨1, ![1792]⟩
abbrev S2048 : Shape := ⟨1, ![2048]⟩

abbrev nBuf : Space → Nat
  | .hbm => 10
  | .vmem => 34
  | .smem => 0
  | _ => 0

abbrev bufTy : (tb : Table) → Fin (tcTables nBuf tb) → BufTy
  | .hbm, ⟨0, _⟩ => ⟨S2048x1536, .bf16⟩
  | .hbm, ⟨1, _⟩ => ⟨S8x2048, .f32⟩
  | .hbm, ⟨2, _⟩ => ⟨S2048x512, .f32⟩
  | .hbm, ⟨3, _⟩ => ⟨S8x1x2048, .f32⟩
  | .hbm, ⟨4, _⟩ => ⟨S2048x512, .f32⟩
  | .hbm, ⟨5, _⟩ => ⟨S8x2048x1, .f32⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S8x1x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x1x2048, .f32⟩
  | .local _ .vmem, ⟨7, _⟩ => ⟨S2x1x2048, .f32⟩
  | .local _ .vmem, ⟨8, _⟩ => ⟨S2048x128, .f32⟩
  | .local _ .vmem, ⟨9, _⟩ => ⟨S2048x128, .f32⟩
  | .local _ .vmem, ⟨10, _⟩ => ⟨S2x2048x1, .f32⟩
  | .local _ .vmem, ⟨11, _⟩ => ⟨S2x2048x1, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2x1x2048, .f32⟩
  | .local _ .vmem, ⟨19, _⟩ => ⟨S2x1x2048, .f32⟩
  | .local _ .vmem, ⟨20, _⟩ => ⟨S2x2048x1, .f32⟩
  | .local _ .vmem, ⟨21, _⟩ => ⟨S2x2048x1, .f32⟩
  | .local _ .vmem, ⟨22, _⟩ => ⟨S2048x128, .f32⟩
  | .local _ .vmem, ⟨23, _⟩ => ⟨S2048x128, .f32⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2x1x2048, .f32⟩
  | .local _ .vmem, ⟨31, _⟩ => ⟨S2x1x2048, .f32⟩
  | .local _ .vmem, ⟨32, _⟩ => ⟨S2048x128, .f32⟩
  | .local _ .vmem, ⟨33, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_scratch0 : Ref sig .tc := ⟨.vmem, 32, rfl⟩
abbrev cc1_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x1x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S2048x1536 : Shape := ⟨2, ![2048, 1536]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 124
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S8x2048, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S2048x512, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S8x2048, .i1⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x64x2048, .f32⟩
  | .hbm, ⟨74, _⟩ => ⟨S2048x8x64, .f32⟩
  | .hbm, ⟨75, _⟩ => ⟨S2048x512, .f32⟩
  | .hbm, ⟨76, _⟩ => ⟨S2048x8x64, .f32⟩
  | .hbm, ⟨77, _⟩ => ⟨S8x64x2048, .f32⟩
  | .hbm, ⟨78, _⟩ => ⟨S8x2048x2048, .f32⟩
  | .hbm, ⟨79, _⟩ => ⟨S8x64x2048, .f32⟩
  | .hbm, ⟨80, _⟩ => ⟨S2048x8x64, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048, .f32⟩
  | .hbm, ⟨109, _⟩ => ⟨S8x2048, .f32⟩
  | .hbm, ⟨110, _⟩ => ⟨S_, .f32⟩
  | .hbm, ⟨111, _⟩ => ⟨S8x2048x2048, .f32⟩
  | .hbm, ⟨112, _⟩ => ⟨S8x2048x2048, .f32⟩
  | .hbm, ⟨113, _⟩ => ⟨S8x2048x64, .f32⟩
  | .hbm, ⟨114, _⟩ => ⟨S2048x8x64, .f32⟩
  | .hbm, ⟨115, _⟩ => ⟨S8x2048x64, .f32⟩
  | .hbm, ⟨116, _⟩ => ⟨S2048x8x64, .f32⟩
  | .hbm, ⟨117, _⟩ => ⟨S2048x512, .f32⟩
  | .hbm, ⟨118, _⟩ => ⟨S2048x512, .bf16⟩
  | .hbm, ⟨119, _⟩ => ⟨S2048x512, .f32⟩
  | .hbm, ⟨120, _⟩ => ⟨S2048x512, .bf16⟩
  | .hbm, ⟨121, _⟩ => ⟨S2048x512, .f32⟩
  | .hbm, ⟨122, _⟩ => ⟨S2048x512, .bf16⟩
  | .hbm, ⟨123, _⟩ => ⟨S8x1x2048, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1408x1024 : Shape := ⟨2, ![1408, 1024]⟩
abbrev S256 : Shape := ⟨1, ![256]⟩
abbrev S256x1 : Shape := ⟨2, ![256, 1]⟩
abbrev S256x1408 : Shape := ⟨2, ![256, 1408]⟩
abbrev S1024 : Shape := ⟨1, ![1024]⟩
abbrev S2048x1408 : Shape := ⟨2, ![2048, 1408]⟩
abbrev S1x2816x1024 : Shape := ⟨3, ![1, 2816, 1024]⟩
abbrev S1x1408x1024 : Shape := ⟨3, ![1, 1408, 1024]⟩

abbrev nBuf : Space → Nat
  | .hbm => 20
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2048x1024, .f32⟩
  | .hbm, ⟨10, _⟩ => ⟨S2048x1024, .bf16⟩
  | .hbm, ⟨11, _⟩ => ⟨S2048x5632, .bf16⟩
  | .hbm, ⟨12, _⟩ => ⟨S2048x2816, .bf16⟩
  | .hbm, ⟨13, _⟩ => ⟨S2048x1024, .f32⟩
  | .hbm, ⟨14, _⟩ => ⟨S2048x5632, .bf16⟩
  | .hbm, ⟨15, _⟩ => ⟨S1x1024, .f32⟩
  | .hbm, ⟨16, _⟩ => ⟨S2048x1024, .bf16⟩
  | .hbm, ⟨17, _⟩ => ⟨S2048x1024, .bf16⟩
  | .hbm, ⟨18, _⟩ => ⟨S4x1024x1408, .bf16⟩
  | .hbm, ⟨19, _⟩ => ⟨S1x2816x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x5632, .bf16⟩
  | .local _ .vmem, ⟨8, _⟩ => ⟨S256x5632, .bf16⟩
  | .local _ .vmem, ⟨9, _⟩ => ⟨S256x2816, .bf16⟩
  | .local _ .vmem, ⟨10, _⟩ => ⟨S256x2816, .bf16⟩
  | .local _ .vmem, ⟨11, _⟩ => ⟨S4x1024x1408, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x5632, .bf16⟩
  | .local _ .vmem, ⟨18, _⟩ => ⟨S256x5632, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x5632, .bf16⟩
  | .local _ .vmem, ⟨23, _⟩ => ⟨S256x5632, .bf16⟩
  | .local _ .vmem, ⟨24, _⟩ => ⟨S1x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S4x1024x1408, .bf16⟩
  | .local _ .vmem, ⟨30, _⟩ => ⟨S2816x1024, .bf16⟩
  | .local _ .vmem, ⟨31, _⟩ => ⟨S2048x1024, .bf16⟩
  | .local _ .vmem, ⟨32, _⟩ => ⟨S2048x1408, .bf16⟩
  | .local _ .vmem, ⟨33, _⟩ => ⟨S2048x1408, .bf16⟩
  | .local _ .vmem, ⟨34, _⟩ => ⟨S1x1024x1408, .bf16⟩
  | .local _ .vmem, ⟨35, _⟩ => ⟨S1x1024x1408, .bf16⟩
  | .local _ .vmem, ⟨36, _⟩ => ⟨S2048x1408, .bf16⟩
  | .local _ .vmem, ⟨37, _⟩ => ⟨S2048x1408, .bf16⟩
  | .local _ .vmem, ⟨38, _⟩ => ⟨S2048x1024, .bf16⟩
  | .local _ .vmem, ⟨39, _⟩ => ⟨S1x1408x1024, .bf16⟩
  | .local _ .vmem, ⟨40, _⟩ => ⟨S1x1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc1_scratch1 : Ref sig .tc := ⟨.vmem, 30, rfl⟩
abbrev cc2_stg0_0 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem7_1 : DmaSem sig := 30
abbrev cc1_sem8_0 : DmaSem sig := 31
abbrev cc1_sem8_1 : DmaSem sig := 32
abbrev cc2_sem0_0 : DmaSem sig := 39
abbrev cc2_sem1_0 : DmaSem sig := 40
abbrev cc2_sem1_1 : DmaSem sig := 41
abbrev cc2_sem2_0 : DmaSem sig := 42
abbrev cc2_sem2_1 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem2_1 : DmaSem sig := 48

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_9 : BitVec 32 := 0#32
  let v2 : BitVec 1 := Scalar.cmpi .ne v1 c0_i32_9
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_10 : BitVec 32 := 0#32
  let v5 : BitVec 1 := Scalar.cmpi .ne v4 c0_i32_10
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_11 : BitVec 32 := 0#32
  let v5 : BitVec 1 := Scalar.cmpi .ne v4 c0_i32_11
  v5

def k1_cond3 (i : grid1.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_12 : BitVec 32 := 0#32
  let v8 : BitVec 1 := Scalar.cmpi .ne v7 c0_i32_12
  v8

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x5632 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1x1408x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference2Ideal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024x2816 : Shape := ⟨2, ![1024, 2816]⟩
abbrev S5632x1024 : Shape := ⟨2, ![5632, 1024]⟩
abbrev S1024 : Shape := ⟨1, ![1024]⟩
abbrev S1024x4x1408 : Shape := ⟨3, ![1024, 4, 1408]⟩
abbrev S4x1024x1408 : Shape := ⟨3, ![4, 1024, 1408]⟩
abbrev S1x2816x1024 : Shape := ⟨3, ![1, 2816, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S1024x2816, .f32⟩
  | .hbm, ⟨51, _⟩ => ⟨S2816x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x5632, .f32⟩
  | .hbm, ⟨60, _⟩ => ⟨S5632x1024, .f32⟩
  | .hbm, ⟨61, _⟩ => ⟨S1024x5632, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S1024x5632, .bf16⟩
  | .hbm, ⟨88, _⟩ => ⟨S1024x4x1408, .bf16⟩
  | .hbm, ⟨89, _⟩ => ⟨S4x1024x1408, .bf16⟩
  | .hbm, ⟨90, _⟩ => ⟨S2816x1024, .bf16⟩
  | .hbm, ⟨91, _⟩ => ⟨S1x2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024 : Shape := ⟨1, ![1024]⟩
abbrev S2048x1408 : Shape := ⟨2, ![2048, 1408]⟩
abbrev S1x2816x1024 : Shape := ⟨3, ![1, 2816, 1024]⟩
abbrev S1x1408x1024 : Shape := ⟨3, ![1, 1408, 1024]⟩

abbrev nBuf : Space → Nat
  | .hbm => 20
  | .vmem => 45
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2048x1024, .bf16⟩
  | .hbm, ⟨10, _⟩ => ⟨S2048x5632, .bf16⟩
  | .hbm, ⟨11, _⟩ => ⟨S2048x2816, .bf16⟩
  | .hbm, ⟨12, _⟩ => ⟨S2048x1024, .f32⟩
  | .hbm, ⟨13, _⟩ => ⟨S2048x1024, .f32⟩
  | .hbm, ⟨14, _⟩ => ⟨S2048x5632, .bf16⟩
  | .hbm, ⟨15, _⟩ => ⟨S1x1024, .f32⟩
  | .hbm, ⟨16, _⟩ => ⟨S2048x1024, .bf16⟩
  | .hbm, ⟨17, _⟩ => ⟨S2048x1024, .bf16⟩
  | .hbm, ⟨18, _⟩ => ⟨S4x1024x1408, .bf16⟩
  | .hbm, ⟨19, _⟩ => ⟨S1x2816x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S4x1024x1408, .bf16⟩
  | .local _ .vmem, ⟨10, _⟩ => ⟨S256x1024, .f32⟩
  | .local _ .vmem, ⟨11, _⟩ => ⟨S256x1024, .f32⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S2816x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x5632, .bf16⟩
  | .local _ .vmem, ⟨22, _⟩ => ⟨S256x5632, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x5632, .bf16⟩
  | .local _ .vmem, ⟨27, _⟩ => ⟨S256x5632, .bf16⟩
  | .local _ .vmem, ⟨28, _⟩ => ⟨S1x1024, .f32⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S4x1024x1408, .bf16⟩
  | .local _ .vmem, ⟨34, _⟩ => ⟨S2816x1024, .bf16⟩
  | .local _ .vmem, ⟨35, _⟩ => ⟨S2048x1024, .bf16⟩
  | .local _ .vmem, ⟨36, _⟩ => ⟨S2048x1408, .bf16⟩
  | .local _ .vmem, ⟨37, _⟩ => ⟨S2048x1408, .bf16⟩
  | .local _ .vmem, ⟨38, _⟩ => ⟨S1x1024x1408, .bf16⟩
  | .local _ .vmem, ⟨39, _⟩ => ⟨S1x1024x1408, .bf16⟩
  | .local _ .vmem, ⟨40, _⟩ => ⟨S2048x1408, .bf16⟩
  | .local _ .vmem, ⟨41, _⟩ => ⟨S2048x1408, .bf16⟩
  | .local _ .vmem, ⟨42, _⟩ => ⟨S2048x1024, .bf16⟩
  | .local _ .vmem, ⟨43, _⟩ => ⟨S1x1408x1024, .bf16⟩
  | .local _ .vmem, ⟨44, _⟩ => ⟨S1x1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_scratch0 : Ref sig .tc := ⟨.vmem, 33, rfl⟩
abbrev cc2_scratch1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem7_0 : DmaSem sig := 39
abbrev cc2_sem7_1 : DmaSem sig := 40
abbrev cc2_sem8_0 : DmaSem sig := 41
abbrev cc2_sem8_1 : DmaSem sig := 42
abbrev cc3_sem0_0 : DmaSem sig := 49
abbrev cc3_sem1_0 : DmaSem sig := 50
abbrev cc3_sem1_1 : DmaSem sig := 51
abbrev cc3_sem2_0 : DmaSem sig := 52
abbrev cc3_sem2_1 : DmaSem sig := 53
abbrev cc4_sem0_0 : DmaSem sig := 54
abbrev cc4_sem0_1 : DmaSem sig := 55
abbrev cc4_sem1_0 : DmaSem sig := 56
abbrev cc4_sem2_0 : DmaSem sig := 57
abbrev cc4_sem2_1 : DmaSem sig := 58

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_9 : BitVec 32 := 0#32
  let v2 : BitVec 1 := Scalar.cmpi .ne v1 c0_i32_9
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_10 : BitVec 32 := 0#32
  let v5 : BitVec 1 := Scalar.cmpi .ne v4 c0_i32_10
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_11 : BitVec 32 := 0#32
  let v5 : BitVec 1 := Scalar.cmpi .ne v4 c0_i32_11
  v5

def k2_cond3 (i : grid2.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_12 : BitVec 32 := 0#32
  let v8 : BitVec 1 := Scalar.cmpi .ne v7 c0_i32_12
  v8

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x5632 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S2048x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S2048x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1x1408x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Kernel4.lean ====
abbrev S2048x1024 : Shape := ⟨2, ![2048, 1024]⟩
abbrev S1x1024 : Shape := ⟨2, ![1, 1024]⟩
abbrev S1024x2568 : Shape := ⟨2, ![1024, 2568]⟩
abbrev S2048x2568 : Shape := ⟨2, ![2048, 2568]⟩
abbrev S2568x1024 : Shape := ⟨2, ![2568, 1024]⟩
abbrev S1024x1024 : Shape := ⟨2, ![1024, 1024]⟩
abbrev S1536x1024 : Shape := ⟨2, ![1536, 1024]⟩
abbrev S8x1024 : Shape := ⟨2, ![8, 1024]⟩
abbrev S_ : Shape := ⟨0, ![]⟩
abbrev S128x1024 : Shape := ⟨2, ![128, 1024]⟩
abbrev S2048x2688 : Shape := ⟨2, ![2048, 2688]⟩
abbrev S2048x1536 : Shape := ⟨2, ![2048, 1536]⟩
abbrev S2048x128 : Shape := ⟨2, ![2048, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩
abbrev S1024 : Shape := ⟨1, ![1024]⟩
abbrev S1x2688x1024 : Shape := ⟨3, ![1, 2688, 1024]⟩
abbrev S2048x384 : Shape := ⟨2, ![2048, 384]⟩
abbrev S1x384x1024 : Shape := ⟨3, ![1, 384, 1024]⟩
abbrev S384x1024 : Shape := ⟨2, ![384, 1024]⟩
abbrev S2688x1024 : Shape := ⟨2, ![2688, 1024]⟩
abbrev S2048x8 : Shape := ⟨2, ![2048, 8]⟩

abbrev nBuf : Space → Nat
  | .hbm => 26
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2568, .f32⟩
  | .hbm, ⟨3, _⟩ => ⟨S2048x2568, .bf16⟩
  | .hbm, ⟨4, _⟩ => ⟨S2048x1024, .f32⟩
  | .hbm, ⟨5, _⟩ => ⟨S2568x1024, .f32⟩
  | .hbm, ⟨6, _⟩ => ⟨S2568x1024, .bf16⟩
  | .hbm, ⟨7, _⟩ => ⟨S1024x1024, .bf16⟩
  | .hbm, ⟨8, _⟩ => ⟨S1536x1024, .bf16⟩
  | .hbm, ⟨9, _⟩ => ⟨S8x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S_, .i32⟩
  | .hbm, ⟨14, _⟩ => ⟨S_, .bf16⟩
  | .hbm, ⟨15, _⟩ => ⟨S2048x2688, .bf16⟩
  | .hbm, ⟨16, _⟩ => ⟨S2048x1024, .bf16⟩
  | .hbm, ⟨17, _⟩ => ⟨S2048x1024, .f32⟩
  | .hbm, ⟨18, _⟩ => ⟨S2048x1536, .bf16⟩
  | .hbm, ⟨19, _⟩ => ⟨S2048x128, .f32⟩
  | .hbm, ⟨20, _⟩ => ⟨S2048x1024, .f32⟩
  | .hbm, ⟨21, _⟩ => ⟨S1x1024, .f32⟩
  | .hbm, ⟨22, _⟩ => ⟨S1x2688x1024, .bf16⟩
  | .hbm, ⟨23, _⟩ => ⟨S2688x1024, .bf16⟩
  | .hbm, ⟨24, _⟩ => ⟨S2568x1024, .bf16⟩
  | .hbm, ⟨25, _⟩ => ⟨S2048x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1536x1024, .bf16⟩
  | .local _ .vmem, ⟨5, _⟩ => ⟨S128x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1536, .bf16⟩
  | .local _ .vmem, ⟨11, _⟩ => ⟨S512x1536, .bf16⟩
  | .local _ .vmem, ⟨12, _⟩ => ⟨S512x128, .f32⟩
  | .local _ .vmem, ⟨13, _⟩ => ⟨S512x128, .f32⟩
  | .local _ .vmem, ⟨14, _⟩ => ⟨S512x2688, .bf16⟩
  | .local _ .vmem, ⟨15, _⟩ => ⟨S512x2688, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1024x1024, .bf16⟩
  | .local _ .vmem, ⟨22, _⟩ => ⟨S1536x1024, .bf16⟩
  | .local _ .vmem, ⟨23, _⟩ => ⟨S128x1024, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S2048x384, .bf16⟩
  | .local _ .vmem, ⟨28, _⟩ => ⟨S2048x384, .bf16⟩
  | .local _ .vmem, ⟨29, _⟩ => ⟨S2048x1024, .bf16⟩
  | .local _ .vmem, ⟨30, _⟩ => ⟨S1x384x1024, .bf16⟩
  | .local _ .vmem, ⟨31, _⟩ => ⟨S1x384x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2688 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1536x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨2, ![1, 7], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S2048x384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S1x384x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S2048x1024 : Shape := ⟨2, ![2048, 1024]⟩
abbrev S1x1024 : Shape := ⟨2, ![1, 1024]⟩
abbrev S1024x2568 : Shape := ⟨2, ![1024, 2568]⟩
abbrev S2048x2568 : Shape := ⟨2, ![2048, 2568]⟩
abbrev S_ : Shape := ⟨0, ![]⟩
abbrev S2048 : Shape := ⟨1, ![2048]⟩
abbrev S2048x1 : Shape := ⟨2, ![2048, 1]⟩
abbrev S2568x1024 : Shape := ⟨2, ![2568, 1024]⟩
abbrev S1024 : Shape := ⟨1, ![1024]⟩
abbrev S2048x1536 : Shape := ⟨2, ![2048, 1536]⟩
abbrev S2048x8 : Shape := ⟨2, ![2048, 8]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2568, .f32⟩
  | .hbm, ⟨3, _⟩ => ⟨S2048x2568, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x2568, .f32⟩
  | .hbm, ⟨25, _⟩ => ⟨S2048x2568, .f32⟩
  | .hbm, ⟨26, _⟩ => ⟨S2568x1024, .f32⟩
  | .hbm, ⟨27, _⟩ => ⟨S1024x2568, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1536, .f32⟩
  | .hbm, ⟨54, _⟩ => ⟨S2048x8, .f32⟩
  | .hbm, ⟨55, _⟩ => ⟨S2048x1536, .bf16⟩
  | .hbm, ⟨56, _⟩ => ⟨S2048x1024, .f32⟩
  | .hbm, ⟨57, _⟩ => ⟨S2568x1024, .f32⟩
  | .hbm, ⟨58, _⟩ => ⟨S2568x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Proof.Voc.lean ====
module
public import Idealize.ShloMosaic.Lib.Pipeline.ValueKit
public import Idealize.ShloMosaic.Lib.Pointwise.IndexVar
public import Idealize.ShloMosaic.Lib.MatmulPlain
@[expose] public section
set_option maxRecDepth 16384
noncomputable section

/-! The steps of the attention kernels for one block of 256 rows and one head of a pair, at any of the eight
row blocks: rows `256·n` to `256·n + 255` meet the keys `0` to `256·n + 255`. -/

namespace Cert.Attn
open Idealize.ShloMosaic

/-- An `a × b` matrix. -/
abbrev M2 (a b : ℕ) : Shape := ⟨2, ![a, b]⟩
/-- An `a × b × c` array. -/
abbrev M3 (a b c : ℕ) : Shape := ⟨3, ![a, b, c]⟩
/-- A vector of `a` entries. -/
abbrev M1 (a : ℕ) : Shape := ⟨1, ![a]⟩
/-- How many keys row block `n` meets. -/
abbrev len (n : Fin 8) : ℕ := 256 * (n.val + 1)

section Facts
theorem f_row (n : Fin 8) : (M3 1 1 (len n)).ShapeCasts (M2 1 (len n)) := by revert n; decide +kernel
theorem f_row' (n : Fin 8) : (M2 1 (len n)).ShapeCasts (M3 1 1 (len n)) := by revert n; decide +kernel
theorem f_vec (n : Fin 8) : (M1 (len n)).ShapeCasts (M2 1 (len n)) := by revert n; decide +kernel
theorem f_bRow (n : Fin 8) : (M2 1 (len n)).Broadcasts (M2 256 (len n)) := by revert n; decide +kernel
theorem f_bCol (n : Fin 8) : (M2 256 1).Broadcasts (M2 256 (len n)) := by revert n; decide +kernel
theorem f_red1 (n : Fin 8) : (M2 256 (len n)).Reduces [1] (M1 256) := by revert n; decide +kernel
theorem f_red0 (n : Fin 8) : (M2 256 (len n)).Reduces [0] (M1 (len n)) := by revert n; decide +kernel
theorem f_tn (n : Fin 8) : DotDims.WF (M2 256 (len n)) (M2 256 128) (M2 (len n) 128) [0] [0] [1] [1] [] [] := by revert n; decide +kernel
theorem f_id (n : Fin 8) : (M2 (len n) 128).ShapeCasts (M2 (len n) 128) := by revert n; decide +kernel
theorem f_mask : (M2 1 128).ShapeCasts (M2 1 128) := by decide
theorem f_maskB : (M2 1 128).Broadcasts (M2 256 128) := by decide
theorem f_iota : (M2 1 128).Iotas .tc 32 [1] := by decide
theorem f_iota0 : (M2 256 256).Iotas .tc 32 [0] := by decide
theorem f_iota1 : (M2 256 256).Iotas .tc 32 [1] := by decide
theorem f_col : (M3 1 256 1).ShapeCasts (M2 256 1) := by decide
theorem f_col' : (M2 256 1).ShapeCasts (M3 1 256 1) := by decide
theorem f_vcol : (M1 256).ShapeCasts (M2 256 1) := by decide
theorem f_b128 : (M2 256 1).Broadcasts (M2 256 128) := by decide
theorem f_s0 (k : ℕ) (hk : k + 1 < 8) : (M2 256 (256 * (k + 1 + 1))).Slices ![0, 0] (M2 256 (256 * (k + 1))) := by
  have : ∀ k : Fin 7, (M2 256 (256 * (k.val + 1 + 1))).Slices ![0, 0] (M2 256 (256 * (k.val + 1))) := by decide +kernel
  exact this ⟨k, by omega⟩
theorem f_s1 (k : ℕ) (hk : k + 1 < 8) : (M2 256 (256 * (k + 1 + 1))).Slices ![0, 256 * (k + 1)] (M2 256 256) := by
  have : ∀ k : Fin 7, (M2 256 (256 * (k.val + 1 + 1))).Slices ![0, 256 * (k.val + 1)] (M2 256 256) := by decide +kernel
  exact this ⟨k, by omega⟩
theorem f_cat (k : ℕ) (hk : k + 1 < 8) :
    Shape.Concatenates [M2 256 (256 * (k + 1)), M2 256 256] (M2 256 (256 * (k + 1 + 1))) 1 := by
  have : ∀ k : Fin 7, Shape.Concatenates [M2 256 (256 * (k.val + 1)), M2 256 256] (M2 256 (256 * (k.val + 1 + 1))) 1 := by decide +kernel
  exact this ⟨k, by omega⟩
theorem f_bits : FTy.bits .bf16 < FTy.bits .f32 := by decide
end Facts

variable {F : FTy → Type} [FloatOps F]

/-- The lanes of the first head of a pair. -/
def low : IVec (M2 1 128) 1 := cmpi .slt (iota .tc (M2 1 128) 32 [1] f_iota) (broadcast (M2 1 128) 64#32)
/-- The lanes of head `h` of a pair. -/
def lanes : Fin 2 → IVec (M2 1 128) 1
  | 0 => low
  | 1 => xori low (constantI (M2 1 128) 1 1#1)
/-- The lanes of head `h`, for every row of a block. -/
def lanesB (h : Fin 2) : IVec (M2 256 128) 1 := broadcastTo (M2 256 128) (shapeCast (M2 1 128) (lanes h) f_mask) f_maskB

/-- The head's query rows, scaled, with the other head's lanes at zero. -/
def qrow (h : Fin 2) (q : Vec F (M2 256 128) .bf16) : FVec F (M2 256 128) .bf16 :=
  mulf (select (lanesB h) q (broadcast (M2 256 128) (Scalar.ofBits .bf16 0x0000#16))) (broadcast (M2 256 128) (Scalar.ofBits .bf16 0x3E00#16))
/-- The head's rows of the incoming gradient. -/
def grow (h : Fin 2) (d : Vec F (M2 256 128) .f32) : FVec F (M2 256 128) .bf16 :=
  truncf .bf16 (select (lanesB h) d (broadcast (M2 256 128) (Scalar.ofBits .f32 0x00000000#32))) f_bits

/-- The scores before the causal mask. -/
def raw (n : Fin 8) (q : FVec F (M2 256 128) .bf16) (k : Vec F (M2 (len n) 128) .bf16) (d : Vec F (M3 1 1 (len n)) .f32) :
    FVec F (M2 256 (len n)) .f32 :=
  subf (matmul (DotDims.transposedRhs 256 128 (len n)) none q k (constant (M2 256 (len n)) .f32 0x00000000#32))
    (broadcastTo (M2 256 (len n)) (shapeCast (M2 1 (len n)) d (f_row n)) (f_bRow n))
/-- The causal mask of a diagonal block. -/
def diag (s : FVec F (M2 256 256) .f32) : FVec F (M2 256 256) .f32 :=
  select (cmpi .sle (iota .tc (M2 256 256) 32 [1] f_iota1) (iota .tc (M2 256 256) 32 [0] f_iota0)) s
    (broadcast (M2 256 256) (Scalar.ofBits .f32 0xFF800000#32))
/-- The causal mask of a row block: it touches the last 256 keys alone. -/
def causal : (n : Fin 8) → FVec F (M2 256 (len n)) .f32 → FVec F (M2 256 (len n)) .f32
  | ⟨0, _⟩, s => diag s
  | ⟨k + 1, hk⟩, s => concatenate (M2 256 (256 * (k + 1 + 1))) 1
      [⟨M2 256 (256 * (k + 1)), extractStridedSlice (M2 256 (256 * (k + 1))) ![0, 0] s (f_s0 k hk)⟩,
       ⟨M2 256 256, diag (extractStridedSlice (M2 256 256) ![0, 256 * (k + 1)] s (f_s1 k hk))⟩] (f_cat k hk)
/-- A row block's scores for one head. -/
def score (n : Fin 8) (h : Fin 2) (q : Vec F (M2 256 128) .bf16) (k : Vec F (M2 (len n) 128) .bf16) (d : Vec F (M3 1 1 (len n)) .f32) :
    FVec F (M2 256 (len n)) .f32 := causal n (raw n (qrow h q) k d)

/-- The weights, of the scores and the saved row normaliser. -/
def prob (n : Fin 8) (s : FVec F (M2 256 (len n)) .f32) (l : Vec F (M3 1 256 1) .f32) : FVec F (M2 256 (len n)) .f32 :=
  exp (subf s (broadcastTo (M2 256 (len n)) (shapeCast (M2 256 1) l f_col) (f_bCol n)))
/-- The gradient of the weights. -/
def dprob (n : Fin 8) (g : FVec F (M2 256 128) .bf16) (v : Vec F (M2 (len n) 128) .bf16) : FVec F (M2 256 (len n)) .f32 :=
  matmul (DotDims.transposedRhs 256 128 (len n)) none g v (constant (M2 256 (len n)) .f32 0x00000000#32)
/-- The gradient of the scores. -/
def dscore (n : Fin 8) (p dp : FVec F (M2 256 (len n)) .f32) : FVec F (M2 256 (len n)) .f32 :=
  mulf p (subf dp (broadcastTo (M2 256 (len n)) (shapeCast (M2 256 1)
    (multiReduction .add [1] (M1 256) (mulf p dp) 0x00000000#32 (f_red1 n) (.inl rfl) rfl) f_vcol) (f_bCol n)))
/-- What a row block gives the queries' gradient. -/
def dqPart (n : Fin 8) (ds : FVec F (M2 256 (len n)) .f32) (k : Vec F (M2 (len n) 128) .bf16) : FVec F (M2 256 128) .f32 :=
  mulf (matmul (DotDims.plain 256 (len n) 128) none (truncf .bf16 ds f_bits) k (constant (M2 256 128) .f32 0x00000000#32))
    (broadcast (M2 256 128) (Scalar.ofBits .f32 0x3E000000#32))
/-- The product with the first operand transposed. -/
def tn (n : Fin 8) : DotDims (M2 256 (len n)) (M2 256 128) (M2 (len n) 128) where
  lhsContracting := [0]
  rhsContracting := [0]
  lhsNonContracting := [1]
  rhsNonContracting := [1]
  lhsBatch := []
  rhsBatch := []
  wf := f_tn n
/-- An accumulator's first rows after a row block's product is added. -/
def accStep (n : Fin 8) (x : FVec F (M2 256 (len n)) .f32) (y : FVec F (M2 256 128) .bf16) (a : Vec F (M2 (len n) 128) .f32) :
    FVec F (M2 (len n) 128) .f32 :=
  shapeCast (M2 (len n) 128) (addf a (matmul (tn n) none (truncf .bf16 x f_bits) y (constant (M2 (len n) 128) .f32 0x00000000#32))) (f_id n)
/-- A row of the decay's gradient after a row block's column sums are taken off. -/
def ddStep (n : Fin 8) (ds : FVec F (M2 256 (len n)) .f32) (a : Vec F (M3 1 1 (len n)) .f32) : FVec F (M3 1 1 (len n)) .f32 :=
  shapeCast (M3 1 1 (len n)) (subf (shapeCast (M2 1 (len n)) a (f_row n))
    (shapeCast (M2 1 (len n)) (multiReduction .add [0] (M1 (len n)) ds 0x00000000#32 (f_red0 n) (.inl rfl) rfl) (f_vec n))) (f_row' n)

/-- The largest score of each row. -/
def top (n : Fin 8) (s : FVec F (M2 256 (len n)) .f32) : FVec F (M2 256 1) .f32 :=
  shapeCast (M2 256 1) (multiReduction .maximumf [1] (M1 256) s 0xFF800000#32 (f_red1 n) (.inl rfl) rfl) f_vcol
/-- The exponentials of a row block's scores. -/
def expo (n : Fin 8) (s : FVec F (M2 256 (len n)) .f32) : FVec F (M2 256 (len n)) .f32 :=
  exp (subf s (broadcastTo (M2 256 (len n)) (top n s) (f_bCol n)))
/-- Their row sums. -/
def tot (n : Fin 8) (s : FVec F (M2 256 (len n)) .f32) : FVec F (M2 256 1) .f32 :=
  shapeCast (M2 256 1) (multiReduction .add [1] (M1 256) (expo n s) 0x00000000#32 (f_red1 n) (.inl rfl) rfl) f_vcol
/-- The row normaliser that the forward pass saves. -/
def norm (n : Fin 8) (s : FVec F (M2 256 (len n)) .f32) : FVec F (M3 1 256 1) .f32 :=
  shapeCast (M3 1 256 1) (addf (top n s) (log (tot n s))) f_col'
/-- The attention's rows for one head, before the heads are joined. -/
def oPart (n : Fin 8) (s : FVec F (M2 256 (len n)) .f32) (v : Vec F (M2 (len n) 128) .bf16) : FVec F (M2 256 128) .f32 :=
  mulf (matmul (DotDims.plain 256 (len n) 128) none (truncf .bf16 (expo n s) f_bits) v (constant (M2 256 128) .f32 0x00000000#32))
    (broadcastTo (M2 256 128) (divf (broadcast (M2 256 1) (Scalar.ofBits .f32 0x3F800000#32)) (tot n s)) f_b128)

/-! ## The blocks that a row block reads, and its steps over them -/
section Rects
/-- The rows of row block `n`. -/
def rowR (n : Fin 8) : Rect (M2 2048 128) := Rect.unit ![256 * n.val, 0] ![256, 128] (by revert n; decide +kernel)
/-- The keys that row block `n` meets. -/
def preR (n : Fin 8) : Rect (M2 2048 128) := Rect.unit ![0, 0] ![len n, 128] (by revert n; decide +kernel)
/-- The decay row of head `h`, at the keys that row block `n` meets. -/
def decR (n : Fin 8) (h : Fin 2) : Rect (M3 2 1 2048) := Rect.unit ![h.val, 0, 0] ![1, 1, len n] (by revert n h; decide +kernel)
/-- The normalisers of head `h` in row block `n`. -/
def lseR (n : Fin 8) (h : Fin 2) : Rect (M3 2 2048 1) := Rect.unit ![h.val, 256 * n.val, 0] ![1, 256, 1] (by revert n h; decide +kernel)
end Rects

/-- The first rows of a block; all of them for the last row block. -/
def keys {α : Type} (X : (M2 2048 128).Idx → α) : (n : Fin 8) → (M2 (len n) 128).Idx → α
  | ⟨0, _⟩ => fun x => X ((preR 0).idx x)
  | ⟨1, _⟩ => fun x => X ((preR 1).idx x)
  | ⟨2, _⟩ => fun x => X ((preR 2).idx x)
  | ⟨3, _⟩ => fun x => X ((preR 3).idx x)
  | ⟨4, _⟩ => fun x => X ((preR 4).idx x)
  | ⟨5, _⟩ => fun x => X ((preR 5).idx x)
  | ⟨6, _⟩ => fun x => X ((preR 6).idx x)
  | ⟨7, _⟩ => X

section Items
variable (X0 X1 X2 : Vec F (M2 2048 128) .bf16) (X3 : Vec F (M3 2 1 2048) .f32) (X4 : Vec F (M3 2 2048 1) .f32) (X5 : Vec F (M2 2048 128) .f32)
  (n : Fin 8) (h : Fin 2)
/-- The head's query rows. -/
def qI : FVec F (M2 256 128) .bf16 := qrow h (fun x => X0 ((rowR n).idx x))
/-- The head's rows of the incoming gradient. -/
def gI : FVec F (M2 256 128) .bf16 := grow h (fun x => X5 ((rowR n).idx x))
/-- The scores. -/
def sI : FVec F (M2 256 (len n)) .f32 := score n h (fun x => X0 ((rowR n).idx x)) (keys X1 n) (fun x => X3 ((decR n h).idx x))
/-- The weights. -/
def pI : FVec F (M2 256 (len n)) .f32 := prob n (sI X0 X1 X3 n h) (fun x => X4 ((lseR n h).idx x))
/-- The weights' gradient. -/
def dpI : FVec F (M2 256 (len n)) .f32 := dprob n (gI X5 n h) (keys X2 n)
/-- The scores' gradient. -/
def dsI : FVec F (M2 256 (len n)) .f32 := dscore n (pI X0 X1 X3 X4 n h) (dpI X2 X5 n h)
end Items

/-- The row block of the `j`-th of the sixteen steps. -/
def blk (j : ℕ) (hj : j < 16) : Fin 8 := ⟨j / 2, by omega⟩
/-- The head of the `j`-th step. -/
def hd (j : ℕ) : Fin 2 := ⟨j % 2, by omega⟩

end Cert.Attn
end
-- ==== Proof.Bridge.lean ====
module
public import proofs.«01_k».proof.Proof.Voc
public import proofs.«01_k».proof.Proof.Gen.KernelIdeal.Frame
@[expose] public section
set_option maxRecDepth 16384
noncomputable section

/-! What the two attention kernels leave in their output blocks, in the words of the sixteen steps. -/

namespace Cert.KernelIdeal.Value
open Idealize.ShloMosaic Idealize.SL.Sem Cert.KernelIdeal Cert.KernelIdeal.Gen Cert.Attn

/-- The writes to a buffer to which each step adds: each reads back its own rectangle and writes it again. -/
def accL {s : Shape} (v : View sig .tc .vmem s .f32) (init : View.Piece (Elt Ideal) s .f32) (R : (j : ℕ) → j < 16 → Rect s)
    (f : (j : ℕ) → (hj : j < 16) → ((R j hj).shape.Idx → Elt Ideal .f32) → (R j hj).shape.Idx → Elt Ideal .f32) :
    (j : ℕ) → j ≤ 16 → List (View.Piece (Elt Ideal) s .f32)
  | 0, _ => [init]
  | j + 1, hj => ⟨R j hj, f j hj (v.readCov (accL v init R f j (Nat.le_of_succ_le hj)) (R j hj).toLoadRect)⟩ :: accL v init R f j (Nat.le_of_succ_le hj)

/-- The zeros that fill an accumulator. -/
def zeroAcc : View.Piece (Elt Ideal) (M2 2048 128) .f32 :=
  ⟨Rect.unit ![0, 0] ![2048, 128] (by decide), shapeCast (M2 2048 128) (broadcast (M2 2048 128) (Scalar.ofBits (F := Ideal) .f32 0x00000000#32)) (by decide)⟩
/-- The zeros that fill the decay's gradient. -/
def zeroDec : View.Piece (Elt Ideal) (M3 2 1 2048) .f32 :=
  ⟨Rect.unit ![0, 0, 0] ![2, 1, 2048] (by decide), broadcast (M3 2 1 2048) (Scalar.ofBits (F := Ideal) .f32 0x00000000#32)⟩

section
variable (X0 X1 X2 : Vec Ideal (M2 2048 128) .bf16) (X3 : Vec Ideal (M3 2 1 2048) .f32) (X4 : Vec Ideal (M3 2 2048 1) .f32) (X5 : Vec Ideal (M2 2048 128) .f32)

/-- A step of the keys' gradient. -/
def dkF (j : ℕ) (hj : j < 16) (a : (M2 (len (blk j hj)) 128).Idx → Elt Ideal .f32) : (M2 (len (blk j hj)) 128).Idx → Elt Ideal .f32 :=
  accStep (F := Ideal) (blk j hj) (dsI X0 X1 X2 X3 X4 X5 (blk j hj) (hd j)) (qI X0 (blk j hj) (hd j)) a
/-- A step of the values' gradient. -/
def dvF (j : ℕ) (hj : j < 16) (a : (M2 (len (blk j hj)) 128).Idx → Elt Ideal .f32) : (M2 (len (blk j hj)) 128).Idx → Elt Ideal .f32 :=
  accStep (F := Ideal) (blk j hj) (pI X0 X1 X3 X4 (blk j hj) (hd j)) (gI X5 (blk j hj) (hd j)) a
/-- A step of the decay's gradient. -/
def ddF (j : ℕ) (hj : j < 16) (a : (M3 1 1 (len (blk j hj))).Idx → Elt Ideal .f32) : (M3 1 1 (len (blk j hj))).Idx → Elt Ideal .f32 :=
  ddStep (F := Ideal) (blk j hj) (dsI X0 X1 X2 X3 X4 X5 (blk j hj) (hd j)) a

/-- The writes to the keys' gradient. -/
def dkL := accL (View.whole cc1_scratch0) zeroAcc (fun j hj => preR (blk j hj)) (dkF X0 X1 X2 X3 X4 X5)
/-- The writes to the values' gradient. -/
def dvL := accL (View.whole cc1_scratch1) zeroAcc (fun j hj => preR (blk j hj)) (dvF X0 X1 X3 X4 X5)
/-- The writes to the decay's gradient, through the buffer `v`. -/
def ddL (v : View sig .tc .vmem (M3 2 1 2048) .f32) := accL v zeroDec (fun j hj => decR (blk j hj) (hd j)) (ddF X0 X1 X2 X3 X4 X5)

/-- The keys' gradient of a pair of heads. -/
def dkOut : Vec Ideal (M2 2048 128) .bf16 := truncf (F := Ideal) .bf16
  (dkF X0 X1 X2 X3 X4 X5 15 (by decide) (dkF X0 X1 X2 X3 X4 X5 14 (by decide)
    ((View.whole cc1_scratch0).readCov (dkL X0 X1 X2 X3 X4 X5 14 (by decide)) (preR 7).toLoadRect))) f_bits
/-- The values' gradient of a pair of heads. -/
def dvOut : Vec Ideal (M2 2048 128) .bf16 := truncf (F := Ideal) .bf16
  (dvF X0 X1 X3 X4 X5 15 (by decide) (dvF X0 X1 X3 X4 X5 14 (by decide)
    ((View.whole cc1_scratch1).readCov (dvL X0 X1 X3 X4 X5 14 (by decide)) (preR 7).toLoadRect))) f_bits

/-- One row block of the queries' gradient. -/
def dqP (n : Fin 8) : Vec Ideal (M2 256 128) .bf16 := truncf (F := Ideal) .bf16
  (select (lanesB 0) (dqPart n (dsI X0 X1 X2 X3 X4 X5 n 0) (keys X1 n)) (dqPart n (dsI X0 X1 X2 X3 X4 X5 n 1) (keys X1 n))) f_bits
/-- The scores as the forward pass forms them: it reads all the keys through a rectangle even where that is the whole block. -/
def sF (n : Fin 8) (h : Fin 2) : FVec Ideal (M2 256 (len n)) .f32 :=
  score (F := Ideal) n h (fun x => X0 ((rowR n).idx x)) (fun x => X1 ((preR n).idx x)) (fun x => X3 ((decR n h).idx x))
/-- One row block of the attention's result. -/
def oP (n : Fin 8) : Vec Ideal (M2 256 128) .f32 :=
  select (lanesB 0) (oPart (F := Ideal) n (sF X0 X1 X3 n 0) (fun x => X2 ((preR n).idx x))) (oPart (F := Ideal) n (sF X0 X1 X3 n 1) (fun x => X2 ((preR n).idx x)))
/-- The queries' gradient of a pair of heads. -/
def dqOut : Vec Ideal (M2 2048 128) .bf16 := View.canon (Val := Elt Ideal)
  [⟨rowR 7, dqP X0 X1 X2 X3 X4 X5 7⟩, ⟨rowR 6, dqP X0 X1 X2 X3 X4 X5 6⟩, ⟨rowR 5, dqP X0 X1 X2 X3 X4 X5 5⟩, ⟨rowR 4, dqP X0 X1 X2 X3 X4 X5 4⟩,
   ⟨rowR 3, dqP X0 X1 X2 X3 X4 X5 3⟩, ⟨rowR 2, dqP X0 X1 X2 X3 X4 X5 2⟩, ⟨rowR 1, dqP X0 X1 X2 X3 X4 X5 1⟩, ⟨rowR 0, dqP X0 X1 X2 X3 X4 X5 0⟩]
/-- The attention of a pair of heads. -/
def oOut : Vec Ideal (M2 2048 128) .f32 := View.canon (Val := Elt Ideal)
  [⟨rowR 7, oP X0 X1 X2 X3 7⟩, ⟨rowR 6, oP X0 X1 X2 X3 6⟩, ⟨rowR 5, oP X0 X1 X2 X3 5⟩, ⟨rowR 4, oP X0 X1 X2 X3 4⟩,
   ⟨rowR 3, oP X0 X1 X2 X3 3⟩, ⟨rowR 2, oP X0 X1 X2 X3 2⟩, ⟨rowR 1, oP X0 X1 X2 X3 1⟩, ⟨rowR 0, oP X0 X1 X2 X3 0⟩]
/-- The row normalisers of a pair of heads. -/
def lseL : (j : ℕ) → j ≤ 16 → List (View.Piece (Elt Ideal) (M3 2 2048 1) .f32)
  | 0, _ => []
  | j + 1, hj => ⟨lseR (blk j hj) (hd j), norm (F := Ideal) (blk j hj) (sF X0 X1 X3 (blk j hj) (hd j))⟩ :: lseL j (Nat.le_of_succ_le hj)
end

section
variable (V : (c : Dev nD) → (b : Ref sig .tc) → Buf (Elt Ideal) ((c.tc : Thread nD τ).loc b))

set_option maxHeartbeats 2000000 in
theorem dq_eq (c : Dev nD) (t : Fin cfg1.N) (y) : (outsAt1 V c t).1 y
    = dqOut (iblk1 V c 0 t) (iblk1 V c 1 t) (iblk1 V c 2 t) (iblk1 V c 3 t) (iblk1 V c 4 t) (iblk1 V c 5 t) y := by
  unfold outsAt1
  frame_out
  sl_kernel_rfl

set_option maxHeartbeats 2000000 in
theorem dk_eq (c : Dev nD) (t : Fin cfg1.N) (y) : (outsAt1 V c t).2.1 y
    = dkOut (iblk1 V c 0 t) (iblk1 V c 1 t) (iblk1 V c 2 t) (iblk1 V c 3 t) (iblk1 V c 4 t) (iblk1 V c 5 t) y := by
  unfold outsAt1
  frame_out
  sl_kernel_rfl

set_option maxHeartbeats 2000000 in
theorem dv_eq (c : Dev nD) (t : Fin cfg1.N) (y) : (outsAt1 V c t).2.2.1 y
    = dvOut (iblk1 V c 0 t) (iblk1 V c 1 t) (iblk1 V c 3 t) (iblk1 V c 4 t) (iblk1 V c 5 t) y := by
  unfold outsAt1
  frame_out
  sl_kernel_rfl

set_option maxHeartbeats 2000000 in
theorem dd_eq (c : Dev nD) (t : Fin cfg1.N) (y) : (outsAt1 V c t).2.2.2 y
    = View.canon (ddL (iblk1 V c 0 t) (iblk1 V c 1 t) (iblk1 V c 2 t) (iblk1 V c 3 t) (iblk1 V c 4 t) (iblk1 V c 5 t) (ms1_9 t).view 16 (by decide)) y := by
  unfold outsAt1
  frame_out
  sl_kernel_rfl

end

theorem o_eq (x0 x1 x2 x3 y) : out0_4 (F := Ideal) x0 x1 x2 x3 y = oOut x0 x1 x2 x3 y := by
  unfold_out out0_4
  sl_kernel_rfl
theorem lse_eq (x0 x1 x2 x3 y) : out0_5 (F := Ideal) x0 x1 x2 x3 y = View.canon (lseL x0 x1 x3 16 (by decide)) y := by
  unfold_out out0_5
  sl_kernel_rfl
end Cert.KernelIdeal.Value
end
-- ==== Proof.Rd.lean ====
module
public import proofs.«01_k».proof.Proof.Voc
public section
set_option maxRecDepth 16384
noncomputable section

/-! How the shape changes of the attention kernels read, at any extent. -/

namespace Cert.Attn
open Idealize.ShloMosaic
variable {α : Type} {N : ℕ}

theorem rd_row (x : (M3 1 1 N).Idx → α) (h : (M3 1 1 N).ShapeCasts (M2 1 N)) (i : Fin 1) (j : Fin N) :
    shapeCast (M2 1 N) x h (ix2 i j) = x (ix3 0 0 j) := by
  refine shapeCast_apply _ _ _ _ ?_
  rw [Shape.rowMajor_val_three, Shape.rowMajor_val_two]
  show ((0 : ℕ) * 1 + 0) * N + j.val = i.val * N + j.val
  simp
theorem rd_row' (x : (M2 1 N).Idx → α) (h : (M2 1 N).ShapeCasts (M3 1 1 N)) (a i : Fin 1) (j : Fin N) :
    shapeCast (M3 1 1 N) x h (ix3 a i j) = x (ix2 0 j) := by
  refine shapeCast_apply _ _ _ _ ?_
  rw [Shape.rowMajor_val_three, Shape.rowMajor_val_two]
  show (0 : ℕ) * N + j.val = (a.val * 1 + i.val) * N + j.val
  simp
theorem rd_vec (x : (M1 N).Idx → α) (h : (M1 N).ShapeCasts (M2 1 N)) (i : Fin 1) (j : Fin N) :
    shapeCast (M2 1 N) x h (ix2 i j) = x (ix1 j) := by
  refine shapeCast_apply _ _ _ _ ?_
  rw [Shape.rowMajor_val_one, Shape.rowMajor_val_two]
  show j.val = i.val * N + j.val
  simp
theorem rd_id {K : ℕ} (x : (M2 N K).Idx → α) (h : (M2 N K).ShapeCasts (M2 N K)) :
    shapeCast (M2 N K) x h = x := by
  funext y
  pointwise
theorem rd_bRow {K : ℕ} (x : (M2 1 N).Idx → α) (h : (M2 1 N).Broadcasts (M2 K N)) (i : Fin K) (j : Fin N) :
    broadcastTo (M2 K N) x h (ix2 i j) = x (ix2 0 j) := by
  pointwise
  refine congrArg (fun z => x (ix2 0 z)) ?_
  by_cases h1 : N = 1
  · exact (dif_pos h1).trans (Fin.ext (by simp only; omega))
  · exact dif_neg h1
theorem rd_bCol (x : (M2 256 1).Idx → α) (h : (M2 256 1).Broadcasts (M2 256 N)) (i : Fin 256) (j : Fin N) :
    broadcastTo (M2 256 N) x h (ix2 i j) = x (ix2 i 0) := by
  pointwise
theorem rd_col (x : (M3 1 256 1).Idx → α) (h : (M3 1 256 1).ShapeCasts (M2 256 1)) (i : Fin 256) (j : Fin 1) :
    shapeCast (M2 256 1) x h (ix2 i j) = x (ix3 0 i 0) := by
  pointwise
theorem rd_col' (x : (M2 256 1).Idx → α) (h : (M2 256 1).ShapeCasts (M3 1 256 1)) (a : Fin 1) (i : Fin 256) (j : Fin 1) :
    shapeCast (M3 1 256 1) x h (ix3 a i j) = x (ix2 i 0) := by
  pointwise
theorem rd_vcol (x : (M1 256).Idx → α) (h : (M1 256).ShapeCasts (M2 256 1)) (i : Fin 256) (j : Fin 1) :
    shapeCast (M2 256 1) x h (ix2 i j) = x (ix1 i) := by
  pointwise
theorem rd_slice {R o : ℕ} (x : (M2 256 N).Idx → α) (h : (M2 256 N).Slices ![0, o] (M2 256 R)) (i : Fin 256) (j : Fin R) (hj : o + j.val < N) :
    extractStridedSlice (M2 256 R) ![0, o] x h (ix2 i j) = x (ix2 i ⟨o + j.val, hj⟩) := by
  pointwise
theorem rd_sum1 (x : FVec Ideal (M2 256 N) .f32) (h : (M2 256 N).Reduces [1] (M1 256)) (i : Fin 256) :
    multiReduction (F := Ideal) .add [1] (M1 256) x 0x00000000#32 h (.inl rfl) rfl (ix1 i) = ∑ j : Fin N, (x (ix2 i j) : EReal) := by
  pointwise
theorem rd_sum0 (x : FVec Ideal (M2 256 N) .f32) (h : (M2 256 N).Reduces [0] (M1 N)) (j : Fin N) :
    multiReduction (F := Ideal) .add [0] (M1 N) x 0x00000000#32 h (.inl rfl) rfl (ix1 j) = ∑ i : Fin 256, (x (ix2 i j) : EReal) := by
  pointwise
theorem rd_max1 (x : FVec Ideal (M2 256 N) .f32) (h : (M2 256 N).Reduces [1] (M1 256)) (i : Fin 256) :
    multiReduction (F := Ideal) .maximumf [1] (M1 256) x 0xFF800000#32 h (.inl rfl) rfl (ix1 i) = (Finset.univ : Finset (Fin N)).fold max (Ideal.ofBits .f32 0xFF800000#32) fun j => (x (ix2 i j) : EReal) := by
  pointwise

theorem rd_nt {M K : ℕ} (x : FVec Ideal (M2 M K) .bf16) (y : FVec Ideal (M2 N K) .bf16) (i : Fin M) (j : Fin N) :
    matmul (F := Ideal) (DotDims.transposedRhs M K N) none x y (constant (M2 M N) .f32 0x00000000#32) (ix2 i j) = ∑ k : Fin K, (x (ix2 i k) * y (ix2 j k) : EReal) := by
  refine (Ideal.matmul_transposedRhs_apply none x y _ i j).trans ?_
  simp only [constant]
  refine (congrArg (· + _) Ideal.ofBits_zero_f32).trans (zero_add _)
theorem rd_nn {M K : ℕ} (x : FVec Ideal (M2 M K) .bf16) (y : FVec Ideal (M2 K N) .bf16) (i : Fin M) (j : Fin N) :
    matmul (F := Ideal) (DotDims.plain M K N) none x y (constant (M2 M N) .f32 0x00000000#32) (ix2 i j) = ∑ k : Fin K, (x (ix2 i k) * y (ix2 k j) : EReal) := by
  refine (Ideal.matmul_plain_apply none x y _ i j).trans ?_
  simp only [constant]
  refine (congrArg (· + _) Ideal.ofBits_zero_f32).trans (zero_add _)
theorem rd_tn {M K : ℕ} (wf : DotDims.WF (M2 K M) (M2 K N) (M2 M N) [0] [0] [1] [1] [] []) (x : FVec Ideal (M2 K M) .bf16) (y : FVec Ideal (M2 K N) .bf16) (i : Fin M) (j : Fin N) :
    matmul (F := Ideal) ⟨[0], [0], [1], [1], [], [], wf⟩ none x y (constant (M2 M N) .f32 0x00000000#32) (ix2 i j) = ∑ k : Fin K, (x (ix2 k i) * y (ix2 k j) : EReal) := by
  refine (Ideal.matmul_apply₁ _ rfl rfl x y _ _).trans ?_
  pointwise
theorem rd_cat {R : ℕ} (x : (M2 256 R).Idx → α) (y : (M2 256 256).Idx → α) (h : Shape.Concatenates [M2 256 R, M2 256 256] (M2 256 N) 1) (i : Fin 256) (j : Fin N) (hN : N = R + 256) :
    concatenate (M2 256 N) 1 [⟨M2 256 R, x⟩, ⟨M2 256 256, y⟩] h (ix2 i j) = if hj : j.val < R then x (ix2 i ⟨j.val, hj⟩) else y (ix2 i ⟨j.val - R, by omega⟩) := by
  pointwise
end Cert.Attn
end
-- ==== Proof.Ent.lean ====
module
public import proofs.«01_k».proof.Proof.Rd
public section
set_option maxRecDepth 16384
noncomputable section

/-! The steps of the attention kernels, read at one entry. -/

namespace Cert.Attn
open Idealize.ShloMosaic
variable (n : Fin 8)

theorem top_def (s : FVec Ideal (M2 256 (len n)) .f32) (i : Fin 256) (a : Fin 1) :
    top (F := Ideal) n s (ix2 i a) = (Finset.univ : Finset (Fin (len n))).fold max (Ideal.ofBits .f32 0xFF800000#32) fun j => (s (ix2 i j) : EReal) := by
  unfold top
  rw [rd_vcol, rd_max1]
theorem expo_def (s : FVec Ideal (M2 256 (len n)) .f32) (i : Fin 256) (j : Fin (len n)) :
    expo (F := Ideal) n s (ix2 i j) = Ideal.exp ((s (ix2 i j) : EReal) - (top (F := Ideal) n s (ix2 i 0) : EReal)) := by
  unfold expo
  exact congrArg Ideal.exp (congrArg₂ (fun x y : EReal => x - y) rfl (rd_bCol _ _ i j))
theorem tot_def (s : FVec Ideal (M2 256 (len n)) .f32) (i : Fin 256) (a : Fin 1) :
    tot (F := Ideal) n s (ix2 i a) = ∑ j, (expo (F := Ideal) n s (ix2 i j) : EReal) := by
  unfold tot
  rw [rd_vcol, rd_sum1]
theorem norm_def (s : FVec Ideal (M2 256 (len n)) .f32) (a : Fin 1) (i : Fin 256) (b : Fin 1) :
    norm (F := Ideal) n s (ix3 a i b) = (top (F := Ideal) n s (ix2 i 0) : EReal) + Ideal.log (tot (F := Ideal) n s (ix2 i 0)) := by
  unfold norm
  rw [rd_col']
  rfl
theorem mul_inv_row (x : FVec Ideal (M2 256 128) .f32) (t : FVec Ideal (M2 256 1) .f32) (i : Fin 256) (l : Fin 128) (y : EReal) (h : x (ix2 i l) = y) :
    mulf (F := Ideal) x (broadcastTo (M2 256 128) (divf (F := Ideal) (broadcast (M2 256 1) (Scalar.ofBits (F := Ideal) .f32 0x3F800000#32)) t) f_b128) (ix2 i l)
      = y * Ideal.div (Ideal.ofBits .f32 0x3F800000#32) (t (ix2 i 0)) :=
  congrArg₂ (fun x y : EReal => x * y) h (rd_bCol (N := 128) _ _ i l)
theorem oPart_def (s : FVec Ideal (M2 256 (len n)) .f32) (v : Vec Ideal (M2 (len n) 128) .bf16) (i : Fin 256) (l : Fin 128) :
    oPart (F := Ideal) n s v (ix2 i l) = (∑ j, (expo (F := Ideal) n s (ix2 i j) * v (ix2 j l) : EReal))
      * Ideal.div (Ideal.ofBits .f32 0x3F800000#32) (tot (F := Ideal) n s (ix2 i 0)) := by
  unfold oPart
  have e1 := rd_nn (truncf (F := Ideal) .bf16 (expo n s) f_bits) v i l
  generalize tot (F := Ideal) n s = t at *
  exact mul_inv_row _ t i l _ e1
theorem prob_def (s : FVec Ideal (M2 256 (len n)) .f32) (z : Vec Ideal (M3 1 256 1) .f32) (i : Fin 256) (j : Fin (len n)) :
    prob (F := Ideal) n s z (ix2 i j) = Ideal.exp ((s (ix2 i j) : EReal) - (z (ix3 0 i 0) : EReal)) := by
  unfold prob
  exact congrArg Ideal.exp (congrArg₂ (fun x y : EReal => x - y) rfl ((rd_bCol _ _ i j).trans (rd_col _ _ i 0)))
theorem dprob_def (g : FVec Ideal (M2 256 128) .bf16) (v : Vec Ideal (M2 (len n) 128) .bf16) (i : Fin 256) (j : Fin (len n)) :
    dprob (F := Ideal) n g v (ix2 i j) = ∑ l : Fin 128, (g (ix2 i l) * v (ix2 j l) : EReal) := rd_nt _ _ i j
theorem dscore_def (p dp : FVec Ideal (M2 256 (len n)) .f32) (i : Fin 256) (j : Fin (len n)) :
    dscore (F := Ideal) n p dp (ix2 i j) = (p (ix2 i j) : EReal) * ((dp (ix2 i j) : EReal) - ∑ j', (p (ix2 i j') * dp (ix2 i j') : EReal)) := by
  unfold dscore
  refine congrArg₂ (fun x y : EReal => x * y) rfl (congrArg₂ (fun x y : EReal => x - y) rfl ?_)
  rw [rd_bCol, rd_vcol, rd_sum1]
  rfl
theorem dqPart_def (ds : FVec Ideal (M2 256 (len n)) .f32) (k : Vec Ideal (M2 (len n) 128) .bf16) (i : Fin 256) (l : Fin 128) :
    dqPart (F := Ideal) n ds k (ix2 i l) = (∑ j, (ds (ix2 i j) * k (ix2 j l) : EReal)) * Ideal.ofBits .f32 0x3E000000#32 := by
  unfold dqPart
  exact congrArg₂ (fun x y : EReal => x * y) (rd_nn _ _ i l) rfl
theorem accStep_def (x : FVec Ideal (M2 256 (len n)) .f32) (y : FVec Ideal (M2 256 128) .bf16) (a : Vec Ideal (M2 (len n) 128) .f32)
    (j : Fin (len n)) (l : Fin 128) :
    accStep (F := Ideal) n x y a (ix2 j l) = (a (ix2 j l) : EReal) + ∑ i : Fin 256, (x (ix2 i j) * y (ix2 i l) : EReal) := by
  unfold accStep
  rw [rd_id]
  exact congrArg₂ (fun x y : EReal => x + y) rfl (rd_tn (f_tn n) _ _ j l)
theorem ddStep_def (ds : FVec Ideal (M2 256 (len n)) .f32) (a : Vec Ideal (M3 1 1 (len n)) .f32) (b c : Fin 1) (j : Fin (len n)) :
    ddStep (F := Ideal) n ds a (ix3 b c j) = (a (ix3 0 0 j) : EReal) - ∑ i : Fin 256, (ds (ix2 i j) : EReal) := by
  unfold ddStep
  rw [rd_row']
  refine congrArg₂ (fun x y : EReal => x - y) (rd_row _ _ 0 j) ?_
  rw [rd_vec, rd_sum0]
end Cert.Attn
end
-- ==== Proof.Spec.lean ====
module
public import Idealize.ShloMosaic.Lib.Pipeline.ValueKit
public import Mathlib.Analysis.SpecialFunctions.Log.Basic
@[expose] public section
noncomputable section

/-! One head of the forgetting attention and its gradient over the reals, and the few facts about the
extended reals that the comparison needs. -/

namespace Cert.Attn
open Idealize.ShloMosaic

section Head
variable (q k v g : Fin 2048 → Fin 64 → ℝ) (c : Fin 2048 → ℝ)
/-- The score of query `i` and key `j`, up to a term that depends on the query alone. -/
def zz (i j : Fin 2048) : ℝ := (∑ d, q i d * k j d) * (1 / 8) - c j
/-- Its exponential, zero above the diagonal. -/
def ee (i j : Fin 2048) : ℝ := if j ≤ i then Real.exp (zz q k c i j) else 0
/-- The sum of a row's exponentials. -/
def ll (i : Fin 2048) : ℝ := ∑ j, ee q k c i j
/-- The attention's weights. -/
def pp (i j : Fin 2048) : ℝ := ee q k c i j / ll q k c i
/-- The gradient of the weights. -/
def dpp (i j : Fin 2048) : ℝ := ∑ d, g i d * v j d
/-- The gradient of the scores. -/
def dss (i j : Fin 2048) : ℝ := pp q k c i j * (dpp v g i j - ∑ j', pp q k c i j' * dpp v g i j')
/-- The attention's result. -/
def specO (i : Fin 2048) (d : Fin 64) : ℝ := ∑ j, pp q k c i j * v j d
/-- The queries' gradient. -/
def specDq (i : Fin 2048) (d : Fin 64) : ℝ := (∑ j, dss q k v g c i j * k j d) * (1 / 8)
/-- The keys' gradient. -/
def specDk (j : Fin 2048) (d : Fin 64) : ℝ := (∑ i, dss q k v g c i j * q i d) * (1 / 8)
/-- The values' gradient. -/
def specDv (j : Fin 2048) (d : Fin 64) : ℝ := ∑ i, pp q k c i j * g i d
/-- The gradient of the decays' running sum. -/
def specDd (j : Fin 2048) : ℝ := -∑ i, dss q k v g c i j

theorem ee_nonneg (i j) : 0 ≤ ee q k c i j := by
  unfold ee
  split
  · exact (Real.exp_pos _).le
  · exact le_refl _
theorem ee_of_lt {i j : Fin 2048} (h : i < j) : ee q k c i j = 0 := if_neg (not_le.mpr h)
theorem ll_pos (i) : 0 < ll q k c i := by
  refine Finset.sum_pos' (fun j _ => ee_nonneg q k c i j) ⟨i, Finset.mem_univ _, ?_⟩
  simp only [ee, le_refl, if_true]
  exact Real.exp_pos _
theorem pp_of_lt {i j : Fin 2048} (h : i < j) : pp q k c i j = 0 := by rw [pp, ee_of_lt q k c h, zero_div]
theorem dss_of_lt {i j : Fin 2048} (h : i < j) : dss q k v g c i j = 0 := by rw [dss, pp_of_lt q k c h, zero_mul]
theorem sum_pp (i) : ∑ j, pp q k c i j = 1 := by
  simp only [pp]
  rw [← Finset.sum_div]
  exact div_self (ll_pos q k c i).ne'
/-- The gradient of a row's scores sums to zero: a term that depends on the query alone has no gradient. -/
theorem sum_dss (i) : ∑ j, dss q k v g c i j = 0 := by
  simp only [dss, mul_sub]
  rw [Finset.sum_sub_distrib, ← Finset.sum_mul, sum_pp, one_mul, sub_self]
end Head

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many values, each a number or −∞ and one a number, is a number. -/
theorem fold_max {ι : Type} (s : Finset ι) (f : ι → EReal) (hf : ∀ i, f i = ⊥ ∨ ∃ r : ℝ, f i = r) :
    (∀ i ∈ s, f i = ⊥) ∧ s.fold max ⊥ f = ⊥ ∨ ∃ M : ℝ, s.fold max ⊥ f = M := by
  classical
  induction s using Finset.induction_on with
  | empty => exact .inl ⟨by simp, by simp⟩
  | insert a s ha ih =>
    rw [Finset.fold_insert ha]
    rcases hf a with h | ⟨r, h⟩ <;> rcases ih with ⟨h1, h2⟩ | ⟨M, h2⟩ <;> rw [h, h2]
    · refine .inl ⟨fun i hi => ?_, by simp⟩
      rcases Finset.mem_insert.mp hi with rfl | hi
      · exact h
      · exact h1 i hi
    · exact .inr ⟨M, by simp⟩
    · exact .inr ⟨r, by simp⟩
    · exact .inr ⟨max r M, (EReal.coe_strictMono.monotone.map_max).symm⟩
theorem fold_max' {ι : Type} (s : Finset ι) (f : ι → EReal) (hf : ∀ i, f i = ⊥ ∨ ∃ r : ℝ, f i = r) (a : ι) (ha : a ∈ s) (h : f a ≠ ⊥) :
    ∃ M : ℝ, s.fold max ⊥ f = M := (fold_max s f hf).resolve_left fun h' => h (h'.1 a ha)

theorem c_zero16 : Ideal.ofBits .bf16 0x0000#16 = 0 := by simp [Ideal.ofBits, Ideal.ieee]
theorem c_eighth16 : Ideal.ofBits .bf16 0x3E00#16 = ((1 / 8 : ℝ) : EReal) := by
  simp [Ideal.ofBits, Ideal.ieee]
  rw [← EReal.coe_mul]; norm_num
theorem c_eighth : Ideal.ofBits .f32 0x3E000000#32 = ((1 / 8 : ℝ) : EReal) := by
  simp [Ideal.ofBits, Ideal.ieee]
  rw [← EReal.coe_mul]; norm_num
theorem c_one : Ideal.ofBits .f32 0x3F800000#32 = ((1 : ℝ) : EReal) := by
  simp [Ideal.ofBits, Ideal.ieee]
  rw [← EReal.coe_mul]; norm_num
theorem c_bot : Ideal.ofBits .f32 0xFF800000#32 = ⊥ := by simp [Ideal.ofBits, Ideal.ieee]

/-- A sum over the 128 lanes of a pair, all but one head's at zero, is a sum over the head's 64. -/
theorem sum_lanes (h : Fin 2) (f : Fin 128 → ℝ) :
    ∑ l : Fin 128, (if l.val / 64 = h.val then f l else 0) = ∑ d : Fin 64, f ⟨64 * h.val + d.val, by omega⟩ := by
  rw [← Finset.sum_filter]
  refine Finset.sum_bij' (fun l _ => (⟨l.val % 64, by omega⟩ : Fin 64)) (fun d _ => (⟨64 * h.val + d.val, by omega⟩ : Fin 128)) ?_ ?_ ?_ ?_ ?_
  · intro a _; exact Finset.mem_univ _
  · intro d _; simp only [Finset.mem_filter, Finset.mem_univ, true_and]; omega
  · intro a ha; simp only [Finset.mem_filter, Finset.mem_univ, true_and] at ha; apply Fin.ext; simp only; omega
  · intro d _; apply Fin.ext; simp only; omega
  · intro a ha; simp only [Finset.mem_filter, Finset.mem_univ, true_and] at ha; congr 1; apply Fin.ext; simp only; omega

/-- A sum over the first `N` indices is the sum over all, where the rest are zero. -/
theorem sum_first {N : ℕ} (hN : N ≤ 2048) (f : Fin 2048 → ℝ) (h : ∀ j : Fin 2048, N ≤ j.val → f j = 0) :
    ∑ j : Fin N, f ⟨j.val, by omega⟩ = ∑ j, f j := by
  rw [← Finset.sum_filter_of_ne (s := Finset.univ) (p := fun j : Fin 2048 => j.val < N) (fun j _ hj => by
    by_contra hc; exact hj (h j (by omega)))]
  refine Finset.sum_bij' (fun j _ => (⟨j.val, by omega⟩ : Fin 2048)) (fun j hj => (⟨j.val, (Finset.mem_filter.mp hj).2⟩ : Fin N)) ?_ ?_ ?_ ?_ ?_
  · intro a _; simp
  · intro a _; simp
  · intro a _; rfl
  · intro a _; rfl
  · intro a _; rfl

/-- The row `i` of row block `n`. -/
def rw256 (n : Fin 8) (i : Fin 256) : Fin 2048 := ⟨256 * n.val + i.val, by omega⟩
/-- The rows, block by block. -/
theorem sum_blocks (f : Fin 2048 → ℝ) : ∑ n : Fin 8, ∑ i : Fin 256, f (rw256 n i) = ∑ i, f i := by
  rw [← Finset.sum_product', ← Finset.univ_product_univ.symm]
  refine Finset.sum_bij' (fun x _ => rw256 x.1 x.2) (fun i _ => ((⟨i.val / 256, by omega⟩ : Fin 8), (⟨i.val % 256, by omega⟩ : Fin 256))) ?_ ?_ ?_ ?_ ?_
  · intro a _; simp
  · intro a _; simp
  · rintro ⟨a, b⟩ _; ext <;> simp [rw256] <;> omega
  · intro a _; apply Fin.ext; simp only [rw256]; omega
  · intro a _; rfl
/-- The sixteen steps, row block by row block and head by head. -/
theorem sum_steps (f : ℕ → ℕ → ℝ) : ∑ j ∈ Finset.range 16, f (j / 2) (j % 2) = ∑ n : Fin 8, (f n.val 0 + f n.val 1) := by
  simp [Finset.sum_range_succ, Fin.sum_univ_succ]
  ring
end Cert.Attn
end
-- ==== Proof.Kval.lean ====
module
public import proofs.«01_k».proof.Proof.Ent
public import proofs.«01_k».proof.Proof.Spec
@[expose] public section
set_option maxRecDepth 16384
noncomputable section

/-! The steps of the attention kernels over blocks of numbers: each entry is the head's real quantity. -/

namespace Cert.Attn
open Idealize.ShloMosaic

/-- Key `j` of those that row block `n` meets. -/
def key (n : Fin 8) (j : Fin (len n)) : Fin 2048 := ⟨j.val, by have := j.isLt; simp only [len] at this; omega⟩

theorem rowR_idx (n : Fin 8) (i : Fin 256) (l : Fin 128) : (rowR n).idx (ix2 i l) = ix2 (rw256 n i) l := by
  funext a
  refine Fin.cases ?_ (fun a => ?_) a
  · apply Fin.ext; show 256 * n.val + 1 * i.val = 256 * n.val + i.val; omega
  · refine Fin.cases ?_ (fun a => a.elim0) a
    apply Fin.ext; show 0 + 1 * l.val = l.val; omega
theorem preR_idx (n : Fin 8) (i : Fin (len n)) (l : Fin 128) : (preR n).idx (ix2 i l) = ix2 (key n i) l := by
  funext a
  refine Fin.cases ?_ (fun a => ?_) a
  · apply Fin.ext; show 0 + 1 * i.val = i.val; omega
  · refine Fin.cases ?_ (fun a => a.elim0) a
    apply Fin.ext; show 0 + 1 * l.val = l.val; omega
theorem decR_idx (n : Fin 8) (h : Fin 2) (i : Fin (len n)) (a b : Fin 1) : (decR n h).idx (ix3 a b i) = ix3 h 0 (key n i) := by
  funext x
  refine Fin.cases ?_ (fun x => ?_) x
  · apply Fin.ext; show h.val + 1 * a.val = h.val; omega
  · refine Fin.cases ?_ (fun x => ?_) x
    · apply Fin.ext; show 0 + 1 * b.val = 0; omega
    · refine Fin.cases ?_ (fun x => x.elim0) x
      apply Fin.ext; show 0 + 1 * i.val = i.val; omega
theorem lseR_idx (n : Fin 8) (h : Fin 2) (i : Fin 256) (a b : Fin 1) : (lseR n h).idx (ix3 a i b) = ix3 h (rw256 n i) 0 := by
  funext x
  refine Fin.cases ?_ (fun x => ?_) x
  · apply Fin.ext; show h.val + 1 * a.val = h.val; omega
  · refine Fin.cases ?_ (fun x => ?_) x
    · apply Fin.ext; show 256 * n.val + 1 * i.val = 256 * n.val + i.val; omega
    · refine Fin.cases ?_ (fun x => x.elim0) x
      apply Fin.ext; show 0 + 1 * b.val = 0; omega
theorem keys_eq {α : Type} (X : (M2 2048 128).Idx → α) (n : Fin 8) : keys X n = fun x => X ((preR n).idx x) := by
  fin_cases n <;> first | rfl | skip
  funext x
  obtain ⟨i, l, rfl⟩ : ∃ (i : Fin 2048) (l : Fin 128), x = ix2 i l := ⟨x 0, x 1, by funext a; fin_cases a <;> rfl⟩
  exact congrArg X (preR_idx 7 i l).symm

theorem keys_apply {α : Type} (X : (M2 2048 128).Idx → α) (n : Fin 8) (j : Fin (len n)) (l : Fin 128) :
    keys X n (ix2 j l) = X (ix2 (key n j) l) := by
  rw [keys_eq]
  exact congrArg X (preR_idx n j l)

theorem low_apply (i : Fin 1) (l : Fin 128) : low (ix2 i l) = if l.val / 64 = 0 then 1#1 else 0#1 := by
  have : ∀ l : Fin 128, IntOp.cmpi .slt (BitVec.ofNat 32 l.val) 64#32 = if l.val / 64 = 0 then 1#1 else 0#1 := by decide +kernel
  rw [← this]
  unfold low
  pointwise
theorem lanes_apply (h : Fin 2) (i : Fin 1) (l : Fin 128) : lanes h (ix2 i l) = if l.val / 64 = h.val then 1#1 else 0#1 := by
  fin_cases h
  · exact low_apply i l
  · show low (ix2 i l) ^^^ 1#1 = _
    rw [low_apply]
    have := l.isLt
    by_cases h0 : l.val / 64 = 0
    · rw [if_pos h0, if_neg (by simp only; omega)]; rfl
    · rw [if_neg h0, if_pos (by simp only; omega)]; rfl
theorem lanesB_apply (h : Fin 2) (i : Fin 256) (l : Fin 128) : lanesB h (ix2 i l) = if l.val / 64 = h.val then 1#1 else 0#1 := by
  unfold lanesB
  rw [rd_bRow, rd_id, lanes_apply]
theorem sel_apply {s : Shape} {α : Type} (m : IVec s 1) (x y : s.Idx → α) (j : s.Idx) : select m x y j = if m j = 1#1 then x j else y j := rfl
theorem lanes_sel {α : Type} (h : Fin 2) (x y : (M2 256 128).Idx → α) (i : Fin 256) (l : Fin 128) :
    select (lanesB h) x y (ix2 i l) = if l.val / 64 = h.val then x (ix2 i l) else y (ix2 i l) := by
  rw [sel_apply, lanesB_apply]
  by_cases h0 : l.val / 64 = h.val
  · rw [if_pos h0, if_pos rfl, if_pos h0]
  · rw [if_neg h0, if_neg (by decide), if_neg h0]
theorem diag_apply (s : FVec Ideal (M2 256 256) .f32) (i j : Fin 256) : diag (F := Ideal) s (ix2 i j) = if j ≤ i then s (ix2 i j) else (⊥ : EReal) := by
  unfold diag
  rw [sel_apply]
  have : cmpi .sle (iota .tc (M2 256 256) 32 [1] f_iota1) (iota .tc (M2 256 256) 32 [0] f_iota0) (ix2 i j) = if j ≤ i then 1#1 else 0#1 := by
    have : ∀ i j : Fin 256, IntOp.cmpi .sle (BitVec.ofNat 32 j.val) (BitVec.ofNat 32 i.val) = if j ≤ i then 1#1 else 0#1 := by
      intro i j
      have e : ∀ i : Fin 256, (BitVec.ofNat 32 i.val).toInt = i.val := by decide +kernel
      show BitVec.ofBool ((BitVec.ofNat 32 j.val).sle (BitVec.ofNat 32 i.val)) = _
      rw [BitVec.sle_eq_decide, e, e]
      by_cases hc : j ≤ i
      · rw [if_pos hc, decide_eq_true (by exact_mod_cast hc)]; rfl
      · rw [if_neg hc, decide_eq_false (by exact_mod_cast hc)]; rfl
    rw [← this]
    pointwise
  rw [this]
  by_cases h0 : j ≤ i
  · rw [if_pos h0, if_pos rfl, if_pos h0]
  · rw [if_neg h0, if_neg (by decide), if_neg h0]; exact c_bot

theorem diag_len {n : Fin 8} (s : FVec Ideal (M2 256 (len n)) .f32) (i : Fin 256) (j : Fin (len n)) :
    causal (F := Ideal) n s (ix2 i j) = if j.val ≤ 256 * n.val + i.val then s (ix2 i j) else (⊥ : EReal) := by
  obtain ⟨n, hn⟩ := n
  cases n with
  | zero =>
    refine (diag_apply s i j).trans ?_
    refine if_congr ?_ rfl rfl
    show j.val ≤ i.val ↔ _
    simp
  | succ k =>
    refine (rd_cat _ _ (f_cat k hn) i j (by show 256 * (k + 1 + 1) = _; omega)).trans ?_
    split
    · rename_i hj
      rw [if_pos (by show j.val ≤ 256 * (k + 1) + i.val; omega)]
      refine (rd_slice _ _ i _ (by show 0 + j.val < 256 * (k + 1 + 1); omega)).trans ?_
      congr 2; apply Fin.ext; show 0 + j.val = j.val; omega
    · rename_i hj
      refine (diag_apply _ i _).trans ?_
      refine if_congr ?_ ?_ rfl
      · show j.val - 256 * (k + 1) ≤ i.val ↔ j.val ≤ 256 * (k + 1) + i.val
        omega
      · refine (rd_slice _ _ i _ (by show 256 * (k + 1) + (j.val - 256 * (k + 1)) < 256 * (k + 1 + 1); have := j.isLt; simp only [len] at this; omega)).trans ?_
        congr 2; apply Fin.ext; show 256 * (k + 1) + (j.val - 256 * (k + 1)) = j.val; omega

theorem bot_sub (M : ℝ) : (⊥ : EReal) - (M : EReal) = ⊥ := by rw [sub_eq_add_neg, EReal.bot_add]
theorem log_shift (M : ℝ) {l : ℝ} (hl : 0 < l) :
    (M : EReal) + Ideal.log ((Real.exp (-M) * l : ℝ) : EReal) = ((Real.log l : ℝ) : EReal) := by
  rw [Ideal.log_coe, if_neg (not_le.mpr (mul_pos (Real.exp_pos _) hl)), ← EReal.coe_add, Real.log_mul (Real.exp_pos _).ne' hl.ne', Real.log_exp]
  exact congrArg (fun r : ℝ => (r : EReal)) (by ring)

section Block
variable (x0 x1 x2 x5 : Fin 2048 → Fin 128 → ℝ) (x3 : Fin 2 → Fin 2048 → ℝ)
/-- A head's 64 columns of a pair's 128. -/
def half (h : Fin 2) (x : Fin 2048 → Fin 128 → ℝ) : Fin 2048 → Fin 64 → ℝ := fun i d => x i ⟨64 * h.val + d.val, by omega⟩
variable {X0 X1 X2 : Vec Ideal (M2 2048 128) .bf16} {X3 : Vec Ideal (M3 2 1 2048) .f32} {X4 : Vec Ideal (M3 2 2048 1) .f32} {X5 : Vec Ideal (M2 2048 128) .f32}
  (h0 : ∀ i l, X0 (ix2 i l) = (x0 i l : EReal)) (h1 : ∀ i l, X1 (ix2 i l) = (x1 i l : EReal)) (h2 : ∀ i l, X2 (ix2 i l) = (x2 i l : EReal))
  (h3 : ∀ h i, X3 (ix3 h 0 i) = (x3 h i : EReal)) (h5 : ∀ i l, X5 (ix2 i l) = (x5 i l : EReal))
  (n : Fin 8) (h : Fin 2)
include h0 in
theorem qI_apply (i : Fin 256) (l : Fin 128) :
    qI (F := Ideal) X0 n h (ix2 i l) = (((if l.val / 64 = h.val then x0 (rw256 n i) l else 0) * (1 / 8) : ℝ) : EReal) := by
  unfold qI qrow
  refine (congrArg₂ (· * ·) (lanes_sel h _ _ i l) (c_eighth16)).trans ?_
  rw [rowR_idx, h0]
  split
  · rw [← EReal.coe_mul]
  · refine (congrArg (· * _) c_zero16).trans ?_
    simp
include h5 in
theorem gI_apply (i : Fin 256) (l : Fin 128) :
    gI (F := Ideal) X5 n h (ix2 i l) = ((if l.val / 64 = h.val then x5 (rw256 n i) l else 0 : ℝ) : EReal) := by
  unfold gI grow
  show (select (lanesB h) (fun x => X5 ((rowR n).idx x)) (broadcast (M2 256 128) (Ideal.ofBits .f32 0x00000000#32)) (ix2 i l) : EReal) = _
  refine (lanes_sel h _ _ i l).trans ?_
  rw [rowR_idx, h5]
  split
  · rfl
  · exact Ideal.ofBits_zero_f32.trans rfl
include h0 h1 h3 in
theorem sI_apply (i : Fin 256) (j : Fin (len n)) : sI (F := Ideal) X0 X1 X3 n h (ix2 i j)
    = if key n j ≤ rw256 n i then ((zz (half h x0) (half h x1) (x3 h) (rw256 n i) (key n j) : ℝ) : EReal) else ⊥ := by
  unfold sI score
  rw [diag_len]
  refine if_congr ?_ ?_ rfl
  · rfl
  · unfold raw
    refine (congrArg₂ (· - ·) (rd_nt _ _ i j) ((rd_bRow _ _ i j).trans (rd_row _ _ 0 j))).trans ?_
    rw [decR_idx, h3]
    have e : ∀ l : Fin 128, (qI (F := Ideal) X0 n h (ix2 i l) * keys X1 n (ix2 j l) : EReal)
        = (((if l.val / 64 = h.val then x0 (rw256 n i) l else 0) * (1 / 8) * x1 (key n j) l : ℝ) : EReal) := by
      intro l
      rw [qI_apply x0 h0, keys_apply, h1, ← EReal.coe_mul]
    refine (congrArg (· - _) ((Finset.sum_congr rfl fun l _ => e l).trans (coe_sum _ _))).trans ?_
    refine (EReal.coe_sub _ _).symm.trans ?_
    congr 1
    unfold zz
    congr 1
    refine Eq.trans ?_ (congrArg (· * (1 / 8 : ℝ)) (sum_lanes h (fun l => x0 (rw256 n i) l * x1 (key n j) l)))
    simp only [Finset.sum_mul]
    refine Finset.sum_congr rfl fun l _ => ?_
    split <;> ring

include h0 h1 h3 in
theorem expo_apply (i : Fin 256) : ∃ M : ℝ, top (F := Ideal) n (sI X0 X1 X3 n h) (ix2 i 0) = (M : EReal)
    ∧ ∀ j : Fin (len n), expo (F := Ideal) n (sI X0 X1 X3 n h) (ix2 i j)
      = ((Real.exp (-M) * ee (half h x0) (half h x1) (x3 h) (rw256 n i) (key n j) : ℝ) : EReal) := by
  have hs := sI_apply x0 x1 x3 h0 h1 h3 n h i
  have ht := top_def n (sI (F := Ideal) X0 X1 X3 n h) i 0
  rw [c_bot] at ht
  have hf : ∀ j, (sI (F := Ideal) X0 X1 X3 n h (ix2 i j) : EReal) = ⊥ ∨ ∃ r : ℝ, (sI (F := Ideal) X0 X1 X3 n h (ix2 i j) : EReal) = (r : EReal) := by
    intro j
    rw [hs]
    split
    · exact .inr ⟨_, rfl⟩
    · exact .inl rfl
  obtain ⟨M, hM⟩ := fold_max' Finset.univ (fun j : Fin (len n) => (sI (F := Ideal) X0 X1 X3 n h (ix2 i j) : EReal)) hf
    ⟨0, by simp only [len]; omega⟩ (Finset.mem_univ _) (by
      simp only [hs]
      rw [if_pos (show key n ⟨0, _⟩ ≤ rw256 n i from Nat.zero_le _)]
      exact EReal.coe_ne_bot _)
  refine ⟨M, ht.trans hM, fun j => ?_⟩
  rw [expo_def, ht.trans hM, hs j]
  unfold ee
  by_cases hc : key n j ≤ rw256 n i
  · rw [if_pos hc, if_pos hc, ← EReal.coe_sub, Ideal.exp_coe]
    refine congrArg (fun r : ℝ => (r : EReal)) ?_
    rw [← Real.exp_add]
    exact congrArg Real.exp (by ring)
  · rw [if_neg hc, if_neg hc, mul_zero]
    exact (congrArg Ideal.exp (bot_sub M)).trans rfl

theorem sum_keys (f : Fin 2048 → ℝ) (i : Fin 256) (hf : ∀ j, rw256 n i < j → f j = 0) :
    ∑ j : Fin (len n), f (key n j) = ∑ j, f j := by
  refine sum_first (N := len n) (by simp only [len]; omega) f fun j hj => hf j ?_
  show 256 * n.val + i.val < j.val
  simp only [len] at hj
  omega

include h0 h1 h3 in
theorem tot_apply (i : Fin 256) : ∃ M : ℝ, top (F := Ideal) n (sI X0 X1 X3 n h) (ix2 i 0) = (M : EReal)
    ∧ tot (F := Ideal) n (sI X0 X1 X3 n h) (ix2 i 0) = ((Real.exp (-M) * ll (half h x0) (half h x1) (x3 h) (rw256 n i) : ℝ) : EReal)
    ∧ ∀ j : Fin (len n), expo (F := Ideal) n (sI X0 X1 X3 n h) (ix2 i j)
      = ((Real.exp (-M) * ee (half h x0) (half h x1) (x3 h) (rw256 n i) (key n j) : ℝ) : EReal) := by
  obtain ⟨M, hM, he⟩ := expo_apply x0 x1 x3 h0 h1 h3 n h i
  refine ⟨M, hM, ?_, he⟩
  rw [tot_def, Finset.sum_congr rfl fun j _ => he j, coe_sum, ← Finset.mul_sum,
    sum_keys n (ee (half h x0) (half h x1) (x3 h) (rw256 n i)) i fun j hj => ee_of_lt _ _ _ hj]
  rfl

include h0 h1 h3 in
theorem norm_apply (i : Fin 256) (a b : Fin 1) :
    norm (F := Ideal) n (sI X0 X1 X3 n h) (ix3 a i b) = ((Real.log (ll (half h x0) (half h x1) (x3 h) (rw256 n i)) : ℝ) : EReal) := by
  obtain ⟨M, hM, ht, -⟩ := tot_apply x0 x1 x3 h0 h1 h3 n h i
  have hl := ll_pos (half h x0) (half h x1) (x3 h) (rw256 n i)
  rw [norm_def, hM, ht]
  exact log_shift M hl

include h0 h1 h3 h2 in
theorem oPart_apply (i : Fin 256) (l : Fin 128) : oPart (F := Ideal) n (sI X0 X1 X3 n h) (keys X2 n) (ix2 i l)
    = ((∑ j, pp (half h x0) (half h x1) (x3 h) (rw256 n i) j * x2 j l : ℝ) : EReal) := by
  obtain ⟨M, -, ht, he⟩ := tot_apply x0 x1 x3 h0 h1 h3 n h i
  have hl := ll_pos (half h x0) (half h x1) (x3 h) (rw256 n i)
  have e : ∀ j : Fin (len n), (expo (F := Ideal) n (sI X0 X1 X3 n h) (ix2 i j) * keys X2 n (ix2 j l) : EReal)
      = ((Real.exp (-M) * ee (half h x0) (half h x1) (x3 h) (rw256 n i) (key n j) * x2 (key n j) l : ℝ) : EReal) := by
    intro j
    rw [keys_apply, h2, he j, ← EReal.coe_mul]
  rw [oPart_def, ht, c_one, Ideal.div_coe (mul_pos (Real.exp_pos _) hl).ne', Finset.sum_congr rfl fun j _ => e j, coe_sum, ← EReal.coe_mul, ← EReal.coe_mul,
    sum_keys n (fun j => Real.exp (-M) * ee (half h x0) (half h x1) (x3 h) (rw256 n i) j * x2 j l) i fun j hj => by
      rw [ee_of_lt _ _ _ hj]; ring]
  refine congrArg (fun r : ℝ => (r : EReal)) ?_
  simp only [pp]
  rw [Finset.sum_mul]
  refine Finset.sum_congr rfl fun j _ => ?_
  have := (Real.exp_pos (-M)).ne'
  field_simp

variable (h4 : ∀ h i, X4 (ix3 h i 0) = ((Real.log (ll (half h x0) (half h x1) (x3 h) i) : ℝ) : EReal))
include h0 h1 h3 h4 in
theorem pI_apply (i : Fin 256) (j : Fin (len n)) : pI (F := Ideal) X0 X1 X3 X4 n h (ix2 i j)
    = ((pp (half h x0) (half h x1) (x3 h) (rw256 n i) (key n j) : ℝ) : EReal) := by
  have hl := ll_pos (half h x0) (half h x1) (x3 h) (rw256 n i)
  unfold pI
  rw [prob_def, sI_apply x0 x1 x3 h0 h1 h3 n h i j, lseR_idx, h4]
  unfold pp ee
  by_cases hc : key n j ≤ rw256 n i
  · rw [if_pos hc, if_pos hc, ← EReal.coe_sub, Ideal.exp_coe]
    refine congrArg (fun r : ℝ => (r : EReal)) ?_
    rw [Real.exp_sub, Real.exp_log hl]
  · rw [if_neg hc, if_neg hc, zero_div]
    exact (congrArg Ideal.exp (bot_sub _)).trans rfl

include h2 h5 in
theorem dpI_apply (i : Fin 256) (j : Fin (len n)) : dpI (F := Ideal) X2 X5 n h (ix2 i j)
    = ((dpp (half h x2) (half h x5) (rw256 n i) (key n j) : ℝ) : EReal) := by
  have e : ∀ l : Fin 128, (gI (F := Ideal) X5 n h (ix2 i l) * keys X2 n (ix2 j l) : EReal)
      = ((if l.val / 64 = h.val then x5 (rw256 n i) l * x2 (key n j) l else 0 : ℝ) : EReal) := by
    intro l
    rw [gI_apply x5 h5, keys_apply, h2, ← EReal.coe_mul]
    refine congrArg (fun r : ℝ => (r : EReal)) ?_
    split
    · rfl
    · exact zero_mul _
  unfold dpI
  rw [dprob_def, Finset.sum_congr rfl fun l _ => e l, coe_sum]
  exact congrArg (fun r : ℝ => (r : EReal)) (sum_lanes h fun l => x5 (rw256 n i) l * x2 (key n j) l)

include h0 h1 h2 h3 h4 h5 in
theorem dsI_apply (i : Fin 256) (j : Fin (len n)) : dsI (F := Ideal) X0 X1 X2 X3 X4 X5 n h (ix2 i j)
    = ((dss (half h x0) (half h x1) (half h x2) (half h x5) (x3 h) (rw256 n i) (key n j) : ℝ) : EReal) := by
  have e : ∀ j : Fin (len n), (pI (F := Ideal) X0 X1 X3 X4 n h (ix2 i j) * dpI (F := Ideal) X2 X5 n h (ix2 i j) : EReal)
      = ((pp (half h x0) (half h x1) (x3 h) (rw256 n i) (key n j) * dpp (half h x2) (half h x5) (rw256 n i) (key n j) : ℝ) : EReal) := by
    intro j
    rw [pI_apply x0 x1 x3 h0 h1 h3 n h h4, dpI_apply x2 x5 h2 h5, ← EReal.coe_mul]
  unfold dsI
  rw [dscore_def, Finset.sum_congr rfl fun j _ => e j, coe_sum, pI_apply x0 x1 x3 h0 h1 h3 n h h4, dpI_apply x2 x5 h2 h5, ← EReal.coe_sub, ← EReal.coe_mul,
    sum_keys n (fun j => pp (half h x0) (half h x1) (x3 h) (rw256 n i) j * dpp (half h x2) (half h x5) (rw256 n i) j) i fun j hj => by
      rw [pp_of_lt _ _ _ hj, zero_mul]]
  rfl

include h0 h1 h2 h3 h4 h5 in
theorem dqPart_apply (i : Fin 256) (l : Fin 128) : dqPart (F := Ideal) n (dsI X0 X1 X2 X3 X4 X5 n h) (keys X1 n) (ix2 i l)
    = (((∑ j, dss (half h x0) (half h x1) (half h x2) (half h x5) (x3 h) (rw256 n i) j * x1 j l) * (1 / 8) : ℝ) : EReal) := by
  have e : ∀ j : Fin (len n), (dsI (F := Ideal) X0 X1 X2 X3 X4 X5 n h (ix2 i j) * keys X1 n (ix2 j l) : EReal)
      = ((dss (half h x0) (half h x1) (half h x2) (half h x5) (x3 h) (rw256 n i) (key n j) * x1 (key n j) l : ℝ) : EReal) := by
    intro j
    rw [dsI_apply x0 x1 x2 x5 x3 h0 h1 h2 h3 h5 n h h4, keys_apply, h1, ← EReal.coe_mul]
  rw [dqPart_def, Finset.sum_congr rfl fun j _ => e j, coe_sum, c_eighth, ← EReal.coe_mul,
    sum_keys n (fun j => dss (half h x0) (half h x1) (half h x2) (half h x5) (x3 h) (rw256 n i) j * x1 j l) i fun j hj => by
      rw [dss_of_lt _ _ _ _ _ hj, zero_mul]]

include h0 h1 h2 h3 h4 h5 in
theorem dkStep_apply (a : Vec Ideal (M2 (len n) 128) .f32) (j : Fin (len n)) (l : Fin 128) :
    accStep (F := Ideal) n (dsI X0 X1 X2 X3 X4 X5 n h) (qI X0 n h) a (ix2 j l)
    = (a (ix2 j l) : EReal) + ((∑ i : Fin 256, dss (half h x0) (half h x1) (half h x2) (half h x5) (x3 h) (rw256 n i) (key n j)
        * ((if l.val / 64 = h.val then x0 (rw256 n i) l else 0) * (1 / 8)) : ℝ) : EReal) := by
  have e : ∀ i : Fin 256, (dsI (F := Ideal) X0 X1 X2 X3 X4 X5 n h (ix2 i j) * qI X0 n h (ix2 i l) : EReal)
      = ((dss (half h x0) (half h x1) (half h x2) (half h x5) (x3 h) (rw256 n i) (key n j)
        * ((if l.val / 64 = h.val then x0 (rw256 n i) l else 0) * (1 / 8)) : ℝ) : EReal) := by
    intro i
    rw [dsI_apply x0 x1 x2 x5 x3 h0 h1 h2 h3 h5 n h h4, qI_apply x0 h0, ← EReal.coe_mul]
  rw [accStep_def, Finset.sum_congr rfl fun i _ => e i, coe_sum]

include h0 h1 h3 h4 h5 in
theorem dvStep_apply (a : Vec Ideal (M2 (len n) 128) .f32) (j : Fin (len n)) (l : Fin 128) :
    accStep (F := Ideal) n (pI X0 X1 X3 X4 n h) (gI X5 n h) a (ix2 j l)
    = (a (ix2 j l) : EReal) + ((∑ i : Fin 256, pp (half h x0) (half h x1) (x3 h) (rw256 n i) (key n j)
        * (if l.val / 64 = h.val then x5 (rw256 n i) l else 0) : ℝ) : EReal) := by
  have e : ∀ i : Fin 256, (pI (F := Ideal) X0 X1 X3 X4 n h (ix2 i j) * gI X5 n h (ix2 i l) : EReal)
      = ((pp (half h x0) (half h x1) (x3 h) (rw256 n i) (key n j) * (if l.val / 64 = h.val then x5 (rw256 n i) l else 0) : ℝ) : EReal) := by
    intro i
    rw [pI_apply x0 x1 x3 h0 h1 h3 n h h4, gI_apply x5 h5, ← EReal.coe_mul]
  rw [accStep_def, Finset.sum_congr rfl fun i _ => e i, coe_sum]

include h0 h1 h2 h3 h4 h5 in
theorem ddStep_apply (a : Vec Ideal (M3 1 1 (len n)) .f32) (b c : Fin 1) (j : Fin (len n)) :
    ddStep (F := Ideal) n (dsI X0 X1 X2 X3 X4 X5 n h) a (ix3 b c j)
    = (a (ix3 0 0 j) : EReal) - ((∑ i : Fin 256, dss (half h x0) (half h x1) (half h x2) (half h x5) (x3 h) (rw256 n i) (key n j) : ℝ) : EReal) := by
  rw [ddStep_def, Finset.sum_congr rfl fun i _ => dsI_apply x0 x1 x2 x5 x3 h0 h1 h2 h3 h5 n h h4 i j, coe_sum]
end Block
end Cert.Attn
end
-- ==== Proof.Blocks.lean ====
module
public import proofs.«01_k».proof.Proof.Bridge
public import proofs.«01_k».proof.Proof.Kval
@[expose] public section
set_option maxRecDepth 16384
noncomputable section

/-! What the two attention kernels leave in their output blocks, as the heads' real quantities. -/

namespace Cert.KernelIdeal.Value
open Idealize.ShloMosaic Idealize.SL.Sem Cert.KernelIdeal Cert.KernelIdeal.Gen Cert.Attn

/-- The row block of a step, at any number. -/
def blkN (j : ℕ) : Fin 8 := ⟨j / 2 % 8, by omega⟩
theorem blk_eq (j : ℕ) (hj : j < 16) : blk j hj = blkN j := by apply Fin.ext; show j / 2 = j / 2 % 8; omega

theorem ix2_of {a b : ℕ} (y : (M2 a b).Idx) : ∃ (i : Fin a) (l : Fin b), y = ix2 i l := ⟨y 0, y 1, by funext a; fin_cases a <;> rfl⟩
theorem ix3_of {a b c : ℕ} (y : (M3 a b c).Idx) : ∃ (i : Fin a) (j : Fin b) (l : Fin c), y = ix3 i j l :=
  ⟨y 0, y 1, y 2, by funext a; fin_cases a <;> rfl⟩

/-- A buffer that starts at zero and to which each step adds holds the sum of what they add. -/
theorem accL_canon {s : Shape} (v : View sig .tc .vmem s .f32) (init : View.Piece (Elt Ideal) s .f32) (R : (j : ℕ) → j < 16 → Rect s)
    (f : (j : ℕ) → (hj : j < 16) → ((R j hj).shape.Idx → Elt Ideal .f32) → (R j hj).shape.Idx → Elt Ideal .f32) (G : ℕ → s.Idx → ℝ)
    (hi : ∀ y, View.canon [init] y = (0 : EReal))
    (hf : ∀ j hj a x, f j hj a x = (a x : EReal) + ((G j ((R j hj).idx x) : ℝ) : EReal))
    (hG : ∀ j hj y, y ∉ (R j hj).set → G j y = 0) : ∀ (j : ℕ) (hj : j ≤ 16) (y : s.Idx),
    View.canon (accL v init R f j hj) y = ((∑ i ∈ Finset.range j, G i y : ℝ) : EReal)
  | 0, _, y => (hi y).trans (by simp)
  | j + 1, hj, y => by
    have ih := accL_canon v init R f G hi hf hG j (Nat.le_of_succ_le hj)
    unfold accL
    rw [Finset.sum_range_succ, EReal.coe_add]
    by_cases hm : y ∈ (R j hj).set
    · obtain ⟨x, rfl⟩ := (R j hj).exists_idx_of_mem hm
      refine (View.canon_cons_emb (Val := Elt Ideal) (R j hj) _ _ x).trans ((hf j hj _ x).trans ?_)
      rw [View.readCov_eq_canon']
      exact congrArg (fun z : EReal => z + ((G j ((R j hj).idx x) : ℝ) : EReal)) (ih _)
    · refine (View.canon_cons_of_not_mem (Val := Elt Ideal) _ _ hm).trans ((ih y).trans ?_)
      rw [hG j hj y hm]
      exact (add_zero _).symm

/-- Eight row blocks together are the whole block. -/
theorem rows_canon {e : EltTy} (P : (n : Fin 8) → Vec Ideal (M2 256 128) e) (G : (M2 2048 128).Idx → Elt Ideal e)
    (hP : ∀ n i l, P n (ix2 i l) = G (ix2 (rw256 n i) l)) (y : (M2 2048 128).Idx) :
    View.canon (Val := Elt Ideal) [⟨rowR 7, P 7⟩, ⟨rowR 6, P 6⟩, ⟨rowR 5, P 5⟩, ⟨rowR 4, P 4⟩, ⟨rowR 3, P 3⟩, ⟨rowR 2, P 2⟩, ⟨rowR 1, P 1⟩, ⟨rowR 0, P 0⟩] y = G y := by
  have hp : ∀ (n : Fin 8) (x : (M2 256 128).Idx), P n x = G ((rowR n).emb x) := by
    intro n x
    obtain ⟨i, l, rfl⟩ := ix2_of x
    exact (hP n i l).trans (congrArg G (rowR_idx n i l).symm)
  refine View.canon_apply_of_pieces (Val := Elt Ideal) G _ ?_ y ?_
  · intro p hm
    simp only [List.mem_cons, List.not_mem_nil, or_false] at hm
    rcases hm with rfl | rfl | rfl | rfl | rfl | rfl | rfl | rfl <;> exact hp _
  · obtain ⟨i, l, rfl⟩ := ix2_of y
    have key : ∀ n : Fin 8, i.val / 256 = n.val → ix2 i l ∈ (rowR n).set := by
      intro n hn
      have h : ix2 i l = (rowR n).idx (ix2 (⟨i.val % 256, by omega⟩ : Fin 256) l) := by
        rw [rowR_idx]
        congr 1
        apply Fin.ext; show i.val = 256 * n.val + i.val % 256; omega
      rw [h]
      exact (rowR n).toLoadRect.idx_mem _
    have hi : i.val / 256 < 8 := by omega
    have := key ⟨i.val / 256, hi⟩ rfl
    generalize (⟨i.val / 256, hi⟩ : Fin 8) = n at this
    have hmem : (⟨rowR n, P n⟩ : View.Piece (Elt Ideal) (M2 2048 128) e) ∈ ([⟨rowR 7, P 7⟩, ⟨rowR 6, P 6⟩, ⟨rowR 5, P 5⟩, ⟨rowR 4, P 4⟩, ⟨rowR 3, P 3⟩, ⟨rowR 2, P 2⟩, ⟨rowR 1, P 1⟩, ⟨rowR 0, P 0⟩] : List (View.Piece (Elt Ideal) (M2 2048 128) e)) := by
      fin_cases n <;> simp
    exact ⟨_, hmem, this⟩

section Vals
variable (x0 x1 x2 x5 : Fin 2048 → Fin 128 → ℝ) (x3 : Fin 2 → Fin 2048 → ℝ)
variable {X0 X1 X2 : Vec Ideal (M2 2048 128) .bf16} {X3 : Vec Ideal (M3 2 1 2048) .f32} {X4 : Vec Ideal (M3 2 2048 1) .f32} {X5 : Vec Ideal (M2 2048 128) .f32}
  (h0 : ∀ i l, X0 (ix2 i l) = (x0 i l : EReal)) (h1 : ∀ i l, X1 (ix2 i l) = (x1 i l : EReal)) (h2 : ∀ i l, X2 (ix2 i l) = (x2 i l : EReal))
  (h3 : ∀ h i, X3 (ix3 h 0 i) = (x3 h i : EReal)) (h5 : ∀ i l, X5 (ix2 i l) = (x5 i l : EReal))

/-- A lane's head in its pair. -/
def lh (l : Fin 128) : Fin 2 := ⟨l.val / 64, by omega⟩
/-- A lane's column in its head. -/
def lc (l : Fin 128) : Fin 64 := ⟨l.val % 64, by omega⟩
theorem half_lane (x : Fin 2048 → Fin 128 → ℝ) (i : Fin 2048) (l : Fin 128) : half (lh l) x i (lc l) = x i l := by
  unfold half
  congr 1
  apply Fin.ext; show 64 * (l.val / 64) + l.val % 64 = l.val; omega
theorem sel_lane {α : Type} (x : Fin 2 → α) (l : Fin 128) : (if l.val / 64 = (0 : Fin 2).val then x 0 else x 1) = x (lh l) := by
  by_cases h : l.val / 64 = (0 : Fin 2).val
  · rw [if_pos h]; congr 1; exact Fin.ext h.symm
  · rw [if_neg h]; congr 1; apply Fin.ext; show 1 = l.val / 64; have : ¬l.val / 64 = 0 := h; omega

/-- The attention of a pair, at row `i` and lane `l`. -/
def vO (i : Fin 2048) (l : Fin 128) : ℝ := specO (half (lh l) x0) (half (lh l) x1) (half (lh l) x2) (x3 (lh l)) i (lc l)
/-- The queries' gradient of a pair. -/
def vDq (i : Fin 2048) (l : Fin 128) : ℝ := specDq (half (lh l) x0) (half (lh l) x1) (half (lh l) x2) (half (lh l) x5) (x3 (lh l)) i (lc l)
/-- The keys' gradient of a pair. -/
def vDk (i : Fin 2048) (l : Fin 128) : ℝ := specDk (half (lh l) x0) (half (lh l) x1) (half (lh l) x2) (half (lh l) x5) (x3 (lh l)) i (lc l)
/-- The values' gradient of a pair. -/
def vDv (i : Fin 2048) (l : Fin 128) : ℝ := specDv (half (lh l) x0) (half (lh l) x1) (half (lh l) x5) (x3 (lh l)) i (lc l)
/-- The decay's gradient of a pair. -/
def vDd (h : Fin 2) (i : Fin 2048) : ℝ := specDd (half h x0) (half h x1) (half h x2) (half h x5) (x3 h) i
/-- The row normalisers of a pair. -/
def vL (h : Fin 2) (i : Fin 2048) : ℝ := Real.log (ll (half h x0) (half h x1) (x3 h) i)

theorem sF_eq (n h) : sF X0 X1 X3 n h = sI (F := Ideal) X0 X1 X3 n h := by
  unfold sF sI
  exact congrArg (fun k => score (F := Ideal) n h (fun x => X0 ((rowR n).idx x)) k (fun x => X3 ((decR n h).idx x))) (keys_eq X1 n).symm
theorem oP_eq (n) : oP X0 X1 X2 X3 n
    = select (lanesB 0) (oPart (F := Ideal) n (sI X0 X1 X3 n 0) (keys X2 n)) (oPart (F := Ideal) n (sI X0 X1 X3 n 1) (keys X2 n)) := by
  unfold oP
  rw [sF_eq, sF_eq]
  exact congrArg (fun k => select (lanesB 0) (oPart (F := Ideal) n (sI X0 X1 X3 n 0) k) (oPart (F := Ideal) n (sI X0 X1 X3 n 1) k)) (keys_eq X2 n).symm

include h0 h1 h2 h3 in
theorem o_val (i : Fin 2048) (l : Fin 128) : oOut X0 X1 X2 X3 (ix2 i l) = ((vO x0 x1 x2 x3 i l : ℝ) : EReal) := by
  refine rows_canon (e := .f32) (oP X0 X1 X2 X3) (fun y => ((vO x0 x1 x2 x3 (y 0) (y 1) : ℝ) : EReal)) (fun n i l => ?_) _
  rw [oP_eq, lanes_sel, oPart_apply x0 x1 x2 x3 h0 h1 h2 h3, oPart_apply x0 x1 x2 x3 h0 h1 h2 h3]
  refine (sel_lane (fun h => ((∑ j, pp (half h x0) (half h x1) (x3 h) (rw256 n i) j * x2 j l : ℝ) : EReal)) l).trans ?_
  show _ = ((vO x0 x1 x2 x3 (rw256 n i) l : ℝ) : EReal)
  unfold vO specO
  simp only [half_lane x2]

theorem lseL_mem : ∀ (j : ℕ) (hj : j ≤ 16), ∀ p ∈ lseL X0 X1 X3 j hj, ∃ (n : Fin 8) (h : Fin 2), p = ⟨lseR n h, norm (F := Ideal) n (sF X0 X1 X3 n h)⟩
  | 0, _, p, hp => by simp [lseL] at hp
  | j + 1, hj, p, hp => by
    unfold lseL at hp
    rcases List.mem_cons.mp hp with rfl | hp
    · exact ⟨_, _, rfl⟩
    · exact lseL_mem j _ p hp
theorem mem_lseL : ∀ (j : ℕ) (hj : j ≤ 16) (k : ℕ) (hk : k < 16), k < j →
    (⟨lseR (blk k hk) (hd k), norm (F := Ideal) (blk k hk) (sF X0 X1 X3 (blk k hk) (hd k))⟩ : View.Piece (Elt Ideal) (M3 2 2048 1) .f32) ∈ lseL X0 X1 X3 j hj
  | 0, _, k, hk, h => absurd h (by omega)
  | j + 1, hj, k, hk, h => by
    unfold lseL
    rcases Nat.lt_succ_iff_lt_or_eq.mp h with h | rfl
    · exact List.mem_cons_of_mem _ (mem_lseL j _ k hk h)
    · exact List.mem_cons_self

/-- The row normalisers of a pair, as a block. -/
def lseG (y : (M3 2 2048 1).Idx) : Elt Ideal .f32 := ((vL x0 x1 x3 (y 0) (y 1) : ℝ) : EReal)
theorem lseG_apply (h : Fin 2) (i : Fin 2048) (a : Fin 1) : lseG x0 x1 x3 (ix3 h i a) = ((vL x0 x1 x3 h i : ℝ) : EReal) := rfl
include h0 h1 h3 in
theorem norm_piece (n : Fin 8) (h : Fin 2) (x : (M3 1 256 1).Idx) : norm (F := Ideal) n (sF X0 X1 X3 n h) x = lseG x0 x1 x3 ((lseR n h).emb x) := by
  obtain ⟨a, i, b, rfl⟩ := ix3_of x
  have e : (lseR n h).emb (ix3 a i b) = ix3 h (rw256 n i) 0 := lseR_idx n h i a b
  have e' : lseG x0 x1 x3 ((lseR n h).emb (ix3 a i b)) = lseG x0 x1 x3 (ix3 h (rw256 n i) 0) := congrArg (lseG x0 x1 x3) e
  rw [e', lseG_apply, sF_eq, norm_apply x0 x1 x3 h0 h1 h3 n h i a b]
  unfold vL
  rfl
theorem mem_lseR (h : Fin 2) (i : Fin 2048) (a : Fin 1) : ix3 h i a ∈ (lseR ⟨i.val / 256, by omega⟩ h).set := by
  have e : ix3 h i a = (lseR ⟨i.val / 256, by omega⟩ h).idx (ix3 (0 : Fin 1) (⟨i.val % 256, by omega⟩ : Fin 256) (0 : Fin 1)) := by
    rw [lseR_idx]
    have : i = rw256 ⟨i.val / 256, by omega⟩ ⟨i.val % 256, by omega⟩ := by apply Fin.ext; show i.val = 256 * (i.val / 256) + i.val % 256; omega
    rw [← this, Fin.fin_one_eq_zero a]
  rw [e]
  exact LoadRect.idx_mem _ _
theorem lse_cover (h : Fin 2) (i : Fin 2048) (a : Fin 1) : ∃ p ∈ lseL X0 X1 X3 16 (by decide), ix3 h i a ∈ p.1.set := by
  have hk : 2 * (i.val / 256) + h.val < 16 := by omega
  have hm := mem_lseL (X0 := X0) (X1 := X1) (X3 := X3) 16 (by decide) (2 * (i.val / 256) + h.val) hk hk
  have hb : blk (2 * (i.val / 256) + h.val) hk = ⟨i.val / 256, by omega⟩ := by apply Fin.ext; show (2 * (i.val / 256) + h.val) / 2 = i.val / 256; omega
  have hh : hd (2 * (i.val / 256) + h.val) = h := by apply Fin.ext; show (2 * (i.val / 256) + h.val) % 2 = h.val; omega
  rw [hb, hh] at hm
  exact ⟨_, hm, mem_lseR h i a⟩
include h0 h1 h3 in
theorem lse_val (h : Fin 2) (i : Fin 2048) (a : Fin 1) : View.canon (lseL X0 X1 X3 16 (by decide)) (ix3 h i a) = ((vL x0 x1 x3 h i : ℝ) : EReal) := by
  have hp : ∀ p ∈ lseL X0 X1 X3 16 (by decide), ∀ x : p.1.shape.Idx, p.2 x = lseG x0 x1 x3 (p.1.emb x) := by
    intro p hm
    obtain ⟨n, h, rfl⟩ := lseL_mem _ _ p hm
    exact norm_piece x0 x1 x3 h0 h1 h3 n h
  exact (View.canon_apply_of_pieces (Val := Elt Ideal) (e := .f32) (lseG x0 x1 x3) _ hp _ (lse_cover h i a)).trans (lseG_apply x0 x1 x3 h i a)

variable (h4 : ∀ h i, X4 (ix3 h i 0) = ((Real.log (ll (half h x0) (half h x1) (x3 h) i) : ℝ) : EReal))
include h0 h1 h2 h3 h4 h5 in
theorem dq_val (i : Fin 2048) (l : Fin 128) : dqOut X0 X1 X2 X3 X4 X5 (ix2 i l) = ((vDq x0 x1 x2 x5 x3 i l : ℝ) : EReal) := by
  refine rows_canon (e := .bf16) (dqP X0 X1 X2 X3 X4 X5) (fun y => ((vDq x0 x1 x2 x5 x3 (y 0) (y 1) : ℝ) : EReal)) (fun n i l => ?_) _
  unfold dqP
  show (select (lanesB 0) (dqPart (F := Ideal) n (dsI X0 X1 X2 X3 X4 X5 n 0) (keys X1 n)) (dqPart (F := Ideal) n (dsI X0 X1 X2 X3 X4 X5 n 1) (keys X1 n)) (ix2 i l) : EReal) = _
  rw [lanes_sel, dqPart_apply x0 x1 x2 x5 x3 h0 h1 h2 h3 h5 n _ h4, dqPart_apply x0 x1 x2 x5 x3 h0 h1 h2 h3 h5 n _ h4]
  refine (sel_lane (fun h => (((∑ j, dss (half h x0) (half h x1) (half h x2) (half h x5) (x3 h) (rw256 n i) j * x1 j l) * (1 / 8) : ℝ) : EReal)) l).trans ?_
  show _ = ((vDq x0 x1 x2 x5 x3 (rw256 n i) l : ℝ) : EReal)
  unfold vDq specDq
  simp only [half_lane x1]

/-- What step `j` adds to the keys' gradient. -/
def dkG (j : ℕ) (y : (M2 2048 128).Idx) : ℝ :=
  ∑ i : Fin 256, dss (half (hd j) x0) (half (hd j) x1) (half (hd j) x2) (half (hd j) x5) (x3 (hd j)) (rw256 (blkN j) i) (y 0)
    * ((if (y 1).val / 64 = (hd j).val then x0 (rw256 (blkN j) i) (y 1) else 0) * (1 / 8))
/-- What step `j` adds to the values' gradient. -/
def dvG (j : ℕ) (y : (M2 2048 128).Idx) : ℝ :=
  ∑ i : Fin 256, pp (half (hd j) x0) (half (hd j) x1) (x3 (hd j)) (rw256 (blkN j) i) (y 0)
    * (if (y 1).val / 64 = (hd j).val then x5 (rw256 (blkN j) i) (y 1) else 0)
/-- What step `j` adds to the decay's gradient. -/
def ddG (j : ℕ) (y : (M3 2 1 2048).Idx) : ℝ :=
  if (y 0).val = (hd j).val then
    -∑ i : Fin 256, dss (half (hd j) x0) (half (hd j) x1) (half (hd j) x2) (half (hd j) x5) (x3 (hd j)) (rw256 (blkN j) i) (y 2) else 0

theorem zeroAcc_val (y) : View.canon [zeroAcc] y = (0 : EReal) := by
  have e : (zeroAcc.1).emb y = y := by
    obtain ⟨i, l, rfl⟩ := ix2_of y
    exact preR_idx 7 i l
  have := View.canon_cons_emb (Val := Elt Ideal) zeroAcc.1 zeroAcc.2 [] y
  rw [e] at this
  have hz : ∀ h, shapeCast (M2 2048 128) (broadcast (M2 2048 128) (Ideal.ofBits .f32 0x00000000#32)) h y = (0 : EReal) := by
    intro h
    rw [rd_id]
    exact Ideal.ofBits_zero_f32
  exact this.trans (hz (by decide))
theorem zeroDec_val (y) : View.canon [zeroDec] y = (0 : EReal) := by
  have e : (zeroDec.1).emb y = y := by
    funext a
    fin_cases a <;> (apply Fin.ext; show 0 + 1 * _ = _; omega)
  have := View.canon_cons_emb (Val := Elt Ideal) zeroDec.1 zeroDec.2 [] y
  rw [e] at this
  exact this.trans Ideal.ofBits_zero_f32

theorem not_mem_preR {n : Fin 8} {y : (M2 2048 128).Idx} (hy : y ∉ (preR n).set) (i : Fin 256) : rw256 n i < y 0 := by
  obtain ⟨j, l, rfl⟩ := ix2_of y
  by_contra hc
  refine hy ?_
  have hj : j.val < len n := by
    have : j.val ≤ 256 * n.val + i.val := not_lt.mp hc
    simp only [len]; omega
  have e : ix2 j l = (preR n).idx (ix2 (⟨j.val, hj⟩ : Fin (len n)) l) := (preR_idx n ⟨j.val, hj⟩ l).symm
  rw [e]
  exact LoadRect.idx_mem _ _
theorem not_mem_decR {n : Fin 8} {h : Fin 2} {y : (M3 2 1 2048).Idx} (hy : y ∉ (decR n h).set) (hh : (y 0).val = h.val) (i : Fin 256) : rw256 n i < y 2 := by
  obtain ⟨h', a, j, rfl⟩ := ix3_of y
  by_contra hc
  refine hy ?_
  have hj : j.val < len n := by
    have : j.val ≤ 256 * n.val + i.val := not_lt.mp hc
    simp only [len]; omega
  have e : ix3 h' a j = (decR n h).idx (ix3 (0 : Fin 1) (0 : Fin 1) (⟨j.val, hj⟩ : Fin (len n))) := by
    rw [decR_idx, Fin.fin_one_eq_zero a, show h' = h from Fin.ext hh]
    rfl
  rw [e]
  exact LoadRect.idx_mem _ _

include h0 h1 h2 h3 h4 h5 in
theorem dk_step (j : ℕ) (hj : j < 16) (a : (M2 (len (blk j hj)) 128).Idx → Elt Ideal .f32) (x : (M2 (len (blk j hj)) 128).Idx) :
    dkF X0 X1 X2 X3 X4 X5 j hj a x = (a x : EReal) + ((dkG x0 x1 x2 x5 x3 j ((preR (blk j hj)).idx x) : ℝ) : EReal) := by
  obtain ⟨k, l, rfl⟩ := ix2_of x
  have e : (preR (blk j hj)).idx (ix2 k l) = ix2 (key (blk j hj) k) l := preR_idx _ k l
  refine Eq.trans ?_ (congrArg (fun y => (a (ix2 k l) : EReal) + ((dkG x0 x1 x2 x5 x3 j y : ℝ) : EReal)) e.symm)
  refine (dkStep_apply x0 x1 x2 x5 x3 h0 h1 h2 h3 h5 (blk j hj) (hd j) h4 a k l).trans ?_
  rw [dkG, ← blk_eq j hj]
  rfl
include h0 h1 h3 h4 h5 in
theorem dv_step (j : ℕ) (hj : j < 16) (a : (M2 (len (blk j hj)) 128).Idx → Elt Ideal .f32) (x : (M2 (len (blk j hj)) 128).Idx) :
    dvF X0 X1 X3 X4 X5 j hj a x = (a x : EReal) + ((dvG x0 x1 x5 x3 j ((preR (blk j hj)).idx x) : ℝ) : EReal) := by
  obtain ⟨k, l, rfl⟩ := ix2_of x
  have e : (preR (blk j hj)).idx (ix2 k l) = ix2 (key (blk j hj) k) l := preR_idx _ k l
  refine Eq.trans ?_ (congrArg (fun y => (a (ix2 k l) : EReal) + ((dvG x0 x1 x5 x3 j y : ℝ) : EReal)) e.symm)
  refine (dvStep_apply x0 x1 x5 x3 h0 h1 h3 h5 (blk j hj) (hd j) h4 a k l).trans ?_
  rw [dvG, ← blk_eq j hj]
  rfl
include h0 h1 h2 h3 h4 h5 in
theorem dd_step (j : ℕ) (hj : j < 16) (a : (M3 1 1 (len (blk j hj))).Idx → Elt Ideal .f32) (x : (M3 1 1 (len (blk j hj))).Idx) :
    ddF X0 X1 X2 X3 X4 X5 j hj a x = (a x : EReal) + ((ddG x0 x1 x2 x5 x3 j ((decR (blk j hj) (hd j)).idx x) : ℝ) : EReal) := by
  obtain ⟨b, c, k, rfl⟩ := ix3_of x
  have e : (decR (blk j hj) (hd j)).idx (ix3 b c k) = ix3 (hd j) 0 (key (blk j hj) k) := decR_idx _ _ k b c
  refine Eq.trans ?_ (congrArg (fun y => (a (ix3 b c k) : EReal) + ((ddG x0 x1 x2 x5 x3 j y : ℝ) : EReal)) e.symm)
  refine (ddStep_apply x0 x1 x2 x5 x3 h0 h1 h2 h3 h5 (blk j hj) (hd j) h4 a b c k).trans ?_
  have aux : ∀ (n : Fin 8) (_ : n = blkN j) (k : Fin 2048), ddG x0 x1 x2 x5 x3 j (ix3 (hd j) 0 k)
      = -∑ i : Fin 256, dss (half (hd j) x0) (half (hd j) x1) (half (hd j) x2) (half (hd j) x5) (x3 (hd j)) (rw256 n i) k := by
    rintro _ rfl k
    exact if_pos rfl
  have e' := aux _ (blk_eq j hj) (key (blk j hj) k)
  rw [e', EReal.coe_neg, ← sub_eq_add_neg, Fin.fin_one_eq_zero b, Fin.fin_one_eq_zero c]

theorem range16 (f : ℕ → ℝ) : ∑ j ∈ Finset.range 14, f j + f 14 + f 15 = ∑ j ∈ Finset.range 16, f j := by
  rw [Finset.sum_range_succ f 15, Finset.sum_range_succ f 14]
/-- The sixteen steps of which one head's eight count. -/
theorem steps_head (H : Fin 2) (T : Fin 2 → Fin 2048 → ℝ) :
    ∑ j ∈ Finset.range 16, ∑ i : Fin 256, (if H.val = (hd j).val then T (hd j) (rw256 (blkN j) i) else 0) = ∑ i, T H i := by
  rw [← sum_blocks]
  have := sum_steps fun a b => ∑ i : Fin 256, (if H.val = b % 2 then T ⟨b % 2, by omega⟩ (rw256 ⟨a % 8, by omega⟩ i) else 0)
  refine Eq.trans (Finset.sum_congr rfl fun j _ => ?_) (this.trans (Finset.sum_congr rfl fun n _ => ?_))
  · have e : (⟨j % 2 % 2, by omega⟩ : Fin 2) = hd j := by apply Fin.ext; show j % 2 % 2 = j % 2; omega
    simp only [e]
    have e' : j % 2 % 2 = (hd j).val := by show _ = j % 2; omega
    simp only [e']
    rfl
  · have hn : (⟨n.val % 8, by omega⟩ : Fin 8) = n := by apply Fin.ext; show n.val % 8 = n.val; omega
    rw [hn]
    fin_cases H <;> simp

include h0 h1 h2 h3 h4 h5 in
theorem dk_val (j : Fin 2048) (l : Fin 128) : dkOut X0 X1 X2 X3 X4 X5 (ix2 j l) = ((vDk x0 x1 x2 x5 x3 j l : ℝ) : EReal) := by
  have hk : ∀ a : (M2 2048 128).Idx, (preR 7).idx a = a := fun a => by
    obtain ⟨i, l, rfl⟩ := ix2_of a
    exact preR_idx 7 i l
  have hc := accL_canon (View.whole cc1_scratch0) zeroAcc (fun j hj => preR (blk j hj)) (dkF X0 X1 X2 X3 X4 X5) (dkG x0 x1 x2 x5 x3) zeroAcc_val
    (dk_step x0 x1 x2 x5 x3 h0 h1 h2 h3 h5 h4) (fun j hj y hy => Finset.sum_eq_zero fun i _ => by
      rw [← blk_eq j hj, dss_of_lt _ _ _ _ _ (not_mem_preR hy i), zero_mul]) 14 (by decide)
  have e14 : ∀ y, dkF X0 X1 X2 X3 X4 X5 14 (by decide) ((View.whole cc1_scratch0).readCov (dkL X0 X1 X2 X3 X4 X5 14 (by decide)) (preR 7).toLoadRect) y
      = (((∑ i ∈ Finset.range 14, dkG x0 x1 x2 x5 x3 i y) + dkG x0 x1 x2 x5 x3 14 y : ℝ) : EReal) := by
    intro y
    refine (dk_step x0 x1 x2 x5 x3 h0 h1 h2 h3 h5 h4 14 _ _ y).trans ?_
    rw [View.readCov_eq_canon', EReal.coe_add]
    exact congrArg₂ (fun a b : EReal => a + b) ((congrArg _ (hk y)).trans (hc y)) (congrArg (fun y => ((dkG x0 x1 x2 x5 x3 14 y : ℝ) : EReal)) (hk y))
  refine (dk_step x0 x1 x2 x5 x3 h0 h1 h2 h3 h5 h4 15 _ _ (ix2 j l)).trans ?_
  refine (congrArg₂ (fun a b : EReal => a + b) (e14 _) (congrArg (fun y => ((dkG x0 x1 x2 x5 x3 15 y : ℝ) : EReal)) (hk _))).trans ((EReal.coe_add _ _).symm.trans
    (congrArg (fun r : ℝ => (r : EReal)) ((range16 fun i => dkG x0 x1 x2 x5 x3 i (ix2 j l)).trans ?_)))
  have := steps_head (lh l) fun h i => dss (half h x0) (half h x1) (half h x2) (half h x5) (x3 h) i j * (x0 i l * (1 / 8))
  unfold vDk specDk
  rw [Finset.sum_mul]
  refine Eq.trans (Finset.sum_congr rfl fun a _ => Finset.sum_congr rfl fun i _ => ?_) (this.trans (Finset.sum_congr rfl fun i _ => ?_))
  · show dss _ _ _ _ _ _ j * ((if l.val / 64 = _ then x0 _ l else 0) * (1 / 8)) = if l.val / 64 = _ then _ else 0
    split <;> simp
  · rw [half_lane x0]; ring

include h0 h1 h3 h4 h5 in
theorem dv_val (j : Fin 2048) (l : Fin 128) : dvOut X0 X1 X3 X4 X5 (ix2 j l) = ((vDv x0 x1 x5 x3 j l : ℝ) : EReal) := by
  have hk : ∀ a : (M2 2048 128).Idx, (preR 7).idx a = a := fun a => by
    obtain ⟨i, l, rfl⟩ := ix2_of a
    exact preR_idx 7 i l
  have hc := accL_canon (View.whole cc1_scratch1) zeroAcc (fun j hj => preR (blk j hj)) (dvF X0 X1 X3 X4 X5) (dvG x0 x1 x5 x3) zeroAcc_val
    (dv_step x0 x1 x5 x3 h0 h1 h3 h5 h4) (fun j hj y hy => Finset.sum_eq_zero fun i _ => by
      rw [← blk_eq j hj, pp_of_lt _ _ _ (not_mem_preR hy i), zero_mul]) 14 (by decide)
  have e14 : ∀ y, dvF X0 X1 X3 X4 X5 14 (by decide) ((View.whole cc1_scratch1).readCov (dvL X0 X1 X3 X4 X5 14 (by decide)) (preR 7).toLoadRect) y
      = (((∑ i ∈ Finset.range 14, dvG x0 x1 x5 x3 i y) + dvG x0 x1 x5 x3 14 y : ℝ) : EReal) := by
    intro y
    refine (dv_step x0 x1 x5 x3 h0 h1 h3 h5 h4 14 _ _ y).trans ?_
    rw [View.readCov_eq_canon', EReal.coe_add]
    exact congrArg₂ (fun a b : EReal => a + b) ((congrArg _ (hk y)).trans (hc y)) (congrArg (fun y => ((dvG x0 x1 x5 x3 14 y : ℝ) : EReal)) (hk y))
  refine (dv_step x0 x1 x5 x3 h0 h1 h3 h5 h4 15 _ _ (ix2 j l)).trans ?_
  refine (congrArg₂ (fun a b : EReal => a + b) (e14 _) (congrArg (fun y => ((dvG x0 x1 x5 x3 15 y : ℝ) : EReal)) (hk _))).trans ((EReal.coe_add _ _).symm.trans
    (congrArg (fun r : ℝ => (r : EReal)) ((range16 fun i => dvG x0 x1 x5 x3 i (ix2 j l)).trans ?_)))
  have := steps_head (lh l) fun h i => pp (half h x0) (half h x1) (x3 h) i j * x5 i l
  unfold vDv specDv
  refine Eq.trans (Finset.sum_congr rfl fun a _ => Finset.sum_congr rfl fun i _ => ?_) (this.trans (Finset.sum_congr rfl fun i _ => ?_))
  · show pp _ _ _ _ j * (if l.val / 64 = _ then x5 _ l else 0) = if l.val / 64 = _ then _ else 0
    split <;> simp
  · rw [half_lane x5]

include h0 h1 h2 h3 h4 h5 in
theorem dd_val (v : View sig .tc .vmem (M3 2 1 2048) .f32) (h : Fin 2) (a : Fin 1) (j : Fin 2048) :
    View.canon (ddL X0 X1 X2 X3 X4 X5 v 16 (by decide)) (ix3 h a j) = ((vDd x0 x1 x2 x5 x3 h j : ℝ) : EReal) := by
  refine (accL_canon v zeroDec (fun j hj => decR (blk j hj) (hd j)) (ddF X0 X1 X2 X3 X4 X5) (ddG x0 x1 x2 x5 x3) zeroDec_val
    (dd_step x0 x1 x2 x5 x3 h0 h1 h2 h3 h5 h4) (fun j hj y hy => ?_) 16 (by decide) (ix3 h a j)).trans ?_
  · unfold ddG
    split
    · rename_i hh
      rw [Finset.sum_eq_zero fun i _ => ?_, neg_zero]
      rw [← blk_eq j hj, dss_of_lt _ _ _ _ _ (not_mem_decR hy hh i)]
    · rfl
  refine congrArg (fun r : ℝ => (r : EReal)) ?_
  have := steps_head h fun h i => -dss (half h x0) (half h x1) (half h x2) (half h x5) (x3 h) i j
  unfold vDd specDd
  rw [← Finset.sum_neg_distrib]
  refine Eq.trans (Finset.sum_congr rfl fun b _ => ?_) this
  show (if h.val = _ then -∑ i : Fin 256, dss _ _ _ _ _ _ j else 0) = _
  split <;> simp
end Vals
end Cert.KernelIdeal.Value
end
-- ==== Proof.Regions.lean ====
module
public import proofs.«01_k».proof.Proof.Blocks
@[expose] public section
set_option maxRecDepth 16384
noncomputable section

/-! What the two pipelines leave in their arrays, as the eight heads' real quantities. -/

namespace Cert.KernelIdeal.Value
open Idealize.ShloMosaic Idealize.SL.Sem Cert.KernelIdeal Cert.KernelIdeal.Gen Cert.Attn

section Heads
variable (x : Fin 2048 → Fin 1536 → ℝ) (u : Fin 8 → Fin 2048 → ℝ) (w : Fin 2048 → Fin 512 → ℝ)
/-- The queries of head `h`. -/
def qh (h : Fin 8) (i : Fin 2048) (d : Fin 64) : ℝ := x i ⟨64 * h.val + d.val, by omega⟩
/-- The keys of head `h`. -/
def kh (h : Fin 8) (i : Fin 2048) (d : Fin 64) : ℝ := x i ⟨512 + (64 * h.val + d.val), by omega⟩
/-- The values of head `h`. -/
def vh (h : Fin 8) (i : Fin 2048) (d : Fin 64) : ℝ := x i ⟨1024 + (64 * h.val + d.val), by omega⟩
/-- The incoming gradient of head `h`. -/
def gh (h : Fin 8) (i : Fin 2048) (d : Fin 64) : ℝ := w i ⟨64 * h.val + d.val, by omega⟩
/-- A column's head. -/
def ch (l : Fin 512) : Fin 8 := ⟨l.val / 64, by omega⟩
/-- A column's place in its head. -/
def cc (l : Fin 512) : Fin 64 := ⟨l.val % 64, by omega⟩
/-- The attention, at row `i` and column `l`. -/
def gO (i : Fin 2048) (l : Fin 512) : ℝ := specO (qh x (ch l)) (kh x (ch l)) (vh x (ch l)) (u (ch l)) i (cc l)
/-- The queries' gradient. -/
def gDq (i : Fin 2048) (l : Fin 512) : ℝ := specDq (qh x (ch l)) (kh x (ch l)) (vh x (ch l)) (gh w (ch l)) (u (ch l)) i (cc l)
/-- The keys' gradient. -/
def gDk (i : Fin 2048) (l : Fin 512) : ℝ := specDk (qh x (ch l)) (kh x (ch l)) (vh x (ch l)) (gh w (ch l)) (u (ch l)) i (cc l)
/-- The values' gradient. -/
def gDv (i : Fin 2048) (l : Fin 512) : ℝ := specDv (qh x (ch l)) (kh x (ch l)) (gh w (ch l)) (u (ch l)) i (cc l)
/-- The gradient of the decays' running sum. -/
def gDd (h : Fin 8) (i : Fin 2048) : ℝ := specDd (qh x h) (kh x h) (vh x h) (gh w h) (u h) i
/-- The row normalisers. -/
def gL (h : Fin 8) (i : Fin 2048) : ℝ := Real.log (ll (qh x h) (kh x h) (u h) i)

/-- The columns that pair `t` reads, from column `o` on. -/
def cut (o : ℕ) (ho : o ≤ 1024) (t : Fin 4) (i : Fin 2048) (l : Fin 128) : ℝ := x i ⟨o + (128 * t.val + l.val), by omega⟩
/-- The same of the incoming gradient. -/
def cutW (t : Fin 4) (i : Fin 2048) (l : Fin 128) : ℝ := w i ⟨128 * t.val + l.val, by omega⟩
/-- The pair's decays. -/
def cutU (t : Fin 4) (h : Fin 2) (i : Fin 2048) : ℝ := u ⟨2 * t.val + h.val, by omega⟩ i
/-- Head `h` of pair `t`. -/
def ph (t : Fin 4) (h : Fin 2) : Fin 8 := ⟨2 * t.val + h.val, by omega⟩
/-- Column `l` of pair `t`. -/
def pc (t : Fin 4) (l : Fin 128) : Fin 512 := ⟨128 * t.val + l.val, by omega⟩
theorem ch_pc (t l) : ch (pc t l) = ph t (lh l) := by apply Fin.ext; show (128 * t.val + l.val) / 64 = 2 * t.val + l.val / 64; omega
theorem cc_pc (t l) : cc (pc t l) = lc l := by apply Fin.ext; show (128 * t.val + l.val) % 64 = l.val % 64; omega
theorem half_q (t h) : half h (cut x 0 (by decide) t) = qh x (ph t h) := by
  funext i d; unfold half cut qh ph; congr 1; apply Fin.ext; simp only; omega
theorem half_k (t h) : half h (cut x 512 (by decide) t) = kh x (ph t h) := by
  funext i d; unfold half cut kh ph; congr 1; apply Fin.ext; simp only; omega
theorem half_v (t h) : half h (cut x 1024 (by decide) t) = vh x (ph t h) := by
  funext i d; unfold half cut vh ph; congr 1; apply Fin.ext; simp only; omega
theorem half_g (t h) : half h (cutW w t) = gh w (ph t h) := by
  funext i d; unfold half cutW gh ph; congr 1; apply Fin.ext; simp only; omega
theorem vO_eq (t i l) : vO (cut x 0 (by decide) t) (cut x 512 (by decide) t) (cut x 1024 (by decide) t) (cutU u t) i l = gO x u i (pc t l) := by
  unfold vO gO; rw [half_q, half_k, half_v, ch_pc, cc_pc]; rfl
theorem vL_eq (t h i) : vL (cut x 0 (by decide) t) (cut x 512 (by decide) t) (cutU u t) h i = gL x u (ph t h) i := by
  unfold vL gL; rw [half_q, half_k]; rfl
theorem vDq_eq (t i l) : vDq (cut x 0 (by decide) t) (cut x 512 (by decide) t) (cut x 1024 (by decide) t) (cutW w t) (cutU u t) i l = gDq x u w i (pc t l) := by
  unfold vDq gDq; rw [half_q, half_k, half_v, half_g, ch_pc, cc_pc]; rfl
theorem vDk_eq (t i l) : vDk (cut x 0 (by decide) t) (cut x 512 (by decide) t) (cut x 1024 (by decide) t) (cutW w t) (cutU u t) i l = gDk x u w i (pc t l) := by
  unfold vDk gDk; rw [half_q, half_k, half_v, half_g, ch_pc, cc_pc]; rfl
theorem vDv_eq (t i l) : vDv (cut x 0 (by decide) t) (cut x 512 (by decide) t) (cutW w t) (cutU u t) i l = gDv x u w i (pc t l) := by
  unfold vDv gDv; rw [half_q, half_k, half_g, ch_pc, cc_pc]; rfl
theorem vDd_eq (t h i) : vDd (cut x 0 (by decide) t) (cut x 512 (by decide) t) (cut x 1024 (by decide) t) (cutW w t) (cutU u t) h i = gDd x u w (ph t h) i := by
  unfold vDd gDd; rw [half_q, half_k, half_v, half_g]; rfl
end Heads

theorem idx0 : ∀ t : Fin cfg0.N, win0_0.index t = ![0, t.val] ∧ win0_1.index t = ![0, 4 + t.val] ∧ win0_2.index t = ![0, 8 + t.val]
    ∧ win0_3.index t = ![t.val, 0, 0] ∧ win0_4.index t = ![0, t.val] ∧ win0_5.index t = ![t.val, 0, 0] := (by decide +kernel : ∀ t : Fin grid0.N, _)
theorem idx1 : ∀ t : Fin cfg1.N, win1_0.index t = ![0, t.val] ∧ win1_1.index t = ![0, 4 + t.val] ∧ win1_2.index t = ![0, 8 + t.val]
    ∧ win1_3.index t = ![t.val, 0, 0] ∧ win1_4.index t = ![t.val, 0, 0] ∧ win1_5.index t = ![0, t.val]
    ∧ win1_6.index t = ![0, t.val] ∧ win1_7.index t = ![0, t.val] ∧ win1_8.index t = ![0, t.val] ∧ win1_9.index t = ![t.val, 0, 0] :=
  (by decide +kernel : ∀ t : Fin grid1.N, _)
theorem N0 : cfg0.N = 4 := by decide +kernel
theorem N1 : cfg1.N = 4 := by decide +kernel

section
variable (V : (c : Dev nD) → (b : Ref sig .tc) → Buf (Elt Ideal) ((c.tc : Thread nD τ).loc b)) (c : Dev nD)
/-- A grid point of the forward pass as a pair. -/
def t0 (t : Fin cfg0.N) : Fin 4 := ⟨t.val, lt_of_lt_of_eq t.isLt N0⟩
/-- A grid point of the backward pass as a pair. -/
def t1 (t : Fin cfg1.N) : Fin 4 := ⟨t.val, lt_of_lt_of_eq t.isLt N1⟩

theorem rd0_0 (t : Fin cfg0.N) (i : Fin 2048) (l : Fin 128) :
    (iblk0 V c 0 t : Vec Ideal (M2 2048 128) .bf16) (ix2 i l) = (V c main_arg0 : Vec Ideal (M2 2048 1536) .bf16) (ix2 i ⟨0 + (128 * (t0 t).val + l.val), by omega⟩) := by
  have e : (t0 t).val = t.val := rfl
  blk_ext [iblk0, idx0 t]
theorem rd0_1 (t : Fin cfg0.N) (i : Fin 2048) (l : Fin 128) :
    (iblk0 V c 1 t : Vec Ideal (M2 2048 128) .bf16) (ix2 i l) = (V c main_arg0 : Vec Ideal (M2 2048 1536) .bf16) (ix2 i ⟨512 + (128 * (t0 t).val + l.val), by omega⟩) := by
  have e : (t0 t).val = t.val := rfl
  blk_ext [iblk0, idx0 t]
theorem rd0_2 (t : Fin cfg0.N) (i : Fin 2048) (l : Fin 128) :
    (iblk0 V c 2 t : Vec Ideal (M2 2048 128) .bf16) (ix2 i l) = (V c main_arg0 : Vec Ideal (M2 2048 1536) .bf16) (ix2 i ⟨1024 + (128 * (t0 t).val + l.val), by omega⟩) := by
  have e : (t0 t).val = t.val := rfl
  blk_ext [iblk0, idx0 t]
theorem rd0_3 (t : Fin cfg0.N) (h : Fin 2) (i : Fin 2048) :
    (iblk0 V c 3 t : Vec Ideal (M3 2 1 2048) .f32) (ix3 h 0 i) = (V c main_v0 : Vec Ideal (M3 8 1 2048) .f32) (ix3 (ph (t0 t) h) 0 i) := by
  have e : (t0 t).val = t.val := rfl
  have e' : (ph (t0 t) h).val = 2 * t.val + h.val := rfl
  blk_ext [iblk0, idx0 t]
theorem rd1_0 (t : Fin cfg1.N) (i : Fin 2048) (l : Fin 128) :
    (iblk1 V c 0 t : Vec Ideal (M2 2048 128) .bf16) (ix2 i l) = (V c main_arg0 : Vec Ideal (M2 2048 1536) .bf16) (ix2 i ⟨0 + (128 * (t1 t).val + l.val), by omega⟩) := by
  have e : (t1 t).val = t.val := rfl
  blk_ext [iblk1, idx1 t]
theorem rd1_1 (t : Fin cfg1.N) (i : Fin 2048) (l : Fin 128) :
    (iblk1 V c 1 t : Vec Ideal (M2 2048 128) .bf16) (ix2 i l) = (V c main_arg0 : Vec Ideal (M2 2048 1536) .bf16) (ix2 i ⟨512 + (128 * (t1 t).val + l.val), by omega⟩) := by
  have e : (t1 t).val = t.val := rfl
  blk_ext [iblk1, idx1 t]
theorem rd1_2 (t : Fin cfg1.N) (i : Fin 2048) (l : Fin 128) :
    (iblk1 V c 2 t : Vec Ideal (M2 2048 128) .bf16) (ix2 i l) = (V c main_arg0 : Vec Ideal (M2 2048 1536) .bf16) (ix2 i ⟨1024 + (128 * (t1 t).val + l.val), by omega⟩) := by
  have e : (t1 t).val = t.val := rfl
  blk_ext [iblk1, idx1 t]
theorem rd1_3 (t : Fin cfg1.N) (h : Fin 2) (i : Fin 2048) :
    (iblk1 V c 3 t : Vec Ideal (M3 2 1 2048) .f32) (ix3 h 0 i) = (V c main_v0 : Vec Ideal (M3 8 1 2048) .f32) (ix3 (ph (t1 t) h) 0 i) := by
  have e : (t1 t).val = t.val := rfl
  have e' : (ph (t1 t) h).val = 2 * t.val + h.val := rfl
  blk_ext [iblk1, idx1 t]
theorem rd1_4 (t : Fin cfg1.N) (h : Fin 2) (i : Fin 2048) :
    (iblk1 V c 4 t : Vec Ideal (M3 2 2048 1) .f32) (ix3 h i 0) = (V c main_v1_1 : Vec Ideal (M3 8 2048 1) .f32) (ix3 (ph (t1 t) h) i 0) := by
  have e : (t1 t).val = t.val := rfl
  have e' : (ph (t1 t) h).val = 2 * t.val + h.val := rfl
  blk_ext [iblk1, idx1 t]
theorem rd1_5 (t : Fin cfg1.N) (i : Fin 2048) (l : Fin 128) :
    (iblk1 V c 5 t : Vec Ideal (M2 2048 128) .f32) (ix2 i l) = (V c main_arg2 : Vec Ideal (M2 2048 512) .f32) (ix2 i (pc (t1 t) l)) := by
  have e : (t1 t).val = t.val := rfl
  have e' : (pc (t1 t) l).val = 128 * t.val + l.val := rfl
  blk_ext [iblk1, idx1 t]

variable (x : Fin 2048 → Fin 1536 → ℝ) (u : Fin 8 → Fin 2048 → ℝ) (w : Fin 2048 → Fin 512 → ℝ)
/-- The array of the values `gO`. -/
def aO : Vec Ideal (M2 2048 512) .f32 := fun y => ((gO x u (y 0) (y 1) : ℝ) : EReal)
/-- The array of the values `gDq`. -/
def aDq : Vec Ideal (M2 2048 512) .bf16 := fun y => ((gDq x u w (y 0) (y 1) : ℝ) : EReal)
/-- The array of the values `gDk`. -/
def aDk : Vec Ideal (M2 2048 512) .bf16 := fun y => ((gDk x u w (y 0) (y 1) : ℝ) : EReal)
/-- The array of the values `gDv`. -/
def aDv : Vec Ideal (M2 2048 512) .bf16 := fun y => ((gDv x u w (y 0) (y 1) : ℝ) : EReal)
/-- The array of the values `gDd`. -/
def aDd : Vec Ideal (M3 8 1 2048) .f32 := fun y => ((gDd x u w (y 0) (y 2) : ℝ) : EReal)
/-- The array of the row normalisers. -/
def aL : Vec Ideal (M3 8 2048 1) .f32 := fun y => ((gL x u (y 0) (y 1) : ℝ) : EReal)

variable (hA : ∀ i l, (V c main_arg0 : Vec Ideal (M2 2048 1536) .bf16) (ix2 i l) = (x i l : EReal))
  (hC : ∀ h i, (V c main_v0 : Vec Ideal (M3 8 1 2048) .f32) (ix3 h 0 i) = (u h i : EReal))
include hA in
theorem b0_0 (t : Fin cfg0.N) (i : Fin 2048) (l : Fin 128) : (iblk0 V c 0 t : Vec Ideal (M2 2048 128) .bf16) (ix2 i l) = ((cut x 0 (by decide) (t0 t) i l : ℝ) : EReal) :=
  (rd0_0 V c t i l).trans (hA _ _)
include hA in
theorem b0_1 (t : Fin cfg0.N) (i : Fin 2048) (l : Fin 128) : (iblk0 V c 1 t : Vec Ideal (M2 2048 128) .bf16) (ix2 i l) = ((cut x 512 (by decide) (t0 t) i l : ℝ) : EReal) :=
  (rd0_1 V c t i l).trans (hA _ _)
include hA in
theorem b0_2 (t : Fin cfg0.N) (i : Fin 2048) (l : Fin 128) : (iblk0 V c 2 t : Vec Ideal (M2 2048 128) .bf16) (ix2 i l) = ((cut x 1024 (by decide) (t0 t) i l : ℝ) : EReal) :=
  (rd0_2 V c t i l).trans (hA _ _)
include hC in
theorem b0_3 (t : Fin cfg0.N) (h : Fin 2) (i : Fin 2048) : (iblk0 V c 3 t : Vec Ideal (M3 2 1 2048) .f32) (ix3 h 0 i) = ((cutU u (t0 t) h i : ℝ) : EReal) :=
  (rd0_3 V c t h i).trans (hC _ _)
include hA in
theorem b1_0 (t : Fin cfg1.N) (i : Fin 2048) (l : Fin 128) : (iblk1 V c 0 t : Vec Ideal (M2 2048 128) .bf16) (ix2 i l) = ((cut x 0 (by decide) (t1 t) i l : ℝ) : EReal) :=
  (rd1_0 V c t i l).trans (hA _ _)
include hA in
theorem b1_1 (t : Fin cfg1.N) (i : Fin 2048) (l : Fin 128) : (iblk1 V c 1 t : Vec Ideal (M2 2048 128) .bf16) (ix2 i l) = ((cut x 512 (by decide) (t1 t) i l : ℝ) : EReal) :=
  (rd1_1 V c t i l).trans (hA _ _)
include hA in
theorem b1_2 (t : Fin cfg1.N) (i : Fin 2048) (l : Fin 128) : (iblk1 V c 2 t : Vec Ideal (M2 2048 128) .bf16) (ix2 i l) = ((cut x 1024 (by decide) (t1 t) i l : ℝ) : EReal) :=
  (rd1_2 V c t i l).trans (hA _ _)
include hC in
theorem b1_3 (t : Fin cfg1.N) (h : Fin 2) (i : Fin 2048) : (iblk1 V c 3 t : Vec Ideal (M3 2 1 2048) .f32) (ix3 h 0 i) = ((cutU u (t1 t) h i : ℝ) : EReal) :=
  (rd1_3 V c t h i).trans (hC _ _)

include hA hC in
theorem arr_o : (dat0 V c).arrAt 4 cfg0.N = aO x u := by
  refine (dat0 V c).arrAt_eq_of_covers 4 _ (by decide +kernel) fun t hf y => ?_
  blk_simp
  rw [after0_4, o_eq]
  obtain ⟨i, l, rfl⟩ := ix2_of (a := 2048) (b := 128) y
  refine (o_val (cut x 0 (by decide) (t0 t)) (cut x 512 (by decide) (t0 t)) (cut x 1024 (by decide) (t0 t)) (cutU u (t0 t))
    (b0_0 V c x hA t) (b0_1 V c x hA t) (b0_2 V c x hA t) (b0_3 V c u hC t) i l).trans ?_
  rw [vO_eq]
  have e' : (pc (t0 t) l).val = 128 * t.val + l.val := rfl
  show aO x u (ix2 i (pc (t0 t) l)) = _
  blk_ext [idx0 t]

include hA hC in
theorem arr_l : (dat0 V c).arrAt 5 cfg0.N = aL x u := by
  refine (dat0 V c).arrAt_eq_of_covers 5 _ (by decide +kernel) fun t hf y => ?_
  blk_simp
  rw [after0_5, lse_eq]
  obtain ⟨h, i, a, rfl⟩ := ix3_of (a := 2) (b := 2048) (c := 1) y
  obtain rfl : a = 0 := Subsingleton.elim _ _
  refine (lse_val (cut x 0 (by decide) (t0 t)) (cut x 512 (by decide) (t0 t)) (cutU u (t0 t))
    (b0_0 V c x hA t) (b0_1 V c x hA t) (b0_3 V c u hC t) h i 0).trans ?_
  rw [vL_eq]
  have e' : (ph (t0 t) h).val = 2 * t.val + h.val := rfl
  show aL x u (ix3 (ph (t0 t) h) i 0) = _
  blk_ext [idx0 t]

variable (hW : ∀ i l, (V c main_arg2 : Vec Ideal (M2 2048 512) .f32) (ix2 i l) = (w i l : EReal))
  (hL : ∀ h i, (V c main_v1_1 : Vec Ideal (M3 8 2048 1) .f32) (ix3 h i 0) = (gL x u h i : EReal))
include hW in
theorem b1_5 (t : Fin cfg1.N) (i : Fin 2048) (l : Fin 128) : (iblk1 V c 5 t : Vec Ideal (M2 2048 128) .f32) (ix2 i l) = ((cutW w (t1 t) i l : ℝ) : EReal) :=
  (rd1_5 V c t i l).trans (hW _ _)
include hL in
theorem b1_4 (t : Fin cfg1.N) (h : Fin 2) (i : Fin 2048) : (iblk1 V c 4 t : Vec Ideal (M3 2 2048 1) .f32) (ix3 h i 0)
    = ((Real.log (ll (half h (cut x 0 (by decide) (t1 t))) (half h (cut x 512 (by decide) (t1 t))) (cutU u (t1 t) h) i) : ℝ) : EReal) :=
  (rd1_4 V c t h i).trans ((hL _ _).trans (congrArg (fun r : ℝ => (r : EReal)) (vL_eq x u (t1 t) h i).symm))

include hA hC hW hL in
theorem arr_dq : (dat1 V c).arrAt 6 cfg1.N = aDq x u w := by
  refine (dat1 V c).arrAt_eq_of_covers 6 _ (by decide +kernel) fun t hf y => ?_
  blk_simp
  rw [after1_6, dq_eq]
  obtain ⟨i, l, rfl⟩ := ix2_of (a := 2048) (b := 128) y
  refine (dq_val (cut x 0 (by decide) (t1 t)) (cut x 512 (by decide) (t1 t)) (cut x 1024 (by decide) (t1 t)) (cutW w (t1 t)) (cutU u (t1 t))
    (b1_0 V c x hA t) (b1_1 V c x hA t) (b1_2 V c x hA t) (b1_3 V c u hC t) (b1_5 V c w hW t) (b1_4 V c x u hL t) i l).trans ?_
  rw [vDq_eq]
  have e' : (pc (t1 t) l).val = 128 * t.val + l.val := rfl
  show aDq x u w (ix2 i (pc (t1 t) l)) = _
  blk_ext [idx1 t]

include hA hC hW hL in
theorem arr_dk : (dat1 V c).arrAt 7 cfg1.N = aDk x u w := by
  refine (dat1 V c).arrAt_eq_of_covers 7 _ (by decide +kernel) fun t hf y => ?_
  blk_simp
  rw [after1_7, dk_eq]
  obtain ⟨i, l, rfl⟩ := ix2_of (a := 2048) (b := 128) y
  refine (dk_val (cut x 0 (by decide) (t1 t)) (cut x 512 (by decide) (t1 t)) (cut x 1024 (by decide) (t1 t)) (cutW w (t1 t)) (cutU u (t1 t))
    (b1_0 V c x hA t) (b1_1 V c x hA t) (b1_2 V c x hA t) (b1_3 V c u hC t) (b1_5 V c w hW t) (b1_4 V c x u hL t) i l).trans ?_
  rw [vDk_eq]
  have e' : (pc (t1 t) l).val = 128 * t.val + l.val := rfl
  show aDk x u w (ix2 i (pc (t1 t) l)) = _
  blk_ext [idx1 t]

include hA hC hW hL in
theorem arr_dv : (dat1 V c).arrAt 8 cfg1.N = aDv x u w := by
  refine (dat1 V c).arrAt_eq_of_covers 8 _ (by decide +kernel) fun t hf y => ?_
  blk_simp
  rw [after1_8, dv_eq]
  obtain ⟨i, l, rfl⟩ := ix2_of (a := 2048) (b := 128) y
  refine (dv_val (cut x 0 (by decide) (t1 t)) (cut x 512 (by decide) (t1 t)) (cutW w (t1 t)) (cutU u (t1 t))
    (b1_0 V c x hA t) (b1_1 V c x hA t) (b1_3 V c u hC t) (b1_5 V c w hW t) (b1_4 V c x u hL t) i l).trans ?_
  rw [vDv_eq]
  have e' : (pc (t1 t) l).val = 128 * t.val + l.val := rfl
  show aDv x u w (ix2 i (pc (t1 t) l)) = _
  blk_ext [idx1 t]

include hA hC hW hL in
theorem arr_dd : (dat1 V c).arrAt 9 cfg1.N = aDd x u w := by
  refine (dat1 V c).arrAt_eq_of_covers 9 _ (by decide +kernel) fun t hf y => ?_
  blk_simp
  rw [after1_9, dd_eq]
  obtain ⟨h, a, i, rfl⟩ := ix3_of (a := 2) (b := 1) (c := 2048) y
  obtain rfl : a = 0 := Subsingleton.elim _ _
  refine (dd_val (cut x 0 (by decide) (t1 t)) (cut x 512 (by decide) (t1 t)) (cut x 1024 (by decide) (t1 t)) (cutW w (t1 t)) (cutU u (t1 t))
    (b1_0 V c x hA t) (b1_1 V c x hA t) (b1_2 V c x hA t) (b1_3 V c u hC t) (b1_5 V c w hW t) (b1_4 V c x u hL t) _ h 0 i).trans ?_
  rw [vDd_eq]
  have e' : (ph (t1 t) h).val = 2 * t.val + h.val := rfl
  show aDd x u w (ix3 (ph (t1 t) h) 0 i) = _
  blk_ext [idx1 t]
end
end Cert.KernelIdeal.Value
end
-- ==== Proof.Run.lean ====
module

public import proofs.«01_k».proof.Proof.Regions
@[expose] public section
set_option maxRecDepth 16384
noncomputable section

/-! The run of the kernel's program with its results. -/

namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Attn

/-- The resources the run accounts for. -/
abbrev Res : Type := MT nD τ sig Unit (Elt Ideal) ℕ (UR sig nD τ) ℕ

variable (m : (ℓ : Loc nD τ sig) → Buf (Elt Ideal) ℓ) (ρ : Dev nD → PrngReg)

/-- The decays as the first call reads them. -/
theorem entry_row (c : Dev nD) : (V1 m ρ c main_v0 : Vec Ideal (M3 8 1 2048) .f32)
    = shapeCast (M3 8 1 2048) (m ((c.tc : Thread nD τ).loc main_arg1) : Vec Ideal (M2 8 2048) .f32) shapeCasts_S8x2048_S8x1x2048 := by
  show StableHlo.after hostOps0 (W0 m ρ c) (Proc.devRef .tc main_v0) = _
  after_results_simp
  rfl

theorem row_apply (y : Vec Ideal (M2 8 2048) .f32) (hs) (h : Fin 8) (i : Fin 2048) : shapeCast (M3 8 1 2048) y hs (ix3 h 0 i) = y (ix2 h i) := by
  pointwise

section
variable (x : Dev nD → Fin 2048 → Fin 1536 → ℝ) (u : Dev nD → Fin 8 → Fin 2048 → ℝ) (w : Dev nD → Fin 2048 → Fin 512 → ℝ)
  (hX : ∀ c i l, (m ((c.tc : Thread nD τ).loc main_arg0) : Vec Ideal (M2 2048 1536) .bf16) (ix2 i l) = (x c i l : EReal))
  (hU : ∀ c h i, (m ((c.tc : Thread nD τ).loc main_arg1) : Vec Ideal (M2 8 2048) .f32) (ix2 h i) = (u c h i : EReal))
  (hW : ∀ c i l, (m ((c.tc : Thread nD τ).loc main_arg2) : Vec Ideal (M2 2048 512) .f32) (ix2 i l) = (w c i l : EReal))

include hX in
theorem a1 (c : Dev nD) (i l) : (V1 m ρ c main_arg0 : Vec Ideal (M2 2048 1536) .bf16) (ix2 i l) = (x c i l : EReal) :=
  (congrFun (W1_args m ρ c main_arg0 (by decide)) (ix2 i l)).trans (hX c i l)
include hU in
theorem r1 (c : Dev nD) (h i) : (V1 m ρ c main_v0 : Vec Ideal (M3 8 1 2048) .f32) (ix3 h 0 i) = (u c h i : EReal) :=
  (congrFun (entry_row m ρ c) (ix3 h 0 i)).trans ((row_apply _ _ h i).trans (hU c h i))
include hX in
theorem a2 (c : Dev nD) (i l) : (V2 m ρ c main_arg0 : Vec Ideal (M2 2048 1536) .bf16) (ix2 i l) = (x c i l : EReal) :=
  (congrFun (W2_args m ρ c main_arg0 (by decide)) (ix2 i l)).trans (hX c i l)
include hU in
theorem r2 (c : Dev nD) (h i) : (V2 m ρ c main_v0 : Vec Ideal (M3 8 1 2048) .f32) (ix3 h 0 i) = (u c h i : EReal) :=
  (congrFun (W2_of m ρ c main_v0 (by decide)) (ix3 h 0 i)).trans (r1 m ρ u hU c h i)
include hW in
theorem g2 (c : Dev nD) (i l) : (V2 m ρ c main_arg2 : Vec Ideal (M2 2048 512) .f32) (ix2 i l) = (w c i l : EReal) :=
  (congrFun (W2_args m ρ c main_arg2 (by decide)) (ix2 i l)).trans (hW c i l)
include hX hU in
theorem l2 (c : Dev nD) (h i) : (V2 m ρ c main_v1_1 : Vec Ideal (M3 8 2048 1) .f32) (ix3 h i 0) = (gL (x c) (u c) h i : EReal) :=
  congrFun ((W2_arr m ρ c 5).trans (arr_l (V1 m ρ) c (x c) (u c) (a1 m ρ x hX c) (r1 m ρ u hU c))) (ix3 h i 0)

include hX hU in
theorem o_end (c : Dev nD) : W3 m ρ c (Proc.devRef .tc main_v1_0) = aO (x c) (u c) :=
  (W3_of m ρ c main_v1_0 (by decide)).trans ((W2_arr m ρ c 4).trans (arr_o (V1 m ρ) c (x c) (u c) (a1 m ρ x hX c) (r1 m ρ u hU c)))
include hX hU hW in
theorem dq_end (c : Dev nD) : W3 m ρ c (Proc.devRef .tc main_v2_0) = aDq (x c) (u c) (w c) :=
  (W3_arr m ρ c 6).trans (arr_dq (V2 m ρ) c (x c) (u c) (w c) (a2 m ρ x hX c) (r2 m ρ u hU c) (g2 m ρ w hW c) (l2 m ρ x u hX hU c))
include hX hU hW in
theorem dk_end (c : Dev nD) : W3 m ρ c (Proc.devRef .tc main_v2_1) = aDk (x c) (u c) (w c) :=
  (W3_arr m ρ c 7).trans (arr_dk (V2 m ρ) c (x c) (u c) (w c) (a2 m ρ x hX c) (r2 m ρ u hU c) (g2 m ρ w hW c) (l2 m ρ x u hX hU c))
include hX hU hW in
theorem dv_end (c : Dev nD) : W3 m ρ c (Proc.devRef .tc main_v2_2) = aDv (x c) (u c) (w c) :=
  (W3_arr m ρ c 8).trans (arr_dv (V2 m ρ) c (x c) (u c) (w c) (a2 m ρ x hX c) (r2 m ρ u hU c) (g2 m ρ w hW c) (l2 m ρ x u hX hU c))
include hX hU hW in
theorem dd_end (c : Dev nD) : W3 m ρ c (Proc.devRef .tc main_v2_3) = aDd (x c) (u c) (w c) :=
  (W3_arr m ρ c 9).trans (arr_dd (V2 m ρ) c (x c) (u c) (w c) (a2 m ρ x hX c) (r2 m ρ u hU c) (g2 m ρ w hW c) (l2 m ρ x u hX hU c))

set_option backward.isDefEq.respectTransparency.types false in
include hX hU hW in
/-- The kernel's program ends with the attention's values and gradients, its arguments as they were. -/
theorem run : θ_run defs (onTc (τ := τ) (main (F := Ideal))) ⟨m, fun _ => 0, ρ⟩ (fun r => ∀ c : Dev nD,
      r.2.mem ((c.tc : Thread nD τ).loc main_v1_0) = aO (x c) (u c)
      ∧ r.2.mem ((c.tc : Thread nD τ).loc main_v2_0) = aDq (x c) (u c) (w c)
      ∧ r.2.mem ((c.tc : Thread nD τ).loc main_v2_1) = aDk (x c) (u c) (w c)
      ∧ r.2.mem ((c.tc : Thread nD τ).loc main_v2_2) = aDv (x c) (u c) (w c)
      ∧ r.2.mem ((c.tc : Thread nD τ).loc main_v2_3) = aDd (x c) (u c) (w c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans (o_end m ρ x u hX hU c),
       (h c _ (mem_uc main_v2_0 (by decide))).trans (dq_end m ρ x u w hX hU hW c),
       (h c _ (mem_uc main_v2_1 (by decide))).trans (dk_end m ρ x u w hX hU hW c),
       (h c _ (mem_uc main_v2_2 (by decide))).trans (dv_end m ρ x u w hX hU hW c),
       (h c _ (mem_uc main_v2_3 (by decide))).trans (dd_end m ρ x u w hX hU hW c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
end
end Cert.KernelIdeal.Value
end
-- ==== Proof.Ref.lean ====
module

public import proofs.«01_k».proof.Proof.Regions
public import proofs.«01_k».proof.Proof.Gen.ReferenceIdeal.Read
@[expose] public section
set_option maxRecDepth 16384
noncomputable section

/-! The reference's values as the eight heads' real quantities. -/

namespace Cert.ReferenceIdeal.Value
open Idealize.ShloMosaic Cert.ReferenceIdeal Cert.ReferenceIdeal.Read Cert.Attn Cert.KernelIdeal.Value

theorem ix2_ext {a b : ℕ} (y : (M2 a b).Idx) (i : Fin a) (l : Fin b) (h0 : (y 0).val = i.val) (h1 : (y 1).val = l.val) : y = ix2 i l := by
  funext k; fin_cases k
  · exact Fin.ext h0
  · exact Fin.ext h1
theorem ix3_ext {a b c : ℕ} (y : (M3 a b c).Idx) (i : Fin a) (j : Fin b) (k : Fin c) (h0 : (y 0).val = i.val) (h1 : (y 1).val = j.val)
    (h2 : (y 2).val = k.val) : y = ix3 i j k := by
  funext k; fin_cases k
  · exact Fin.ext h0
  · exact Fin.ext h1
  · exact Fin.ext h2

theorem rd_hmax (x : FVec Ideal (M3 8 2048 2048) .f32) (v : FVec Ideal ⟨0, ![]⟩ .f32) (h : (M3 8 2048 2048).ReducesTo [2] (M2 8 2048)) (hu) (a : Fin 8) (i : Fin 2048) :
    Host.reduce FloatOps.maximumf x v h hu (ix2 a i) = (Finset.univ : Finset (Fin 2048)).fold max (v (Shape.Idx.first hu) : EReal) fun j => (x (ix3 a i j) : EReal) := by
  refine (Host.reduce_eq_fold_single FloatOps.maximumf x v h (by decide) hu (ix2 a i)).trans ?_
  refine congrArg (fun f => (Finset.univ : Finset (Fin 2048)).fold max (v (Shape.Idx.first hu) : EReal) f) ?_
  funext j
  refine congrArg x (ix3_ext (a := 8) (b := 2048) (c := 2048) _ a i j ?_ ?_ ?_) <;> rfl

/-- A row's rescaled exponentials give the gradient of the scores. -/
theorem dss_alg {n : ℕ} (e d : Fin n → ℝ) (L κ : ℝ) (hL : L ≠ 0) (hκ : κ ≠ 0) (j : Fin n) :
    (d j * (1 / (L * κ)) + -(∑ k, d k * (1 * (1 / (L * κ * (L * κ)))) * (e k * κ))) * (e j * κ)
      = e j / L * (d j - ∑ k, e k / L * d k) := by
  have h : ∑ k, d k * (1 * (1 / (L * κ * (L * κ)))) * (e k * κ) = (1 / (L * κ)) * ∑ k, e k / L * d k := by
    rw [Finset.mul_sum]
    refine Finset.sum_congr rfl fun k _ => ?_
    field_simp
  rw [h]
  generalize ∑ k, e k / L * d k = S
  field_simp
  ring

section
variable (X : Vec Ideal (M2 2048 1536) .bf16) (U : Vec Ideal (M2 8 2048) .f32) (W : Vec Ideal (M2 2048 512) .f32)
variable (x : Fin 2048 → Fin 1536 → ℝ) (u : Fin 8 → Fin 2048 → ℝ) (w : Fin 2048 → Fin 512 → ℝ)
variable (hX : ∀ i l, X (ix2 i l) = (x i l : EReal)) (hU : ∀ h i, U (ix2 h i) = (u h i : EReal)) (hW : ∀ i l, W (ix2 i l) = (w i l : EReal))

include hX in
theorem v4_val (i : Fin 2048) (h : Fin 8) (d : Fin 64) : val_main_v4 (F := Ideal) X (ix3 i h d) = ((qh x h i d : ℝ) : EReal) := by
  rw [val_main_v4_apply, val_main_v3_apply, val_main_v0_apply]
  refine (congrArg X (ix2_ext (a := 2048) (b := 1536) _ i ⟨64 * h.val + d.val, by omega⟩ ?_ ?_)).trans (hX _ _)
  · show ((i.val * 8 + h.val) * 64 + d.val) / 512 = i.val; omega
  · show ((i.val * 8 + h.val) * 64 + d.val) % 512 = 64 * h.val + d.val; omega
include hX in
theorem v6_val (i : Fin 2048) (h : Fin 8) (d : Fin 64) : val_main_v6 (F := Ideal) X (ix3 i h d) = ((kh x h i d : ℝ) : EReal) := by
  rw [val_main_v6_apply, val_main_v5_apply, val_main_v1_apply]
  refine (congrArg X (ix2_ext (a := 2048) (b := 1536) _ i ⟨512 + (64 * h.val + d.val), by omega⟩ ?_ ?_)).trans (hX _ _)
  · show ((i.val * 8 + h.val) * 64 + d.val) / 512 = i.val; omega
  · show 512 + ((i.val * 8 + h.val) * 64 + d.val) % 512 = 512 + (64 * h.val + d.val); omega
include hX in
theorem v8_val (i : Fin 2048) (h : Fin 8) (d : Fin 64) : val_main_v8 (F := Ideal) X (ix3 i h d) = ((vh x h i d : ℝ) : EReal) := by
  rw [val_main_v8_apply, val_main_v7_apply, val_main_v2_apply]
  refine (congrArg X (ix2_ext (a := 2048) (b := 1536) _ i ⟨1024 + (64 * h.val + d.val), by omega⟩ ?_ ?_)).trans (hX _ _)
  · show ((i.val * 8 + h.val) * 64 + d.val) / 512 = i.val; omega
  · show 1024 + ((i.val * 8 + h.val) * 64 + d.val) % 512 = 1024 + (64 * h.val + d.val); omega
include hW in
theorem v57_val (h : Fin 8) (d : Fin 64) (i : Fin 2048) : val_main_v57 (F := Ideal) W (ix3 h d i) = ((gh w h i d : ℝ) : EReal) := by
  rw [val_main_v57_apply, val_main_v56_apply]
  refine (congrArg W (ix2_ext (a := 2048) (b := 512) _ i ⟨64 * h.val + d.val, by omega⟩ ?_ ?_)).trans (hW _ _)
  · show ((i.val * 8 + h.val) * 64 + d.val) / 512 = i.val; omega
  · show ((i.val * 8 + h.val) * 64 + d.val) % 512 = 64 * h.val + d.val; omega

/-- A dot product of numbers. -/
theorem dot_val {n : ℕ} (a b : Fin n → EReal) (p q : Fin n → ℝ) (ha : ∀ k, a k = (p k : EReal)) (hb : ∀ k, b k = (q k : EReal)) :
    ∑ k, a k * b k = ((∑ k, p k * q k : ℝ) : EReal) := by
  rw [← coe_sum]
  exact Finset.sum_congr rfl fun k _ => by rw [ha, hb, EReal.coe_mul]

include hX in
theorem v9_val (h : Fin 8) (i j : Fin 2048) : val_main_v9 (F := Ideal) X (ix3 h i j) = ((∑ d, qh x h i d * kh x h j d : ℝ) : EReal) := by
  rw [val_main_v9_apply]
  refine dot_val _ _ _ _ (fun k => ?_) (fun k => ?_)
  · exact (congrArg _ (ix3_ext (a := 2048) (b := 8) (c := 64) _ i h k rfl rfl rfl)).trans (v4_val X x hX i h k)
  · exact (congrArg _ (ix3_ext (a := 2048) (b := 8) (c := 64) _ j h k rfl rfl rfl)).trans (v6_val X x hX j h k)
include hX hW in
theorem v58_val (h : Fin 8) (i j : Fin 2048) : val_main_v58 (F := Ideal) X W (ix3 h i j) = ((dpp (vh x h) (gh w h) i j : ℝ) : EReal) := by
  rw [val_main_v58_apply]
  refine dot_val _ _ _ _ (fun k => ?_) (fun k => ?_)
  · exact (congrArg _ (ix3_ext (a := 8) (b := 64) (c := 2048) _ h k i rfl rfl rfl)).trans (v57_val W w hW h k i)
  · exact (congrArg _ (ix3_ext (a := 2048) (b := 8) (c := 64) _ j h k rfl rfl rfl)).trans (v8_val X x hX j h k)

include hU in
theorem v13_val (h : Fin 8) (i j : Fin 2048) : val_main_v13 (F := Ideal) U (ix3 h i j) = (u h i : EReal) := by
  rw [val_main_v13_apply, val_main_v12_apply]
  exact (congrArg U (ix2_ext (a := 8) (b := 2048) _ h i rfl rfl)).trans (hU h i)
include hU in
theorem v16_val (h : Fin 8) (i j : Fin 2048) : val_main_v16 (F := Ideal) U (ix3 h i j) = (u h j : EReal) := by
  rw [val_main_v16_apply, val_main_v15_apply]
  exact (congrArg U (ix2_ext (a := 8) (b := 2048) _ h j rfl rfl)).trans (hU h j)

include hX hU in
theorem v17_val (h : Fin 8) (i j : Fin 2048) : val_main_v17 (F := Ideal) X U (ix3 h i j) = ((zz (qh x h) (kh x h) (u h) i j + u h i : ℝ) : EReal) := by
  rw [val_main_v17_apply, val_main_v14_apply, val_main_v11_apply, val_main_v10_apply, val_main_cst_apply, v9_val X x hX, v13_val U u hU, v16_val U u hU]
  show (_ * Ideal.ofBits .f32 0x3E000000#32 + _ - _ : EReal) = _
  rw [c_eighth, ← EReal.coe_mul, ← EReal.coe_add, ← EReal.coe_sub]
  refine congrArg (fun r : ℝ => (r : EReal)) ?_
  unfold zz
  ring

theorem mask_val (h : Fin 8) (i j : Fin 2048) : val_main_v24_1 (F := Ideal) (ix3 h i j) = if j ≤ i then 1#1 else 0#1 := by
  rw [val_main_v24_1_apply, val_main_v23_apply, val_main_v21_apply, val_main_v22_apply, val_main_v19_apply, val_main_v20_apply, val_main_v18_apply, val_main_v18_apply]
  show IntOp.cmpi .sle (BitVec.ofNat 32 j.val) (BitVec.ofNat 32 i.val) = _
  have e : ∀ i : Fin 2048, (BitVec.ofNat 32 i.val).toInt = i.val := by decide +kernel
  show BitVec.ofBool ((BitVec.ofNat 32 j.val).sle (BitVec.ofNat 32 i.val)) = _
  rw [BitVec.sle_eq_decide, e, e]
  by_cases hc : j ≤ i
  · rw [if_pos hc, decide_eq_true (by exact_mod_cast hc)]; rfl
  · rw [if_neg hc, decide_eq_false (by exact_mod_cast hc)]; rfl

include hX hU in
theorem v24_val (h : Fin 8) (i j : Fin 2048) : val_main_v24_0 (F := Ideal) X U (ix3 h i j)
    = if j ≤ i then ((zz (qh x h) (kh x h) (u h) i j + u h i : ℝ) : EReal) else ⊥ := by
  rw [val_main_v24_0_apply, mask_val, v17_val X U x u hX hU, val_main_call0_v2_apply, val_main_call0_v0_apply, val_main_cst_0_apply]
  by_cases hc : j ≤ i
  · rw [if_pos hc, if_pos hc]; rfl
  · rw [if_neg hc, if_neg hc]; exact c_bot

include hX hU in
theorem v32_val (h : Fin 8) (i : Fin 2048) : ∃ M : ℝ, val_main_v32 (F := Ideal) X U (ix2 h i) = (M : EReal) := by
  obtain ⟨M, hM⟩ := fold_max' Finset.univ (fun j : Fin 2048 => (val_main_v24_0 (F := Ideal) X U (ix3 h i j) : EReal)) (fun j => by
      rw [v24_val X U x u hX hU]
      split
      · exact .inr ⟨_, rfl⟩
      · exact .inl rfl) i (Finset.mem_univ _) (by
      simp only [v24_val X U x u hX hU]
      rw [if_pos (le_refl i)]
      exact EReal.coe_ne_bot _)
  refine ⟨M, ?_⟩
  rw [val_main_v32_apply, val_main_v31_apply, val_main_cst_3_apply]
  have h25 : val_main_v25 (F := Ideal) X U (ix2 h i) = (M : EReal) := by
    refine (rd_hmax _ _ _ _ h i).trans ?_
    rw [val_main_cst_1_apply]
    refine Eq.trans ?_ hM
    exact congrArg (fun b : EReal => Finset.fold max b _ _) c_bot
  rw [h25]
  show max (Ideal.ofBits .f32 0xFF800000#32) (M : EReal) = _
  rw [c_bot]
  exact max_eq_right bot_le

include hX hU in
theorem v45_val (h : Fin 8) (i : Fin 2048) : ∃ κ : ℝ, κ ≠ 0 ∧ ∀ j, val_main_v45 (F := Ideal) X U (ix3 h i j) = ((ee (qh x h) (kh x h) (u h) i j * κ : ℝ) : EReal) := by
  obtain ⟨M, hM⟩ := v32_val X U x u hX hU h i
  refine ⟨Real.exp (u h i - M), (Real.exp_pos _).ne', fun j => ?_⟩
  rw [val_main_v45_apply, val_main_v44_apply, val_main_v43_apply, val_main_v42_apply, v24_val X U x u hX hU]
  have e : val_main_v32 (F := Ideal) X U (idx_main_v42 (idx_main_v43 (ix3 h i j))) = (M : EReal) :=
    (congrArg _ (ix2_ext (a := 8) (b := 2048) _ h i rfl rfl)).trans hM
  rw [e]
  unfold ee
  by_cases hc : j ≤ i
  · rw [if_pos hc, if_pos hc]
    refine (congrArg Ideal.exp (EReal.coe_sub (zz (qh x h) (kh x h) (u h) i j + u h i) M).symm).trans ?_
    rw [Ideal.exp_coe]
    refine congrArg (fun r : ℝ => (r : EReal)) ?_
    rw [← Real.exp_add]
    exact congrArg Real.exp (by ring)
  · rw [if_neg hc, if_neg hc, zero_mul]
    exact (congrArg Ideal.exp (bot_sub M)).trans rfl

/-- What the later steps take from a row: its exponentials and their sum, both rescaled by one factor. -/
theorem v46_val (h : Fin 8) (i : Fin 2048) (κ : ℝ)
    (hκ : ∀ j, val_main_v45 (F := Ideal) X U (ix3 h i j) = ((ee (qh x h) (kh x h) (u h) i j * κ : ℝ) : EReal)) :
    val_main_v46 (F := Ideal) X U (ix2 h i) = ((ll (qh x h) (kh x h) (u h) i * κ : ℝ) : EReal) := by
  rw [val_main_v46_apply, val_main_cst_9_apply]
  refine (congrArg (· + _) Ideal.ofBits_zero_f32).trans ((zero_add _).trans ?_)
  unfold ll
  rw [Finset.sum_mul, ← coe_sum]
  exact Finset.sum_congr rfl fun j _ => (congrArg _ (ix3_ext (a := 8) (b := 2048) (c := 2048) _ h i j rfl rfl rfl)).trans (hκ j)

theorem v47_val (h : Fin 8) (i : Fin 2048) (a : Fin 1) (κ : ℝ)
    (hκ : ∀ j, val_main_v45 (F := Ideal) X U (ix3 h i j) = ((ee (qh x h) (kh x h) (u h) i j * κ : ℝ) : EReal)) :
    val_main_v47 (F := Ideal) X U (ix3 h i a) = ((ll (qh x h) (kh x h) (u h) i * κ : ℝ) : EReal) := by
  rw [val_main_v47_apply]
  exact (congrArg _ (ix2_ext (a := 8) (b := 2048) _ h i rfl rfl)).trans (v46_val X U x u h i κ hκ)

include hX hU in
theorem v49_val (h : Fin 8) (i j : Fin 2048) : val_main_v49 (F := Ideal) X U (ix3 h i j) = ((pp (qh x h) (kh x h) (u h) i j : ℝ) : EReal) := by
  obtain ⟨κ, h0, hκ⟩ := v45_val X U x u hX hU h i
  have hl := (ll_pos (qh x h) (kh x h) (u h) i).ne'
  rw [val_main_v49_apply, val_main_v48_apply, hκ j]
  have e : val_main_v47 (F := Ideal) X U (idx_main_v48 (ix3 h i j)) = ((ll (qh x h) (kh x h) (u h) i * κ : ℝ) : EReal) :=
    (congrArg _ (ix3_ext (a := 8) (b := 2048) (c := 1) _ h i 0 rfl rfl rfl)).trans (v47_val X U x u h i 0 κ hκ)
  rw [e]
  show Ideal.div _ _ = _
  rw [Ideal.div_coe (mul_ne_zero hl h0), ← EReal.coe_mul]
  refine congrArg (fun r : ℝ => (r : EReal)) ?_
  unfold pp
  field_simp

theorem v52_val (h : Fin 8) (i : Fin 2048) (a : Fin 1) (κ : ℝ) (h0 : κ ≠ 0)
    (hκ : ∀ j, val_main_v45 (F := Ideal) X U (ix3 h i j) = ((ee (qh x h) (kh x h) (u h) i j * κ : ℝ) : EReal)) :
    val_main_v52 (F := Ideal) X U (ix3 h i a)
      = ((1 * (1 / (ll (qh x h) (kh x h) (u h) i * κ * (ll (qh x h) (kh x h) (u h) i * κ))) : ℝ) : EReal) := by
  have hl := (ll_pos (qh x h) (kh x h) (u h) i).ne'
  have hn := mul_ne_zero hl h0
  rw [val_main_v52_apply, val_main_v51_apply, val_main_cst_10_apply, val_main_v50_apply, v47_val X U x u h i a κ hκ]
  show Ideal.div (Ideal.ofBits .f32 0x3F800000#32) (_ * _ : EReal) = _
  rw [c_one, ← EReal.coe_mul, Ideal.div_coe (mul_ne_zero hn hn), ← EReal.coe_mul]

include hX hW in
theorem v64_val (h : Fin 8) (i : Fin 2048) (κ : ℝ) (h0 : κ ≠ 0)
    (hκ : ∀ j, val_main_v45 (F := Ideal) X U (ix3 h i j) = ((ee (qh x h) (kh x h) (u h) i j * κ : ℝ) : EReal)) :
    val_main_v64 (F := Ideal) X U W (ix2 h i)
      = ((∑ k, dpp (vh x h) (gh w h) i k * (1 * (1 / (ll (qh x h) (kh x h) (u h) i * κ * (ll (qh x h) (kh x h) (u h) i * κ)))) * (ee (qh x h) (kh x h) (u h) i k * κ) : ℝ) : EReal) := by
  rw [val_main_v64_apply, val_main_cst_11_apply]
  refine (congrArg (· + _) Ideal.ofBits_zero_f32).trans ((zero_add _).trans ?_)
  rw [← coe_sum]
  refine Finset.sum_congr rfl fun j _ => (congrArg _ (ix3_ext (a := 8) (b := 2048) (c := 2048) _ h i j rfl rfl rfl)).trans ?_
  rw [val_main_v63_apply, val_main_v62_apply, val_main_v61_apply, v58_val X W x w hX hW, hκ j]
  have e : val_main_v52 (F := Ideal) X U (idx_main_v61 (ix3 h i j)) = _ :=
    (congrArg _ (ix3_ext (a := 8) (b := 2048) (c := 1) _ h i 0 rfl rfl rfl)).trans (v52_val X U x u h i 0 κ h0 hκ)
  rw [e]
  show (_ * _ * _ : EReal) = _
  rw [← EReal.coe_mul, ← EReal.coe_mul]

include hX hW in
theorem v69_val (h : Fin 8) (i : Fin 2048) (κ : ℝ) (h0 : κ ≠ 0)
    (hκ : ∀ j, val_main_v45 (F := Ideal) X U (ix3 h i j) = ((ee (qh x h) (kh x h) (u h) i j * κ : ℝ) : EReal)) :
    val_main_v69 (F := Ideal) X U W (ix2 h i)
      = ((-(∑ k, dpp (vh x h) (gh w h) i k * (1 * (1 / (ll (qh x h) (kh x h) (u h) i * κ * (ll (qh x h) (kh x h) (u h) i * κ)))) * (ee (qh x h) (kh x h) (u h) i k * κ)) : ℝ) : EReal) := by
  rw [val_main_v69_apply, val_main_cst_12_apply]
  refine (congrArg (· + _) Ideal.ofBits_zero_f32).trans ((zero_add _).trans ?_)
  rw [Fin.sum_univ_one, val_main_v66_apply, val_main_v65_apply]
  have e : val_main_v64 (F := Ideal) X U W (idx_main_v65 (idx_main_v69 (ix2 h i) 0)) = _ :=
    (congrArg _ (ix2_ext (a := 8) (b := 2048) _ h i (by show ((h.val * 2048 + i.val) * 1 + 0) / 2048 = h.val; omega)
      (by show ((h.val * 2048 + i.val) * 1 + 0) % 2048 = i.val; omega))).trans (v64_val X U W x u w hX hW h i κ h0 hκ)
  rw [e, EReal.coe_neg]
  rfl

include hX hU hW in
theorem v73_val (h : Fin 8) (i j : Fin 2048) : val_main_v73 (F := Ideal) X U W (ix3 h i j)
    = ((dss (qh x h) (kh x h) (vh x h) (gh w h) (u h) i j : ℝ) : EReal) := by
  rw [val_main_v73_apply, mask_val, val_main_call1_v0_apply, val_main_call1_cst_apply]
  by_cases hc : j ≤ i
  · obtain ⟨κ, h0, hκ⟩ := v45_val X U x u hX hU h i
    have hl := (ll_pos (qh x h) (kh x h) (u h) i).ne'
    rw [if_pos hc, val_main_v72_apply, val_main_v71_apply, val_main_v70_apply, val_main_v68_apply, val_main_v67_apply, v58_val X W x w hX hW, hκ j]
    have e : val_main_v47 (F := Ideal) X U (idx_main_v67 (ix3 h i j)) = ((ll (qh x h) (kh x h) (u h) i * κ : ℝ) : EReal) :=
      (congrArg _ (ix3_ext (a := 8) (b := 2048) (c := 1) _ h i 0 rfl rfl rfl)).trans (v47_val X U x u h i 0 κ hκ)
    have e' : val_main_v69 (F := Ideal) X U W (idx_main_v70 (ix3 h i j)) = _ :=
      (congrArg _ (ix2_ext (a := 8) (b := 2048) _ h i rfl rfl)).trans (v69_val X U W x u w hX hW h i κ h0 hκ)
    rw [e, e']
    show ((Ideal.div _ _ + _) * _ : EReal) = _
    rw [Ideal.div_coe (mul_ne_zero hl h0), ← EReal.coe_mul, ← EReal.coe_add, ← EReal.coe_mul]
    exact congrArg (fun r : ℝ => (r : EReal)) (dss_alg (ee (qh x h) (kh x h) (u h) i) (dpp (vh x h) (gh w h) i) _ κ hl h0 j)
  · rw [if_neg hc, dss_of_lt _ _ _ _ _ (not_le.mp hc)]
    exact Ideal.ofBits_zero_f32

include hX hU hW in
theorem v83_val (h : Fin 8) (i j : Fin 2048) : val_main_v83 (F := Ideal) X U W (ix3 h i j)
    = ((dss (qh x h) (kh x h) (vh x h) (gh w h) (u h) i j * (1 / 8) : ℝ) : EReal) := by
  rw [val_main_v83_apply, v73_val X U W x u w hX hU hW, val_main_v82_apply, val_main_cst_17_apply]
  show (_ * Ideal.ofBits .f32 0x3E000000#32 : EReal) = _
  rw [c_eighth, ← EReal.coe_mul]

include hX hU in
theorem o_ref (i : Fin 2048) (l : Fin 512) : val_main_v55 (F := Ideal) X U (ix2 i l) = ((gO x u i l : ℝ) : EReal) := by
  rw [val_main_v55_apply, val_main_v54_apply]
  refine (congrArg _ (ix3_ext (a := 8) (b := 64) (c := 2048) _ (ch l) (cc l) i ?_ ?_ ?_)).trans ?_
  · show (i.val * 512 + l.val) / 64 % 8 = l.val / 64; omega
  · show (i.val * 512 + l.val) % 64 = l.val % 64; omega
  · show (i.val * 512 + l.val) / 512 = i.val; omega
  rw [val_main_v53_apply]
  refine (dot_val _ _ (fun k => vh x (ch l) k (cc l)) (fun k => pp (qh x (ch l)) (kh x (ch l)) (u (ch l)) i k) (fun k => ?_) (fun k => ?_)).trans ?_
  · exact (congrArg _ (ix3_ext (a := 2048) (b := 8) (c := 64) _ k (ch l) (cc l) rfl rfl rfl)).trans (v8_val X x hX _ _ _)
  · exact (congrArg _ (ix3_ext (a := 8) (b := 2048) (c := 2048) _ (ch l) i k rfl rfl rfl)).trans (v49_val X U x u hX hU _ _ _)
  refine congrArg (fun r : ℝ => (r : EReal)) ?_
  unfold gO specO
  exact Finset.sum_congr rfl fun k _ => mul_comm _ _

include hX hU hW in
theorem dv_ref (j : Fin 2048) (l : Fin 512) : val_main_v89 (F := Ideal) X U W (ix2 j l) = ((gDv x u w j l : ℝ) : EReal) := by
  rw [val_main_v89_apply, val_main_v88_apply, val_main_v60_apply]
  refine (congrArg (fun y => val_main_v59 (F := Ideal) X U W y) (ix3_ext (a := 8) (b := 64) (c := 2048) _ (ch l) (cc l) j ?_ ?_ ?_)).trans ?_
  · show (j.val * 512 + l.val) / 64 % 8 = l.val / 64; omega
  · show (j.val * 512 + l.val) % 64 = l.val % 64; omega
  · show (j.val * 512 + l.val) / 512 = j.val; omega
  rw [val_main_v59_apply]
  refine (dot_val _ _ (fun k => gh w (ch l) k (cc l)) (fun k => pp (qh x (ch l)) (kh x (ch l)) (u (ch l)) k j) (fun k => ?_) (fun k => ?_)).trans ?_
  · exact (congrArg _ (ix3_ext (a := 8) (b := 64) (c := 2048) _ (ch l) (cc l) k rfl rfl rfl)).trans (v57_val W w hW _ _ _)
  · exact (congrArg _ (ix3_ext (a := 8) (b := 2048) (c := 2048) _ (ch l) k j rfl rfl rfl)).trans (v49_val X U x u hX hU _ _ _)
  refine congrArg (fun r : ℝ => (r : EReal)) ?_
  unfold gDv specDv
  exact Finset.sum_congr rfl fun k _ => mul_comm _ _

include hX hU hW in
theorem dk_ref (j : Fin 2048) (l : Fin 512) : val_main_v91 (F := Ideal) X U W (ix2 j l) = ((gDk x u w j l : ℝ) : EReal) := by
  rw [val_main_v91_apply, val_main_v90_apply, val_main_v85_apply]
  refine (congrArg (fun y => val_main_v84 (F := Ideal) X U W y) (ix3_ext (a := 8) (b := 2048) (c := 64) _ (ch l) j (cc l) ?_ ?_ ?_)).trans ?_
  · show (j.val * 512 + l.val) / 64 % 8 = l.val / 64; omega
  · show (j.val * 512 + l.val) / 512 = j.val; omega
  · show (j.val * 512 + l.val) % 64 = l.val % 64; omega
  rw [val_main_v84_apply]
  refine (dot_val _ _ (fun k => dss (qh x (ch l)) (kh x (ch l)) (vh x (ch l)) (gh w (ch l)) (u (ch l)) k j * (1 / 8)) (fun k => qh x (ch l) k (cc l)) (fun k => ?_) (fun k => ?_)).trans ?_
  · exact (congrArg _ (ix3_ext (a := 8) (b := 2048) (c := 2048) _ (ch l) k j rfl rfl rfl)).trans (v83_val X U W x u w hX hU hW _ _ _)
  · exact (congrArg _ (ix3_ext (a := 2048) (b := 8) (c := 64) _ k (ch l) (cc l) rfl rfl rfl)).trans (v4_val X x hX _ _ _)
  refine congrArg (fun r : ℝ => (r : EReal)) ?_
  unfold gDk specDk
  rw [Finset.sum_mul]
  exact Finset.sum_congr rfl fun k _ => by ring

include hX hU hW in
theorem dq_ref (i : Fin 2048) (l : Fin 512) : val_main_v93 (F := Ideal) X U W (ix2 i l) = ((gDq x u w i l : ℝ) : EReal) := by
  rw [val_main_v93_apply, val_main_v92_apply, val_main_v87_apply]
  refine (congrArg (fun y => val_main_v86 (F := Ideal) X U W y) (ix3_ext (a := 8) (b := 2048) (c := 64) _ (ch l) i (cc l) ?_ ?_ ?_)).trans ?_
  · show (i.val * 512 + l.val) / 64 % 8 = l.val / 64; omega
  · show (i.val * 512 + l.val) / 512 = i.val; omega
  · show (i.val * 512 + l.val) % 64 = l.val % 64; omega
  rw [val_main_v86_apply]
  refine (dot_val _ _ (fun k => dss (qh x (ch l)) (kh x (ch l)) (vh x (ch l)) (gh w (ch l)) (u (ch l)) i k * (1 / 8)) (fun k => kh x (ch l) k (cc l)) (fun k => ?_) (fun k => ?_)).trans ?_
  · exact (congrArg _ (ix3_ext (a := 8) (b := 2048) (c := 2048) _ (ch l) i k rfl rfl rfl)).trans (v83_val X U W x u w hX hU hW _ _ _)
  · exact (congrArg _ (ix3_ext (a := 2048) (b := 8) (c := 64) _ k (ch l) (cc l) rfl rfl rfl)).trans (v6_val X x hX _ _ _)
  refine congrArg (fun r : ℝ => (r : EReal)) ?_
  unfold gDq specDq
  rw [Finset.sum_mul]
  exact Finset.sum_congr rfl fun k _ => by ring

include hX hU hW in
theorem v77_val (h : Fin 8) (j : Fin 2048) : val_main_v77 (F := Ideal) X U W (ix2 h j) = ((gDd x u w h j : ℝ) : EReal) := by
  rw [val_main_v77_apply, val_main_cst_14_apply]
  refine (congrArg (· + _) Ideal.ofBits_zero_f32).trans ((zero_add _).trans ?_)
  rw [Fin.sum_univ_one, val_main_v76_apply]
  refine (congrArg _ (ix2_ext (a := 8) (b := 2048) _ h j (by show ((h.val * 1 + 0) * 2048 + j.val) / 2048 = h.val; omega)
    (by show ((h.val * 1 + 0) * 2048 + j.val) % 2048 = j.val; omega))).trans ?_
  rw [val_main_v75_apply, val_main_cst_13_apply]
  refine (congrArg (· + _) Ideal.ofBits_zero_f32).trans ((zero_add _).trans ?_)
  unfold gDd specDd
  rw [← Finset.sum_neg_distrib, ← coe_sum]
  refine Finset.sum_congr rfl fun k _ => (congrArg _ (ix3_ext (a := 8) (b := 2048) (c := 2048) _ h k j rfl rfl rfl)).trans ?_
  rw [val_main_v74_apply, v73_val X U W x u w hX hU hW, EReal.coe_neg]
  rfl
include hX hU hW in
theorem v80_val (h : Fin 8) (j : Fin 2048) : val_main_v80 (F := Ideal) X U W (ix2 h j) = (0 : EReal) := by
  rw [val_main_v80_apply, val_main_cst_16_apply]
  refine (congrArg (· + _) Ideal.ofBits_zero_f32).trans ((zero_add _).trans ?_)
  rw [Fin.sum_univ_one, val_main_v79_apply]
  refine (congrArg _ (ix2_ext (a := 8) (b := 2048) _ h j (by show ((h.val * 2048 + j.val) * 1 + 0) / 2048 = h.val; omega)
    (by show ((h.val * 2048 + j.val) * 1 + 0) % 2048 = j.val; omega))).trans ?_
  rw [val_main_v78_apply, val_main_cst_15_apply]
  refine (congrArg (· + _) Ideal.ofBits_zero_f32).trans ((zero_add _).trans ?_)
  refine (Finset.sum_congr rfl fun k _ => (congrArg _ (ix3_ext (a := 8) (b := 2048) (c := 2048) _ h j k rfl rfl rfl)).trans (v73_val X U W x u w hX hU hW h j k)).trans ?_
  rw [coe_sum, sum_dss, EReal.coe_zero]

include hX hU hW in
theorem dd_ref (h : Fin 8) (a : Fin 1) (j : Fin 2048) : val_main_v94 (F := Ideal) X U W (ix3 h a j) = ((gDd x u w h j : ℝ) : EReal) := by
  rw [val_main_v94_apply]
  refine (congrArg _ (ix2_ext (a := 8) (b := 2048) _ h j rfl rfl)).trans ?_
  rw [val_main_v81_apply, v77_val X U W x u w hX hU hW, v80_val X U W x u w hX hU hW]
  exact add_zero _
end
end Cert.ReferenceIdeal.Value
end
-- ==== Proof.Fin.lean ====
module

public import proofs.«01_k».proof.Defs
public import Idealize.ShloMosaic.Lib.ReduceAll
public import Idealize.ShloMosaic.Lib.ValueIdx
public import Idealize.ShloMosaic.PureOps.Ideal.Laws
@[expose] public section
set_option maxRecDepth 16384
noncomputable section

/-! The arguments of which `finite` holds are numbers, entry by entry. -/

namespace Cert.Finite
open Idealize.ShloMosaic

/-- The predicate's side conditions. -/
instance facts : Cert.Pre_finite.Facts where
  bitsLt_bf16_f32 := by decide
  bcast_S_S2048x1536 := by decide
  reducesTo_S2048x1536_S_d0_1 := by decide
  h_S_ := by decide
  bcast_S_S8x2048 := by decide
  reducesTo_S8x2048_S_d0_1 := by decide
  bcast_S_S2048x512 := by decide
  reducesTo_S2048x512_S_d0_1 := by decide

theorem c_top : Ideal.ofBits .f32 0x7F800000#32 = ⊤ := by simp [Ideal.ofBits, Ideal.ieee]

/-- An extended real below infinity in size is a number. -/
theorem real_of_abs (z : EReal) (h : max z (-z) < ⊤) : ∃ r : ℝ, z = (r : EReal) := by
  induction z with
  | bot => simp at h
  | top => simp at h
  | coe r => exact ⟨r, rfl⟩

instance : Subsingleton (Shape.Idx ⟨0, ![]⟩) := ⟨fun a b => funext fun k => k.elim0⟩

/-- An array whose entries all pass the test has numbers for entries. -/
theorem real_of_all {s : Shape} {axes : List (Fin s.rank)} (x : FVec Ideal s .f32) (hb : (⟨0, ![]⟩ : Shape).BroadcastsInDim s ![])
    (hr : s.ReducesTo axes ⟨0, ![]⟩) (v : IVec ⟨0, ![]⟩ 1) (hu : 0 < (⟨0, ![]⟩ : Shape).numel) (j : Shape.Idx ⟨0, ![]⟩)
    (e : Host.reduce IntOp.andi (cmpf .olt (Host.absf x) (broadcastInDim s ![] hb (constant ⟨0, ![]⟩ .f32 0x7F800000#32))) v hr hu j = 1#1)
    (i : s.Idx) : ∃ r : ℝ, (x i : EReal) = (r : EReal) := by
  have h : Ideal.cmp .olt (max (x i : EReal) (-(x i : EReal))) (Ideal.ofBits .f32 0x7F800000#32) = 1#1 := Host.reduce_andi_all _ _ hr hu j e i
  refine real_of_abs _ ?_
  rw [c_top] at h
  by_contra hc
  have : Ideal.cmp .olt (max (x i : EReal) (-(x i : EReal))) ⊤ = 0#1 := by
    show BitVec.ofBool (decide _) = _
    rw [decide_eq_false hc]; rfl
  rw [this] at h
  exact absurd h (by decide)

theorem reals (X : FVec Ideal Cert.Pre_finite.S2048x1536 .bf16) (U : FVec Ideal Cert.Pre_finite.S8x2048 .f32) (W : FVec Ideal Cert.Pre_finite.S2048x512 .f32)
    (h : Cert.Pre_finite.fn (F := Ideal) X U W = fun _ => 1#1) :
    (∀ i, ∃ r : ℝ, (X i : EReal) = (r : EReal)) ∧ (∀ i, ∃ r : ℝ, (U i : EReal) = (r : EReal)) ∧ (∀ i, ∃ r : ℝ, (W i : EReal) = (r : EReal)) := by
  have h0 := congrFun h fun k => k.elim0
  obtain ⟨h1, h2⟩ := IntOp.andi_eq_one.1 h0
  obtain ⟨h3, h4⟩ := IntOp.andi_eq_one.1 h1
  exact ⟨fun i => real_of_all (extf .f32 X Cert.Pre_finite.Facts.bitsLt_bf16_f32) _ _ _ _ _ h3 i, fun i => real_of_all U _ _ _ _ _ h4 i, fun i => real_of_all W _ _ _ _ _ h2 i⟩
end Cert.Finite
end
-- ==== Proof.Fs.lean ====
module
public import proofs.«01_k».proof.Proof.Spec
public import proofs.«01_k».proof.Proof.Rd
@[expose] public section
set_option maxRecDepth 16384
noncomputable section

/-! The feed-forward layer on the reals, one token at a time, and the constants of the programs. -/

namespace Cert.Ffn
open Idealize.ShloMosaic

/-- The stabiliser under the root. -/
def eps : ℝ := 8796093 * (2 ^ 43)⁻¹
theorem eps_pos : 0 < eps := by unfold eps; positivity
theorem c_eps : Ideal.ofBits .f32 0x358637BD#32 = (eps : EReal) := by
  unfold eps
  simp [Ideal.ofBits, Ideal.ieee]
theorem c_half : Ideal.ofBits .f32 0x3F000000#32 = ((1 / 2 : ℝ) : EReal) := by
  simp [Ideal.ofBits, Ideal.ieee]
  rw [← EReal.coe_mul]; norm_num
theorem c_mhalf : Ideal.ofBits .f32 0xBF000000#32 = ((-(1 / 2) : ℝ) : EReal) := by
  simp [Ideal.ofBits, Ideal.ieee]
  rw [← EReal.coe_mul]; norm_num
theorem c_kilo : Ideal.ofBits .f32 0x44800000#32 = ((1024 : ℝ) : EReal) := by
  simp [Ideal.ofBits, Ideal.ieee]
  rw [← EReal.coe_mul]; norm_num
theorem c_zero : Ideal.ofBits .f32 0x00000000#32 = ((0 : ℝ) : EReal) := Ideal.ofBits_zero_f32

/-- The logistic function. -/
def sgm (z : ℝ) : ℝ := 1 / (1 + Real.exp (-z))

/-- Column `j` of the gate. -/
def lo (j : Fin 2816) : Fin 5632 := ⟨j.val, by omega⟩
/-- Column `j` of the up half. -/
def hi (j : Fin 2816) : Fin 5632 := ⟨2816 + j.val, by omega⟩
/-- Column `j` of quarter `s`. -/
def col (s : Fin 4) (j : Fin 1408) : Fin 5632 := ⟨1408 * s.val + j.val, by omega⟩
/-- Row `j` of half `s`. -/
def hal (s : Fin 2) (j : Fin 1408) : Fin 2816 := ⟨1408 * s.val + j.val, by omega⟩

/-- A sum over all columns, quarter by quarter. -/
theorem sum_col (f : Fin 5632 → ℝ) : ∑ j, f j = ∑ j, f (col 0 j) + ∑ j, f (col 1 j) + (∑ j, f (col 2 j) + ∑ j, f (col 3 j)) := by
  refine (Fin.sum_univ_add (a := 2816) (b := 2816) f).trans ?_
  refine congrArg₂ (· + ·) ((Fin.sum_univ_add (a := 1408) (b := 1408) _).trans ?_) ((Fin.sum_univ_add (a := 1408) (b := 1408) _).trans ?_)
  all_goals
    refine congrArg₂ (· + ·) ?_ ?_
    all_goals
      refine Finset.sum_congr rfl fun j _ => congrArg f (Fin.ext ?_)
      simp [col]
  all_goals omega

/-- A sum over all rows, half by half. -/
theorem sum_hal (f : Fin 2816 → ℝ) : ∑ j, f j = ∑ j, f (hal 0 j) + ∑ j, f (hal 1 j) := by
  refine (Fin.sum_univ_add (a := 1408) (b := 1408) f).trans ?_
  refine congrArg₂ (· + ·) ?_ ?_
  all_goals
    refine Finset.sum_congr rfl fun j _ => congrArg f (Fin.ext ?_)
    simp [hal]
  omega

/-- Token `i` of block `n`. -/
def tok (n : Fin 8) (i : Fin 256) : Fin 2048 := ⟨256 * n.val + i.val, by omega⟩

/-- A sum over all tokens, block by block. -/
theorem sum_tok (f : Fin 2048 → ℝ) : ∑ i, f i = ∑ n, ∑ i, f (tok n i) := by
  rw [← Fintype.sum_prod_type' (f := fun n i => f (tok n i))]
  refine (Equiv.sum_comp (finProdFinEquiv (m := 8) (n := 256)) f).symm.trans ?_
  refine Finset.sum_congr rfl fun p _ => congrArg f (Fin.ext ?_)
  simp [tok, finProdFinEquiv, add_comm]

section Token
variable (x g d : Fin 1024 → ℝ) (w : Fin 1024 → Fin 5632 → ℝ) (v : Fin 2816 → Fin 1024 → ℝ) (z : Fin 5632 → ℝ)

/-- The mean square with the stabiliser. -/
def vv : ℝ := (∑ k, x k * x k) * (1 / 1024) + eps
/-- The reciprocal root of the mean square. -/
def rr : ℝ := (√(vv x))⁻¹
/-- The normalised token. -/
def hh (k : Fin 1024) : ℝ := x k * rr x * g k
/-- The two projections of the normalised token. -/
def zz (j : Fin 5632) : ℝ := ∑ k, hh x g k * w k j
/-- The gated unit. -/
def act (j : Fin 2816) : ℝ := z (lo j) * sgm (z (lo j)) * z (hi j)
/-- The result of the layer. -/
def yy (k : Fin 1024) : ℝ := x k + 1 / 2 * ∑ j, act z j * v j k
/-- The cotangent behind the residual weight. -/
def hd (k : Fin 1024) : ℝ := 1 / 2 * d k
/-- The cotangent of the gated unit. -/
def da (j : Fin 2816) : ℝ := ∑ k, hd d k * v j k
/-- The cotangent of the gate. -/
def gg (j : Fin 2816) : ℝ := da d v j * z (hi j) * (sgm (z (lo j)) * (1 + z (lo j) * (1 - sgm (z (lo j)))))
/-- The cotangent of the up half. -/
def uu (j : Fin 2816) : ℝ := da d v j * (z (lo j) * sgm (z (lo j)))
/-- The cotangent of the two projections. -/
def dz (j : Fin 5632) : ℝ := if h : j.val < 2816 then gg d v z ⟨j.val, h⟩ else uu d v z ⟨j.val - 2816, by omega⟩
/-- The cotangent of the normalised token. -/
def dh (k : Fin 1024) : ℝ := ∑ j, dz d v z j * w k j
/-- The cotangent of the token. -/
def dxx (k : Fin 1024) : ℝ :=
  d k + (rr x * (dh d w v z k * g k) - x k * (rr x * rr x * rr x) * ((∑ i, dh d w v z i * g i * x i) * (1 / 1024)))
/-- What the token adds to the cotangent of the scale. -/
def dgr (k : Fin 1024) : ℝ := dh d w v z k * x k * rr x

theorem vv_pos : 0 < vv x := by
  have h : 0 ≤ ∑ k, x k * x k := Finset.sum_nonneg fun k _ => mul_self_nonneg _
  have := eps_pos
  unfold vv; positivity
theorem rr_sq : rr x * rr x = 1 / vv x := by
  unfold rr
  rw [← mul_inv, Real.mul_self_sqrt (vv_pos x).le, one_div]
theorem rsqrt_vv : Ideal.rsqrt ((vv x : ℝ) : EReal) = ((rr x : ℝ) : EReal) := by
  rw [Ideal.rsqrt_coe, if_neg (vv_pos x).le.not_gt, if_neg (vv_pos x).ne']
  rfl
theorem dz_lo (j : Fin 2816) : dz d v z (lo j) = gg d v z j := by
  unfold dz; rw [dif_pos (show (lo j).val < 2816 from j.isLt)]; rfl
theorem dz_hi (j : Fin 2816) : dz d v z (hi j) = uu d v z j := by
  unfold dz; rw [dif_neg (show ¬ (hi j).val < 2816 by simp [hi])]
  exact congrArg _ (Fin.ext (by simp [hi]))
theorem lo_hal (s : Fin 2) (j : Fin 1408) : lo (hal s j) = col ⟨s.val, by omega⟩ j := rfl
theorem hi_hal (s : Fin 2) (j : Fin 1408) : hi (hal s j) = col ⟨2 + s.val, by omega⟩ j := Fin.ext (by simp [hi, hal, col]; omega)
end Token

/-- The logistic function as the programs take it. -/
theorem one_exp_ne (z : ℝ) : 1 + Real.exp (-z) ≠ 0 := (by positivity : 0 < 1 + Real.exp (-z)).ne'
theorem sgm_val (z : ℝ) : Ideal.div ((1 : ℝ) : EReal) (((1 : ℝ) : EReal) + Ideal.exp ((-z : ℝ) : EReal)) = ((sgm z : ℝ) : EReal) := by
  rw [Ideal.exp_coe, ← EReal.coe_add, Ideal.div_coe (one_exp_ne z), ← EReal.coe_mul, one_mul]
  rfl

end Cert.Ffn
end
-- ==== Proof.Fb.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! What one block of the feed-forward calls leaves in each of its results, from the blocks and the weights it reads. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The contents of a memref's buffer. -/
abbrev HbBuf (c : Dev nD) {sp : Space} {S : Shape} {e : EltTy} (M : Memref sig .tc sp S e) : Type := Buf (Elt F) (M.view.loc (c : Thread nD τ))
local notation "𝕄" => MT nD τ sig Unit (Elt F) ℕ (Pipeline.UD sig nD τ) ℕ

/-- A memref's buffer held whole. -/
abbrev hbPt (c : Dev nD) {sp : Space} {S : Shape} {e : EltTy} (M : Memref sig .tc sp S e) (f : HbBuf (F := F) c M) : sProp 𝕄 :=
  M.view.loc (c : Thread nD τ) ↦{fullShare} f
/-- The gate and up weights, in shards. -/
abbrev hb13 : Memref sig .tc .hbm S4x1024x1408 .bf16 := Memref.whole main_v2
/-- The down weights. -/
abbrev hb2 : Memref sig .tc .hbm S2816x1024 .bf16 := Memref.whole main_v3

/-- Shard 0 of the gate and up weights. -/
def sh0 (w : Vec F S4x1024x1408 .bf16) : Vec F S1x1024x1408 .bf16 := fun j => w ((Rect.unit (s := S4x1024x1408) ![0, 0, 0] S1x1024x1408.size inb_S4x1024x1408_S1x1024x1408_0_0_0).toLoadRect.idx j)

/-- Shard 1 of the gate and up weights. -/
def sh1 (w : Vec F S4x1024x1408 .bf16) : Vec F S1x1024x1408 .bf16 := fun j => w ((Rect.unit (s := S4x1024x1408) ![1, 0, 0] S1x1024x1408.size inb_S4x1024x1408_S1x1024x1408_1_0_0).toLoadRect.idx j)

/-- Shard 2 of the gate and up weights. -/
def sh2 (w : Vec F S4x1024x1408 .bf16) : Vec F S1x1024x1408 .bf16 := fun j => w ((Rect.unit (s := S4x1024x1408) ![2, 0, 0] S1x1024x1408.size inb_S4x1024x1408_S1x1024x1408_2_0_0).toLoadRect.idx j)

/-- Shard 3 of the gate and up weights. -/
def sh3 (w : Vec F S4x1024x1408 .bf16) : Vec F S1x1024x1408 .bf16 := fun j => w ((Rect.unit (s := S4x1024x1408) ![3, 0, 0] S1x1024x1408.size inb_S4x1024x1408_S1x1024x1408_3_0_0).toLoadRect.idx j)

/-- Half 0 of the down weights. -/
def hf0 (w : Vec F S2816x1024 .bf16) : Vec F S1408x1024 .bf16 := fun j => w ((Rect.unit (s := S2816x1024) ![0, 0] S1408x1024.size inb_S2816x1024_S1408x1024_0_0).toLoadRect.idx j)

/-- Half 1 of the down weights. -/
def hf1 (w : Vec F S2816x1024 .bf16) : Vec F S1408x1024 .bf16 := fun j => w ((Rect.unit (s := S2816x1024) ![1408, 0] S1408x1024.size inb_S2816x1024_S1408x1024_1408_0).toLoadRect.idx j)

/-- Quarter 0 of a block of gates and ups. -/
def qt0 (w : Vec F S256x5632 .bf16) : Vec F S256x1408 .bf16 := fun j => w ((Rect.unit (s := S256x5632) ![0, 0] S256x1408.size inb_S256x5632_S256x1408_0_0).toLoadRect.idx j)

/-- Quarter 1 of a block of gates and ups. -/
def qt1 (w : Vec F S256x5632 .bf16) : Vec F S256x1408 .bf16 := fun j => w ((Rect.unit (s := S256x5632) ![0, 1408] S256x1408.size inb_S256x5632_S256x1408_0_1408).toLoadRect.idx j)

/-- Quarter 2 of a block of gates and ups. -/
def qt2 (w : Vec F S256x5632 .bf16) : Vec F S256x1408 .bf16 := fun j => w ((Rect.unit (s := S256x5632) ![0, 2816] S256x1408.size inb_S256x5632_S256x1408_0_2816).toLoadRect.idx j)

/-- Quarter 3 of a block of gates and ups. -/
def qt3 (w : Vec F S256x5632 .bf16) : Vec F S256x1408 .bf16 := fun j => w ((Rect.unit (s := S256x5632) ![0, 4224] S256x1408.size inb_S256x5632_S256x1408_0_4224).toLoadRect.idx j)

/-- The pieces of the saved gates and ups. -/
abbrev LGu (x : Vec F S256x1024 .f32) (g : Vec F S1x1024 .f32) (w13 : Vec F S4x1024x1408 .bf16) : List (View.Piece (Elt F) S256x5632 .bf16) :=
  [⟨Rect.unit (s := S256x5632) ![0, 4224] S256x1408.size inb_S256x5632_S256x1408_0_4224, k0_pay28 (k0_pay16 x g) (sh3 w13)⟩, ⟨Rect.unit (s := S256x5632) ![0, 1408] S256x1408.size inb_S256x5632_S256x1408_0_1408, k0_pay27 (k0_pay16 x g) (sh1 w13)⟩,
    ⟨Rect.unit (s := S256x5632) ![0, 2816] S256x1408.size inb_S256x5632_S256x1408_0_2816, k0_pay21 x g (sh2 w13)⟩, ⟨Rect.unit (s := S256x5632) ![0, 0] S256x1408.size inb_S256x5632_S256x1408_0_0, k0_pay20 x g (sh0 w13)⟩]
/-- The saved gates and ups. -/
def fGu (x : Vec F S256x1024 .f32) (g : Vec F S1x1024 .f32) (w13 : Vec F S4x1024x1408 .bf16) : Vec F S256x5632 .bf16 := View.canon (LGu x g w13)
/-- The first half of the activations. -/
def fAct0 (x : Vec F S256x1024 .f32) (g : Vec F S1x1024 .f32) (w13 : Vec F S4x1024x1408 .bf16) : FVec F S256x1408 .bf16 :=
  k0_pay23 (k0_pay18 x g (sh0 w13)) (k0_pay19 x g (sh2 w13)) (k0_pay22 x g (sh0 w13)) (Scalar.ofBits .f32 0x3F800000#32)
/-- The second half of the activations. -/
def fAct1 (x : Vec F S256x1024 .f32) (g : Vec F S1x1024 .f32) (w13 : Vec F S4x1024x1408 .bf16) : FVec F S256x1408 .bf16 :=
  k0_pay29 (k0_pay16 x g) (sh1 w13) (sh3 w13)
/-- The pieces of the activations. -/
abbrev LAct (x : Vec F S256x1024 .f32) (g : Vec F S1x1024 .f32) (w13 : Vec F S4x1024x1408 .bf16) : List (View.Piece (Elt F) S256x2816 .bf16) :=
  [⟨Rect.unit (s := S256x2816) ![0, 1408] S256x1408.size inb_S256x2816_S256x1408_0_1408, fAct1 x g w13⟩, ⟨Rect.unit (s := S256x2816) ![0, 0] S256x1408.size inb_S256x2816_S256x1408_0_0, fAct0 x g w13⟩]
/-- The activations. -/
def fAct (x : Vec F S256x1024 .f32) (g : Vec F S1x1024 .f32) (w13 : Vec F S4x1024x1408 .bf16) : Vec F S256x2816 .bf16 := View.canon (LAct x g w13)
/-- The normalised rows. -/
def fH (x : Vec F S256x1024 .f32) (g : Vec F S1x1024 .f32) : Vec F S256x1024 .bf16 := k0_pay16 x g
/-- The result of the forward call. -/
def fY (x : Vec F S256x1024 .f32) (g : Vec F S1x1024 .f32) (w13 : Vec F S4x1024x1408 .bf16) (w2 : Vec F S2816x1024 .bf16) : Vec F S256x1024 .f32 :=
  k0_pay2 x (k0_pay24 k0_pay17 (k0_pay18 x g (sh0 w13)) (k0_pay19 x g (sh2 w13)) (k0_pay22 x g (sh0 w13)) (Scalar.ofBits .f32 0x3F800000#32) (hf0 w2))
    (fAct1 x g w13) (hf1 w2) (constant S256x1024 .f32 0x00000000#32)
/-- The halved output gradient. -/
def bDyh (dy : Vec F S256x1024 .f32) : Vec F S256x1024 .bf16 := k1_pay27 dy
/-- The gate gradients, first half. -/
def bGa0 (dy : Vec F S256x1024 .f32) (gu : Vec F S256x5632 .bf16) (w2 : Vec F S2816x1024 .bf16) : FVec F S256x1408 .bf16 := k1_pay32 dy (hf0 w2) (qt0 gu) (qt2 gu)
/-- The up gradients, first half. -/
def bUp0 (dy : Vec F S256x1024 .f32) (gu : Vec F S256x5632 .bf16) (w2 : Vec F S2816x1024 .bf16) : FVec F S256x1408 .bf16 := k1_pay33 dy (hf0 w2) (qt0 gu)
/-- The gate gradients, second half. -/
def bGa1 (dy : Vec F S256x1024 .f32) (gu : Vec F S256x5632 .bf16) (w2 : Vec F S2816x1024 .bf16) : FVec F S256x1408 .bf16 := k1_pay38 (bDyh dy) (hf1 w2) (qt1 gu) (qt3 gu)
/-- The up gradients, second half. -/
def bUp1 (dy : Vec F S256x1024 .f32) (gu : Vec F S256x5632 .bf16) (w2 : Vec F S2816x1024 .bf16) : FVec F S256x1408 .bf16 := k1_pay39 (bDyh dy) (hf1 w2) (qt1 gu)
/-- The pieces of the gradients of gates and ups. -/
abbrev LDgu (dy : Vec F S256x1024 .f32) (gu : Vec F S256x5632 .bf16) (w2 : Vec F S2816x1024 .bf16) : List (View.Piece (Elt F) S256x5632 .bf16) :=
  [⟨Rect.unit (s := S256x5632) ![0, 4224] S256x1408.size inb_S256x5632_S256x1408_0_4224, bUp1 dy gu w2⟩, ⟨Rect.unit (s := S256x5632) ![0, 1408] S256x1408.size inb_S256x5632_S256x1408_0_1408, bGa1 dy gu w2⟩, ⟨Rect.unit (s := S256x5632) ![0, 2816] S256x1408.size inb_S256x5632_S256x1408_0_2816, bUp0 dy gu w2⟩, ⟨Rect.unit (s := S256x5632) ![0, 0] S256x1408.size inb_S256x5632_S256x1408_0_0, bGa0 dy gu w2⟩]
/-- The gradients of gates and ups. -/
def bDgu (dy : Vec F S256x1024 .f32) (gu : Vec F S256x5632 .bf16) (w2 : Vec F S2816x1024 .bf16) : Vec F S256x5632 .bf16 := View.canon (LDgu dy gu w2)
/-- The first half of the gradient of the normalised rows. -/
def bAcc (dy : Vec F S256x1024 .f32) (gu : Vec F S256x5632 .bf16) (w13 : Vec F S4x1024x1408 .bf16) (w2 : Vec F S2816x1024 .bf16) : FVec F S256x1024 .f32 :=
  k1_pay34 k1_pay28 (bGa0 dy gu w2) (bUp0 dy gu w2) (sh0 w13) (sh2 w13)
/-- The result of the backward call. -/
def bDx (dy x : Vec F S256x1024 .f32) (gu : Vec F S256x5632 .bf16) (g : Vec F S1x1024 .f32) (w13 : Vec F S4x1024x1408 .bf16) (w2 : Vec F S2816x1024 .bf16) : Vec F S256x1024 .f32 :=
  k1_pay43 dy (bAcc dy gu w13 w2) (bGa1 dy gu w2) (bUp1 dy gu w2) (sh1 w13) (sh3 w13) x g
/-- The rounded result of the backward call. -/
def bDxb (dy x : Vec F S256x1024 .f32) (gu : Vec F S256x5632 .bf16) (g : Vec F S1x1024 .f32) (w13 : Vec F S4x1024x1408 .bf16) (w2 : Vec F S2816x1024 .bf16) : Vec F S256x1024 .bf16 :=
  k1_pay5 (bDx dy x gu g w13 w2)
/-- The gain's gradient after one more block of rows. -/
def bDg (dy x : Vec F S256x1024 .f32) (gu : Vec F S256x5632 .bf16) (w13 : Vec F S4x1024x1408 .bf16) (w2 : Vec F S2816x1024 .bf16) (p : Vec F S1x1024 .f32) : Vec F S1x1024 .f32 :=
  k1_pay6 (k1_pay42 (bAcc dy gu w13 w2) (bGa1 dy gu w2) (bUp1 dy gu w2) (sh1 w13) (sh3 w13) x) p

/-- One shard's copy, through the view that drops the leading axis, is the whole shard written. -/
theorem shard_write {sg : RefSig} (m : Memref sg .tc .vmem S4x1024x1408 .bf16) (r : Rect S4x1024x1408) (h0 : ∀ a, r.stride a = 1)
    (hq : r.shape.Squeezes S1024x1408) (f : m.view.ty.Contents (Elt F)) (w : S1024x1408.Idx → Elt F .bf16) :
    View.write (Elt F) ((m.slice r h0).squeeze S1024x1408 hq).view f w Finset.univ
      = (m.view.slice r).write (Elt F) f (fun x => w ((Shape.reshapeEquiv hq.numel_eq).symm x)) Finset.univ :=
  View.write_reshape_univ (m.view.slice r) hq.numel_eq f w

/-- What a shard's copy reads of the weights. -/
theorem shard_read {sg : RefSig} (M : Memref sg .tc .hbm S4x1024x1408 .bf16) (v : M.view.ty.Contents (Elt F)) (r : Rect S4x1024x1408) (h0 : ∀ a, r.stride a = 1)
    (hq : r.shape.Squeezes S1024x1408) (x : r.shape.Idx) :
    View.read (Elt F) ((M.slice r h0).squeeze S1024x1408 hq).view v ((Shape.reshapeEquiv hq.numel_eq).symm x)
      = M.view.read (Elt F) v (r.emb x) :=
  congrArg (fun z => M.view.read (Elt F) v (r.emb z)) ((Shape.reshapeEquiv hq.numel_eq).apply_symm_apply x)

/-- The four copies leave the weights whole. -/
theorem shards_whole {sg : RefSig} (M : Memref sg .tc .hbm S4x1024x1408 .bf16) (v : M.view.ty.Contents (Elt F)) (m : Memref sg .tc .vmem S4x1024x1408 .bf16) (hm : m.IsWhole) (f : m.view.ty.Contents (Elt F)) (w : Vec F S4x1024x1408 .bf16) (hw : M.view.read (Elt F) v = w)
    (h0 : ∀ a, (Rect.unit (s := S4x1024x1408) ![0, 0, 0] S1x1024x1408.size inb_S4x1024x1408_S1x1024x1408_0_0_0).stride a = 1) (h1 : ∀ a, (Rect.unit (s := S4x1024x1408) ![1, 0, 0] S1x1024x1408.size inb_S4x1024x1408_S1x1024x1408_1_0_0).stride a = 1) (h2 : ∀ a, (Rect.unit (s := S4x1024x1408) ![2, 0, 0] S1x1024x1408.size inb_S4x1024x1408_S1x1024x1408_2_0_0).stride a = 1) (h3 : ∀ a, (Rect.unit (s := S4x1024x1408) ![3, 0, 0] S1x1024x1408.size inb_S4x1024x1408_S1x1024x1408_3_0_0).stride a = 1)
    (w0 w1 w2 w3 : S1024x1408.Idx → Elt F .bf16)
    (e0 : w0 = View.read (Elt F) ((M.slice (Rect.unit (s := S4x1024x1408) ![0, 0, 0] S1x1024x1408.size inb_S4x1024x1408_S1x1024x1408_0_0_0) h0).squeeze S1024x1408 squeezes_S1x1024x1408_S1024x1408).view v)
    (e1 : w1 = View.read (Elt F) ((M.slice (Rect.unit (s := S4x1024x1408) ![1, 0, 0] S1x1024x1408.size inb_S4x1024x1408_S1x1024x1408_1_0_0) h1).squeeze S1024x1408 squeezes_S1x1024x1408_S1024x1408).view v)
    (e2 : w2 = View.read (Elt F) ((M.slice (Rect.unit (s := S4x1024x1408) ![2, 0, 0] S1x1024x1408.size inb_S4x1024x1408_S1x1024x1408_2_0_0) h2).squeeze S1024x1408 squeezes_S1x1024x1408_S1024x1408).view v)
    (e3 : w3 = View.read (Elt F) ((M.slice (Rect.unit (s := S4x1024x1408) ![3, 0, 0] S1x1024x1408.size inb_S4x1024x1408_S1x1024x1408_3_0_0) h3).squeeze S1024x1408 squeezes_S1x1024x1408_S1024x1408).view v)
    : (View.write (Elt F) ((m.slice (Rect.unit (s := S4x1024x1408) ![3, 0, 0] S1x1024x1408.size inb_S4x1024x1408_S1x1024x1408_3_0_0) h3).squeeze S1024x1408 squeezes_S1x1024x1408_S1024x1408).view (View.write (Elt F) ((m.slice (Rect.unit (s := S4x1024x1408) ![1, 0, 0] S1x1024x1408.size inb_S4x1024x1408_S1x1024x1408_1_0_0) h1).squeeze S1024x1408 squeezes_S1x1024x1408_S1024x1408).view (View.write (Elt F) ((m.slice (Rect.unit (s := S4x1024x1408) ![2, 0, 0] S1x1024x1408.size inb_S4x1024x1408_S1x1024x1408_2_0_0) h2).squeeze S1024x1408 squeezes_S1x1024x1408_S1024x1408).view (View.write (Elt F) ((m.slice (Rect.unit (s := S4x1024x1408) ![0, 0, 0] S1x1024x1408.size inb_S4x1024x1408_S1x1024x1408_0_0_0) h0).squeeze S1024x1408 squeezes_S1x1024x1408_S1024x1408).view f w0 Finset.univ) w2 Finset.univ) w1 Finset.univ) w3 Finset.univ) = hm.unread w := by
  refine hm.eq_unread ?_
  rw [shard_write, shard_write, shard_write, shard_write]
  show View.read (Elt F) m.view (m.view.writes (Elt F) f [⟨Rect.unit (s := S4x1024x1408) ![3, 0, 0] S1x1024x1408.size inb_S4x1024x1408_S1x1024x1408_3_0_0, fun x => w3 ((Shape.reshapeEquiv (Shape.Squeezes.numel_eq squeezes_S1x1024x1408_S1024x1408)).symm x)⟩, ⟨Rect.unit (s := S4x1024x1408) ![1, 0, 0] S1x1024x1408.size inb_S4x1024x1408_S1x1024x1408_1_0_0, fun x => w1 ((Shape.reshapeEquiv (Shape.Squeezes.numel_eq squeezes_S1x1024x1408_S1024x1408)).symm x)⟩, ⟨Rect.unit (s := S4x1024x1408) ![2, 0, 0] S1x1024x1408.size inb_S4x1024x1408_S1x1024x1408_2_0_0, fun x => w2 ((Shape.reshapeEquiv (Shape.Squeezes.numel_eq squeezes_S1x1024x1408_S1024x1408)).symm x)⟩, ⟨Rect.unit (s := S4x1024x1408) ![0, 0, 0] S1x1024x1408.size inb_S4x1024x1408_S1x1024x1408_0_0_0, fun x => w0 ((Shape.reshapeEquiv (Shape.Squeezes.numel_eq squeezes_S1x1024x1408_S1024x1408)).symm x)⟩]) = w
  have hc : ∀ y, ∃ p ∈ ([⟨Rect.unit (s := S4x1024x1408) ![3, 0, 0] S1x1024x1408.size inb_S4x1024x1408_S1x1024x1408_3_0_0, fun x => w3 ((Shape.reshapeEquiv (Shape.Squeezes.numel_eq squeezes_S1x1024x1408_S1024x1408)).symm x)⟩, ⟨Rect.unit (s := S4x1024x1408) ![1, 0, 0] S1x1024x1408.size inb_S4x1024x1408_S1x1024x1408_1_0_0, fun x => w1 ((Shape.reshapeEquiv (Shape.Squeezes.numel_eq squeezes_S1x1024x1408_S1024x1408)).symm x)⟩, ⟨Rect.unit (s := S4x1024x1408) ![2, 0, 0] S1x1024x1408.size inb_S4x1024x1408_S1x1024x1408_2_0_0, fun x => w2 ((Shape.reshapeEquiv (Shape.Squeezes.numel_eq squeezes_S1x1024x1408_S1024x1408)).symm x)⟩, ⟨Rect.unit (s := S4x1024x1408) ![0, 0, 0] S1x1024x1408.size inb_S4x1024x1408_S1x1024x1408_0_0_0, fun x => w0 ((Shape.reshapeEquiv (Shape.Squeezes.numel_eq squeezes_S1x1024x1408_S1024x1408)).symm x)⟩] : List (View.Piece (Elt F) S4x1024x1408 .bf16)), y ∈ p.1.set := fun y =>
    View.cover_of_tiledL (s := S4x1024x1408) _ S1x1024x1408.size (by sl_kernel_rfl) y
  rw [View.read_writes_eq_canon _ _ _ hc]
  funext y
  refine View.canon_apply_of_pieces w _ ?_ y (hc y)
  subst e0 e1 e2 e3 hw
  intro p hp x
  simp only [List.mem_cons, List.not_mem_nil, or_false] at hp
  rcases hp with rfl | rfl | rfl | rfl
  · exact shard_read M v _ h3 squeezes_S1x1024x1408_S1024x1408 x
  · exact shard_read M v _ h1 squeezes_S1x1024x1408_S1024x1408 x
  · exact shard_read M v _ h2 squeezes_S1x1024x1408_S1024x1408 x
  · exact shard_read M v _ h0 squeezes_S1x1024x1408_S1024x1408 x

/-- The two copies of the down weights cover them. -/
theorem halves_cover (w0 w1 : S1408x1024.Idx → Elt F .bf16) (y : S2816x1024.Idx) :
    ∃ p ∈ ([⟨Rect.unit (s := S2816x1024) ![1408, 0] S1408x1024.size inb_S2816x1024_S1408x1024_1408_0, w1⟩, ⟨Rect.unit (s := S2816x1024) ![0, 0] S1408x1024.size inb_S2816x1024_S1408x1024_0_0, w0⟩] : List (View.Piece (Elt F) S2816x1024 .bf16)), y ∈ p.1.set :=
  View.cover_of_tiledL (s := S2816x1024) _ S1408x1024.size (by sl_kernel_rfl) y

/-- The two copies leave the down weights whole. -/
theorem halves_whole {sg : RefSig} (M : Memref sg .tc .hbm S2816x1024 .bf16) (v : M.view.ty.Contents (Elt F)) (w : Vec F S2816x1024 .bf16) (hw : M.view.read (Elt F) v = w) (h0 : ∀ a, (Rect.unit (s := S2816x1024) ![0, 0] S1408x1024.size inb_S2816x1024_S1408x1024_0_0).stride a = 1) (h1 : ∀ a, (Rect.unit (s := S2816x1024) ![1408, 0] S1408x1024.size inb_S2816x1024_S1408x1024_1408_0).stride a = 1)
    (w0 w1 : S1408x1024.Idx → Elt F .bf16)
    (e0 : w0 = View.read (Elt F) (M.slice (Rect.unit (s := S2816x1024) ![0, 0] S1408x1024.size inb_S2816x1024_S1408x1024_0_0) h0).view v)
    (e1 : w1 = View.read (Elt F) (M.slice (Rect.unit (s := S2816x1024) ![1408, 0] S1408x1024.size inb_S2816x1024_S1408x1024_1408_0) h1).view v) :
    View.canon ([⟨Rect.unit (s := S2816x1024) ![1408, 0] S1408x1024.size inb_S2816x1024_S1408x1024_1408_0, w1⟩, ⟨Rect.unit (s := S2816x1024) ![0, 0] S1408x1024.size inb_S2816x1024_S1408x1024_0_0, w0⟩] : List (View.Piece (Elt F) S2816x1024 .bf16)) = w := by
  funext y
  refine View.canon_apply_of_pieces w _ ?_ y (halves_cover w0 w1 y)
  subst e0 e1 hw
  intro p hp x
  simp only [List.mem_cons, List.not_mem_nil, or_false] at hp
  rcases hp with rfl | rfl
  · rfl
  · rfl

/-- A load of a box of a whole memref, as a function. -/
theorem box_read {sp : Space} {S : Shape} {e : EltTy} (m : Memref sig .tc sp S e) (hm : m.IsWhole) (X : S.Idx → Elt F e) (B : LoadRect S) :
    View.readAt (Elt F) m.view B (hm.unread X) = fun j => X (B.idx j) := funext fun j => hm.readAt_unread X B j

/-- A load of a whole memref's own sizes. -/
theorem full_read {sp : Space} {S : Shape} {e : EltTy} (m : Memref sig .tc sp S e) (hm : m.IsWhole) (X : S.Idx → Elt F e) {off : Fin S.rank → ℕ}
    (inb : ∀ a, off a + S.size a ≤ S.size a) :
    View.readAt (Elt F) m.view (Rect.unit off S.size inb).toLoadRect (hm.unread X) = X :=
  (View.readAt_full _ _ inb).trans (hm.read_unread X)

/-- A load of a whole block of rows. -/
theorem full_read_x {e : EltTy} (m : Memref sig .tc .vmem S256x1024 e) (hm : m.IsWhole) (X : S256x1024.Idx → Elt F e)
    (inb : ∀ a, (![0, 0] : Fin 2 → ℕ) a + (![256, 1024] : Fin 2 → ℕ) a ≤ S256x1024.size a) :
    View.readAt (Elt F) m.view (Rect.unit (s := S256x1024) ![0, 0] ![256, 1024] inb).toLoadRect (hm.unread X) = X := full_read m hm X inb

/-- A load of a whole row. -/
theorem full_read_g {e : EltTy} (m : Memref sig .tc .vmem S1x1024 e) (hm : m.IsWhole) (X : S1x1024.Idx → Elt F e)
    (inb : ∀ a, (![0, 0] : Fin 2 → ℕ) a + (![1, 1024] : Fin 2 → ℕ) a ≤ S1x1024.size a) :
    View.readAt (Elt F) m.view (Rect.unit (s := S1x1024) ![0, 0] ![1, 1024] inb).toLoadRect (hm.unread X) = X := full_read m hm X inb

/-- A load of a whole row after a store of a whole row. -/
theorem readCov_g {e : EltTy} (v : View sig .tc .vmem S1x1024 e) (X : S1x1024.Idx → Elt F e)
    (inb inb' : ∀ a, (![0, 0] : Fin 2 → ℕ) a + (![1, 1024] : Fin 2 → ℕ) a ≤ S1x1024.size a) :
    View.readCov v [⟨Rect.unit (s := S1x1024) ![0, 0] ![1, 1024] inb', X⟩] (Rect.unit (s := S1x1024) ![0, 0] ![1, 1024] inb).toLoadRect = X :=
  View.readCov_full v (s := S1x1024) inb inb' X []

end Cert.Ffn
end
-- ==== Proof.Fk.lean ====
module
public import proofs.«01_k».proof.Proof.Fs
public import proofs.«01_k».proof.Proof.Fb
@[expose] public section
set_option maxRecDepth 16384
noncomputable section

/-! What one block of the feed-forward calls holds, on the reals, when its inputs are finite. -/

namespace Cert.Ffn
open Idealize.ShloMosaic Cert.Kernel2Ideal Cert.Kernel2Ideal.Gen
open Cert.Attn (rd_nn rd_nt rd_tn rd_sum1 rd_sum0 rd_bRow rd_bCol rd_vcol rd_vec rd_id coe_sum c_one)

theorem mul_v {x y : EReal} {a b : ℝ} (hx : x = (a : EReal)) (hy : y = (b : EReal)) : x * y = ((a * b : ℝ) : EReal) := by
  rw [hx, hy, EReal.coe_mul]
theorem add_v {x y : EReal} {a b : ℝ} (hx : x = (a : EReal)) (hy : y = (b : EReal)) : x + y = ((a + b : ℝ) : EReal) := by
  rw [hx, hy, EReal.coe_add]
theorem sub_v {x y : EReal} {a b : ℝ} (hx : x = (a : EReal)) (hy : y = (b : EReal)) : x - y = ((a - b : ℝ) : EReal) := by
  rw [hx, hy, EReal.coe_sub]
theorem dvd_v {x : EReal} {a : ℝ} (hx : x = (a : EReal)) : Ideal.div x (Ideal.ofBits .f32 0x44800000#32) = ((a * (1 / 1024) : ℝ) : EReal) := by
  rw [hx, c_kilo, Ideal.div_coe (by norm_num), EReal.coe_mul]
theorem sum_v {n : ℕ} {f : Fin n → EReal} {p : Fin n → ℝ} (h : ∀ i, f i = (p i : EReal)) : ∑ i, f i = ((∑ i, p i : ℝ) : EReal) := by
  rw [← coe_sum]; exact Finset.sum_congr rfl fun i _ => h i
theorem sg_v {x : EReal} {z : ℝ} (hx : x = (z : EReal)) :
    Ideal.div (Ideal.ofBits .f32 0x3F800000#32) (Ideal.ofBits .f32 0x3F800000#32 + Ideal.exp (Ideal.ofBits .f32 0x00000000#32 - x)) = ((sgm z : ℝ) : EReal) := by
  rw [hx, c_one, c_zero, ← EReal.coe_sub, zero_sub]
  exact sgm_val z

section Vocab
variable {M K N : ℕ} {p q : Fin K → ℝ}
theorem nn_v (x : FVec Ideal (Attn.M2 M K) .bf16) (y : FVec Ideal (Attn.M2 K N) .bf16) (i : Fin M) (j : Fin N)
    (hx : ∀ k, x (ix2 i k) = (p k : EReal)) (hy : ∀ k, y (ix2 k j) = (q k : EReal)) :
    matmul (F := Ideal) (DotDims.plain M K N) none x y (constant (Attn.M2 M N) .f32 0x00000000#32) (ix2 i j) = ((∑ k, p k * q k : ℝ) : EReal) :=
  (rd_nn x y i j).trans (sum_v fun k => mul_v (hx k) (hy k))
theorem nt_v (x : FVec Ideal (Attn.M2 M K) .bf16) (y : FVec Ideal (Attn.M2 N K) .bf16) (i : Fin M) (j : Fin N)
    (hx : ∀ k, x (ix2 i k) = (p k : EReal)) (hy : ∀ k, y (ix2 j k) = (q k : EReal)) :
    matmul (F := Ideal) (DotDims.transposedRhs M K N) none x y (constant (Attn.M2 M N) .f32 0x00000000#32) (ix2 i j) = ((∑ k, p k * q k : ℝ) : EReal) :=
  (rd_nt x y i j).trans (sum_v fun k => mul_v (hx k) (hy k))
theorem tn_v (wf : DotDims.WF (Attn.M2 K M) (Attn.M2 K N) (Attn.M2 M N) [0] [0] [1] [1] [] []) (x : FVec Ideal (Attn.M2 K M) .bf16) (y : FVec Ideal (Attn.M2 K N) .bf16) (i : Fin M) (j : Fin N)
    (hx : ∀ k, x (ix2 k i) = (p k : EReal)) (hy : ∀ k, y (ix2 k j) = (q k : EReal)) :
    matmul (F := Ideal) ⟨[0], [0], [1], [1], [], [], wf⟩ none x y (constant (Attn.M2 M N) .f32 0x00000000#32) (ix2 i j) = ((∑ k, p k * q k : ℝ) : EReal) :=
  (rd_tn wf x y i j).trans (sum_v fun k => mul_v (hx k) (hy k))

/-- A box of one leading index, without it. -/
theorem rd_drop {α : Type} (x : (Attn.M3 1 M N).Idx → α) (h : (Attn.M3 1 M N).ShapeCasts (Attn.M2 M N)) (i : Fin M) (j : Fin N) :
    shapeCast (Attn.M2 M N) x h (ix2 i j) = x (ix3 0 i j) := by
  refine shapeCast_apply _ _ _ _ ?_
  rw [Shape.rowMajor_val_three, Shape.rowMajor_val_two]
  show ((0 : ℕ) * M + i.val) * N + j.val = i.val * N + j.val
  simp
theorem rd_lead {α : Type} (x : (Attn.M2 M N).Idx → α) (h : (Attn.M2 M N).ShapeCasts (Attn.M3 1 M N)) (a : Fin 1) (i : Fin M) (j : Fin N) :
    shapeCast (Attn.M3 1 M N) x h (ix3 a i j) = x (ix2 i j) := by
  refine shapeCast_apply _ _ _ _ ?_
  rw [Shape.rowMajor_val_three, Shape.rowMajor_val_two]
  have ha : a.val = 0 := by omega
  show i.val * N + j.val = (a.val * M + i.val) * N + j.val
  rw [ha]; simp
end Vocab

section Parts
variable (w : Fin 1024 → Fin 5632 → ℝ) (v : Fin 2816 → Fin 1024 → ℝ)
  {W : Vec Ideal S4x1024x1408 .bf16} (hW : ∀ s k j, W (ix3 s k j) = (w k (col s j) : EReal))
  {V : Vec Ideal S2816x1024 .bf16} (hV : ∀ j k, V (ix2 j k) = (v j k : EReal))
include hW
theorem sh0_v (a : Fin 1) (k : Fin 1024) (j : Fin 1408) : sh0 (F := Ideal) W (ix3 a k j) = (w k (col 0 j) : EReal) := by
  refine Eq.trans (congrArg W ?_) (hW 0 k j)
  funext b; refine Fin.ext ?_; fin_cases b
  · show 0 + 1 * a.val = 0; omega
  · show 0 + 1 * k.val = k.val; omega
  · show 0 + 1 * j.val = j.val; omega
theorem sh1_v (a : Fin 1) (k : Fin 1024) (j : Fin 1408) : sh1 (F := Ideal) W (ix3 a k j) = (w k (col 1 j) : EReal) := by
  refine Eq.trans (congrArg W ?_) (hW 1 k j)
  funext b; refine Fin.ext ?_; fin_cases b
  · show 1 + 1 * a.val = 1; omega
  · show 0 + 1 * k.val = k.val; omega
  · show 0 + 1 * j.val = j.val; omega
theorem sh2_v (a : Fin 1) (k : Fin 1024) (j : Fin 1408) : sh2 (F := Ideal) W (ix3 a k j) = (w k (col 2 j) : EReal) := by
  refine Eq.trans (congrArg W ?_) (hW 2 k j)
  funext b; refine Fin.ext ?_; fin_cases b
  · show 2 + 1 * a.val = 2; omega
  · show 0 + 1 * k.val = k.val; omega
  · show 0 + 1 * j.val = j.val; omega
theorem sh3_v (a : Fin 1) (k : Fin 1024) (j : Fin 1408) : sh3 (F := Ideal) W (ix3 a k j) = (w k (col 3 j) : EReal) := by
  refine Eq.trans (congrArg W ?_) (hW 3 k j)
  funext b; refine Fin.ext ?_; fin_cases b
  · show 3 + 1 * a.val = 3; omega
  · show 0 + 1 * k.val = k.val; omega
  · show 0 + 1 * j.val = j.val; omega
omit hW
include hV
theorem hf0_v (j : Fin 1408) (k : Fin 1024) : hf0 (F := Ideal) V (ix2 j k) = (v (hal 0 j) k : EReal) := by
  refine Eq.trans (congrArg V ?_) (hV (hal 0 j) k)
  funext b; refine Fin.ext ?_; fin_cases b
  · show 0 + 1 * j.val = 1408 * 0 + j.val; omega
  · show 0 + 1 * k.val = k.val; omega
theorem hf1_v (j : Fin 1408) (k : Fin 1024) : hf1 (F := Ideal) V (ix2 j k) = (v (hal 1 j) k : EReal) := by
  refine Eq.trans (congrArg V ?_) (hV (hal 1 j) k)
  funext b; refine Fin.ext ?_; fin_cases b
  · show 1408 + 1 * j.val = 1408 * 1 + j.val; omega
  · show 0 + 1 * k.val = k.val; omega
end Parts

section Root
variable (x : Fin 1024 → ℝ) {X : Vec Ideal S256x1024 .f32} (i : Fin 256) (hX : ∀ k, X (ix2 i k) = (x k : EReal))
include hX
/-- The reciprocal root of one token's mean square. -/
theorem root_v : k1_pay41 (F := Ideal) X (ix2 i 0) = ((rr x : ℝ) : EReal) := by
  have h1 : shapeCast S256x1 (multiReduction (F := Ideal) .add [1] S256 (mulf X X) 0x00000000#32 reduces_S256x1024_S256 (.inl rfl) rfl) shapeCasts_S256_S256x1 (ix2 i 0) = ((∑ k, x k * x k : ℝ) : EReal) :=
    (rd_vcol _ _ i 0).trans ((rd_sum1 _ _ i).trans (sum_v fun k => mul_v (hX k) (hX k)))
  have h2 := add_v (dvd_v h1) c_eps
  exact (congrArg Ideal.rsqrt h2).trans (rsqrt_vv x)
variable (g : Fin 1024 → ℝ) {G : Vec Ideal S1x1024 .f32} (hG : ∀ k, G (ix2 0 k) = (g k : EReal))
include hG
/-- The normalised token. -/
theorem hh_v (k : Fin 1024) : k0_pay16 (F := Ideal) X G (ix2 i k) = ((hh x g k : ℝ) : EReal) := by
  have h := mul_v (mul_v (hX k) ((rd_bCol (k1_pay41 (F := Ideal) X) broadcasts_S256x1_S256x1024 i k).trans (root_v x i hX))) ((rd_bRow G broadcasts_S1x1024_S256x1024 i k).trans (hG k))
  exact h
end Root

section Fwd
variable (x g : Fin 1024 → ℝ) (w : Fin 1024 → Fin 5632 → ℝ) (v : Fin 2816 → Fin 1024 → ℝ)
  {X : Vec Ideal S256x1024 .f32} (i : Fin 256) (hX : ∀ k, X (ix2 i k) = (x k : EReal))
  {G : Vec Ideal S1x1024 .f32} (hG : ∀ k, G (ix2 0 k) = (g k : EReal))
  {W : Vec Ideal S4x1024x1408 .bf16} (hW : ∀ s k j, W (ix3 s k j) = (w k (col s j) : EReal))
  {V : Vec Ideal S2816x1024 .bf16} (hV : ∀ j k, V (ix2 j k) = (v j k : EReal))
include hX hG hW

theorem z0_v (j : Fin 1408) : k0_pay18 (F := Ideal) X G (sh0 W) (ix2 i j) = ((zz x g w (col 0 j) : ℝ) : EReal) :=
  nn_v (k0_pay16 X G) (shapeCast S1024x1408 (sh0 W) shapeCasts_S1x1024x1408_S1024x1408) i j (hh_v x i hX g hG) fun k => (rd_drop _ _ k j).trans (sh0_v w hW 0 k j)
theorem z2_v (j : Fin 1408) : k0_pay19 (F := Ideal) X G (sh2 W) (ix2 i j) = ((zz x g w (col 2 j) : ℝ) : EReal) :=
  nn_v (k0_pay16 X G) (shapeCast S1024x1408 (sh2 W) shapeCasts_S1x1024x1408_S1024x1408) i j (hh_v x i hX g hG) fun k => (rd_drop _ _ k j).trans (sh2_v w hW 0 k j)
theorem z1_v (j : Fin 1408) : k0_pay25 (F := Ideal) (k0_pay16 X G) (sh1 W) (ix2 i j) = ((zz x g w (col 1 j) : ℝ) : EReal) :=
  nn_v (k0_pay16 X G) (shapeCast S1024x1408 (sh1 W) shapeCasts_S1x1024x1408_S1024x1408) i j (hh_v x i hX g hG) fun k => (rd_drop _ _ k j).trans (sh1_v w hW 0 k j)
theorem z3_v (j : Fin 1408) : k0_pay26 (F := Ideal) (k0_pay16 X G) (sh3 W) (ix2 i j) = ((zz x g w (col 3 j) : ℝ) : EReal) :=
  nn_v (k0_pay16 X G) (shapeCast S1024x1408 (sh3 W) shapeCasts_S1x1024x1408_S1024x1408) i j (hh_v x i hX g hG) fun k => (rd_drop _ _ k j).trans (sh3_v w hW 0 k j)

theorem act0_v (j : Fin 1408) : fAct0 (F := Ideal) X G W (ix2 i j) = ((act (zz x g w) (hal 0 j) : ℝ) : EReal) := by
  have h := mul_v (mul_v (z0_v x g w i hX hG hW j) (sg_v (z0_v x g w i hX hG hW j))) (z2_v x g w i hX hG hW j)
  refine (h : fAct0 (F := Ideal) X G W (ix2 i j) = _).trans ?_
  unfold act; rw [lo_hal, hi_hal]; rfl
theorem act1_v (j : Fin 1408) : fAct1 (F := Ideal) X G W (ix2 i j) = ((act (zz x g w) (hal 1 j) : ℝ) : EReal) := by
  have h := mul_v (mul_v (z1_v x g w i hX hG hW j) (sg_v (z1_v x g w i hX hG hW j))) (z3_v x g w i hX hG hW j)
  refine (h : fAct1 (F := Ideal) X G W (ix2 i j) = _).trans ?_
  unfold act; rw [lo_hal, hi_hal]; rfl
include hV
theorem y_v (k : Fin 1024) : fY (F := Ideal) X G W V (ix2 i k) = ((yy x v (zz x g w) k : ℝ) : EReal) := by
  have m0 := nn_v (fAct0 (F := Ideal) X G W) (hf0 V) i k (act0_v x g w i hX hG hW) fun j => hf0_v v hV j k
  have m1 := nn_v (fAct1 (F := Ideal) X G W) (hf1 V) i k (act1_v x g w i hX hG hW) fun j => hf1_v v hV j k
  have h := add_v (hX k) (mul_v c_half (add_v (add_v c_zero m0) m1))
  refine (h : fY (F := Ideal) X G W V (ix2 i k) = _).trans ?_
  unfold yy; rw [sum_hal]; simp only [zero_add]
end Fwd
end Cert.Ffn
end
-- ==== Proof.Fl.lean ====
module
public import proofs.«01_k».proof.Proof.Fk
@[expose] public section
set_option maxRecDepth 16384
noncomputable section

/-! What one block of the backward call holds, on the reals, and the results stored in pieces. -/

namespace Cert.Ffn
open Idealize.ShloMosaic Cert.Kernel2Ideal Cert.Kernel2Ideal.Gen
open Cert.Attn (rd_nn rd_nt rd_tn rd_sum1 rd_sum0 rd_bRow rd_bCol rd_vcol rd_vec rd_id coe_sum c_one)

theorem ix2_of {a b : ℕ} (y : (Attn.M2 a b).Idx) : ∃ (i : Fin a) (l : Fin b), y = ix2 i l :=
  ⟨y 0, y 1, funext fun c => by fin_cases c <;> rfl⟩
theorem ix3_of {a b c : ℕ} (y : (Attn.M3 a b c).Idx) : ∃ (s : Fin a) (i : Fin b) (l : Fin c), y = ix3 s i l :=
  ⟨y 0, y 1, y 2, funext fun c => by fin_cases c <;> rfl⟩
theorem qr0 (i : Fin 256) (j : Fin 1408) : (Rect.unit (s := S256x5632) ![0, 0] S256x1408.size inb_S256x5632_S256x1408_0_0).toLoadRect.idx (ix2 i j) = ix2 i (col 0 j) := by
  funext b; refine Fin.ext ?_; fin_cases b
  · show 0 + 1 * i.val = i.val; omega
  · show 0 + 1 * j.val = 1408 * 0 + j.val; omega
theorem qr1 (i : Fin 256) (j : Fin 1408) : (Rect.unit (s := S256x5632) ![0, 1408] S256x1408.size inb_S256x5632_S256x1408_0_1408).toLoadRect.idx (ix2 i j) = ix2 i (col 1 j) := by
  funext b; refine Fin.ext ?_; fin_cases b
  · show 0 + 1 * i.val = i.val; omega
  · show 1408 + 1 * j.val = 1408 * 1 + j.val; omega
theorem qr2 (i : Fin 256) (j : Fin 1408) : (Rect.unit (s := S256x5632) ![0, 2816] S256x1408.size inb_S256x5632_S256x1408_0_2816).toLoadRect.idx (ix2 i j) = ix2 i (col 2 j) := by
  funext b; refine Fin.ext ?_; fin_cases b
  · show 0 + 1 * i.val = i.val; omega
  · show 2816 + 1 * j.val = 1408 * 2 + j.val; omega
theorem qr3 (i : Fin 256) (j : Fin 1408) : (Rect.unit (s := S256x5632) ![0, 4224] S256x1408.size inb_S256x5632_S256x1408_0_4224).toLoadRect.idx (ix2 i j) = ix2 i (col 3 j) := by
  funext b; refine Fin.ext ?_; fin_cases b
  · show 0 + 1 * i.val = i.val; omega
  · show 4224 + 1 * j.val = 1408 * 3 + j.val; omega
theorem hr0 (i : Fin 256) (j : Fin 1408) : (Rect.unit (s := S256x2816) ![0, 0] S256x1408.size inb_S256x2816_S256x1408_0_0).toLoadRect.idx (ix2 i j) = ix2 i (hal 0 j) := by
  funext b; refine Fin.ext ?_; fin_cases b
  · show 0 + 1 * i.val = i.val; omega
  · show 0 + 1 * j.val = 1408 * 0 + j.val; omega
theorem hr1 (i : Fin 256) (j : Fin 1408) : (Rect.unit (s := S256x2816) ![0, 1408] S256x1408.size inb_S256x2816_S256x1408_0_1408).toLoadRect.idx (ix2 i j) = ix2 i (hal 1 j) := by
  funext b; refine Fin.ext ?_; fin_cases b
  · show 0 + 1 * i.val = i.val; omega
  · show 1408 + 1 * j.val = 1408 * 1 + j.val; omega

section Quarters
variable (z : Fin 256 → Fin 5632 → ℝ) {Z : Vec Ideal S256x5632 .bf16} (hZ : ∀ i j, Z (ix2 i j) = (z i j : EReal)) (i : Fin 256) (j : Fin 1408)
include hZ
theorem qt0_v : qt0 (F := Ideal) Z (ix2 i j) = ((z i (col 0 j) : ℝ) : EReal) := (congrArg Z (qr0 i j)).trans (hZ i (col 0 j))
theorem qt1_v : qt1 (F := Ideal) Z (ix2 i j) = ((z i (col 1 j) : ℝ) : EReal) := (congrArg Z (qr1 i j)).trans (hZ i (col 1 j))
theorem qt2_v : qt2 (F := Ideal) Z (ix2 i j) = ((z i (col 2 j) : ℝ) : EReal) := (congrArg Z (qr2 i j)).trans (hZ i (col 2 j))
theorem qt3_v : qt3 (F := Ideal) Z (ix2 i j) = ((z i (col 3 j) : ℝ) : EReal) := (congrArg Z (qr3 i j)).trans (hZ i (col 3 j))
end Quarters

/-- A block of gates and ups stored by quarters. -/
theorem quarters (z : Fin 256 → Fin 5632 → ℝ) (q0 q1 q2 q3 : S256x1408.Idx → Elt Ideal .bf16)
    (h0 : ∀ i j, q0 (ix2 i j) = ((z i (col 0 j) : ℝ) : EReal))
    (h1 : ∀ i j, q1 (ix2 i j) = ((z i (col 1 j) : ℝ) : EReal))
    (h2 : ∀ i j, q2 (ix2 i j) = ((z i (col 2 j) : ℝ) : EReal))
    (h3 : ∀ i j, q3 (ix2 i j) = ((z i (col 3 j) : ℝ) : EReal))
    (i : Fin 256) (l : Fin 5632) :
    View.canon ([⟨Rect.unit (s := S256x5632) ![0, 4224] S256x1408.size inb_S256x5632_S256x1408_0_4224, q3⟩, ⟨Rect.unit (s := S256x5632) ![0, 1408] S256x1408.size inb_S256x5632_S256x1408_0_1408, q1⟩, ⟨Rect.unit (s := S256x5632) ![0, 2816] S256x1408.size inb_S256x5632_S256x1408_0_2816, q2⟩, ⟨Rect.unit (s := S256x5632) ![0, 0] S256x1408.size inb_S256x5632_S256x1408_0_0, q0⟩] : List (View.Piece (Elt Ideal) S256x5632 .bf16)) (ix2 i l) = ((z i l : ℝ) : EReal) := by
  have hc : ∀ y : S256x5632.Idx, ∃ p ∈ ([⟨Rect.unit (s := S256x5632) ![0, 4224] S256x1408.size inb_S256x5632_S256x1408_0_4224, q3⟩, ⟨Rect.unit (s := S256x5632) ![0, 1408] S256x1408.size inb_S256x5632_S256x1408_0_1408, q1⟩, ⟨Rect.unit (s := S256x5632) ![0, 2816] S256x1408.size inb_S256x5632_S256x1408_0_2816, q2⟩, ⟨Rect.unit (s := S256x5632) ![0, 0] S256x1408.size inb_S256x5632_S256x1408_0_0, q0⟩] : List (View.Piece (Elt Ideal) S256x5632 .bf16)), y ∈ p.1.set :=
    fun y => View.cover_of_tiledL (s := S256x5632) _ S256x1408.size (by sl_kernel_rfl) y
  refine View.canon_apply_of_pieces (fun y => ((z (y 0) (y 1) : ℝ) : EReal)) _ ?_ (ix2 i l) (hc _)
  intro p hp y
  simp only [List.mem_cons, List.not_mem_nil, or_false] at hp
  rcases hp with rfl | rfl | rfl | rfl
  · obtain ⟨a, b, rfl⟩ := ix2_of (a := 256) (b := 1408) y
    exact (h3 a b).trans (congrArg (fun y : S256x5632.Idx => ((z (y 0) (y 1) : ℝ) : EReal)) (qr3 a b)).symm
  · obtain ⟨a, b, rfl⟩ := ix2_of (a := 256) (b := 1408) y
    exact (h1 a b).trans (congrArg (fun y : S256x5632.Idx => ((z (y 0) (y 1) : ℝ) : EReal)) (qr1 a b)).symm
  · obtain ⟨a, b, rfl⟩ := ix2_of (a := 256) (b := 1408) y
    exact (h2 a b).trans (congrArg (fun y : S256x5632.Idx => ((z (y 0) (y 1) : ℝ) : EReal)) (qr2 a b)).symm
  · obtain ⟨a, b, rfl⟩ := ix2_of (a := 256) (b := 1408) y
    exact (h0 a b).trans (congrArg (fun y : S256x5632.Idx => ((z (y 0) (y 1) : ℝ) : EReal)) (qr0 a b)).symm

/-- A block of activations stored by halves. -/
theorem halves (z : Fin 256 → Fin 2816 → ℝ) (q0 q1 : S256x1408.Idx → Elt Ideal .bf16)
    (h0 : ∀ i j, q0 (ix2 i j) = ((z i (hal 0 j) : ℝ) : EReal)) (h1 : ∀ i j, q1 (ix2 i j) = ((z i (hal 1 j) : ℝ) : EReal))
    (i : Fin 256) (l : Fin 2816) :
    View.canon ([⟨Rect.unit (s := S256x2816) ![0, 1408] S256x1408.size inb_S256x2816_S256x1408_0_1408, q1⟩, ⟨Rect.unit (s := S256x2816) ![0, 0] S256x1408.size inb_S256x2816_S256x1408_0_0, q0⟩] : List (View.Piece (Elt Ideal) S256x2816 .bf16)) (ix2 i l) = ((z i l : ℝ) : EReal) := by
  have hc : ∀ y : S256x2816.Idx, ∃ p ∈ ([⟨Rect.unit (s := S256x2816) ![0, 1408] S256x1408.size inb_S256x2816_S256x1408_0_1408, q1⟩, ⟨Rect.unit (s := S256x2816) ![0, 0] S256x1408.size inb_S256x2816_S256x1408_0_0, q0⟩] : List (View.Piece (Elt Ideal) S256x2816 .bf16)), y ∈ p.1.set :=
    fun y => View.cover_of_tiledL (s := S256x2816) _ S256x1408.size (by sl_kernel_rfl) y
  refine View.canon_apply_of_pieces (fun y => ((z (y 0) (y 1) : ℝ) : EReal)) _ ?_ (ix2 i l) (hc _)
  intro p hp y
  simp only [List.mem_cons, List.not_mem_nil, or_false] at hp
  rcases hp with rfl | rfl
  · obtain ⟨a, b, rfl⟩ := ix2_of (a := 256) (b := 1408) y
    exact (h1 a b).trans (congrArg (fun y : S256x2816.Idx => ((z (y 0) (y 1) : ℝ) : EReal)) (hr1 a b)).symm
  · obtain ⟨a, b, rfl⟩ := ix2_of (a := 256) (b := 1408) y
    exact (h0 a b).trans (congrArg (fun y : S256x2816.Idx => ((z (y 0) (y 1) : ℝ) : EReal)) (hr0 a b)).symm

section Fwd
variable (x : Fin 256 → Fin 1024 → ℝ) (g : Fin 1024 → ℝ) (w : Fin 1024 → Fin 5632 → ℝ)
  {X : Vec Ideal S256x1024 .f32} (hX : ∀ i k, X (ix2 i k) = (x i k : EReal))
  {G : Vec Ideal S1x1024 .f32} (hG : ∀ k, G (ix2 0 k) = (g k : EReal))
  {W : Vec Ideal S4x1024x1408 .bf16} (hW : ∀ s k j, W (ix3 s k j) = (w k (col s j) : EReal)) (i : Fin 256)
include hX hG hW
theorem gu_v (l : Fin 5632) : fGu (F := Ideal) X G W (ix2 i l) = ((zz (x i) g w l : ℝ) : EReal) :=
  quarters (fun i => zz (x i) g w) _ _ _ _ (fun i => z0_v (x i) g w i (hX i) hG hW) (fun i => z1_v (x i) g w i (hX i) hG hW)
    (fun i => z2_v (x i) g w i (hX i) hG hW) (fun i => z3_v (x i) g w i (hX i) hG hW) i l
theorem act_v (l : Fin 2816) : fAct (F := Ideal) X G W (ix2 i l) = ((act (zz (x i) g w) l : ℝ) : EReal) :=
  halves (fun i => act (zz (x i) g w)) _ _ (fun i => act0_v (x i) g w i (hX i) hG hW) (fun i => act1_v (x i) g w i (hX i) hG hW) i l
end Fwd

section Bwd
variable (x d : Fin 256 → Fin 1024 → ℝ) (g : Fin 1024 → ℝ) (w : Fin 1024 → Fin 5632 → ℝ) (v : Fin 2816 → Fin 1024 → ℝ) (z : Fin 256 → Fin 5632 → ℝ)
  {D : Vec Ideal S256x1024 .f32} (hD : ∀ i k, D (ix2 i k) = (d i k : EReal))
  {Z : Vec Ideal S256x5632 .bf16} (hZ : ∀ i j, Z (ix2 i j) = (z i j : EReal))
  {V : Vec Ideal S2816x1024 .bf16} (hV : ∀ j k, V (ix2 j k) = (v j k : EReal)) (i : Fin 256)
include hD
theorem hd_v (k : Fin 1024) : bDyh (F := Ideal) D (ix2 i k) = ((hd (d i) k : ℝ) : EReal) := mul_v c_half (hD i k)
include hV
theorem da0_v (j : Fin 1408) : k1_pay29 (F := Ideal) D (hf0 V) (ix2 i j) = ((da (d i) v (hal 0 j) : ℝ) : EReal) :=
  nt_v (bDyh (F := Ideal) D) (hf0 V) i j (hd_v d hD i) fun k => hf0_v v hV j k
theorem da1_v (j : Fin 1408) : k1_pay35 (F := Ideal) (bDyh D) (hf1 V) (ix2 i j) = ((da (d i) v (hal 1 j) : ℝ) : EReal) :=
  nt_v (bDyh (F := Ideal) D) (hf1 V) i j (hd_v d hD i) fun k => hf1_v v hV j k
omit hD hV
theorem same_v {q : Vec Ideal S256x1408 .bf16} {y : S256x1408.Idx} {a : ℝ} (h : q y = (a : EReal)) :
    shapeCast S256x1408 q shapeCasts_S256x1408_S256x1408 y = (a : EReal) := (congrFun (rd_id q shapeCasts_S256x1408_S256x1408) y).trans h
include hD hV hZ
theorem ga0_v (j : Fin 1408) : bGa0 (F := Ideal) D Z V (ix2 i j) = ((gg (d i) v (z i) (hal 0 j) : ℝ) : EReal) := by
  have hz := same_v (qt0_v z hZ i j)
  have hu := same_v (qt2_v z hZ i j)
  have h := mul_v (mul_v (da0_v d v hD hV i j) hu) (mul_v (sg_v hz) (add_v c_one (mul_v hz (sub_v c_one (sg_v hz)))))
  refine (h : bGa0 (F := Ideal) D Z V (ix2 i j) = _).trans ?_
  unfold gg; rw [lo_hal, hi_hal]; rfl
theorem up0_v (j : Fin 1408) : bUp0 (F := Ideal) D Z V (ix2 i j) = ((uu (d i) v (z i) (hal 0 j) : ℝ) : EReal) := by
  have hz := same_v (qt0_v z hZ i j)
  have h := mul_v (da0_v d v hD hV i j) (mul_v hz (sg_v hz))
  refine (h : bUp0 (F := Ideal) D Z V (ix2 i j) = _).trans ?_
  unfold uu; rw [lo_hal]; rfl
theorem ga1_v (j : Fin 1408) : bGa1 (F := Ideal) D Z V (ix2 i j) = ((gg (d i) v (z i) (hal 1 j) : ℝ) : EReal) := by
  have hz := same_v (qt1_v z hZ i j)
  have hu := same_v (qt3_v z hZ i j)
  have h := mul_v (mul_v (da1_v d v hD hV i j) hu) (mul_v (sg_v hz) (add_v c_one (mul_v hz (sub_v c_one (sg_v hz)))))
  refine (h : bGa1 (F := Ideal) D Z V (ix2 i j) = _).trans ?_
  unfold gg; rw [lo_hal, hi_hal]; rfl
theorem up1_v (j : Fin 1408) : bUp1 (F := Ideal) D Z V (ix2 i j) = ((uu (d i) v (z i) (hal 1 j) : ℝ) : EReal) := by
  have hz := same_v (qt1_v z hZ i j)
  have h := mul_v (da1_v d v hD hV i j) (mul_v hz (sg_v hz))
  refine (h : bUp1 (F := Ideal) D Z V (ix2 i j) = _).trans ?_
  unfold uu; rw [lo_hal]; rfl
theorem dz_v (l : Fin 5632) : bDgu (F := Ideal) D Z V (ix2 i l) = ((dz (d i) v (z i) l : ℝ) : EReal) :=
  quarters (fun i => dz (d i) v (z i)) _ _ _ _
    (fun i j => (ga0_v d v z hD hZ hV i j).trans (congrArg _ (dz_lo (d i) v (z i) (hal 0 j)).symm))
    (fun i j => (ga1_v d v z hD hZ hV i j).trans (congrArg _ (dz_lo (d i) v (z i) (hal 1 j)).symm))
    (fun i j => (up0_v d v z hD hZ hV i j).trans (congrArg _ ((dz_hi (d i) v (z i) (hal 0 j)).symm.trans (congrArg _ (hi_hal 0 j)))))
    (fun i j => (up1_v d v z hD hZ hV i j).trans (congrArg _ ((dz_hi (d i) v (z i) (hal 1 j)).symm.trans (congrArg _ (hi_hal 1 j))))) i l
variable {X : Vec Ideal S256x1024 .f32} (hX : ∀ i k, X (ix2 i k) = (x i k : EReal))
  {G : Vec Ideal S1x1024 .f32} (hG : ∀ k, G (ix2 0 k) = (g k : EReal))
  {W : Vec Ideal S4x1024x1408 .bf16} (hW : ∀ s k j, W (ix3 s k j) = (w k (col s j) : EReal))
include hW
theorem dh_v (k : Fin 1024) : k1_pay40 (F := Ideal) (bAcc D Z W V) (bGa1 D Z V) (bUp1 D Z V) (sh1 W) (sh3 W) (ix2 i k) = ((dh (d i) w v (z i) k : ℝ) : EReal) := by
  have m0 := nt_v (bGa0 (F := Ideal) D Z V) (shapeCast S1024x1408 (sh0 W) shapeCasts_S1x1024x1408_S1024x1408) i k (ga0_v d v z hD hZ hV i) fun j => (rd_drop _ _ k j).trans (sh0_v w hW 0 k j)
  have m2 := nt_v (bUp0 (F := Ideal) D Z V) (shapeCast S1024x1408 (sh2 W) shapeCasts_S1x1024x1408_S1024x1408) i k (up0_v d v z hD hZ hV i) fun j => (rd_drop _ _ k j).trans (sh2_v w hW 0 k j)
  have m1 := nt_v (bGa1 (F := Ideal) D Z V) (shapeCast S1024x1408 (sh1 W) shapeCasts_S1x1024x1408_S1024x1408) i k (ga1_v d v z hD hZ hV i) fun j => (rd_drop _ _ k j).trans (sh1_v w hW 0 k j)
  have m3 := nt_v (bUp1 (F := Ideal) D Z V) (shapeCast S1024x1408 (sh3 W) shapeCasts_S1x1024x1408_S1024x1408) i k (up1_v d v z hD hZ hV i) fun j => (rd_drop _ _ k j).trans (sh3_v w hW 0 k j)
  have h := add_v (add_v (add_v (add_v c_zero m0) m2) m1) m3
  refine (h : k1_pay40 (F := Ideal) (bAcc D Z W V) (bGa1 D Z V) (bUp1 D Z V) (sh1 W) (sh3 W) (ix2 i k) = _).trans ?_
  unfold dh
  have e0 : ∀ j, dz (d i) v (z i) (col 0 j) = gg (d i) v (z i) (hal 0 j) := fun j => dz_lo _ _ _ (hal 0 j)
  have e1 : ∀ j, dz (d i) v (z i) (col 1 j) = gg (d i) v (z i) (hal 1 j) := fun j => dz_lo _ _ _ (hal 1 j)
  have e2 : ∀ j, dz (d i) v (z i) (col 2 j) = uu (d i) v (z i) (hal 0 j) := fun j => (congrArg _ (hi_hal 0 j)).symm.trans (dz_hi _ _ _ (hal 0 j))
  have e3 : ∀ j, dz (d i) v (z i) (col 3 j) = uu (d i) v (z i) (hal 1 j) := fun j => (congrArg _ (hi_hal 1 j)).symm.trans (dz_hi _ _ _ (hal 1 j))
  rw [sum_col]; simp only [e0, e1, e2, e3]
  congr 1; ring
include hX
/-- What each token adds to the cotangent of the scale. -/
theorem dgr_v (k : Fin 1024) : k1_pay42 (F := Ideal) (bAcc D Z W V) (bGa1 D Z V) (bUp1 D Z V) (sh1 W) (sh3 W) X (ix2 i k) = ((dgr (x i) (d i) w v (z i) k : ℝ) : EReal) := by
  have h := mul_v (mul_v (dh_v d w v z hD hZ hV i hW k) (hX i k)) ((rd_bCol (k1_pay41 (F := Ideal) X) broadcasts_S256x1_S256x1024 i k).trans (root_v (x i) i (hX i)))
  exact h
theorem dg_v (p : Fin 1024 → ℝ) {P : Vec Ideal S1x1024 .f32} (hP : ∀ k, P (ix2 0 k) = (p k : EReal)) (k : Fin 1024) :
    bDg (F := Ideal) D X Z W V P (ix2 0 k) = ((p k + ∑ i, dgr (x i) (d i) w v (z i) k : ℝ) : EReal) := by
  have h1 : shapeCast S1x1024 (multiReduction (F := Ideal) .add [0] S1024 (k1_pay42 (F := Ideal) (bAcc D Z W V) (bGa1 D Z V) (bUp1 D Z V) (sh1 W) (sh3 W) X) 0x00000000#32 reduces_S256x1024_S1024 (.inl rfl) rfl) shapeCasts_S1024_S1x1024 (ix2 0 k) = ((∑ i, dgr (x i) (d i) w v (z i) k : ℝ) : EReal) :=
    (rd_vec _ _ 0 k).trans ((rd_sum0 _ _ k).trans (sum_v fun i => dgr_v x d w v z hD hZ hV i hX hW k))
  have h0 := (congrFun (rd_id P shapeCasts_S1x1024_S1x1024) (ix2 0 k)).trans (hP k)
  exact add_v h0 h1
include hG
theorem dx_v (k : Fin 1024) : bDx (F := Ideal) D X Z G W V (ix2 i k) = ((dxx (x i) g (d i) w v (z i) k : ℝ) : EReal) := by
  have hr := root_v (x i) i (hX i)
  have hg : ∀ k, broadcastTo S256x1024 G broadcasts_S1x1024_S256x1024 (ix2 i k) = ((g k : ℝ) : EReal) := fun k => (rd_bRow G broadcasts_S1x1024_S256x1024 i k).trans (hG k)
  have hdg := fun k => mul_v (dh_v d w v z hD hZ hV i hW k) (hg k)
  have hs : shapeCast S256x1 (multiReduction (F := Ideal) .add [1] S256 (mulf (mulf (k1_pay40 (F := Ideal) (bAcc D Z W V) (bGa1 D Z V) (bUp1 D Z V) (sh1 W) (sh3 W)) (broadcastTo S256x1024 G broadcasts_S1x1024_S256x1024)) X) 0x00000000#32 reduces_S256x1024_S256 (.inl rfl) rfl) shapeCasts_S256_S256x1 (ix2 i 0)
      = ((∑ k, dh (d i) w v (z i) k * g k * x i k : ℝ) : EReal) :=
    (rd_vcol _ _ i 0).trans ((rd_sum1 _ _ i).trans (sum_v fun k => mul_v (hdg k) (hX i k)))
  have hb := (rd_bCol (k1_pay41 (F := Ideal) X) broadcasts_S256x1_S256x1024 i k).trans hr
  have hb3 := (rd_bCol (mulf (mulf (k1_pay41 (F := Ideal) X) (k1_pay41 X)) (k1_pay41 X)) broadcasts_S256x1_S256x1024 i k).trans (mul_v (mul_v hr hr) hr)
  have hq := dvd_v hs
  have hbs := (rd_bCol (divf (shapeCast S256x1 (multiReduction (F := Ideal) .add [1] S256 (mulf (mulf (k1_pay40 (F := Ideal) (bAcc D Z W V) (bGa1 D Z V) (bUp1 D Z V) (sh1 W) (sh3 W)) (broadcastTo S256x1024 G broadcasts_S1x1024_S256x1024)) X) 0x00000000#32 reduces_S256x1024_S256 (.inl rfl) rfl) shapeCasts_S256_S256x1) (broadcast S256x1 (Scalar.ofBits (F := Ideal) .f32 0x44800000#32))) broadcasts_S256x1_S256x1024 i k).trans hq
  have h := add_v (hD i k) (sub_v (mul_v hb (hdg k)) (mul_v (mul_v (hX i k) hb3) hbs))
  exact h
end Bwd

/-- The up weights' gradient, one quarter. -/
theorem gw2_v {A : Vec Ideal S2048x1024 .bf16} {B : Vec Ideal S2048x1408 .bf16} (k : Fin 1024) (j : Fin 1408) {p q : Fin 2048 → ℝ}
    (hA : ∀ i, A (ix2 i k) = (p i : EReal)) (hB : ∀ i, B (ix2 i j) = (q i : EReal)) (a : Fin 1) :
    k2_pay1 (F := Ideal) A B (ix3 a k j) = ((∑ i, p i * q i : ℝ) : EReal) :=
  (rd_lead _ _ a k j).trans (tn_v (by decide) (shapeCast S2048x1024 A shapeCasts_S2048x1024_S2048x1024) (shapeCast S2048x1408 B shapeCasts_S2048x1408_S2048x1408) k j
    (fun i => (congrFun (rd_id A shapeCasts_S2048x1024_S2048x1024) (ix2 i k)).trans (hA i)) fun i => (congrFun (rd_id B shapeCasts_S2048x1408_S2048x1408) (ix2 i j)).trans (hB i))
/-- The down weights' gradient, one half. -/
theorem gw3_v {A : Vec Ideal S2048x1408 .bf16} {B : Vec Ideal S2048x1024 .bf16} (j : Fin 1408) (k : Fin 1024) {p q : Fin 2048 → ℝ}
    (hA : ∀ i, A (ix2 i j) = (p i : EReal)) (hB : ∀ i, B (ix2 i k) = (q i : EReal)) (a : Fin 1) :
    k3_pay1 (F := Ideal) A B (ix3 a j k) = ((∑ i, p i * q i : ℝ) : EReal) :=
  (rd_lead _ _ a j k).trans (tn_v (by decide) (shapeCast S2048x1408 A shapeCasts_S2048x1408_S2048x1408) (shapeCast S2048x1024 B shapeCasts_S2048x1024_S2048x1024) j k
    (fun i => (congrFun (rd_id A shapeCasts_S2048x1408_S2048x1408) (ix2 i j)).trans (hA i)) fun i => (congrFun (rd_id B shapeCasts_S2048x1024_S2048x1024) (ix2 i k)).trans (hB i))
end Cert.Ffn
end
-- ==== Proof.F0A.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fb

@[expose] public section

set_option maxRecDepth 16384

noncomputable section

/-! One point of the forward call, the first of the two cases. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at the first point: the weights are copied in, the block is computed. -/
theorem run0A (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .bf16) (harg6 : arg6.IsWhole) (arg7 : Memref sig .tc .vmem S256x5632 .bf16) (harg7 : arg7.IsWhole) (arg8 : Memref sig .tc .vmem S256x2816 .bf16) (harg8 : arg8.IsWhole) (arg9 : Memref sig .tc .vmem S4x1024x1408 .bf16) (harg9 : arg9.IsWhole) (arg10 : Memref sig .tc .vmem S2816x1024 .bf16) (harg10 : arg10.IsWhole) (hc0 : k0_cond1 i = 1#1) (hc1 : ¬ k0_cond2 i = 1#1)
    (x0 : Vec F S256x1024 .f32) (x1 : Vec F S1x1024 .f32) (w13 : Vec F S4x1024x1408 .bf16) (w2 : Vec F S2816x1024 .bf16) (W : Waits sig Unit) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt c hb13 w13 ∗ hbPt c hb2 w2 ∗ owes (c : Thread nD τ) 0 W
            ∗ (iprop(owns (c : Thread nD τ) arg1 fullShare x0 ∗ owns (c : Thread nD τ) arg2 fullShare x1 ∗ owns (c : Thread nD τ) arg5 fullShare (fY x0 x1 w13 w2) ∗ owns (c : Thread nD τ) arg6 fullShare (fH x0 x1) ∗ owns (c : Thread nD τ) arg7 fullShare (fGu x0 x1 w13) ∗ owns (c : Thread nD τ) arg8 fullShare (fAct x0 x1 w13) ∗ owns (c : Thread nD τ) arg9 fullShare w13 ∗ owns (c : Thread nD τ) arg10 fullShare w2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt c hb13 w13 ∗ hbPt c hb2 w2 ∗ (∃ W', owes (c : Thread nD τ) 0 W')) -∗ K ⟨⟩))
          ⊢ wp frame (wpE (defs₀ (F := F)) Variants.none c none) Set.univ (cc0_ffn_fwd i arg1 harg1 arg2 harg2 (Memref.whole main_v2) (Memref.isWhole_whole _) (Memref.whole main_v3) (Memref.isWhole_whole _) arg5 harg5 arg6 harg6 arg7 harg7 arg8 harg8 arg9 harg9 arg10 harg10 cc0_scratch2) K := by
    simp only [cc0_ffn_fwd_eq_skeleton]; unfold cc0_ffn_fwd_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hq0, Hq1, Hq2, Hq3, Hq4, Hq5, Hh0, Hh1, HW, Hk⟩
    obtain rfl := harg1.eq_unread hf0; obtain rfl := harg2.eq_unread hf1
    sl_exec (disch := first | sl_exact hc0 | sl_exact hc1)
    have hS := shards_whole hb13 w13 arg9 harg9 fs0 w13 rfl (fun _ => rfl) (fun _ => rfl) (fun _ => rfl) (fun _ => rfl) (run0A.sl.dma0 w13) (run0A.sl.dma0_3 w13) (run0A.sl.dma0_1 w13) (run0A.sl.dma0_4 w13) rfl rfl rfl rfl
    have hC := halves_whole hb2 w2 w2 rfl (fun _ => rfl) (fun _ => rfl) (run0A.sl.dma0_2 w2) (run0A.sl.dma0_5 w2) rfl rfl
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro; refine (View.read_writes_full _ _ _ _ _).trans ?_
      try delta run0A.sl.r run0A.sl.r_1 run0A.sl.r_2 run0A.sl.r_3 run0A.sl.r_4 run0A.sl.v67 run0A.sl.v70 run0A.sl.v107 run0A.sl.v110 run0A.sl.v92 run0A.sl.v132
      try dsimp only
      try simp only [hS]
      try simp only [readCov_g]
      try simp only [View.readCov_eq_canon', hC]
      try simp only [full_read, full_read_x, full_read_g]
      try simp only [box_read]
      rfl
    isplitl [H3]
    · iexists _; isplitr; swap; · iexact H3
      ipureintro; refine (View.read_writes_full _ _ _ _ _).trans ?_
      try delta run0A.sl.r run0A.sl.r_1 run0A.sl.r_2 run0A.sl.r_3 run0A.sl.r_4 run0A.sl.v67 run0A.sl.v70 run0A.sl.v107 run0A.sl.v110 run0A.sl.v92 run0A.sl.v132
      try dsimp only
      try simp only [hS]
      try simp only [readCov_g]
      try simp only [View.readCov_eq_canon', hC]
      try simp only [full_read, full_read_x, full_read_g]
      try simp only [box_read]
      rfl
    isplitl [H4]
    · iexists _; isplitr; swap; · iexact H4
      ipureintro; refine (View.read_writes_eq_canon _ _ _ (fun y => View.cover_of_tiledL (s := S256x5632) _ S256x1408.size (by sl_kernel_rfl) y)).trans ?_
      try delta run0A.sl.r run0A.sl.r_1 run0A.sl.r_2 run0A.sl.r_3 run0A.sl.r_4 run0A.sl.v67 run0A.sl.v70 run0A.sl.v107 run0A.sl.v110 run0A.sl.v92 run0A.sl.v132
      try dsimp only
      try simp only [hS]
      try simp only [readCov_g]
      try simp only [View.readCov_eq_canon', hC]
      try simp only [full_read, full_read_x, full_read_g]
      try simp only [box_read]
      rfl
    isplitl [H5]
    · iexists _; isplitr; swap; · iexact H5
      ipureintro; refine (View.read_writes_eq_canon _ _ _ (fun y => View.cover_of_tiledL (s := S256x2816) _ S256x1408.size (by sl_kernel_rfl) y)).trans ?_
      try delta run0A.sl.r run0A.sl.r_1 run0A.sl.r_2 run0A.sl.r_3 run0A.sl.r_4 run0A.sl.v67 run0A.sl.v70 run0A.sl.v107 run0A.sl.v110 run0A.sl.v92 run0A.sl.v132
      try dsimp only
      try simp only [hS]
      try simp only [readCov_g]
      try simp only [View.readCov_eq_canon', hC]
      try simp only [full_read, full_read_x, full_read_g]
      try simp only [box_read]
      rfl
    isplitl [HS0]
    · iexists _; isplitr; swap; · iexact HS0
      ipureintro; rw [hS]; exact harg9.read_unread _
    isplitl [HS1]
    · iexists _; isplitr; swap; · iexact HS1
      ipureintro; exact (View.read_writes_eq_canon _ _ _ (halves_cover _ _)).trans hC
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.Ffn
end
-- ==== Proof.F0B.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fb

@[expose] public section

set_option maxRecDepth 16384

noncomputable section

/-! One point of the forward call, the second of the two cases. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at a later point: the weights are there, the block is computed. -/
theorem run0B (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .bf16) (harg6 : arg6.IsWhole) (arg7 : Memref sig .tc .vmem S256x5632 .bf16) (harg7 : arg7.IsWhole) (arg8 : Memref sig .tc .vmem S256x2816 .bf16) (harg8 : arg8.IsWhole) (arg9 : Memref sig .tc .vmem S4x1024x1408 .bf16) (harg9 : arg9.IsWhole) (arg10 : Memref sig .tc .vmem S2816x1024 .bf16) (harg10 : arg10.IsWhole) (hc0 : ¬ k0_cond1 i = 1#1) (hc1 : k0_cond2 i = 1#1)
    (x0 : Vec F S256x1024 .f32) (x1 : Vec F S1x1024 .f32) (w13 : Vec F S4x1024x1408 .bf16) (w2 : Vec F S2816x1024 .bf16) (W : Waits sig Unit) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w13 ∗ owns (c : Thread nD τ) arg10 fullShare w2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt c hb13 w13 ∗ hbPt c hb2 w2 ∗ owes (c : Thread nD τ) 0 W
            ∗ (iprop(owns (c : Thread nD τ) arg1 fullShare x0 ∗ owns (c : Thread nD τ) arg2 fullShare x1 ∗ owns (c : Thread nD τ) arg5 fullShare (fY x0 x1 w13 w2) ∗ owns (c : Thread nD τ) arg6 fullShare (fH x0 x1) ∗ owns (c : Thread nD τ) arg7 fullShare (fGu x0 x1 w13) ∗ owns (c : Thread nD τ) arg8 fullShare (fAct x0 x1 w13) ∗ owns (c : Thread nD τ) arg9 fullShare w13 ∗ owns (c : Thread nD τ) arg10 fullShare w2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt c hb13 w13 ∗ hbPt c hb2 w2 ∗ (∃ W', owes (c : Thread nD τ) 0 W')) -∗ K ⟨⟩))
          ⊢ wp frame (wpE (defs₀ (F := F)) Variants.none c none) Set.univ (cc0_ffn_fwd i arg1 harg1 arg2 harg2 (Memref.whole main_v2) (Memref.isWhole_whole _) (Memref.whole main_v3) (Memref.isWhole_whole _) arg5 harg5 arg6 harg6 arg7 harg7 arg8 harg8 arg9 harg9 arg10 harg10 cc0_scratch2) K := by
    simp only [cc0_ffn_fwd_eq_skeleton]; unfold cc0_ffn_fwd_skel
    simp only [k0_part4_eq_skeleton, k0_part5_eq_skeleton, k0_part6_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hq0, Hq1, Hq2, Hq3, Hq4, Hq5, Hh0, Hh1, HW, Hk⟩
    obtain rfl := harg1.eq_unread hf0; obtain rfl := harg2.eq_unread hf1; obtain rfl := harg9.eq_unread hfs0; obtain rfl := harg10.eq_unread hfs1
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro; refine (View.read_writes_full _ _ _ _ _).trans ?_
      try delta run0B.sl.r run0B.sl.r_1 run0B.sl.r_2 run0B.sl.r_3 run0B.sl.r_4 run0B.sl.r_5 run0B.sl.r_6 run0B.sl.r_7 run0B.sl.cst_31 run0B.sl.cst_52
      try dsimp only
      try simp only [full_read, full_read_x, full_read_g]
      try simp only [box_read]
      rfl
    isplitl [H3]
    · iexists _; isplitr; swap; · iexact H3
      ipureintro; refine (View.read_writes_full _ _ _ _ _).trans ?_
      try delta run0B.sl.r run0B.sl.r_1 run0B.sl.r_2 run0B.sl.r_3 run0B.sl.r_4 run0B.sl.r_5 run0B.sl.r_6 run0B.sl.r_7 run0B.sl.cst_31 run0B.sl.cst_52
      try dsimp only
      try simp only [full_read, full_read_x, full_read_g]
      try simp only [box_read]
      rfl
    isplitl [H4]
    · iexists _; isplitr; swap; · iexact H4
      ipureintro; refine (View.read_writes_eq_canon _ _ _ (fun y => View.cover_of_tiledL (s := S256x5632) _ S256x1408.size (by sl_kernel_rfl) y)).trans ?_
      try delta run0B.sl.r run0B.sl.r_1 run0B.sl.r_2 run0B.sl.r_3 run0B.sl.r_4 run0B.sl.r_5 run0B.sl.r_6 run0B.sl.r_7 run0B.sl.cst_31 run0B.sl.cst_52
      try dsimp only
      try simp only [full_read, full_read_x, full_read_g]
      try simp only [box_read]
      rfl
    isplitl [H5]
    · iexists _; isplitr; swap; · iexact H5
      ipureintro; refine (View.read_writes_eq_canon _ _ _ (fun y => View.cover_of_tiledL (s := S256x2816) _ S256x1408.size (by sl_kernel_rfl) y)).trans ?_
      try delta run0B.sl.r run0B.sl.r_1 run0B.sl.r_2 run0B.sl.r_3 run0B.sl.r_4 run0B.sl.r_5 run0B.sl.r_6 run0B.sl.r_7 run0B.sl.cst_31 run0B.sl.cst_52
      try dsimp only
      try simp only [full_read, full_read_x, full_read_g]
      try simp only [box_read]
      rfl
    isplitl [HS0]
    · iexists _; isplitr; swap; · iexact HS0
      ipureintro; exact hfs0
    isplitl [HS1]
    · iexists _; isplitr; swap; · iexact HS1
      ipureintro; exact hfs1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.Ffn
end
-- ==== Proof.Fd0.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.F0A
public import proofs.«01_k».proof.Proof.F0B
@[expose] public section

set_option maxRecDepth 16384

noncomputable section

/-! What the pipeline of the forward pass hands its body and gets back, point by point. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem in0_0_of {c : Dev nD} (d : Dat τ (Elt F) Unit ℕ (Pipeline.UD sig nD τ) ℕ cfg0 c) (hA : d.A 0 = V c (Pipeline.arrRef spec0 0))
    (hl : ∀ t, d.after 0 t = blk0 V c 0 t) (t : Fin cfg0.N) (e) : d.before 0 t e = blk0 V c 0 t := by
  refine (d.before_in_eq_fetched 0 rfl (fun _ => rfl) (fun _ _ _ => rfl) (fun t => ?_) t e).trans ?_
  · rw [hl]; unfold Dat.blockOf blk0; rw [hA]; try rfl
  · unfold Dat.fetched Dat.blockOf blk0; rw [hA]; try rfl
theorem in0_1_of {c : Dev nD} (d : Dat τ (Elt F) Unit ℕ (Pipeline.UD sig nD τ) ℕ cfg0 c) (hA : d.A 1 = V c (Pipeline.arrRef spec0 1))
    (hl : ∀ t, d.after 1 t = blk0 V c 1 t) (t : Fin cfg0.N) (e) : d.before 1 t e = blk0 V c 1 t := by
  refine (d.before_in_eq_fetched 1 rfl (fun _ => rfl) (fun _ _ _ => rfl) (fun t => ?_) t e).trans ?_
  · rw [hl]; unfold Dat.blockOf blk0; rw [hA]; try rfl
  · unfold Dat.fetched Dat.blockOf blk0; rw [hA]; try rfl
theorem k0_cond1_iff : ∀ t : Fin cfg0.N, k0_cond1 (grid0.coords t) = 1#1 ↔ t.val = 0 :=
  (by decide +kernel : ∀ t : Fin grid0.N, k0_cond1 (grid0.coords t) = 1#1 ↔ t.val = 0)
theorem k0_cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The buffer of the gate and up weights. -/
abbrev scA0 : Memref sig .tc .vmem S4x1024x1408 .bf16 := Memref.whole cc0_scratch0
/-- The buffer of the down weights. -/
abbrev scB0 : Memref sig .tc .vmem S2816x1024 .bf16 := Memref.whole cc0_scratch1
/-- The six counters of the body's own copies. -/
abbrev own0 : Fin 6 → SemLoc sig := fun j => (![SemLoc.dma 11, SemLoc.dma 12, SemLoc.dma 13, SemLoc.dma 14, SemLoc.dma 15, SemLoc.dma 16] : Fin 6 → SemLoc sig) j
theorem own0_facts : Pipeline.OwnSemFacts spec0 own0 := by decide
theorem own0_list (c : Dev nD) : (Pipeline.ownSems0 (Ix := Unit) (Name := ℕ) (U := Pipeline.UD sig nD τ) (Lvl := ℕ) (Val := Elt F) (τ := τ) own0 c : sProp 𝕄)
    = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c own0 [0, 1, 2, 3, 4, 5] (by decide) (by decide)]; rfl
/-- The two weight buffers before point `n`: anything at first, then the weights. -/
def wts0 (c : Dev nD) (n : ℕ) : sProp 𝕄 :=
  if n = 0 then iprop((∃ d, owns (c : Thread nD τ) scA0 fullShare d) ∗ (∃ d, owns (c : Thread nD τ) scB0 fullShare d))
  else iprop(owns (c : Thread nD τ) scA0 fullShare (V c main_v2) ∗ owns (c : Thread nD τ) scB0 fullShare (V c main_v3))
/-- What the body keeps between points. -/
def inv0 (c : Dev nD) (n : ℕ) : sProp 𝕄 :=
  iprop(wts0 V c n ∗ (∃ r, prngReg c r) ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (hbPt c hb13 (V c main_v2) ∗ hbPt c hb2 (V c main_v3))
    ∗ Pipeline.scopedRestBut (Ix := Unit) (Name := ℕ) (U := Pipeline.UD sig nD τ) (Lvl := ℕ) (Val := Elt F) spec0 c [cc0_scratch0, cc0_scratch1])
theorem wts0_zero (c : Dev nD) {n : ℕ} (h : n = 0) : wts0 V c n
    = iprop((∃ d, owns (c : Thread nD τ) scA0 fullShare d) ∗ (∃ d, owns (c : Thread nD τ) scB0 fullShare d)) := by unfold wts0; rw [if_pos h]
theorem wts0_pos (c : Dev nD) {n : ℕ} (h : n ≠ 0) : wts0 V c n
    = iprop(owns (c : Thread nD τ) scA0 fullShare (V c main_v2) ∗ owns (c : Thread nD τ) scB0 fullShare (V c main_v3)) := by unfold wts0; rw [if_neg h]

/-- The pipeline's account on core `c`. -/
def fd0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => fY (blk0 V c 0 t) (blk0 V c 1 t) (V c main_v2) (V c main_v3)
    | ⟨3, _⟩ => fH (blk0 V c 0 t) (blk0 V c 1 t)
    | ⟨4, _⟩ => fGu (blk0 V c 0 t) (blk0 V c 1 t) (V c main_v2)
    | ⟨5, _⟩ => fAct (blk0 V c 0 t) (blk0 V c 1 t) (V c main_v2)
  Φ t := inv0 V c t.val
  q _ := fullShare
  owed _ := 0
theorem fd0_A (c : Dev nD) (w : Fin cfg0.W) : (fd0 V c).A w = V c (Pipeline.arrRef spec0 w) := by dsimp only [fd0]
theorem fd0_0 (c : Dev nD) (t : Fin cfg0.N) : (fd0 V c).after 0 t = blk0 V c 0 t := by dsimp only [fd0]
theorem fd0_1 (c : Dev nD) (t : Fin cfg0.N) : (fd0 V c).after 1 t = blk0 V c 1 t := by dsimp only [fd0]
theorem fd0_2 (c : Dev nD) (t : Fin cfg0.N) : (fd0 V c).after 2 t = fY (blk0 V c 0 t) (blk0 V c 1 t) (V c main_v2) (V c main_v3) := by dsimp only [fd0]
theorem fd0_3 (c : Dev nD) (t : Fin cfg0.N) : (fd0 V c).after 3 t = fH (blk0 V c 0 t) (blk0 V c 1 t) := by dsimp only [fd0]
theorem fd0_4 (c : Dev nD) (t : Fin cfg0.N) : (fd0 V c).after 4 t = fGu (blk0 V c 0 t) (blk0 V c 1 t) (V c main_v2) := by dsimp only [fd0]
theorem fd0_5 (c : Dev nD) (t : Fin cfg0.N) : (fd0 V c).after 5 t = fAct (blk0 V c 0 t) (blk0 V c 1 t) (V c main_v2) := by dsimp only [fd0]
theorem in0_0 (c : Dev nD) (t : Fin cfg0.N) (e) : (fd0 V c).before 0 t e = blk0 V c 0 t :=
  in0_0_of V (fd0 V c) (fd0_A V c 0) (fd0_0 V c) t e
theorem in0_1 (c : Dev nD) (t : Fin cfg0.N) (e) : (fd0 V c).before 1 t e = blk0 V c 1 t :=
  in0_1_of V (fd0 V c) (fd0_A V c 1) (fd0_1 V c) t e
theorem lv0_0 (c : Dev nD) (t : Fin cfg0.N) : (fd0 V c).leavesExact 0 t = owns (c : Thread nD τ) (st0_0 t) fullShare ((fd0 V c).after 0 t) := by
  unfold Dat.leavesExact; rw [(by decide +kernel : ∀ t : Fin grid0.N, cfg0.idle 0 (grid0.coords t) = false) t]
theorem lv0_1 (c : Dev nD) (t : Fin cfg0.N) : (fd0 V c).leavesExact 1 t = owns (c : Thread nD τ) (st0_1 t) fullShare ((fd0 V c).after 1 t) := by
  unfold Dat.leavesExact; rw [(by decide +kernel : ∀ t : Fin grid0.N, cfg0.idle 1 (grid0.coords t) = false) t]
theorem lv0_2 (c : Dev nD) (t : Fin cfg0.N) : (fd0 V c).leavesExact 2 t = owns (c : Thread nD τ) (st0_2 t) fullShare ((fd0 V c).after 2 t) := by
  unfold Dat.leavesExact; rw [(by decide +kernel : ∀ t : Fin grid0.N, cfg0.idle 2 (grid0.coords t) = false) t]
theorem lv0_3 (c : Dev nD) (t : Fin cfg0.N) : (fd0 V c).leavesExact 3 t = owns (c : Thread nD τ) (st0_3 t) fullShare ((fd0 V c).after 3 t) := by
  unfold Dat.leavesExact; rw [(by decide +kernel : ∀ t : Fin grid0.N, cfg0.idle 3 (grid0.coords t) = false) t]
theorem lv0_4 (c : Dev nD) (t : Fin cfg0.N) : (fd0 V c).leavesExact 4 t = owns (c : Thread nD τ) (st0_4 t) fullShare ((fd0 V c).after 4 t) := by
  unfold Dat.leavesExact; rw [(by decide +kernel : ∀ t : Fin grid0.N, cfg0.idle 4 (grid0.coords t) = false) t]
theorem lv0_5 (c : Dev nD) (t : Fin cfg0.N) : (fd0 V c).leavesExact 5 t = owns (c : Thread nD τ) (st0_5 t) fullShare ((fd0 V c).after 5 t) := by
  unfold Dat.leavesExact; rw [(by decide +kernel : ∀ t : Fin grid0.N, cfg0.idle 5 (grid0.coords t) = false) t]

/-- What the body is entered with at point `t`. -/
def pre0 (c : Dev nD) (t : Fin cfg0.N) : sProp 𝕄 :=
  iprop((fd0 V c).Φ t.castSucc ∗ (fd0 V c).owesAt () t.castSucc
    ∗ (∃ d, owns (c : Thread nD τ) (st0_0 t) fullShare ((fd0 V c).before 0 t d))
    ∗ (∃ d, owns (c : Thread nD τ) (st0_1 t) fullShare ((fd0 V c).before 1 t d))
    ∗ (∃ d, owns (c : Thread nD τ) (st0_2 t) fullShare ((fd0 V c).before 2 t d))
    ∗ (∃ d, owns (c : Thread nD τ) (st0_3 t) fullShare ((fd0 V c).before 3 t d))
    ∗ (∃ d, owns (c : Thread nD τ) (st0_4 t) fullShare ((fd0 V c).before 4 t d))
    ∗ (∃ d, owns (c : Thread nD τ) (st0_5 t) fullShare ((fd0 V c).before 5 t d)))
/-- What the body leaves at point `t`. -/
def post0 (c : Dev nD) (t : Fin cfg0.N) : sProp 𝕄 :=
  iprop((fd0 V c).Φ t.succ ∗ (fd0 V c).owesAt () t.succ
    ∗ (fd0 V c).leavesExact 0 t
    ∗ (fd0 V c).leavesExact 1 t
    ∗ (fd0 V c).leavesExact 2 t
    ∗ (fd0 V c).leavesExact 3 t
    ∗ (fd0 V c).leavesExact 4 t
    ∗ (fd0 V c).leavesExact 5 t)

set_option maxHeartbeats 1600000 in
/-- The body at any point. -/
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [in0_0, in0_1]
  rw [show (fd0 V c).Φ t.castSucc = inv0 V c t.val from rfl, show (fd0 V c).Φ t.succ = inv0 V c (t.val + 1) from rfl,
    lv0_0, fd0_0, lv0_1, fd0_1, lv0_2, fd0_2, lv0_3, fd0_3, lv0_4, fd0_4, lv0_5, fd0_5]
  unfold inv0 Dat.owesAt Pipeline.owesWithin
  rw [show (fd0 V c).owed t.castSucc = 0 from rfl, show (fd0 V c).owed t.succ = 0 from rfl]
  by_cases h0 : t.val = 0
  · rw [wts0_zero V c h0, wts0_pos V c (Nat.succ_ne_zero t.val)]
    iintro ⟨⟨⟨HS0, HS1⟩, Hg, ⟨Hq0, Hq1, Hq2, Hq3, Hq4, Hq5⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩⟩
    iapply ((run0A c (grid0.coords t) _ _ _ _ _ _ _ _ _ _ _ _ _ _ _ _ ((k0_cond1_iff t).mpr h0) (fun h => ((k0_cond2_iff t).mp h) h0) (blk0 V c 0 t) (blk0 V c 1 t) (V c main_v2) (V c main_v3)) W _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, HS0, HS1, Hq0, Hq1, Hq2, Hq3, Hq4, Hq5, Hh0, Hh1, ⟨%W2, HW⟩⟩
    isplitl [HS0 HS1 Hg Hq0 Hq1 Hq2 Hq3 Hq4 Hq5 Hh0 Hh1 Hr]
    · isplitl [HS0 HS1]
      · isplitl [HS0] <;> iassumption
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0 Hh1]
      · isplitl [Hh0] <;> iassumption
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · rw [wts0_pos V c h0, wts0_pos V c (Nat.succ_ne_zero t.val)]
    iintro ⟨⟨⟨HS0, HS1⟩, Hg, ⟨Hq0, Hq1, Hq2, Hq3, Hq4, Hq5⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩⟩
    iapply ((run0B c (grid0.coords t) _ _ _ _ _ _ _ _ _ _ _ _ _ _ _ _ (fun h => h0 ((k0_cond1_iff t).mp h)) ((k0_cond2_iff t).mpr h0) (blk0 V c 0 t) (blk0 V c 1 t) (V c main_v2) (V c main_v3)) W _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, HS0, HS1, Hq0, Hq1, Hq2, Hq3, Hq4, Hq5, Hh0, Hh1, ⟨%W2, HW⟩⟩
    isplitl [HS0 HS1 Hg Hq0 Hq1 Hq2 Hq3 Hq4 Hq5 Hh0 Hh1 Hr]
    · isplitl [HS0 HS1]
      · isplitl [HS0] <;> iassumption
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0 Hh1]
      · isplitl [Hh0] <;> iassumption
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem row0 (t : Fin cfg0.N) : defs₀ (F := F) .tc cfg0.body (cfg0.bodyArgs t (cfg0.slots t)) = bodyAt0 t := by
  unfold defs₀; rw [Defs.onTc_tc]
theorem body0 (c : Dev nD) : BodyObligation (fd0 (F := F) V c) (defs₀ (F := F)) Variants.none () Set.univ := fun t => by
  rw [bigSep_W0, bigSep_W0, row0]
  exact triple_restated (step0 V c t) rfl .rfl fun _ => .rfl
end
end Cert.Ffn
end
-- ==== Proof.F1A.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fb

@[expose] public section

set_option maxRecDepth 16384

noncomputable section

/-! One point of the backward call, the first of the two cases. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at the first point: the weights are copied in, the block is computed. -/
theorem run1A (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S1x1024 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4x1024x1408 .bf16) (harg12 : arg12.IsWhole) (arg13 : Memref sig .tc .vmem S2816x1024 .bf16) (harg13 : arg13.IsWhole) (hc0 : k1_cond1 i = 1#1) (hc1 : k1_cond2 i = 1#1) (hc2 : ¬ k1_cond3 i = 1#1)
    (x0 : Vec F S256x1024 .f32) (x1 : Vec F S256x1024 .f32) (x2 : Vec F S256x5632 .bf16) (x3 : Vec F S1x1024 .f32) (w13 : Vec F S4x1024x1408 .bf16) (w2 : Vec F S2816x1024 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ hbPt c hb13 w13 ∗ hbPt c hb2 w2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (bDx x0 x1 x2 x3 w13 w2) ∗ owns (c : Thread nD τ) arg8 fullShare (bDgu x0 x2 w2) ∗ owns (c : Thread nD τ) arg9 fullShare (bDg x0 x1 x2 w13 w2 k1_pay1) ∗ owns (c : Thread nD τ) arg10 fullShare (bDyh x0) ∗ owns (c : Thread nD τ) arg11 fullShare (bDxb x0 x1 x2 x3 w13 w2) ∗ owns (c : Thread nD τ) arg12 fullShare w13 ∗ owns (c : Thread nD τ) arg13 fullShare w2 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ hbPt c hb13 w13 ∗ hbPt c hb2 w2 ∗ (∃ W', owes (c : Thread nD τ) 0 W')) -∗ K ⟨⟩))
          ⊢ wp frame (wpE (defs₀ (F := F)) Variants.none c none) Set.univ (cc1_ffn_bwd i arg1 harg1 arg2 harg2 arg3 harg3 arg4 harg4 (Memref.whole main_v2) (Memref.isWhole_whole _) (Memref.whole main_v3) (Memref.isWhole_whole _) arg7 harg7 arg8 harg8 arg9 harg9 arg10 harg10 arg11 harg11 arg12 harg12 arg13 harg13 cc1_scratch2) K := by
    simp only [cc1_ffn_bwd_eq_skeleton]; unfold cc1_ffn_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hq0, Hq1, Hq2, Hq3, Hq4, Hq5, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    have hS := shards_whole hb13 w13 arg12 harg12 fs0 w13 rfl (fun _ => rfl) (fun _ => rfl) (fun _ => rfl) (fun _ => rfl) (run1A.sl.dma2_1 w13) (run1A.sl.dma2_4 w13) (run1A.sl.dma2_2 w13) (run1A.sl.dma2_5 w13) rfl rfl rfl rfl
    have hC := halves_whole hb2 w2 w2 rfl (fun _ => rfl) (fun _ => rfl) (run1A.sl.dma2 w2) (run1A.sl.dma2_3 w2) rfl rfl
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; refine (View.read_writes_full _ _ _ _ _).trans ?_
      try delta run1A.sl.r run1A.sl.r_1 run1A.sl.r_2 run1A.sl.r_3 run1A.sl.r_4 run1A.sl.r_5 run1A.sl.r_6 run1A.sl.r_7 run1A.sl.r_8 run1A.sl.r_9 run1A.sl.r_10 run1A.sl.v51 run1A.sl.v92 run1A.sl.v96 run1A.sl.v145 run1A.sl.v149 run1A.sl.v104 run1A.sl.v186 run1A.sl.H6_1
      try dsimp only
      try simp only [hS]
      try simp only [readCov_g]
      try simp only [View.readCov_eq_canon', hC]
      try simp only [full_read, full_read_x, full_read_g]
      try simp only [box_read]
      rfl
    isplitl [H5]
    · iexists _; isplitr; swap; · iexact H5
      ipureintro; refine (View.read_writes_eq_canon _ _ _ (fun y => View.cover_of_tiledL (s := S256x5632) _ S256x1408.size (by sl_kernel_rfl) y)).trans ?_
      try delta run1A.sl.r run1A.sl.r_1 run1A.sl.r_2 run1A.sl.r_3 run1A.sl.r_4 run1A.sl.r_5 run1A.sl.r_6 run1A.sl.r_7 run1A.sl.r_8 run1A.sl.r_9 run1A.sl.r_10 run1A.sl.v51 run1A.sl.v92 run1A.sl.v96 run1A.sl.v145 run1A.sl.v149 run1A.sl.v104 run1A.sl.v186 run1A.sl.H6_1
      try dsimp only
      try simp only [hS]
      try simp only [readCov_g]
      try simp only [View.readCov_eq_canon', hC]
      try simp only [full_read, full_read_x, full_read_g]
      try simp only [box_read]
      rfl
    isplitl [H6]
    · iexists _; isplitr; swap; · iexact H6
      ipureintro; refine (View.read_writes_full _ _ _ _ _).trans ?_
      try delta run1A.sl.r run1A.sl.r_1 run1A.sl.r_2 run1A.sl.r_3 run1A.sl.r_4 run1A.sl.r_5 run1A.sl.r_6 run1A.sl.r_7 run1A.sl.r_8 run1A.sl.r_9 run1A.sl.r_10 run1A.sl.v51 run1A.sl.v92 run1A.sl.v96 run1A.sl.v145 run1A.sl.v149 run1A.sl.v104 run1A.sl.v186 run1A.sl.H6_1
      try dsimp only
      try simp only [hS]
      try simp only [readCov_g]
      try simp only [View.readCov_eq_canon', hC]
      try simp only [full_read, full_read_x, full_read_g]
      try simp only [box_read]
      rfl
    isplitl [H7]
    · iexists _; isplitr; swap; · iexact H7
      ipureintro; refine (View.read_writes_full _ _ _ _ _).trans ?_
      try delta run1A.sl.r run1A.sl.r_1 run1A.sl.r_2 run1A.sl.r_3 run1A.sl.r_4 run1A.sl.r_5 run1A.sl.r_6 run1A.sl.r_7 run1A.sl.r_8 run1A.sl.r_9 run1A.sl.r_10 run1A.sl.v51 run1A.sl.v92 run1A.sl.v96 run1A.sl.v145 run1A.sl.v149 run1A.sl.v104 run1A.sl.v186 run1A.sl.H6_1
      try dsimp only
      try simp only [hS]
      try simp only [readCov_g]
      try simp only [View.readCov_eq_canon', hC]
      try simp only [full_read, full_read_x, full_read_g]
      try simp only [box_read]
      rfl
    isplitl [H8]
    · iexists _; isplitr; swap; · iexact H8
      ipureintro; refine (View.read_writes_full _ _ _ _ _).trans ?_
      try delta run1A.sl.r run1A.sl.r_1 run1A.sl.r_2 run1A.sl.r_3 run1A.sl.r_4 run1A.sl.r_5 run1A.sl.r_6 run1A.sl.r_7 run1A.sl.r_8 run1A.sl.r_9 run1A.sl.r_10 run1A.sl.v51 run1A.sl.v92 run1A.sl.v96 run1A.sl.v145 run1A.sl.v149 run1A.sl.v104 run1A.sl.v186 run1A.sl.H6_1
      try dsimp only
      try simp only [hS]
      try simp only [readCov_g]
      try simp only [View.readCov_eq_canon', hC]
      try simp only [full_read, full_read_x, full_read_g]
      try simp only [box_read]
      rfl
    isplitl [HS0]
    · iexists _; isplitr; swap; · iexact HS0
      ipureintro; rw [hS]; exact harg12.read_unread _
    isplitl [HS1]
    · iexists _; isplitr; swap; · iexact HS1
      ipureintro; exact (View.read_writes_eq_canon _ _ _ (halves_cover _ _)).trans hC
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.Ffn
end
-- ==== Proof.F1B.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fb

@[expose] public section

set_option maxRecDepth 16384

noncomputable section

/-! One point of the backward call, the second of the two cases. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at a later point: the weights are there, the block is computed. -/
theorem run1B (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S1x1024 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4x1024x1408 .bf16) (harg12 : arg12.IsWhole) (arg13 : Memref sig .tc .vmem S2816x1024 .bf16) (harg13 : arg13.IsWhole) (hc0 : ¬ k1_cond1 i = 1#1) (hc1 : ¬ k1_cond2 i = 1#1) (hc2 : k1_cond3 i = 1#1)
    (x0 : Vec F S256x1024 .f32) (x1 : Vec F S256x1024 .f32) (x2 : Vec F S256x5632 .bf16) (x3 : Vec F S1x1024 .f32) (xg : Vec F S1x1024 .f32) (w13 : Vec F S4x1024x1408 .bf16) (w2 : Vec F S2816x1024 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ owns (c : Thread nD τ) arg9 fullShare xg ∗ (∃ d, owns (c : Thread nD τ) arg10 fullShare d) ∗ (∃ d, owns (c : Thread nD τ) arg11 fullShare d) ∗ owns (c : Thread nD τ) arg12 fullShare w13 ∗ owns (c : Thread nD τ) arg13 fullShare w2 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ hbPt c hb13 w13 ∗ hbPt c hb2 w2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (bDx x0 x1 x2 x3 w13 w2) ∗ owns (c : Thread nD τ) arg8 fullShare (bDgu x0 x2 w2) ∗ owns (c : Thread nD τ) arg9 fullShare (bDg x0 x1 x2 w13 w2 xg) ∗ owns (c : Thread nD τ) arg10 fullShare (bDyh x0) ∗ owns (c : Thread nD τ) arg11 fullShare (bDxb x0 x1 x2 x3 w13 w2) ∗ owns (c : Thread nD τ) arg12 fullShare w13 ∗ owns (c : Thread nD τ) arg13 fullShare w2 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ hbPt c hb13 w13 ∗ hbPt c hb2 w2 ∗ (∃ W', owes (c : Thread nD τ) 0 W')) -∗ K ⟨⟩))
          ⊢ wp frame (wpE (defs₀ (F := F)) Variants.none c none) Set.univ (cc1_ffn_bwd i arg1 harg1 arg2 harg2 arg3 harg3 arg4 harg4 (Memref.whole main_v2) (Memref.isWhole_whole _) (Memref.whole main_v3) (Memref.isWhole_whole _) arg7 harg7 arg8 harg8 arg9 harg9 arg10 harg10 arg11 harg11 arg12 harg12 arg13 harg13 cc1_scratch2) K := by
    simp only [cc1_ffn_bwd_eq_skeleton]; unfold cc1_ffn_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hfg, H6⟩, ⟨%d7, %f7, -, H7⟩, ⟨%d8, %f8, -, H8⟩, ⟨%fs0, %hfs0, HS0⟩, ⟨%fs1, %hfs1, HS1⟩, Hq0, Hq1, Hq2, Hq3, Hq4, Hq5, Hh0, Hh1, HW, Hk⟩
    obtain rfl := harg1.eq_unread hf0; obtain rfl := harg2.eq_unread hf1; obtain rfl := harg3.eq_unread hf2; obtain rfl := harg4.eq_unread hf3; obtain rfl := harg9.eq_unread hfg; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; refine (View.read_writes_full _ _ _ _ _).trans ?_
      try delta run1B.sl.r run1B.sl.r_1 run1B.sl.r_2 run1B.sl.r_3 run1B.sl.r_4 run1B.sl.r_5 run1B.sl.r_6 run1B.sl.r_7 run1B.sl.r_8
      try dsimp only
      try simp only [full_read, full_read_x, full_read_g]
      try simp only [box_read]
      rfl
    isplitl [H5]
    · iexists _; isplitr; swap; · iexact H5
      ipureintro; refine (View.read_writes_eq_canon _ _ _ (fun y => View.cover_of_tiledL (s := S256x5632) _ S256x1408.size (by sl_kernel_rfl) y)).trans ?_
      try delta run1B.sl.r run1B.sl.r_1 run1B.sl.r_2 run1B.sl.r_3 run1B.sl.r_4 run1B.sl.r_5 run1B.sl.r_6 run1B.sl.r_7 run1B.sl.r_8
      try dsimp only
      try simp only [full_read, full_read_x, full_read_g]
      try simp only [box_read]
      rfl
    isplitl [H6]
    · iexists _; isplitr; swap; · iexact H6
      ipureintro; refine (View.read_writes_full _ _ _ _ _).trans ?_
      try delta run1B.sl.r run1B.sl.r_1 run1B.sl.r_2 run1B.sl.r_3 run1B.sl.r_4 run1B.sl.r_5 run1B.sl.r_6 run1B.sl.r_7 run1B.sl.r_8
      try dsimp only
      try simp only [full_read, full_read_x, full_read_g]
      try simp only [box_read]
      rfl
    isplitl [H7]
    · iexists _; isplitr; swap; · iexact H7
      ipureintro; refine (View.read_writes_full _ _ _ _ _).trans ?_
      try delta run1B.sl.r run1B.sl.r_1 run1B.sl.r_2 run1B.sl.r_3 run1B.sl.r_4 run1B.sl.r_5 run1B.sl.r_6 run1B.sl.r_7 run1B.sl.r_8
      try dsimp only
      try simp only [full_read, full_read_x, full_read_g]
      try simp only [box_read]
      rfl
    isplitl [H8]
    · iexists _; isplitr; swap; · iexact H8
      ipureintro; refine (View.read_writes_full _ _ _ _ _).trans ?_
      try delta run1B.sl.r run1B.sl.r_1 run1B.sl.r_2 run1B.sl.r_3 run1B.sl.r_4 run1B.sl.r_5 run1B.sl.r_6 run1B.sl.r_7 run1B.sl.r_8
      try dsimp only
      try simp only [full_read, full_read_x, full_read_g]
      try simp only [box_read]
      rfl
    isplitl [HS0]
    · iexists _; isplitr; swap; · iexact HS0
      ipureintro; exact hfs0
    isplitl [HS1]
    · iexists _; isplitr; swap; · iexact HS1
      ipureintro; exact hfs1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.Ffn
end
-- ==== Proof.Fd1.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.F1A
public import proofs.«01_k».proof.Proof.F1B
@[expose] public section

set_option maxRecDepth 16384

noncomputable section

/-! What the pipeline of the backward pass hands its body and gets back, point by point. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem in1_0_of {c : Dev nD} (d : Dat τ (Elt F) Unit ℕ (Pipeline.UD sig nD τ) ℕ cfg1 c) (hA : d.A 0 = V c (Pipeline.arrRef spec1 0))
    (hl : ∀ t, d.after 0 t = blk1 V c 0 t) (t : Fin cfg1.N) (e) : d.before 0 t e = blk1 V c 0 t := by
  refine (d.before_in_eq_fetched 0 rfl (fun _ => rfl) (fun _ _ _ => rfl) (fun t => ?_) t e).trans ?_
  · rw [hl]; unfold Dat.blockOf blk1; rw [hA]; try rfl
  · unfold Dat.fetched Dat.blockOf blk1; rw [hA]; try rfl
theorem in1_1_of {c : Dev nD} (d : Dat τ (Elt F) Unit ℕ (Pipeline.UD sig nD τ) ℕ cfg1 c) (hA : d.A 1 = V c (Pipeline.arrRef spec1 1))
    (hl : ∀ t, d.after 1 t = blk1 V c 1 t) (t : Fin cfg1.N) (e) : d.before 1 t e = blk1 V c 1 t := by
  refine (d.before_in_eq_fetched 1 rfl (fun _ => rfl) (fun _ _ _ => rfl) (fun t => ?_) t e).trans ?_
  · rw [hl]; unfold Dat.blockOf blk1; rw [hA]; try rfl
  · unfold Dat.fetched Dat.blockOf blk1; rw [hA]; try rfl
theorem in1_2_of {c : Dev nD} (d : Dat τ (Elt F) Unit ℕ (Pipeline.UD sig nD τ) ℕ cfg1 c) (hA : d.A 2 = V c (Pipeline.arrRef spec1 2))
    (hl : ∀ t, d.after 2 t = blk1 V c 2 t) (t : Fin cfg1.N) (e) : d.before 2 t e = blk1 V c 2 t := by
  refine (d.before_in_eq_fetched 2 rfl (fun _ => rfl) (fun _ _ _ => rfl) (fun t => ?_) t e).trans ?_
  · rw [hl]; unfold Dat.blockOf blk1; rw [hA]; try rfl
  · unfold Dat.fetched Dat.blockOf blk1; rw [hA]; try rfl
theorem in1_3_of {c : Dev nD} (d : Dat τ (Elt F) Unit ℕ (Pipeline.UD sig nD τ) ℕ cfg1 c) (hA : d.A 3 = V c (Pipeline.arrRef spec1 3))
    (hl : ∀ t, d.after 3 t = blk1 V c 3 t) (t : Fin cfg1.N) (e) : d.before 3 t e = blk1 V c 3 t := by
  refine (d.before_in_eq_fetched 3 rfl (fun _ => rfl) (fun _ _ _ => rfl) (fun t => ?_) t e).trans ?_
  · rw [hl]; unfold Dat.blockOf blk1; rw [hA]; try rfl
  · unfold Dat.fetched Dat.blockOf blk1; rw [hA]; try rfl
theorem k1_cond1_iff : ∀ t : Fin cfg1.N, k1_cond1 (grid1.coords t) = 1#1 ↔ t.val = 0 :=
  (by decide +kernel : ∀ t : Fin grid1.N, k1_cond1 (grid1.coords t) = 1#1 ↔ t.val = 0)
theorem k1_cond2_iff : ∀ t : Fin cfg1.N, k1_cond2 (grid1.coords t) = 1#1 ↔ t.val = 0 :=
  (by decide +kernel : ∀ t : Fin grid1.N, k1_cond2 (grid1.coords t) = 1#1 ↔ t.val = 0)
theorem k1_cond3_iff : ∀ t : Fin cfg1.N, k1_cond3 (grid1.coords t) = 1#1 ↔ t.val ≠ 0 :=
  (by decide +kernel : ∀ t : Fin grid1.N, k1_cond3 (grid1.coords t) = 1#1 ↔ t.val ≠ 0)

/-- The buffer of the gate and up weights. -/
abbrev scA1 : Memref sig .tc .vmem S4x1024x1408 .bf16 := Memref.whole cc1_scratch0
/-- The buffer of the down weights. -/
abbrev scB1 : Memref sig .tc .vmem S2816x1024 .bf16 := Memref.whole cc1_scratch1
/-- The six counters of the body's own copies. -/
abbrev own1 : Fin 6 → SemLoc sig := fun j => (![SemLoc.dma 33, SemLoc.dma 34, SemLoc.dma 35, SemLoc.dma 36, SemLoc.dma 37, SemLoc.dma 38] : Fin 6 → SemLoc sig) j
theorem own1_facts : Pipeline.OwnSemFacts spec1 own1 := by decide
theorem own1_list (c : Dev nD) : (Pipeline.ownSems0 (Ix := Unit) (Name := ℕ) (U := Pipeline.UD sig nD τ) (Lvl := ℕ) (Val := Elt F) (τ := τ) own1 c : sProp 𝕄)
    = iprop(semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c own1 [0, 1, 2, 3, 4, 5] (by decide) (by decide)]; rfl
/-- The two weight buffers before point `n`: anything at first, then the weights. -/
def wts1 (c : Dev nD) (n : ℕ) : sProp 𝕄 :=
  if n = 0 then iprop((∃ d, owns (c : Thread nD τ) scA1 fullShare d) ∗ (∃ d, owns (c : Thread nD τ) scB1 fullShare d))
  else iprop(owns (c : Thread nD τ) scA1 fullShare (V c main_v2) ∗ owns (c : Thread nD τ) scB1 fullShare (V c main_v3))
/-- What the body keeps between points. -/
def inv1 (c : Dev nD) (n : ℕ) : sProp 𝕄 :=
  iprop(wts1 V c n ∗ (∃ r, prngReg c r) ∗ (semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) ∗ (hbPt c hb13 (V c main_v2) ∗ hbPt c hb2 (V c main_v3))
    ∗ Pipeline.scopedRestBut (Ix := Unit) (Name := ℕ) (U := Pipeline.UD sig nD τ) (Lvl := ℕ) (Val := Elt F) spec1 c [cc1_scratch0, cc1_scratch1])
theorem wts1_zero (c : Dev nD) {n : ℕ} (h : n = 0) : wts1 V c n
    = iprop((∃ d, owns (c : Thread nD τ) scA1 fullShare d) ∗ (∃ d, owns (c : Thread nD τ) scB1 fullShare d)) := by unfold wts1; rw [if_pos h]
theorem wts1_pos (c : Dev nD) {n : ℕ} (h : n ≠ 0) : wts1 V c n
    = iprop(owns (c : Thread nD τ) scA1 fullShare (V c main_v2) ∗ owns (c : Thread nD τ) scB1 fullShare (V c main_v3)) := by unfold wts1; rw [if_neg h]

/-- Point `n`, as a point of the grid. -/
def pt1 (n : ℕ) : Fin cfg1.N := ⟨min n 7, lt_of_lt_of_eq (lt_of_le_of_lt (min_le_right n 7) (by decide : 7 < 8)) N_1.symm⟩
theorem pt1_val (t : Fin cfg1.N) : pt1 t.val = t := Fin.ext (min_eq_left (Nat.le_of_lt_succ (lt_of_lt_of_eq t.isLt N_1)))
/-- The gain's gradient after point `n`: the sum of the rows' shares so far. -/
def dg1 (c : Dev nD) : ℕ → Vec F S1x1024 .f32
  | 0 => bDg (blk1 V c 0 (pt1 0)) (blk1 V c 1 (pt1 0)) (blk1 V c 2 (pt1 0)) (V c main_v2) (V c main_v3) k1_pay1
  | n + 1 => bDg (blk1 V c 0 (pt1 (n + 1))) (blk1 V c 1 (pt1 (n + 1))) (blk1 V c 2 (pt1 (n + 1))) (V c main_v2) (V c main_v3) (dg1 c n)
theorem dg1_first (c : Dev nD) (t : Fin cfg1.N) (h : t.val = 0) : dg1 V c t.val
    = bDg (blk1 V c 0 t) (blk1 V c 1 t) (blk1 V c 2 t) (V c main_v2) (V c main_v3) k1_pay1 := by
  obtain rfl : pt1 0 = t := by rw [← h]; exact pt1_val t
  rfl
theorem dg1_next (c : Dev nD) (t : Fin cfg1.N) (h : t.val ≠ 0) : dg1 V c t.val
    = bDg (blk1 V c 0 t) (blk1 V c 1 t) (blk1 V c 2 t) (V c main_v2) (V c main_v3) (dg1 V c (t.val - 1)) := by
  obtain ⟨n, hn⟩ := Nat.exists_eq_succ_of_ne_zero h
  have e := pt1_val t
  rw [hn] at e ⊢
  rw [← e]; rfl

/-- The pipeline's account on core `c`. -/
def fd1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => bDx (blk1 V c 0 t) (blk1 V c 1 t) (blk1 V c 2 t) (blk1 V c 3 t) (V c main_v2) (V c main_v3)
    | ⟨5, _⟩ => bDgu (blk1 V c 0 t) (blk1 V c 2 t) (V c main_v3)
    | ⟨6, _⟩ => dg1 V c t.val
    | ⟨7, _⟩ => bDyh (blk1 V c 0 t)
    | ⟨8, _⟩ => bDxb (blk1 V c 0 t) (blk1 V c 1 t) (blk1 V c 2 t) (blk1 V c 3 t) (V c main_v2) (V c main_v3)
  Φ t := inv1 V c t.val
  q _ := fullShare
  owed _ := 0
theorem fd1_A (c : Dev nD) (w : Fin cfg1.W) : (fd1 V c).A w = V c (Pipeline.arrRef spec1 w) := by dsimp only [fd1]
theorem fd1_0 (c : Dev nD) (t : Fin cfg1.N) : (fd1 V c).after 0 t = blk1 V c 0 t := by dsimp only [fd1]
theorem fd1_1 (c : Dev nD) (t : Fin cfg1.N) : (fd1 V c).after 1 t = blk1 V c 1 t := by dsimp only [fd1]
theorem fd1_2 (c : Dev nD) (t : Fin cfg1.N) : (fd1 V c).after 2 t = blk1 V c 2 t := by dsimp only [fd1]
theorem fd1_3 (c : Dev nD) (t : Fin cfg1.N) : (fd1 V c).after 3 t = blk1 V c 3 t := by dsimp only [fd1]
theorem fd1_4 (c : Dev nD) (t : Fin cfg1.N) : (fd1 V c).after 4 t = bDx (blk1 V c 0 t) (blk1 V c 1 t) (blk1 V c 2 t) (blk1 V c 3 t) (V c main_v2) (V c main_v3) := by dsimp only [fd1]
theorem fd1_5 (c : Dev nD) (t : Fin cfg1.N) : (fd1 V c).after 5 t = bDgu (blk1 V c 0 t) (blk1 V c 2 t) (V c main_v3) := by dsimp only [fd1]
theorem fd1_6 (c : Dev nD) (t : Fin cfg1.N) : (fd1 V c).after 6 t = dg1 V c t.val := by dsimp only [fd1]
theorem fd1_7 (c : Dev nD) (t : Fin cfg1.N) : (fd1 V c).after 7 t = bDyh (blk1 V c 0 t) := by dsimp only [fd1]
theorem fd1_8 (c : Dev nD) (t : Fin cfg1.N) : (fd1 V c).after 8 t = bDxb (blk1 V c 0 t) (blk1 V c 1 t) (blk1 V c 2 t) (blk1 V c 3 t) (V c main_v2) (V c main_v3) := by dsimp only [fd1]
theorem in1_0 (c : Dev nD) (t : Fin cfg1.N) (e) : (fd1 V c).before 0 t e = blk1 V c 0 t :=
  in1_0_of V (fd1 V c) (fd1_A V c 0) (fd1_0 V c) t e
theorem in1_1 (c : Dev nD) (t : Fin cfg1.N) (e) : (fd1 V c).before 1 t e = blk1 V c 1 t :=
  in1_1_of V (fd1 V c) (fd1_A V c 1) (fd1_1 V c) t e
theorem in1_2 (c : Dev nD) (t : Fin cfg1.N) (e) : (fd1 V c).before 2 t e = blk1 V c 2 t :=
  in1_2_of V (fd1 V c) (fd1_A V c 2) (fd1_2 V c) t e
theorem in1_3 (c : Dev nD) (t : Fin cfg1.N) (e) : (fd1 V c).before 3 t e = blk1 V c 3 t :=
  in1_3_of V (fd1 V c) (fd1_A V c 3) (fd1_3 V c) t e
theorem in1_6 (c : Dev nD) (t : Fin cfg1.N) (h : t.val ≠ 0) (e) : (fd1 V c).before 6 t e = dg1 V c (t.val - 1) := by
  have hlt : t.val < 8 := lt_of_lt_of_eq t.isLt N_1
  have hf : (cfg1.win 6).flush ⟨t.val - 1, Nat.lt_of_le_of_lt (Nat.sub_le _ _) t.isLt⟩ = false := by
    rw [Bool.eq_false_iff]
    intro hh
    have := (flush1_6 _).mp hh
    dsimp only at this
    omega
  rw [(fd1 V c).before_out_kept 6 rfl t h hf (by decide +kernel : ∀ i : grid1.Coords, idle1 6 i = false) (fun _ _ => rfl) e, fd1_6]
theorem lv1_0 (c : Dev nD) (t : Fin cfg1.N) : (fd1 V c).leavesExact 0 t = owns (c : Thread nD τ) (st1_0 t) fullShare ((fd1 V c).after 0 t) := by
  unfold Dat.leavesExact; rw [(by decide +kernel : ∀ t : Fin grid1.N, cfg1.idle 0 (grid1.coords t) = false) t]
theorem lv1_1 (c : Dev nD) (t : Fin cfg1.N) : (fd1 V c).leavesExact 1 t = owns (c : Thread nD τ) (st1_1 t) fullShare ((fd1 V c).after 1 t) := by
  unfold Dat.leavesExact; rw [(by decide +kernel : ∀ t : Fin grid1.N, cfg1.idle 1 (grid1.coords t) = false) t]
theorem lv1_2 (c : Dev nD) (t : Fin cfg1.N) : (fd1 V c).leavesExact 2 t = owns (c : Thread nD τ) (st1_2 t) fullShare ((fd1 V c).after 2 t) := by
  unfold Dat.leavesExact; rw [(by decide +kernel : ∀ t : Fin grid1.N, cfg1.idle 2 (grid1.coords t) = false) t]
theorem lv1_3 (c : Dev nD) (t : Fin cfg1.N) : (fd1 V c).leavesExact 3 t = owns (c : Thread nD τ) (st1_3 t) fullShare ((fd1 V c).after 3 t) := by
  unfold Dat.leavesExact; rw [(by decide +kernel : ∀ t : Fin grid1.N, cfg1.idle 3 (grid1.coords t) = false) t]
theorem lv1_4 (c : Dev nD) (t : Fin cfg1.N) : (fd1 V c).leavesExact 4 t = owns (c : Thread nD τ) (st1_4 t) fullShare ((fd1 V c).after 4 t) := by
  unfold Dat.leavesExact; rw [(by decide +kernel : ∀ t : Fin grid1.N, cfg1.idle 4 (grid1.coords t) = false) t]
theorem lv1_5 (c : Dev nD) (t : Fin cfg1.N) : (fd1 V c).leavesExact 5 t = owns (c : Thread nD τ) (st1_5 t) fullShare ((fd1 V c).after 5 t) := by
  unfold Dat.leavesExact; rw [(by decide +kernel : ∀ t : Fin grid1.N, cfg1.idle 5 (grid1.coords t) = false) t]
theorem lv1_6 (c : Dev nD) (t : Fin cfg1.N) : (fd1 V c).leavesExact 6 t = owns (c : Thread nD τ) (st1_6 t) fullShare ((fd1 V c).after 6 t) := by
  unfold Dat.leavesExact; rw [(by decide +kernel : ∀ t : Fin grid1.N, cfg1.idle 6 (grid1.coords t) = false) t]
theorem lv1_7 (c : Dev nD) (t : Fin cfg1.N) : (fd1 V c).leavesExact 7 t = owns (c : Thread nD τ) (st1_7 t) fullShare ((fd1 V c).after 7 t) := by
  unfold Dat.leavesExact; rw [(by decide +kernel : ∀ t : Fin grid1.N, cfg1.idle 7 (grid1.coords t) = false) t]
theorem lv1_8 (c : Dev nD) (t : Fin cfg1.N) : (fd1 V c).leavesExact 8 t = owns (c : Thread nD τ) (st1_8 t) fullShare ((fd1 V c).after 8 t) := by
  unfold Dat.leavesExact; rw [(by decide +kernel : ∀ t : Fin grid1.N, cfg1.idle 8 (grid1.coords t) = false) t]

/-- What the body is entered with at point `t`. -/
def pre1 (c : Dev nD) (t : Fin cfg1.N) : sProp 𝕄 :=
  iprop((fd1 V c).Φ t.castSucc ∗ (fd1 V c).owesAt () t.castSucc
    ∗ (∃ d, owns (c : Thread nD τ) (st1_0 t) fullShare ((fd1 V c).before 0 t d))
    ∗ (∃ d, owns (c : Thread nD τ) (st1_1 t) fullShare ((fd1 V c).before 1 t d))
    ∗ (∃ d, owns (c : Thread nD τ) (st1_2 t) fullShare ((fd1 V c).before 2 t d))
    ∗ (∃ d, owns (c : Thread nD τ) (st1_3 t) fullShare ((fd1 V c).before 3 t d))
    ∗ (∃ d, owns (c : Thread nD τ) (st1_4 t) fullShare ((fd1 V c).before 4 t d))
    ∗ (∃ d, owns (c : Thread nD τ) (st1_5 t) fullShare ((fd1 V c).before 5 t d))
    ∗ (∃ d, owns (c : Thread nD τ) (st1_6 t) fullShare ((fd1 V c).before 6 t d))
    ∗ (∃ d, owns (c : Thread nD τ) (st1_7 t) fullShare ((fd1 V c).before 7 t d))
    ∗ (∃ d, owns (c : Thread nD τ) (st1_8 t) fullShare ((fd1 V c).before 8 t d)))
/-- What the body leaves at point `t`. -/
def post1 (c : Dev nD) (t : Fin cfg1.N) : sProp 𝕄 :=
  iprop((fd1 V c).Φ t.succ ∗ (fd1 V c).owesAt () t.succ
    ∗ (fd1 V c).leavesExact 0 t
    ∗ (fd1 V c).leavesExact 1 t
    ∗ (fd1 V c).leavesExact 2 t
    ∗ (fd1 V c).leavesExact 3 t
    ∗ (fd1 V c).leavesExact 4 t
    ∗ (fd1 V c).leavesExact 5 t
    ∗ (fd1 V c).leavesExact 6 t
    ∗ (fd1 V c).leavesExact 7 t
    ∗ (fd1 V c).leavesExact 8 t)

set_option maxHeartbeats 1600000 in
/-- The body at any point. -/
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [in1_0, in1_1, in1_2, in1_3]
  rw [show (fd1 V c).Φ t.castSucc = inv1 V c t.val from rfl, show (fd1 V c).Φ t.succ = inv1 V c (t.val + 1) from rfl,
    lv1_0, fd1_0, lv1_1, fd1_1, lv1_2, fd1_2, lv1_3, fd1_3, lv1_4, fd1_4, lv1_5, fd1_5, lv1_6, fd1_6, lv1_7, fd1_7, lv1_8, fd1_8]
  unfold inv1 Dat.owesAt Pipeline.owesWithin
  rw [show (fd1 V c).owed t.castSucc = 0 from rfl, show (fd1 V c).owed t.succ = 0 from rfl]
  by_cases h0 : t.val = 0
  · rw [wts1_zero V c h0, wts1_pos V c (Nat.succ_ne_zero t.val)]
    rw [dg1_first V c t h0]
    iintro ⟨⟨⟨HS0, HS1⟩, Hg, ⟨Hq0, Hq1, Hq2, Hq3, Hq4, Hq5⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1A c (grid1.coords t) _ _ _ _ _ _ _ _ _ _ _ _ _ _ _ _ _ _ _ _ _ _ ((k1_cond1_iff t).mpr h0) ((k1_cond2_iff t).mpr h0) (fun h => ((k1_cond3_iff t).mp h) h0) (blk1 V c 0 t) (blk1 V c 1 t) (blk1 V c 2 t) (blk1 V c 3 t) (V c main_v2) (V c main_v3)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, H6, H7, H8, HS0, HS1, Hq0, Hq1, Hq2, Hq3, Hq4, Hq5, Hh0, Hh1, ⟨%W2, HW⟩⟩
    isplitl [HS0 HS1 Hg Hq0 Hq1 Hq2 Hq3 Hq4 Hq5 Hh0 Hh1 Hr]
    · isplitl [HS0 HS1]
      · isplitl [HS0] <;> iassumption
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0 Hh1]
      · isplitl [Hh0] <;> iassumption
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [wts1_pos V c h0, wts1_pos V c (Nat.succ_ne_zero t.val)]
    simp only [in1_6 V c t h0]
    rw [dg1_next V c t h0]
    iintro ⟨⟨⟨HS0, HS1⟩, Hg, ⟨Hq0, Hq1, Hq2, Hq3, Hq4, Hq5⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1B c (grid1.coords t) _ _ _ _ _ _ _ _ _ _ _ _ _ _ _ _ _ _ _ _ _ _ (fun h => h0 ((k1_cond1_iff t).mp h)) (fun h => h0 ((k1_cond2_iff t).mp h)) ((k1_cond3_iff t).mpr h0) (blk1 V c 0 t) (blk1 V c 1 t) (blk1 V c 2 t) (blk1 V c 3 t) (dg1 V c (t.val - 1)) (V c main_v2) (V c main_v3)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, H6, H7, H8, HS0, HS1, Hq0, Hq1, Hq2, Hq3, Hq4, Hq5, Hh0, Hh1, ⟨%W2, HW⟩⟩
    isplitl [HS0 HS1 Hg Hq0 Hq1 Hq2 Hq3 Hq4 Hq5 Hh0 Hh1 Hr]
    · isplitl [HS0 HS1]
      · isplitl [HS0] <;> iassumption
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0 Hh1]
      · isplitl [Hh0] <;> iassumption
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem row1 (t : Fin cfg1.N) : defs₀ (F := F) .tc cfg1.body (cfg1.bodyArgs t (cfg1.slots t)) = bodyAt1 t := by
  unfold defs₀; rw [Defs.onTc_tc]
theorem body1 (c : Dev nD) : BodyObligation (fd1 (F := F) V c) (defs₀ (F := F)) Variants.none () Set.univ := fun t => by
  rw [bigSep_W1, bigSep_W1, row1]
  exact triple_restated (step1 V c t) rfl .rfl fun _ => .rfl
end
end Cert.Ffn
end
-- ==== Proof.Fd2.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fb
@[expose] public section

set_option maxRecDepth 16384

noncomputable section

/-! The two weight-gradient pipelines: what they hand their bodies and get back. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole block of tokens. -/
theorem full_read_a {e : EltTy} (m : Memref sig .tc .vmem S2048x1024 e) (hm : m.IsWhole) (X : S2048x1024.Idx → Elt F e)
    (inb : ∀ a, (![0, 0] : Fin 2 → ℕ) a + (![2048, 1024] : Fin 2 → ℕ) a ≤ S2048x1024.size a) :
    View.readAt (Elt F) m.view (Rect.unit (s := S2048x1024) ![0, 0] ![2048, 1024] inb).toLoadRect (hm.unread X) = X := full_read m hm X inb
/-- A load of a whole block of hidden columns. -/
theorem full_read_b {e : EltTy} (m : Memref sig .tc .vmem S2048x1408 e) (hm : m.IsWhole) (X : S2048x1408.Idx → Elt F e)
    (inb : ∀ a, (![0, 0] : Fin 2 → ℕ) a + (![2048, 1408] : Fin 2 → ℕ) a ≤ S2048x1408.size a) :
    View.readAt (Elt F) m.view (Rect.unit (s := S2048x1408) ![0, 0] ![2048, 1408] inb).toLoadRect (hm.unread X) = X := full_read m hm X inb

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem in2_0_of {c : Dev nD} (d : Dat τ (Elt F) Unit ℕ (Pipeline.UD sig nD τ) ℕ cfg2 c) (hA : d.A 0 = V c (Pipeline.arrRef spec2 0))
    (hl : ∀ t, d.after 0 t = blk2 V c 0 t) (t : Fin cfg2.N) (e) : d.before 0 t e = blk2 V c 0 t := by
  refine (d.before_in_eq_fetched 0 rfl (fun _ => rfl) (fun _ _ _ => rfl) (fun t => ?_) t e).trans ?_
  · rw [hl]; unfold Dat.blockOf blk2; rw [hA]; try rfl
  · unfold Dat.fetched Dat.blockOf blk2; rw [hA]; try rfl
theorem in2_1_of {c : Dev nD} (d : Dat τ (Elt F) Unit ℕ (Pipeline.UD sig nD τ) ℕ cfg2 c) (hA : d.A 1 = V c (Pipeline.arrRef spec2 1))
    (hl : ∀ t, d.after 1 t = blk2 V c 1 t) (t : Fin cfg2.N) (e) : d.before 1 t e = blk2 V c 1 t := by
  refine (d.before_in_eq_fetched 1 rfl (fun _ => rfl) (fun _ _ _ => rfl) (fun t => ?_) t e).trans ?_
  · rw [hl]; unfold Dat.blockOf blk2; rw [hA]; try rfl
  · unfold Dat.fetched Dat.blockOf blk2; rw [hA]; try rfl

/-- The gradient of one shard of the weights: the product of the two blocks. -/
def gW2 (x : Vec F S2048x1024 .bf16) (y : Vec F S2048x1408 .bf16) : Vec F S1x1024x1408 .bf16 := k2_pay1 x y

set_option maxHeartbeats 1000000 in
theorem run2W (c : Dev nD) (i : grid2.Coords) (arg2 : Memref sig .tc .vmem S2048x1024 .bf16) (harg2 : arg2.IsWhole) (arg3 : Memref sig .tc .vmem S2048x1408 .bf16) (harg3 : arg3.IsWhole)
    (arg4 : Memref sig .tc .vmem S1x1024x1408 .bf16) (harg4 : arg4.IsWhole) (x : Vec F S2048x1024 .bf16) (y : Vec F S2048x1408 .bf16) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (gW2 x y)) -∗ K ⟨⟩))
      ⊢ wp frame (wpE (defs₀ (F := F)) Variants.none c none) Set.univ (cc2_dw13 i arg2 harg2 arg3 harg3 arg4 harg4) K := by
  simp only [cc2_dw13_eq_skeleton]; unfold cc2_dw13_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro; refine (View.read_writes_full _ _ _ _ _).trans ?_
  simp only [full_read_a, full_read_b]
  rfl

/-- The pipeline's account on core `c`. -/
def fd2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => gW2 (blk2 V c 0 t) (blk2 V c 1 t)
  Φ _ := Pipeline.ΦA spec2 c
  q _ := fullShare
  owed _ := 0
theorem fd2_A (c : Dev nD) (w : Fin cfg2.W) : (fd2 V c).A w = V c (Pipeline.arrRef spec2 w) := by dsimp only [fd2]
theorem fd2_0 (c : Dev nD) (t : Fin cfg2.N) : (fd2 V c).after 0 t = blk2 V c 0 t := by dsimp only [fd2]
theorem fd2_1 (c : Dev nD) (t : Fin cfg2.N) : (fd2 V c).after 1 t = blk2 V c 1 t := by dsimp only [fd2]
theorem fd2_2 (c : Dev nD) (t : Fin cfg2.N) : (fd2 V c).after 2 t = gW2 (blk2 V c 0 t) (blk2 V c 1 t) := by dsimp only [fd2]
theorem in2_0 (c : Dev nD) (t : Fin cfg2.N) (e) : (fd2 V c).before 0 t e = blk2 V c 0 t := in2_0_of V (fd2 V c) (fd2_A V c 0) (fd2_0 V c) t e
theorem in2_1 (c : Dev nD) (t : Fin cfg2.N) (e) : (fd2 V c).before 1 t e = blk2 V c 1 t := in2_1_of V (fd2 V c) (fd2_A V c 1) (fd2_1 V c) t e

/-- What the body is entered with at point `t`. -/
def pre2 (c : Dev nD) (t : Fin cfg2.N) : sProp 𝕄 :=
  iprop((fd2 V c).Φ t.castSucc ∗ (fd2 V c).owesAt () t.castSucc
    ∗ (∃ d, owns (c : Thread nD τ) (st2_0 t) fullShare ((fd2 V c).before 0 t d))
    ∗ (∃ d, owns (c : Thread nD τ) (st2_1 t) fullShare ((fd2 V c).before 1 t d))
    ∗ (∃ d, owns (c : Thread nD τ) (st2_2 t) fullShare ((fd2 V c).before 2 t d)))
/-- What the body leaves at point `t`. -/
def post2 (c : Dev nD) (t : Fin cfg2.N) : sProp 𝕄 :=
  iprop((fd2 V c).Φ t.succ ∗ (fd2 V c).owesAt () t.succ
    ∗ owns (c : Thread nD τ) (st2_0 t) fullShare ((fd2 V c).after 0 t)
    ∗ owns (c : Thread nD τ) (st2_1 t) fullShare ((fd2 V c).after 1 t)
    ∗ owns (c : Thread nD τ) (st2_2 t) fullShare ((fd2 V c).after 2 t))
/-- The body at any point. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [in2_0, in2_1]
  rw [show (fd2 V c).Φ t.succ = (fd2 V c).Φ t.castSucc from rfl,
    show (fd2 V c).owesAt () t.succ = (fd2 V c).owesAt () t.castSucc from rfl, fd2_0, fd2_1, fd2_2]
  iintro ⟨HI, Ho, ⟨%d0, H0⟩, ⟨%d1, H1⟩, ⟨%d2, H2⟩⟩
  iapply (run2W c (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HI]; · iexact HI
  isplitl [Ho]; · iexact Ho
  isplitl [H0]; · iexact H0
  isplitl [H1] <;> iassumption
theorem row2 (t : Fin cfg2.N) : defs₀ (F := F) .tc cfg2.body (cfg2.bodyArgs t (cfg2.slots t)) = bodyAt2 t := by
  unfold defs₀; rw [Defs.onTc_tc]
theorem body2 (c : Dev nD) : BodyObligation (fd2 (F := F) V c) (defs₀ (F := F)) Variants.none () Set.univ := fun t => by
  rw [bigSep_W2, bigSep_W2, row2]
  exact triple_restated (step2 V c t) rfl .rfl fun _ => .rfl

/-- The block that window `w` reads at point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem in3_0_of {c : Dev nD} (d : Dat τ (Elt F) Unit ℕ (Pipeline.UD sig nD τ) ℕ cfg3 c) (hA : d.A 0 = V c (Pipeline.arrRef spec3 0))
    (hl : ∀ t, d.after 0 t = blk3 V c 0 t) (t : Fin cfg3.N) (e) : d.before 0 t e = blk3 V c 0 t := by
  refine (d.before_in_eq_fetched 0 rfl (fun _ => rfl) (fun _ _ _ => rfl) (fun t => ?_) t e).trans ?_
  · rw [hl]; unfold Dat.blockOf blk3; rw [hA]; try rfl
  · unfold Dat.fetched Dat.blockOf blk3; rw [hA]; try rfl
theorem in3_1_of {c : Dev nD} (d : Dat τ (Elt F) Unit ℕ (Pipeline.UD sig nD τ) ℕ cfg3 c) (hA : d.A 1 = V c (Pipeline.arrRef spec3 1))
    (hl : ∀ t, d.after 1 t = blk3 V c 1 t) (t : Fin cfg3.N) (e) : d.before 1 t e = blk3 V c 1 t := by
  refine (d.before_in_eq_fetched 1 rfl (fun _ => rfl) (fun _ _ _ => rfl) (fun t => ?_) t e).trans ?_
  · rw [hl]; unfold Dat.blockOf blk3; rw [hA]; try rfl
  · unfold Dat.fetched Dat.blockOf blk3; rw [hA]; try rfl

/-- The gradient of one shard of the weights: the product of the two blocks. -/
def gW3 (x : Vec F S2048x1408 .bf16) (y : Vec F S2048x1024 .bf16) : Vec F S1x1408x1024 .bf16 := k3_pay1 x y

set_option maxHeartbeats 1000000 in
theorem run3W (c : Dev nD) (i : grid3.Coords) (arg2 : Memref sig .tc .vmem S2048x1408 .bf16) (harg2 : arg2.IsWhole) (arg3 : Memref sig .tc .vmem S2048x1024 .bf16) (harg3 : arg3.IsWhole)
    (arg4 : Memref sig .tc .vmem S1x1408x1024 .bf16) (harg4 : arg4.IsWhole) (x : Vec F S2048x1408 .bf16) (y : Vec F S2048x1024 .bf16) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (gW3 x y)) -∗ K ⟨⟩))
      ⊢ wp frame (wpE (defs₀ (F := F)) Variants.none c none) Set.univ (cc3_dw2 i arg2 harg2 arg3 harg3 arg4 harg4) K := by
  simp only [cc3_dw2_eq_skeleton]; unfold cc3_dw2_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro; refine (View.read_writes_full _ _ _ _ _).trans ?_
  simp only [full_read_a, full_read_b]
  rfl

/-- The pipeline's account on core `c`. -/
def fd3 (c : Dev nD) : Dat τ (Elt F) Unit ℕ (Pipeline.UD sig nD τ) ℕ cfg3 c where
  A w := V c (Pipeline.arrRef spec3 w)
  after w t := match w with
    | ⟨0, _⟩ => blk3 V c 0 t
    | ⟨1, _⟩ => blk3 V c 1 t
    | ⟨2, _⟩ => gW3 (blk3 V c 0 t) (blk3 V c 1 t)
  Φ _ := Pipeline.ΦA spec3 c
  q _ := fullShare
  owed _ := 0
theorem fd3_A (c : Dev nD) (w : Fin cfg3.W) : (fd3 V c).A w = V c (Pipeline.arrRef spec3 w) := by dsimp only [fd3]
theorem fd3_0 (c : Dev nD) (t : Fin cfg3.N) : (fd3 V c).after 0 t = blk3 V c 0 t := by dsimp only [fd3]
theorem fd3_1 (c : Dev nD) (t : Fin cfg3.N) : (fd3 V c).after 1 t = blk3 V c 1 t := by dsimp only [fd3]
theorem fd3_2 (c : Dev nD) (t : Fin cfg3.N) : (fd3 V c).after 2 t = gW3 (blk3 V c 0 t) (blk3 V c 1 t) := by dsimp only [fd3]
theorem in3_0 (c : Dev nD) (t : Fin cfg3.N) (e) : (fd3 V c).before 0 t e = blk3 V c 0 t := in3_0_of V (fd3 V c) (fd3_A V c 0) (fd3_0 V c) t e
theorem in3_1 (c : Dev nD) (t : Fin cfg3.N) (e) : (fd3 V c).before 1 t e = blk3 V c 1 t := in3_1_of V (fd3 V c) (fd3_A V c 1) (fd3_1 V c) t e

/-- What the body is entered with at point `t`. -/
def pre3 (c : Dev nD) (t : Fin cfg3.N) : sProp 𝕄 :=
  iprop((fd3 V c).Φ t.castSucc ∗ (fd3 V c).owesAt () t.castSucc
    ∗ (∃ d, owns (c : Thread nD τ) (st3_0 t) fullShare ((fd3 V c).before 0 t d))
    ∗ (∃ d, owns (c : Thread nD τ) (st3_1 t) fullShare ((fd3 V c).before 1 t d))
    ∗ (∃ d, owns (c : Thread nD τ) (st3_2 t) fullShare ((fd3 V c).before 2 t d)))
/-- What the body leaves at point `t`. -/
def post3 (c : Dev nD) (t : Fin cfg3.N) : sProp 𝕄 :=
  iprop((fd3 V c).Φ t.succ ∗ (fd3 V c).owesAt () t.succ
    ∗ owns (c : Thread nD τ) (st3_0 t) fullShare ((fd3 V c).after 0 t)
    ∗ owns (c : Thread nD τ) (st3_1 t) fullShare ((fd3 V c).after 1 t)
    ∗ owns (c : Thread nD τ) (st3_2 t) fullShare ((fd3 V c).after 2 t))
/-- The body at any point. -/
theorem step3 (c : Dev nD) (t : Fin cfg3.N) :
    pre3 V c t ⊢ wp frame (wpE (defs₀ (F := F)) Variants.none c none) Set.univ (bodyAt3 t) (fun _ => post3 V c t) := by
  unfold pre3 post3 bodyAt3
  simp only [in3_0, in3_1]
  rw [show (fd3 V c).Φ t.succ = (fd3 V c).Φ t.castSucc from rfl,
    show (fd3 V c).owesAt () t.succ = (fd3 V c).owesAt () t.castSucc from rfl, fd3_0, fd3_1, fd3_2]
  iintro ⟨HI, Ho, ⟨%d0, H0⟩, ⟨%d1, H1⟩, ⟨%d2, H2⟩⟩
  iapply (run3W c (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HI]; · iexact HI
  isplitl [Ho]; · iexact Ho
  isplitl [H0]; · iexact H0
  isplitl [H1] <;> iassumption
theorem row3 (t : Fin cfg3.N) : defs₀ (F := F) .tc cfg3.body (cfg3.bodyArgs t (cfg3.slots t)) = bodyAt3 t := by
  unfold defs₀; rw [Defs.onTc_tc]
theorem body3 (c : Dev nD) : BodyObligation (fd3 (F := F) V c) (defs₀ (F := F)) Variants.none () Set.univ := fun t => by
  rw [bigSep_W3, bigSep_W3, row3]
  exact triple_restated (step3 V c t) rfl .rfl fun _ => .rfl

end
end Cert.Ffn
end
-- ==== Proof.Fr.lean ====
module

public import proofs.«01_k».proof.Proof.Gen.Kernel2Ideal.Points
public import proofs.«01_k».proof.Proof.Gen.Kernel2Ideal.Skeleton
public import proofs.«01_k».proof.Proof.Gen.Kernel2Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fd0
public import proofs.«01_k».proof.Proof.Fd1
public import proofs.«01_k».proof.Proof.Fd2
public import Idealize.ShloMosaic.Lib.Pipeline.Regions
public import Idealize.ShloMosaic.Lib.Pipeline.Frame
@[expose] public section

set_option maxRecDepth 16384

noncomputable section

/-! The run of the four pipelines of the feed-forward layer, with what each leaves. -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))
/-- The arrays the body copies from by itself. -/
def hs0 : Finset (Ref sig .tc) := {main_v2, main_v3}
theorem hs0_sub : hs0 ⊆ Pipeline.restRefs sig spec0 := by decide
theorem hs0_list (c : Dev nD) : (bigSep hs0 (fun b => ((c : Thread nD τ).loc b) ↦{fullShare} V c b) : sProp 𝕄)
    = iprop(hbPt c hb13 (V c main_v2) ∗ hbPt c hb2 (V c main_v3)) := by
  rw [BI.bigSep_eq_bigSepL_of_eq [main_v2, main_v3] (by decide) (by decide)]; rfl
theorem rest0 (c : Dev nD) : (Pipeline.unscopedRest (Ix := Unit) (Name := ℕ) (U := Pipeline.UD sig nD τ) (Lvl := ℕ) (Pipeline.pin (pcfgs (F := F)) adm 0).spec c (V c) : sProp 𝕄)
    = iprop((hbPt c hb13 (V c main_v2) ∗ hbPt c hb2 (V c main_v3)) ∗ bigSep (Pipeline.restRefs sig spec0 \ hs0) fun b => ((c : Thread nD τ).loc b) ↦{fullShare} V c b) :=
  (Pipeline.unscopedRest_sdiff spec0 hs0 hs0_sub c (V c)).trans (by rw [hs0_list])
theorem inv0_in (c : Dev nD) : (iprop(((∃ r, prngReg c r) ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (hbPt c hb13 (V c main_v2) ∗ hbPt c hb2 (V c main_v3)))
    ∗ Pipeline.scopedRest (Ix := Unit) (Name := ℕ) (U := Pipeline.UD sig nD τ) (Lvl := ℕ) (Val := Elt F) spec0 c) : sProp 𝕄) ⊢ inv0 V c 0 := by
  unfold inv0
  rw [wts0_zero V c rfl, scopedRest0_split]
  simp only [scA0, scB0, owns_whole]
  iintro ⟨⟨Hp, Hs, Hh⟩, Hw, Hr⟩
  isplitl [Hw]; · iexact Hw
  isplitl [Hp]; · iexact Hp
  isplitl [Hs]; · iexact Hs
  isplitl [Hh] <;> iassumption
theorem inv0_out (c : Dev nD) (n : ℕ) (hn : n ≠ 0) : inv0 V c n ⊢ (iprop(((∃ r, prngReg c r) ∗ (hbPt c hb13 (V c main_v2) ∗ hbPt c hb2 (V c main_v3)))
    ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ Pipeline.scopedRest (Ix := Unit) (Name := ℕ) (U := Pipeline.UD sig nD τ) (Lvl := ℕ) (Val := Elt F) spec0 c) : sProp 𝕄) := by
  unfold inv0
  rw [wts0_pos V c hn, scopedRest0_split]
  simp only [scA0, scB0, owns_whole]
  iintro ⟨⟨H1, H2⟩, Hp, Hs, Hh, Hr⟩
  isplitl [Hp Hh]
  · isplitl [Hp] <;> iassumption
  isplitl [Hs]; · iexact Hs
  isplitl [H1 H2]
  · isplitl [H1]
    · iexists _; iexact H1
    iexists _; iexact H2
  iexact Hr
/-- The arrays the body copies from by itself. -/
def hs1 : Finset (Ref sig .tc) := {main_v2, main_v3}
theorem hs1_sub : hs1 ⊆ Pipeline.restRefs sig spec1 := by decide
theorem hs1_list (c : Dev nD) : (bigSep hs1 (fun b => ((c : Thread nD τ).loc b) ↦{fullShare} V c b) : sProp 𝕄)
    = iprop(hbPt c hb13 (V c main_v2) ∗ hbPt c hb2 (V c main_v3)) := by
  rw [BI.bigSep_eq_bigSepL_of_eq [main_v2, main_v3] (by decide) (by decide)]; rfl
theorem rest1 (c : Dev nD) : (Pipeline.unscopedRest (Ix := Unit) (Name := ℕ) (U := Pipeline.UD sig nD τ) (Lvl := ℕ) (Pipeline.pin (pcfgs (F := F)) adm 1).spec c (V c) : sProp 𝕄)
    = iprop((hbPt c hb13 (V c main_v2) ∗ hbPt c hb2 (V c main_v3)) ∗ bigSep (Pipeline.restRefs sig spec1 \ hs1) fun b => ((c : Thread nD τ).loc b) ↦{fullShare} V c b) :=
  (Pipeline.unscopedRest_sdiff spec1 hs1 hs1_sub c (V c)).trans (by rw [hs1_list])
theorem inv1_in (c : Dev nD) : (iprop(((∃ r, prngReg c r) ∗ (semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) ∗ (hbPt c hb13 (V c main_v2) ∗ hbPt c hb2 (V c main_v3)))
    ∗ Pipeline.scopedRest (Ix := Unit) (Name := ℕ) (U := Pipeline.UD sig nD τ) (Lvl := ℕ) (Val := Elt F) spec1 c) : sProp 𝕄) ⊢ inv1 V c 0 := by
  unfold inv1
  rw [wts1_zero V c rfl, scopedRest1_split]
  simp only [scA1, scB1, owns_whole]
  iintro ⟨⟨Hp, Hs, Hh⟩, Hw, Hr⟩
  isplitl [Hw]; · iexact Hw
  isplitl [Hp]; · iexact Hp
  isplitl [Hs]; · iexact Hs
  isplitl [Hh] <;> iassumption
theorem inv1_out (c : Dev nD) (n : ℕ) (hn : n ≠ 0) : inv1 V c n ⊢ (iprop(((∃ r, prngReg c r) ∗ (hbPt c hb13 (V c main_v2) ∗ hbPt c hb2 (V c main_v3)))
    ∗ (semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) ∗ Pipeline.scopedRest (Ix := Unit) (Name := ℕ) (U := Pipeline.UD sig nD τ) (Lvl := ℕ) (Val := Elt F) spec1 c) : sProp 𝕄) := by
  unfold inv1
  rw [wts1_pos V c hn, scopedRest1_split]
  simp only [scA1, scB1, owns_whole]
  iintro ⟨⟨H1, H2⟩, Hp, Hs, Hh, Hr⟩
  isplitl [Hp Hh]
  · isplitl [Hp] <;> iassumption
  isplitl [Hs]; · iexact Hs
  isplitl [H1 H2]
  · isplitl [H1]
    · iexists _; iexact H1
    iexists _; iexact H2
  iexact Hr
end

variable (m : (ℓ : Loc nD τ sig) → Buf (Elt F) ℓ) (ρ : Dev nD → PrngReg)

/-- The arguments. -/
abbrev fArgs : List (Ref sig .tc) := [main_arg0, main_arg1, main_arg2, main_arg3, main_arg4]
/-- The buffers at the start. -/
abbrev B0 (c : Dev nD) : Valuation τ sig (Elt F) := fun b => (s₀ m ρ).mem ((c : Dev nD), b)
/-- The buffers when the forward pipeline is entered. -/
abbrev B1 (c : Dev nD) : Valuation τ sig (Elt F) := StableHlo.after hostOps0 (B0 m ρ c)
/-- The same, by reference. -/
abbrev C1 : (c : Dev nD) → (b : Ref sig .tc) → Buf (Elt F) ((c : Thread nD τ).loc b) := fun c b => B1 m ρ c b
theorem B1_args (c : Dev nD) : ∀ a ∈ fArgs, B1 m ρ c (Proc.devRef .tc a) = m ((c : Thread nD τ).loc a) := fun a ha =>
  StableHlo.after_of_writes_sub hostOps0 _ hostOps0_writes ((by decide : ∀ a ∈ fArgs, a ∉ hostOps0_W) a ha)
/-- The buffers when pipeline 0 is left. -/
def B2 (c : Dev nD) : Valuation τ sig (Elt F) := Pipeline.withArrays spec0 c (B1 m ρ c) fun w => (fd0 (C1 m ρ) c).arrAt w cfg0.N
/-- The same, by reference. -/
abbrev C2 : (c : Dev nD) → (b : Ref sig .tc) → Buf (Elt F) ((c : Thread nD τ).loc b) := fun c b => B2 m ρ c b
theorem B2_arr (c : Dev nD) (w : Fin cfg0.W) : B2 m ρ c (Proc.devRef .tc (Pipeline.arrRef spec0 w)) = (fd0 (C1 m ρ) c).arrAt w cfg0.N := by
  unfold B2; exact Pipeline.withArrays_arr spec0 launch0.win.arr_inj c _ _ w
theorem B2_ne (c : Dev nD) (b : Ref sig .tc) (hb : ∀ w, Pipeline.arrRef spec0 w ≠ b) : B2 m ρ c (Proc.devRef .tc b) = B1 m ρ c (Proc.devRef .tc b) := by
  unfold B2; exact Pipeline.withArrays_of_ne spec0 c _ _ b hb
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    rw [B2_arr, (fd0 (C1 m ρ) c).arrAt_in w (h w rfl) _, fd0_A]
  · exact B2_ne m ρ c r fun w e => hw ⟨w, e⟩
theorem B2_args (c : Dev nD) : ∀ a ∈ fArgs, B2 m ρ c (Proc.devRef .tc a) = m ((c : Thread nD τ).loc a) := fun a ha =>
  (B2_of m ρ c a ((by decide +kernel : ∀ a ∈ fArgs, ∀ w : Fin cfg0.W, Pipeline.arrRef spec0 w = a → (cfg0.win w).isOut = false) a ha)).trans (B1_args m ρ c a ha)
theorem B2_rest (c : Dev nD) : ∀ b, b ∉ Finset.univ.image (Pipeline.arrRef spec0) → C2 m ρ c b = C1 m ρ c b := fun b hb =>
  B2_ne m ρ c b fun w e => hb (Finset.mem_image.mpr ⟨w, Finset.mem_univ _, e⟩)
/-- The buffers when pipeline 1 is left. -/
def B3 (c : Dev nD) : Valuation τ sig (Elt F) := Pipeline.withArrays spec1 c (B2 m ρ c) fun w => (fd1 (C2 m ρ) c).arrAt w cfg1.N
/-- The same, by reference. -/
abbrev C3 : (c : Dev nD) → (b : Ref sig .tc) → Buf (Elt F) ((c : Thread nD τ).loc b) := fun c b => B3 m ρ c b
theorem B3_arr (c : Dev nD) (w : Fin cfg1.W) : B3 m ρ c (Proc.devRef .tc (Pipeline.arrRef spec1 w)) = (fd1 (C2 m ρ) c).arrAt w cfg1.N := by
  unfold B3; exact Pipeline.withArrays_arr spec1 launch1.win.arr_inj c _ _ w
theorem B3_ne (c : Dev nD) (b : Ref sig .tc) (hb : ∀ w, Pipeline.arrRef spec1 w ≠ b) : B3 m ρ c (Proc.devRef .tc b) = B2 m ρ c (Proc.devRef .tc b) := by
  unfold B3; exact Pipeline.withArrays_of_ne spec1 c _ _ b hb
theorem B3_of (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    rw [B3_arr, (fd1 (C2 m ρ) c).arrAt_in w (h w rfl) _, fd1_A]
  · exact B3_ne m ρ c r fun w e => hw ⟨w, e⟩
theorem B3_args (c : Dev nD) : ∀ a ∈ fArgs, B3 m ρ c (Proc.devRef .tc a) = m ((c : Thread nD τ).loc a) := fun a ha =>
  (B3_of m ρ c a ((by decide +kernel : ∀ a ∈ fArgs, ∀ w : Fin cfg1.W, Pipeline.arrRef spec1 w = a → (cfg1.win w).isOut = false) a ha)).trans (B2_args m ρ c a ha)
theorem B3_rest (c : Dev nD) : ∀ b, b ∉ Finset.univ.image (Pipeline.arrRef spec1) → C3 m ρ c b = C2 m ρ c b := fun b hb =>
  B3_ne m ρ c b fun w e => hb (Finset.mem_image.mpr ⟨w, Finset.mem_univ _, e⟩)
/-- The buffers when pipeline 2 is left. -/
def B4 (c : Dev nD) : Valuation τ sig (Elt F) := Pipeline.withArrays spec2 c (B3 m ρ c) fun w => (fd2 (C3 m ρ) c).arrAt w cfg2.N
/-- The same, by reference. -/
abbrev C4 : (c : Dev nD) → (b : Ref sig .tc) → Buf (Elt F) ((c : Thread nD τ).loc b) := fun c b => B4 m ρ c b
theorem B4_arr (c : Dev nD) (w : Fin cfg2.W) : B4 m ρ c (Proc.devRef .tc (Pipeline.arrRef spec2 w)) = (fd2 (C3 m ρ) c).arrAt w cfg2.N := by
  unfold B4; exact Pipeline.withArrays_arr spec2 launch2.win.arr_inj c _ _ w
theorem B4_ne (c : Dev nD) (b : Ref sig .tc) (hb : ∀ w, Pipeline.arrRef spec2 w ≠ b) : B4 m ρ c (Proc.devRef .tc b) = B3 m ρ c (Proc.devRef .tc b) := by
  unfold B4; exact Pipeline.withArrays_of_ne spec2 c _ _ b hb
theorem B4_of (c : Dev nD) (r : Ref sig .tc) (h : ∀ w : Fin cfg2.W, Pipeline.arrRef spec2 w = r → (cfg2.win w).isOut = false) :
    B4 m ρ c (Proc.devRef .tc r) = B3 m ρ c (Proc.devRef .tc r) := by
  by_cases hw : ∃ w : Fin cfg2.W, Pipeline.arrRef spec2 w = r
  · obtain ⟨w, rfl⟩ := hw
    rw [B4_arr, (fd2 (C3 m ρ) c).arrAt_in w (h w rfl) _, fd2_A]
  · exact B4_ne m ρ c r fun w e => hw ⟨w, e⟩
theorem B4_args (c : Dev nD) : ∀ a ∈ fArgs, B4 m ρ c (Proc.devRef .tc a) = m ((c : Thread nD τ).loc a) := fun a ha =>
  (B4_of m ρ c a ((by decide +kernel : ∀ a ∈ fArgs, ∀ w : Fin cfg2.W, Pipeline.arrRef spec2 w = a → (cfg2.win w).isOut = false) a ha)).trans (B3_args m ρ c a ha)
theorem B4_rest (c : Dev nD) : ∀ b, b ∉ Finset.univ.image (Pipeline.arrRef spec2) → C4 m ρ c b = C3 m ρ c b := fun b hb =>
  B4_ne m ρ c b fun w e => hb (Finset.mem_image.mpr ⟨w, Finset.mem_univ _, e⟩)
/-- The buffers when pipeline 3 is left. -/
def B5 (c : Dev nD) : Valuation τ sig (Elt F) := Pipeline.withArrays spec3 c (B4 m ρ c) fun w => (fd3 (C4 m ρ) c).arrAt w cfg3.N
/-- The same, by reference. -/
abbrev C5 : (c : Dev nD) → (b : Ref sig .tc) → Buf (Elt F) ((c : Thread nD τ).loc b) := fun c b => B5 m ρ c b
theorem B5_arr (c : Dev nD) (w : Fin cfg3.W) : B5 m ρ c (Proc.devRef .tc (Pipeline.arrRef spec3 w)) = (fd3 (C4 m ρ) c).arrAt w cfg3.N := by
  unfold B5; exact Pipeline.withArrays_arr spec3 launch3.win.arr_inj c _ _ w
theorem B5_ne (c : Dev nD) (b : Ref sig .tc) (hb : ∀ w, Pipeline.arrRef spec3 w ≠ b) : B5 m ρ c (Proc.devRef .tc b) = B4 m ρ c (Proc.devRef .tc b) := by
  unfold B5; exact Pipeline.withArrays_of_ne spec3 c _ _ b hb
theorem B5_of (c : Dev nD) (r : Ref sig .tc) (h : ∀ w : Fin cfg3.W, Pipeline.arrRef spec3 w = r → (cfg3.win w).isOut = false) :
    B5 m ρ c (Proc.devRef .tc r) = B4 m ρ c (Proc.devRef .tc r) := by
  by_cases hw : ∃ w : Fin cfg3.W, Pipeline.arrRef spec3 w = r
  · obtain ⟨w, rfl⟩ := hw
    rw [B5_arr, (fd3 (C4 m ρ) c).arrAt_in w (h w rfl) _, fd3_A]
  · exact B5_ne m ρ c r fun w e => hw ⟨w, e⟩
theorem B5_args (c : Dev nD) : ∀ a ∈ fArgs, B5 m ρ c (Proc.devRef .tc a) = m ((c : Thread nD τ).loc a) := fun a ha =>
  (B5_of m ρ c a ((by decide +kernel : ∀ a ∈ fArgs, ∀ w : Fin cfg3.W, Pipeline.arrRef spec3 w = a → (cfg3.win w).isOut = false) a ha)).trans (B4_args m ρ c a ha)
theorem B5_rest (c : Dev nD) : ∀ b, b ∉ Finset.univ.image (Pipeline.arrRef spec3) → C5 m ρ c b = C4 m ρ c b := fun b hb =>
  B5_ne m ρ c b fun w e => hb (Finset.mem_image.mpr ⟨w, Finset.mem_univ _, e⟩)

/-- The four accounts. -/
def fdats : (p : Fin 4) → (c : Dev nD) → Dat τ (Elt F) Unit ℕ (Pipeline.UD sig nD τ) ℕ (Pipeline.pin (pcfgs (F := F)) adm p) c
  | ⟨0, _⟩ => fun c => fd0 (C1 m ρ) c
  | ⟨1, _⟩ => fun c => fd1 (C2 m ρ) c
  | ⟨2, _⟩ => fun c => fd2 (C3 m ρ) c
  | ⟨3, _⟩ => fun c => fd3 (C4 m ρ) c
/-- No call waits for a level. -/
abbrev fL : GSem nD τ sig → Finset Unit := fun _ => ∅
/-- Every level is zero. -/
abbrev flv : GSem nD τ sig → Unit → ℕ := fun _ _ => 0
/-- What every part of the program carries along. -/
abbrev side (c : Dev nD) : sProp 𝕄 := iprop((∃ r, prngReg c r) ∗ ∃ W, owes (c : Thread nD τ) (0 : CellTallies nD τ sig Unit) W)
/-- The host's stretch: the casts, the cut into shards. -/
abbrev hostSeg : Pipeline.HostSeg (Ix := Unit) (Name := ℕ) (U := Pipeline.UD sig nD τ) (Lvl := ℕ) (pcfgs (F := F)) defs₀ Variants.none fL flv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) side
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the program ends in. -/
abbrev fEnd (c : Dev nD) : sProp 𝕄 := iprop(StableHlo.held (c : Thread nD τ) (Pipeline.ucRefs τ sig) (B5 m ρ c) ∗ ∃ r, prngReg c r)

set_option backward.isDefEq.respectTransparency.types false in
/-- Pipeline 0 as a part of the program. -/
def part0 : Pipeline.RegionSeg (pcfgs (F := F)) adm (fdats m ρ) () defs₀ Variants.none fL flv 0 where
  win := launch0.win.to₀
  block_pos := launch0.block_pos
  stage_whole := launch0.stage_whole
  K := Fin 6
  osem := own0
  ho := own0_facts
  hbody c := (body0 (C1 m ρ) c).loose
  hwaits := Pipeline.hwaits_of_owed_zero _ _ _ _ fL flv 0 fun _ _ => rfl
  pre c := iprop(StableHlo.held (c : Thread nD τ) (Pipeline.ucRefs τ sig) (B1 m ρ c) ∗ side c)
  post c := iprop(StableHlo.held (c : Thread nD τ) (Pipeline.ucRefs τ sig) (B2 m ρ c) ∗ side c)
  X c := iprop((∃ r, prngReg c r) ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (hbPt c hb13 (C1 m ρ c main_v2) ∗ hbPt c hb2 (C1 m ρ c main_v3)))
  Y c := iprop((∃ r, prngReg c r) ∗ (hbPt c hb13 (C1 m ρ c main_v2) ∗ hbPt c hb2 (C1 m ρ c main_v3)))
  Z c := bigSep (Pipeline.restRefs sig spec0 \ hs0) fun b => ((c : Thread nD τ).loc b) ↦{fullShare} C1 m ρ c b
  hentry c := by
    rw [own0_list]
    have cut := Pipeline.arrays_of_unscopedBufs (p := 0) (pcfgs (F := F)) adm (fdats m ρ) launch0.win launch0.arr_whole c
      ((fdats m ρ 0 c).share_full fun _ => rfl) (C1 m ρ c) (fd0_A (C1 m ρ) c)
    rw [Pipeline.unscopedBufs_held, rest0] at cut
    iintro ⟨⟨Hub, Hp, HO⟩, Hs, -⟩
    ihave H := cut $$ Hub
    icases H with ⟨Ha, Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hs Hh]
    · isplitl [Hp]; · iexact Hp
      isplitl [Hs] <;> iassumption
    iexact Hrest
  hin c := by
    rw [show (fdats m ρ 0 c).Φ 0 = inv0 (C1 m ρ) c 0 from rfl]
    iintro ⟨Hx, -, Hr⟩
    iapply (inv0_in (C1 m ρ) c)
    isplitl [Hx] <;> iassumption
  hout c := by
    rw [own0_list, show (fdats m ρ 0 c).Φ (Fin.last _) = inv0 (C1 m ρ) c (Fin.last cfg0.N).val from rfl]
    exact inv0_out (C1 m ρ) c _ (by decide)
  hexit c := by
    have glue := Pipeline.unscopedBufs_of_arrays (p := 0) (pcfgs (F := F)) adm (Ix := Unit) (Name := ℕ) (U := Pipeline.UD sig nD τ) (Lvl := ℕ)
      launch0.win launch0.arr_whole c (fdats m ρ) ((fdats m ρ 0 c).share_full fun _ => rfl)
      (C1 m ρ c) (C2 m ρ c) ((fdats m ρ 0 c).arrAt · cfg0.N) (fun w => (B2_arr m ρ c w).symm) (B2_rest m ρ c)
    rw [Pipeline.unscopedBufs_held, rest0] at glue
    iintro ⟨Ha, HO, ⟨Hp, Hh⟩, Hrest⟩
    imodintro
    isplitl [Ha Hh Hrest]
    · iapply glue
      isplitl [Ha]; · iexact Ha
      isplitl [Hh] <;> iassumption
    isplitl [Hp]; · iexact Hp
    unfold Pipeline.Dat.owesAt Pipeline.owesWithin
    icases HO with ⟨%W, -, HO⟩; iexists W; iexact HO

set_option backward.isDefEq.respectTransparency.types false in
/-- Pipeline 1 as a part of the program. -/
def part1 : Pipeline.RegionSeg (pcfgs (F := F)) adm (fdats m ρ) () defs₀ Variants.none fL flv 1 where
  win := launch1.win.to₀
  block_pos := launch1.block_pos
  stage_whole := launch1.stage_whole
  K := Fin 6
  osem := own1
  ho := own1_facts
  hbody c := (body1 (C2 m ρ) c).loose
  hwaits := Pipeline.hwaits_of_owed_zero _ _ _ _ fL flv 1 fun _ _ => rfl
  pre c := iprop(StableHlo.held (c : Thread nD τ) (Pipeline.ucRefs τ sig) (B2 m ρ c) ∗ side c)
  post c := iprop(StableHlo.held (c : Thread nD τ) (Pipeline.ucRefs τ sig) (B3 m ρ c) ∗ side c)
  X c := iprop((∃ r, prngReg c r) ∗ (semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) ∗ (hbPt c hb13 (C2 m ρ c main_v2) ∗ hbPt c hb2 (C2 m ρ c main_v3)))
  Y c := iprop((∃ r, prngReg c r) ∗ (hbPt c hb13 (C2 m ρ c main_v2) ∗ hbPt c hb2 (C2 m ρ c main_v3)))
  Z c := bigSep (Pipeline.restRefs sig spec1 \ hs1) fun b => ((c : Thread nD τ).loc b) ↦{fullShare} C2 m ρ c b
  hentry c := by
    rw [own1_list]
    have cut := Pipeline.arrays_of_unscopedBufs (p := 1) (pcfgs (F := F)) adm (fdats m ρ) launch1.win launch1.arr_whole c
      ((fdats m ρ 1 c).share_full fun _ => rfl) (C2 m ρ c) (fd1_A (C2 m ρ) c)
    rw [Pipeline.unscopedBufs_held, rest1] at cut
    iintro ⟨⟨Hub, Hp, HO⟩, Hs, -⟩
    ihave H := cut $$ Hub
    icases H with ⟨Ha, Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hs Hh]
    · isplitl [Hp]; · iexact Hp
      isplitl [Hs] <;> iassumption
    iexact Hrest
  hin c := by
    rw [show (fdats m ρ 1 c).Φ 0 = inv1 (C2 m ρ) c 0 from rfl]
    iintro ⟨Hx, -, Hr⟩
    iapply (inv1_in (C2 m ρ) c)
    isplitl [Hx] <;> iassumption
  hout c := by
    rw [own1_list, show (fdats m ρ 1 c).Φ (Fin.last _) = inv1 (C2 m ρ) c (Fin.last cfg1.N).val from rfl]
    exact inv1_out (C2 m ρ) c _ (by decide)
  hexit c := by
    have glue := Pipeline.unscopedBufs_of_arrays (p := 1) (pcfgs (F := F)) adm (Ix := Unit) (Name := ℕ) (U := Pipeline.UD sig nD τ) (Lvl := ℕ)
      launch1.win launch1.arr_whole c (fdats m ρ) ((fdats m ρ 1 c).share_full fun _ => rfl)
      (C2 m ρ c) (C3 m ρ c) ((fdats m ρ 1 c).arrAt · cfg1.N) (fun w => (B3_arr m ρ c w).symm) (B3_rest m ρ c)
    rw [Pipeline.unscopedBufs_held, rest1] at glue
    iintro ⟨Ha, HO, ⟨Hp, Hh⟩, Hrest⟩
    imodintro
    isplitl [Ha Hh Hrest]
    · iapply glue
      isplitl [Ha]; · iexact Ha
      isplitl [Hh] <;> iassumption
    isplitl [Hp]; · iexact Hp
    unfold Pipeline.Dat.owesAt Pipeline.owesWithin
    icases HO with ⟨%W, -, HO⟩; iexists W; iexact HO

set_option backward.isDefEq.respectTransparency.types false in
/-- Pipeline 2 as a part of the program. -/
def part2 : Pipeline.RegionSeg (pcfgs (F := F)) adm (fdats m ρ) () defs₀ Variants.none fL flv 2 where
  win := launch2.win.to₀
  block_pos := launch2.block_pos
  stage_whole := launch2.stage_whole
  K := PEmpty
  osem k := k.elim
  ho := Pipeline.OwnSemFacts.none _
  hbody c := (body2 (C3 m ρ) c).loose
  hwaits := Pipeline.hwaits_of_owed_zero _ _ _ _ fL flv 2 fun _ _ => rfl
  pre c := iprop(StableHlo.held (c : Thread nD τ) (Pipeline.ucRefs τ sig) (B3 m ρ c) ∗ side c)
  post c := iprop(StableHlo.held (c : Thread nD τ) (Pipeline.ucRefs τ sig) (B4 m ρ c) ∗ side c)
  X c := iprop(∃ r, prngReg c r)
  Y c := iprop(∃ r, prngReg c r)
  Z c := Pipeline.unscopedRest (Ix := Unit) (Name := ℕ) (U := Pipeline.UD sig nD τ) (Lvl := ℕ) spec2 c (C3 m ρ c)
  hentry c := by
    rw [Pipeline.ownSems0_none]
    have cut := Pipeline.arrays_of_unscopedBufs (p := 2) (pcfgs (F := F)) adm (fdats m ρ) launch2.win launch2.arr_whole c
      ((fdats m ρ 2 c).share_full fun _ => rfl) (C3 m ρ c) (fd2_A (C3 m ρ) c)
    rw [Pipeline.unscopedBufs_held] at cut
    iintro ⟨⟨Hub, Hp, HO⟩, -, -⟩
    ihave H := cut $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    rw [show (fdats m ρ 2 c).Φ 0 = Pipeline.ΦA spec2 c from rfl]; unfold Pipeline.ΦA
    iintro ⟨Hp, -, Hr⟩
    isplitl [Hr] <;> iassumption
  hout c := by
    rw [Pipeline.ownSems0_none, show (fdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have glue := Pipeline.unscopedBufs_of_arrays (p := 2) (pcfgs (F := F)) adm (Ix := Unit) (Name := ℕ) (U := Pipeline.UD sig nD τ) (Lvl := ℕ)
      launch2.win launch2.arr_whole c (fdats m ρ) ((fdats m ρ 2 c).share_full fun _ => rfl)
      (C3 m ρ c) (C4 m ρ c) ((fdats m ρ 2 c).arrAt · cfg2.N) (fun w => (B4_arr m ρ c w).symm) (B4_rest m ρ c)
    rw [Pipeline.unscopedBufs_held] at glue
    iintro ⟨Ha, HO, Hp, Hrest⟩
    imodintro
    isplitl [Ha Hrest]
    · iapply glue; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 3 as a part of the program. -/
def part3 : Pipeline.RegionSeg (pcfgs (F := F)) adm (fdats m ρ) () defs₀ Variants.none fL flv 3 where
  win := launch3.win.to₀
  block_pos := launch3.block_pos
  stage_whole := launch3.stage_whole
  K := PEmpty
  osem k := k.elim
  ho := Pipeline.OwnSemFacts.none _
  hbody c := (body3 (C4 m ρ) c).loose
  hwaits := Pipeline.hwaits_of_owed_zero _ _ _ _ fL flv 3 fun _ _ => rfl
  pre c := iprop(StableHlo.held (c : Thread nD τ) (Pipeline.ucRefs τ sig) (B4 m ρ c) ∗ side c)
  post c := iprop(fEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (C4 m ρ c)
  hentry c := by
    rw [Pipeline.ownSems0_none]
    have cut := Pipeline.arrays_of_unscopedBufs (p := 3) (pcfgs (F := F)) adm (fdats m ρ) launch3.win launch3.arr_whole c
      ((fdats m ρ 3 c).share_full fun _ => rfl) (C4 m ρ c) (fd3_A (C4 m ρ) c)
    rw [Pipeline.unscopedBufs_held] at cut
    iintro ⟨⟨Hub, Hp, HO⟩, -, -⟩
    ihave H := cut $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    rw [show (fdats m ρ 3 c).Φ 0 = Pipeline.ΦA spec3 c from rfl]; unfold Pipeline.ΦA
    iintro ⟨Hp, -, Hr⟩
    isplitl [Hr] <;> iassumption
  hout c := by
    rw [Pipeline.ownSems0_none, show (fdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have glue := Pipeline.unscopedBufs_of_arrays (p := 3) (pcfgs (F := F)) adm (Ix := Unit) (Name := ℕ) (U := Pipeline.UD sig nD τ) (Lvl := ℕ)
      launch3.win launch3.arr_whole c (fdats m ρ) ((fdats m ρ 3 c).share_full fun _ => rfl)
      (C4 m ρ c) (C5 m ρ c) ((fdats m ρ 3 c).arrAt · cfg3.N) (fun w => (B5_arr m ρ c w).symm) (B5_rest m ρ c)
    rw [Pipeline.unscopedBufs_held] at glue
    iintro ⟨Ha, HO, Hp, Hrest⟩
    imodintro
    isplitl [Ha Hrest Hp]
    · isplitl [Ha Hrest]
      · iapply glue; isplitl [Ha] <;> iassumption
      iexact Hp
    unfold Pipeline.Dat.owesAt Pipeline.owesWithin
    icases HO with ⟨%W, -, HO⟩; iexists W; iexact HO

/-- The program's five parts. -/
abbrev parts : List (Pipeline.Seg (pcfgs (F := F)) adm (fdats m ρ) () defs₀ Variants.none fL flv) :=
  [.host (hostSeg m ρ), .region (part0 m ρ), .region (part1 m ρ), .region (part2 m ρ), .region (part3 m ρ)]
theorem main_parts (c : Dev nD) : main (F := F) c = Pipeline.Seg.run (parts m ρ) := (main_chain c).trans (by chain_rfl)

set_option backward.isDefEq.respectTransparency.types false in
/-- The program ends with every array at what the four pipelines left there, and every counter at zero. -/
theorem ffn_run : θ_run defs (onTc (τ := τ) (main (F := F))) ⟨m, fun _ => 0, ρ⟩ (fun r =>
      (∀ c : Dev nD, ∀ b ∈ Pipeline.ucRefs τ sig, r.2.mem (((c : Thread nD τ)).1, b) = B5 m ρ c b) ∧ r.2.sem = fun _ => 0) :=
  Pipeline.θ_run_regions_kit_sems (pcfgs (F := F)) adm (fdats m ρ) () cellOf_inj embL defs₀ Variants.none fL flv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ side c)) (Tₙ := fEnd m ρ)
    (hch := ⟨fun _ => .rfl, fun _ => .rfl, fun _ => .rfl, fun _ => .rfl, fun _ => .rfl, fun _ => .rfl⟩)
    (hinit := by
      refine Pipeline.initEach fL flv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun _ h hz => ⟨h, funext fun g => hz g (.inr (regions_no_unscoped g.2))⟩)

/-- The arguments end as they were. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have at_ (a : Ref sig .tc) (ha : a ∈ fArgs) (hs : ¬ (Proc.devRef .tc a : DevRef τ sig).isScoped) :
        r.2.mem ((c.tc : Thread nD τ).loc a) = m ((c.tc : Thread nD τ).loc a) := (h.1 c _ (uc_mem a hs)).trans (B5_args m ρ c a ha)
    ⟨at_ main_arg0 (by decide) (by decide), at_ main_arg1 (by decide) (by decide), at_ main_arg2 (by decide) (by decide),
      at_ main_arg3 (by decide) (by decide), at_ main_arg4 (by decide) (by decide)⟩, h.2⟩) (ffn_run m ρ)

end Cert.Ffn
end
-- ==== Proof.Fw.lean ====
module
public import proofs.«01_k».proof.Proof.Fl
public import proofs.«01_k».proof.Proof.Fr
public import Idealize.ShloMosaic.Lib.Pipeline.ValueKit
@[expose] public section
set_option maxRecDepth 16384
noncomputable section

/-! What the four feed-forward pipelines leave in their arrays, on the reals. -/

namespace Cert.Ffn
open Idealize.ShloMosaic Idealize.SL.Sem Cert.Kernel2Ideal Cert.Kernel2Ideal.Gen
open Cert.Attn (M2 M3)

theorem wi0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] := (by decide +kernel : ∀ t : Fin grid0.N, _)
theorem wi1 : ∀ t : Fin cfg1.N, win1_0.index t = ![t.val, 0] ∧ win1_1.index t = ![t.val, 0] ∧ win1_2.index t = ![t.val, 0]
    ∧ win1_3.index t = ![0, 0] ∧ win1_4.index t = ![t.val, 0] ∧ win1_5.index t = ![t.val, 0]
    ∧ win1_6.index t = ![0, 0] ∧ win1_7.index t = ![t.val, 0] ∧ win1_8.index t = ![t.val, 0] :=
  (by decide +kernel : ∀ t : Fin grid1.N, _)
theorem wi2 : ∀ t : Fin cfg2.N, win2_0.index t = ![0, 0] ∧ win2_1.index t = ![0, t.val] ∧ win2_2.index t = ![t.val, 0, 0] := (by decide +kernel : ∀ t : Fin grid2.N, _)
theorem wi3 : ∀ t : Fin cfg3.N, win3_0.index t = ![0, t.val] ∧ win3_1.index t = ![0, 0] ∧ win3_2.index t = ![0, t.val, 0] := (by decide +kernel : ∀ t : Fin grid3.N, _)
theorem gN0 : cfg0.N = 8 := by decide +kernel
theorem gN1 : cfg1.N = 8 := by decide +kernel
theorem gN2 : cfg2.N = 4 := by decide +kernel
theorem gN3 : cfg3.N = 2 := by decide +kernel

section
variable (V : (c : Dev nD) → (b : Ref sig .tc) → Buf (Elt Ideal) ((c.tc : Thread nD τ).loc b)) (c : Dev nD)
/-- A point of grid 0. -/
def q0 (t : Fin cfg0.N) : Fin 8 := ⟨t.val, lt_of_lt_of_eq t.isLt gN0⟩
/-- A point of grid 1. -/
def q1 (t : Fin cfg1.N) : Fin 8 := ⟨t.val, lt_of_lt_of_eq t.isLt gN1⟩
/-- A point of grid 2. -/
def q2 (t : Fin cfg2.N) : Fin 4 := ⟨t.val, lt_of_lt_of_eq t.isLt gN2⟩
/-- A point of grid 3. -/
def q3 (t : Fin cfg3.N) : Fin 2 := ⟨t.val, lt_of_lt_of_eq t.isLt gN3⟩
theorem rf0_0 (t : Fin cfg0.N) (i : Fin 256) (l : Fin 1024) :
    (blk0 V c 0 t : Vec Ideal (M2 256 1024) .f32) (ix2 i l) = (V c main_arg0 : Vec Ideal (M2 2048 1024) .f32) (ix2 (tok (q0 t) i) l) := by
  have e : (q0 t).val = t.val := rfl
  have e' : (tok (q0 t) i).val = 256 * t.val + i.val := rfl
  blk_ext [blk0, wi0 t]
theorem rf0_1 (t : Fin cfg0.N) (i : Fin 1) (l : Fin 1024) :
    (blk0 V c 1 t : Vec Ideal (M2 1 1024) .f32) (ix2 i l) = (V c main_arg1 : Vec Ideal (M2 1 1024) .f32) (ix2 i l) := by
  have e : (q0 t).val = t.val := rfl
  blk_ext [blk0, wi0 t]
theorem rf1_0 (t : Fin cfg1.N) (i : Fin 256) (l : Fin 1024) :
    (blk1 V c 0 t : Vec Ideal (M2 256 1024) .f32) (ix2 i l) = (V c main_arg4 : Vec Ideal (M2 2048 1024) .f32) (ix2 (tok (q1 t) i) l) := by
  have e : (q1 t).val = t.val := rfl
  have e' : (tok (q1 t) i).val = 256 * t.val + i.val := rfl
  blk_ext [blk1, wi1 t]
theorem rf1_1 (t : Fin cfg1.N) (i : Fin 256) (l : Fin 1024) :
    (blk1 V c 1 t : Vec Ideal (M2 256 1024) .f32) (ix2 i l) = (V c main_arg0 : Vec Ideal (M2 2048 1024) .f32) (ix2 (tok (q1 t) i) l) := by
  have e : (q1 t).val = t.val := rfl
  have e' : (tok (q1 t) i).val = 256 * t.val + i.val := rfl
  blk_ext [blk1, wi1 t]
theorem rf1_2 (t : Fin cfg1.N) (i : Fin 256) (l : Fin 5632) :
    (blk1 V c 2 t : Vec Ideal (M2 256 5632) .bf16) (ix2 i l) = (V c main_v4_2 : Vec Ideal (M2 2048 5632) .bf16) (ix2 (tok (q1 t) i) l) := by
  have e : (q1 t).val = t.val := rfl
  have e' : (tok (q1 t) i).val = 256 * t.val + i.val := rfl
  blk_ext [blk1, wi1 t]
theorem rf1_3 (t : Fin cfg1.N) (i : Fin 1) (l : Fin 1024) :
    (blk1 V c 3 t : Vec Ideal (M2 1 1024) .f32) (ix2 i l) = (V c main_arg1 : Vec Ideal (M2 1 1024) .f32) (ix2 i l) := by
  have e : (q1 t).val = t.val := rfl
  blk_ext [blk1, wi1 t]
theorem rf2_0 (t : Fin cfg2.N) (i : Fin 2048) (l : Fin 1024) :
    (blk2 V c 0 t : Vec Ideal (M2 2048 1024) .bf16) (ix2 i l) = (V c main_v4_1 : Vec Ideal (M2 2048 1024) .bf16) (ix2 i l) := by
  have e : (q2 t).val = t.val := rfl
  blk_ext [blk2, wi2 t]
theorem rf2_1 (t : Fin cfg2.N) (i : Fin 2048) (l : Fin 1408) :
    (blk2 V c 1 t : Vec Ideal (M2 2048 1408) .bf16) (ix2 i l) = (V c main_v5_1 : Vec Ideal (M2 2048 5632) .bf16) (ix2 i (col (q2 t) l)) := by
  have e : (q2 t).val = t.val := rfl
  have e' : (col (q2 t) l).val = 1408 * t.val + l.val := rfl
  blk_ext [blk2, wi2 t]
theorem rf3_0 (t : Fin cfg3.N) (i : Fin 2048) (l : Fin 1408) :
    (blk3 V c 0 t : Vec Ideal (M2 2048 1408) .bf16) (ix2 i l) = (V c main_v4_3 : Vec Ideal (M2 2048 2816) .bf16) (ix2 i (hal (q3 t) l)) := by
  have e : (q3 t).val = t.val := rfl
  have e' : (hal (q3 t) l).val = 1408 * t.val + l.val := rfl
  blk_ext [blk3, wi3 t]
theorem rf3_1 (t : Fin cfg3.N) (i : Fin 2048) (l : Fin 1024) :
    (blk3 V c 1 t : Vec Ideal (M2 2048 1024) .bf16) (ix2 i l) = (V c main_v5_3 : Vec Ideal (M2 2048 1024) .bf16) (ix2 i l) := by
  have e : (q3 t).val = t.val := rfl
  blk_ext [blk3, wi3 t]

variable (x d : Fin 2048 → Fin 1024 → ℝ) (g : Fin 1024 → ℝ) (w : Fin 1024 → Fin 5632 → ℝ) (v : Fin 2816 → Fin 1024 → ℝ) (z : Fin 2048 → Fin 5632 → ℝ)
/-- The array of the layer's results. -/
def aY : Vec Ideal (M2 2048 1024) .f32 := fun y => ((yy (x (y 0)) v (zz (x (y 0)) g w) (y 1) : ℝ) : EReal)
/-- The array of the normalised tokens. -/
def aH : Vec Ideal (M2 2048 1024) .bf16 := fun y => ((hh (x (y 0)) g (y 1) : ℝ) : EReal)
/-- The array of gates and ups. -/
def aZ : Vec Ideal (M2 2048 5632) .bf16 := fun y => ((zz (x (y 0)) g w (y 1) : ℝ) : EReal)
/-- The array of gated units. -/
def aA : Vec Ideal (M2 2048 2816) .bf16 := fun y => ((act (zz (x (y 0)) g w) (y 1) : ℝ) : EReal)
/-- The array of the tokens' cotangents. -/
def aX : Vec Ideal (M2 2048 1024) .f32 := fun y => ((dxx (x (y 0)) g (d (y 0)) w v (z (y 0)) (y 1) : ℝ) : EReal)
/-- The array of the cotangents of gates and ups. -/
def aD : Vec Ideal (M2 2048 5632) .bf16 := fun y => ((dz (d (y 0)) v (z (y 0)) (y 1) : ℝ) : EReal)
/-- The array of the scale's cotangent. -/
def aG : Vec Ideal (M2 1 1024) .f32 := fun y => ((∑ i, dgr (x i) (d i) w v (z i) (y 1) : ℝ) : EReal)
/-- The array of halved cotangents. -/
def aE : Vec Ideal (M2 2048 1024) .bf16 := fun y => ((hd (d (y 0)) (y 1) : ℝ) : EReal)
/-- The array of the first weights' cotangent, by quarters. -/
def aW13 (p : Fin 2048 → Fin 1024 → ℝ) (q : Fin 2048 → Fin 5632 → ℝ) : Vec Ideal (M3 4 1024 1408) .bf16 := fun y => ((∑ i, p i (y 1) * q i (col (y 0) (y 2)) : ℝ) : EReal)
/-- The array of the second weights' cotangent. -/
def aW2 (p : Fin 2048 → Fin 2816 → ℝ) (q : Fin 2048 → Fin 1024 → ℝ) : Vec Ideal (M3 1 2816 1024) .bf16 := fun y => ((∑ i, p i (y 1) * q i (y 2) : ℝ) : EReal)

section
variable (hX : ∀ i k, (V c main_arg0 : Vec Ideal (M2 2048 1024) .f32) (ix2 i k) = (x i k : EReal))
  (hG : ∀ k, (V c main_arg1 : Vec Ideal (M2 1 1024) .f32) (ix2 0 k) = (g k : EReal))
  (hW : ∀ s k j, (V c main_v2 : Vec Ideal (M3 4 1024 1408) .bf16) (ix3 s k j) = (w k (col s j) : EReal))
  (hV : ∀ j k, (V c main_v3 : Vec Ideal (M2 2816 1024) .bf16) (ix2 j k) = (v j k : EReal))
include hX in
theorem bX0 (t : Fin cfg0.N) (i : Fin 256) (k : Fin 1024) : (blk0 V c 0 t : Vec Ideal (M2 256 1024) .f32) (ix2 i k) = (x (tok (q0 t) i) k : EReal) :=
  (rf0_0 V c t i k).trans (hX _ _)
include hG in
theorem bG0 (t : Fin cfg0.N) (k : Fin 1024) : (blk0 V c 1 t : Vec Ideal (M2 1 1024) .f32) (ix2 0 k) = (g k : EReal) :=
  (rf0_1 V c t 0 k).trans (hG _)

include hX hG hW hV in
theorem arr_y : (fd0 V c).arrAt 2 cfg0.N = aY x g w v := by
  refine (fd0 V c).arrAt_eq_of_covers 2 _ (by decide +kernel) fun t hf y => ?_
  blk_simp
  rw [fd0_2]
  obtain ⟨i, l, rfl⟩ := ix2_of (a := 256) (b := 1024) y
  refine (y_v (x (tok (q0 t) i)) g w v i (bX0 V c x hX t i) (bG0 V c g hG t) hW hV l).trans ?_
  have e' : (tok (q0 t) i).val = 256 * t.val + i.val := rfl
  show aY x g w v (ix2 (tok (q0 t) i) l) = _
  blk_ext [wi0 t]

include hX hG in
theorem arr_h : (fd0 V c).arrAt 3 cfg0.N = aH x g := by
  refine (fd0 V c).arrAt_eq_of_covers 3 _ (by decide +kernel) fun t hf y => ?_
  blk_simp
  rw [fd0_3]
  obtain ⟨i, l, rfl⟩ := ix2_of (a := 256) (b := 1024) y
  refine (hh_v (x (tok (q0 t) i)) i (bX0 V c x hX t i) g (bG0 V c g hG t) l).trans ?_
  have e' : (tok (q0 t) i).val = 256 * t.val + i.val := rfl
  show aH x g (ix2 (tok (q0 t) i) l) = _
  blk_ext [wi0 t]

include hX hG hW in
theorem arr_z : (fd0 V c).arrAt 4 cfg0.N = aZ x g w := by
  refine (fd0 V c).arrAt_eq_of_covers 4 _ (by decide +kernel) fun t hf y => ?_
  blk_simp
  rw [fd0_4]
  obtain ⟨i, l, rfl⟩ := ix2_of (a := 256) (b := 5632) y
  refine (gu_v (fun i => x (tok (q0 t) i)) g w (bX0 V c x hX t) (bG0 V c g hG t) hW i l).trans ?_
  have e' : (tok (q0 t) i).val = 256 * t.val + i.val := rfl
  show aZ x g w (ix2 (tok (q0 t) i) l) = _
  blk_ext [wi0 t]

include hX hG hW in
theorem arr_a : (fd0 V c).arrAt 5 cfg0.N = aA x g w := by
  refine (fd0 V c).arrAt_eq_of_covers 5 _ (by decide +kernel) fun t hf y => ?_
  blk_simp
  rw [fd0_5]
  obtain ⟨i, l, rfl⟩ := ix2_of (a := 256) (b := 2816) y
  refine (act_v (fun i => x (tok (q0 t) i)) g w (bX0 V c x hX t) (bG0 V c g hG t) hW i l).trans ?_
  have e' : (tok (q0 t) i).val = 256 * t.val + i.val := rfl
  show aA x g w (ix2 (tok (q0 t) i) l) = _
  blk_ext [wi0 t]

variable (hD : ∀ i k, (V c main_arg4 : Vec Ideal (M2 2048 1024) .f32) (ix2 i k) = (d i k : EReal))
  (hZ : ∀ i k, (V c main_v4_2 : Vec Ideal (M2 2048 5632) .bf16) (ix2 i k) = (z i k : EReal))
include hX in
theorem bX1 (t : Fin cfg1.N) (i : Fin 256) (k : Fin 1024) : (blk1 V c 1 t : Vec Ideal (M2 256 1024) .f32) (ix2 i k) = (x (tok (q1 t) i) k : EReal) :=
  (rf1_1 V c t i k).trans (hX _ _)
include hG in
theorem bG1 (t : Fin cfg1.N) (k : Fin 1024) : (blk1 V c 3 t : Vec Ideal (M2 1 1024) .f32) (ix2 0 k) = (g k : EReal) :=
  (rf1_3 V c t 0 k).trans (hG _)
include hD in
theorem bD1 (t : Fin cfg1.N) (i : Fin 256) (k : Fin 1024) : (blk1 V c 0 t : Vec Ideal (M2 256 1024) .f32) (ix2 i k) = (d (tok (q1 t) i) k : EReal) :=
  (rf1_0 V c t i k).trans (hD _ _)
include hZ in
theorem bZ1 (t : Fin cfg1.N) (i : Fin 256) (k : Fin 5632) : (blk1 V c 2 t : Vec Ideal (M2 256 5632) .bf16) (ix2 i k) = (z (tok (q1 t) i) k : EReal) :=
  (rf1_2 V c t i k).trans (hZ _ _)

include hX hG hW hV hD hZ in
theorem arr_dx : (fd1 V c).arrAt 4 cfg1.N = aX x d g w v z := by
  refine (fd1 V c).arrAt_eq_of_covers 4 _ (by decide +kernel) fun t hf y => ?_
  blk_simp
  rw [fd1_4]
  obtain ⟨i, l, rfl⟩ := ix2_of (a := 256) (b := 1024) y
  refine (dx_v (fun i => x (tok (q1 t) i)) (fun i => d (tok (q1 t) i)) g w v (fun i => z (tok (q1 t) i)) (bD1 V c d hD t) (bZ1 V c z hZ t) hV i (bX1 V c x hX t) (bG1 V c g hG t) hW l).trans ?_
  have e' : (tok (q1 t) i).val = 256 * t.val + i.val := rfl
  show aX x d g w v z (ix2 (tok (q1 t) i) l) = _
  blk_ext [wi1 t]

include hV hD hZ in
theorem arr_dz : (fd1 V c).arrAt 5 cfg1.N = aD d v z := by
  refine (fd1 V c).arrAt_eq_of_covers 5 _ (by decide +kernel) fun t hf y => ?_
  blk_simp
  rw [fd1_5]
  obtain ⟨i, l, rfl⟩ := ix2_of (a := 256) (b := 5632) y
  refine (dz_v (fun i => d (tok (q1 t) i)) v (fun i => z (tok (q1 t) i)) (bD1 V c d hD t) (bZ1 V c z hZ t) hV i l).trans ?_
  have e' : (tok (q1 t) i).val = 256 * t.val + i.val := rfl
  show aD d v z (ix2 (tok (q1 t) i) l) = _
  blk_ext [wi1 t]

include hD in
theorem arr_e : (fd1 V c).arrAt 7 cfg1.N = aE d := by
  refine (fd1 V c).arrAt_eq_of_covers 7 _ (by decide +kernel) fun t hf y => ?_
  blk_simp
  rw [fd1_7]
  obtain ⟨i, l, rfl⟩ := ix2_of (a := 256) (b := 1024) y
  refine (hd_v (fun i => d (tok (q1 t) i)) (bD1 V c d hD t) i l).trans ?_
  have e' : (tok (q1 t) i).val = 256 * t.val + i.val := rfl
  show aE d (ix2 (tok (q1 t) i) l) = _
  blk_ext [wi1 t]

include hX hW hV hD hZ in
theorem dg_at : ∀ (n : ℕ) (hn : n < 8) (k : Fin 1024), (dg1 V c n : Vec Ideal (M2 1 1024) .f32) (ix2 0 k)
    = ((∑ m : Fin (n + 1), ∑ i, dgr (x (tok ⟨m.val, by omega⟩ i)) (d (tok ⟨m.val, by omega⟩ i)) w v (z (tok ⟨m.val, by omega⟩ i)) k : ℝ) : EReal)
  | 0, hn, k => by
    have h := dg_v (fun i => x (tok (q1 (pt1 0)) i)) (fun i => d (tok (q1 (pt1 0)) i)) w v (fun i => z (tok (q1 (pt1 0)) i))
      (bD1 V c d hD (pt1 0)) (bZ1 V c z hZ (pt1 0)) hV (bX1 V c x hX (pt1 0)) hW (fun _ => 0) (P := k1_pay1 (F := Ideal)) (fun k => c_zero) k
    refine (h : (dg1 V c 0 : Vec Ideal (M2 1 1024) .f32) (ix2 0 k) = _).trans ?_
    rw [Fin.sum_univ_one, zero_add]; rfl
  | n + 1, hn, k => by
    have hp : (pt1 (n + 1)).val = n + 1 := pt1_val ⟨n + 1, by rw [gN1]; exact hn⟩ |> fun h => congrArg Fin.val h
    have h := dg_v (fun i => x (tok (q1 (pt1 (n + 1))) i)) (fun i => d (tok (q1 (pt1 (n + 1))) i)) w v (fun i => z (tok (q1 (pt1 (n + 1))) i))
      (bD1 V c d hD (pt1 (n + 1))) (bZ1 V c z hZ (pt1 (n + 1))) hV (bX1 V c x hX (pt1 (n + 1))) hW _ (P := dg1 V c n) (dg_at n (by omega)) k
    refine (h : (dg1 V c (n + 1) : Vec Ideal (M2 1 1024) .f32) (ix2 0 k) = _).trans ?_
    have hq : q1 (pt1 (n + 1)) = ⟨n + 1, hn⟩ := Fin.ext hp
    rw [hq, Fin.sum_univ_castSucc (n := n + 1)]; rfl
include hX hW hV hD hZ in
theorem arr_dg : (fd1 V c).arrAt 6 cfg1.N = aG x d w v z := by
  refine (fd1 V c).arrAt_eq_of_covers 6 _ (by decide +kernel) fun t hf y => ?_
  have ht : t.val = 7 := (by decide +kernel : ∀ t : Fin grid1.N, (cfg1.win 6).flush t = true → t.val = 7) t hf
  blk_simp
  rw [fd1_6]
  obtain ⟨i, l, rfl⟩ := ix2_of (a := 1) (b := 1024) y
  obtain rfl : i = 0 := Subsingleton.elim _ _
  rw [ht]
  refine (dg_at V c x d w v z hX hW hV hD hZ 7 (by omega) l).trans ?_
  rw [← sum_tok (fun i => dgr (x i) (d i) w v (z i) l)]
  show aG x d w v z (ix2 0 l) = _
  blk_ext [wi1 t]
end

section
variable (p : Fin 2048 → Fin 1024 → ℝ) (q : Fin 2048 → Fin 5632 → ℝ)
  (hP : ∀ i k, (V c main_v4_1 : Vec Ideal (M2 2048 1024) .bf16) (ix2 i k) = (p i k : EReal))
  (hQ : ∀ i k, (V c main_v5_1 : Vec Ideal (M2 2048 5632) .bf16) (ix2 i k) = (q i k : EReal))
include hP hQ in
theorem arr_w13 : (fd2 V c).arrAt 2 cfg2.N = aW13 p q := by
  refine (fd2 V c).arrAt_eq_of_covers 2 _ (by decide +kernel) fun t hf y => ?_
  blk_simp
  rw [fd2_2]
  obtain ⟨a, k, j, rfl⟩ := ix3_of (a := 1) (b := 1024) (c := 1408) y
  obtain rfl : a = 0 := Subsingleton.elim _ _
  refine (gw2_v k j (p := fun i => p i k) (q := fun i => q i (col (q2 t) j)) (fun i => (rf2_0 V c t i k).trans (hP i k)) (fun i => (rf2_1 V c t i j).trans (hQ i _)) 0).trans ?_
  have e : (q2 t).val = t.val := rfl
  show aW13 p q (ix3 (q2 t) k j) = _
  blk_ext [wi2 t]
end

section
variable (p : Fin 2048 → Fin 2816 → ℝ) (q : Fin 2048 → Fin 1024 → ℝ)
  (hP : ∀ i k, (V c main_v4_3 : Vec Ideal (M2 2048 2816) .bf16) (ix2 i k) = (p i k : EReal))
  (hQ : ∀ i k, (V c main_v5_3 : Vec Ideal (M2 2048 1024) .bf16) (ix2 i k) = (q i k : EReal))
include hP hQ in
theorem arr_w2 : (fd3 V c).arrAt 2 cfg3.N = aW2 p q := by
  refine (fd3 V c).arrAt_eq_of_covers 2 _ (by decide +kernel) fun t hf y => ?_
  blk_simp
  rw [fd3_2]
  obtain ⟨a, j, k, rfl⟩ := ix3_of (a := 1) (b := 1408) (c := 1024) y
  obtain rfl : a = 0 := Subsingleton.elim _ _
  refine (gw3_v j k (p := fun i => p i (hal (q3 t) j)) (q := fun i => q i k) (fun i => (rf3_0 V c t i j).trans (hP i _)) (fun i => (rf3_1 V c t i k).trans (hQ i k)) 0).trans ?_
  have e' : (hal (q3 t) j).val = 1408 * t.val + j.val := rfl
  show aW2 p q (ix3 0 (hal (q3 t) j) k) = _
  blk_ext [wi3 t]
end
end
end Cert.Ffn
end
-- ==== Proof.Fv.lean ====
module
public import proofs.«01_k».proof.Proof.Fw
public import Idealize.ShloMosaic.Lib.Pointwise.IndexVar
@[expose] public section
set_option maxRecDepth 16384
noncomputable section

/-! What the feed-forward program leaves in its results, on the reals. -/

namespace Cert.Ffn
open Idealize.ShloMosaic Idealize.SL.Sem Cert.Kernel2Ideal Cert.Kernel2Ideal.Gen
open Cert.Attn (M2 M3)

variable (m : (ℓ : Loc nD τ sig) → Buf (Elt Ideal) ℓ) (ρ : Dev nD → PrngReg)

/-- The first weights as the calls read them: by quarters of the columns. -/
theorem entry_w (c : Dev nD) : (C1 m ρ c main_v2 : Vec Ideal (M3 4 1024 1408) .bf16)
    = transpose S4x1024x1408 [1, 0, 2] (shapeCast S1024x4x1408 (truncf (F := Ideal) .bf16 (m ((c.tc : Thread nD τ).loc main_arg2) : Vec Ideal (M2 1024 5632) .f32) bitsLt_bf16_f32) shapeCasts_S1024x5632_S1024x4x1408) transposes_S1024x4x1408_S4x1024x1408_1_0_2 := by
  show StableHlo.after hostOps0 (B0 m ρ c) (Proc.devRef .tc main_v2) = _
  after_results_simp
  rfl
/-- The second weights as the calls read them. -/
theorem entry_v (c : Dev nD) : (C1 m ρ c main_v3 : Vec Ideal (M2 2816 1024) .bf16)
    = truncf (F := Ideal) .bf16 (m ((c.tc : Thread nD τ).loc main_arg3) : Vec Ideal (M2 2816 1024) .f32) bitsLt_bf16_f32 := by
  show StableHlo.after hostOps0 (B0 m ρ c) (Proc.devRef .tc main_v3) = _
  after_results_simp

theorem quart_apply {α : Type} (y : (M2 1024 5632).Idx → α) (hs : (M2 1024 5632).ShapeCasts (M3 1024 4 1408)) (ht : (M3 1024 4 1408).Transposes [1, 0, 2] (M3 4 1024 1408))
    (s : Fin 4) (k : Fin 1024) (j : Fin 1408) : transpose (M3 4 1024 1408) [1, 0, 2] (shapeCast (M3 1024 4 1408) y hs) ht (ix3 s k j) = y (ix2 k (col s j)) := by
  have h : shapeCast (M3 1024 4 1408) y hs (ix3 k s j) = y (ix2 k (col s j)) := by
    refine shapeCast_apply _ _ _ _ ?_
    rw [Shape.rowMajor_val_three, Shape.rowMajor_val_two]
    show k.val * 5632 + (1408 * s.val + j.val) = (k.val * 4 + s.val) * 1408 + j.val
    omega
  refine Eq.trans ?_ h
  pointwise

section
variable (x d : Dev nD → Fin 2048 → Fin 1024 → ℝ) (g : Dev nD → Fin 1024 → ℝ) (w : Dev nD → Fin 1024 → Fin 5632 → ℝ) (v : Dev nD → Fin 2816 → Fin 1024 → ℝ)
  (hX : ∀ c i k, (m ((c.tc : Thread nD τ).loc main_arg0) : Vec Ideal (M2 2048 1024) .f32) (ix2 i k) = (x c i k : EReal))
  (hG : ∀ c k, (m ((c.tc : Thread nD τ).loc main_arg1) : Vec Ideal (M2 1 1024) .f32) (ix2 0 k) = (g c k : EReal))
  (hW : ∀ c k j, (m ((c.tc : Thread nD τ).loc main_arg2) : Vec Ideal (M2 1024 5632) .f32) (ix2 k j) = (w c k j : EReal))
  (hV : ∀ c j k, (m ((c.tc : Thread nD τ).loc main_arg3) : Vec Ideal (M2 2816 1024) .f32) (ix2 j k) = (v c j k : EReal))
  (hD : ∀ c i k, (m ((c.tc : Thread nD τ).loc main_arg4) : Vec Ideal (M2 2048 1024) .f32) (ix2 i k) = (d c i k : EReal))

include hX in
theorem eX1 (c : Dev nD) (i k) : (C1 m ρ c main_arg0 : Vec Ideal (M2 2048 1024) .f32) (ix2 i k) = (x c i k : EReal) :=
  (congrFun (B1_args m ρ c main_arg0 (by decide)) (ix2 i k)).trans (hX c i k)
include hG in
theorem eG1 (c : Dev nD) (k) : (C1 m ρ c main_arg1 : Vec Ideal (M2 1 1024) .f32) (ix2 0 k) = (g c k : EReal) :=
  (congrFun (B1_args m ρ c main_arg1 (by decide)) (ix2 0 k)).trans (hG c k)
include hW in
theorem eW1 (c : Dev nD) (s k j) : (C1 m ρ c main_v2 : Vec Ideal (M3 4 1024 1408) .bf16) (ix3 s k j) = (w c k (col s j) : EReal) :=
  (congrFun (entry_w m ρ c) (ix3 s k j)).trans ((quart_apply _ _ _ s k j).trans (hW c k (col s j)))
include hV in
theorem eV1 (c : Dev nD) (j k) : (C1 m ρ c main_v3 : Vec Ideal (M2 2816 1024) .bf16) (ix2 j k) = (v c j k : EReal) :=
  (congrFun (entry_v m ρ c) (ix2 j k)).trans (hV c j k)
include hX in
theorem eX2 (c : Dev nD) (i k) : (C2 m ρ c main_arg0 : Vec Ideal (M2 2048 1024) .f32) (ix2 i k) = (x c i k : EReal) :=
  (congrFun (B2_args m ρ c main_arg0 (by decide)) (ix2 i k)).trans (hX c i k)
include hG in
theorem eG2 (c : Dev nD) (k) : (C2 m ρ c main_arg1 : Vec Ideal (M2 1 1024) .f32) (ix2 0 k) = (g c k : EReal) :=
  (congrFun (B2_args m ρ c main_arg1 (by decide)) (ix2 0 k)).trans (hG c k)
include hD in
theorem eD2 (c : Dev nD) (i k) : (C2 m ρ c main_arg4 : Vec Ideal (M2 2048 1024) .f32) (ix2 i k) = (d c i k : EReal) :=
  (congrFun (B2_args m ρ c main_arg4 (by decide)) (ix2 i k)).trans (hD c i k)
include hW in
theorem eW2 (c : Dev nD) (s k j) : (C2 m ρ c main_v2 : Vec Ideal (M3 4 1024 1408) .bf16) (ix3 s k j) = (w c k (col s j) : EReal) :=
  (congrFun (B2_of m ρ c main_v2 (by decide +kernel)) (ix3 s k j)).trans (eW1 m ρ w hW c s k j)
include hV in
theorem eV2 (c : Dev nD) (j k) : (C2 m ρ c main_v3 : Vec Ideal (M2 2816 1024) .bf16) (ix2 j k) = (v c j k : EReal) :=
  (congrFun (B2_of m ρ c main_v3 (by decide +kernel)) (ix2 j k)).trans (eV1 m ρ v hV c j k)
include hX hG hW in
theorem eZ2 (c : Dev nD) (i k) : (C2 m ρ c main_v4_2 : Vec Ideal (M2 2048 5632) .bf16) (ix2 i k) = ((zz (x c i) (g c) (w c) k : ℝ) : EReal) :=
  congrFun ((B2_arr m ρ c 4).trans (arr_z (C1 m ρ) c (x c) (g c) (w c) (eX1 m ρ x hX c) (eG1 m ρ g hG c) (eW1 m ρ w hW c))) (ix2 i k)
include hX hG in
theorem eH2 (c : Dev nD) : (C2 m ρ c main_v4_1 : Vec Ideal (M2 2048 1024) .bf16) = aH (x c) (g c) :=
  (B2_arr m ρ c 3).trans (arr_h (C1 m ρ) c (x c) (g c) (eX1 m ρ x hX c) (eG1 m ρ g hG c))
include hX hG hW in
theorem eA2 (c : Dev nD) : (C2 m ρ c main_v4_3 : Vec Ideal (M2 2048 2816) .bf16) = aA (x c) (g c) (w c) :=
  (B2_arr m ρ c 5).trans (arr_a (C1 m ρ) c (x c) (g c) (w c) (eX1 m ρ x hX c) (eG1 m ρ g hG c) (eW1 m ρ w hW c))
include hX hG hW hV in
theorem y_end (c : Dev nD) : B5 m ρ c (Proc.devRef .tc main_v4_0) = aY (x c) (g c) (w c) (v c) :=
  (B5_of m ρ c main_v4_0 (by decide +kernel)).trans <| (B4_of m ρ c main_v4_0 (by decide +kernel)).trans <| (B3_of m ρ c main_v4_0 (by decide +kernel)).trans <|
    (B2_arr m ρ c 2).trans (arr_y (C1 m ρ) c (x c) (g c) (w c) (v c) (eX1 m ρ x hX c) (eG1 m ρ g hG c) (eW1 m ρ w hW c) (eV1 m ρ v hV c))
include hX hG hW hV hD in
theorem dx_end (c : Dev nD) : B5 m ρ c (Proc.devRef .tc main_v5_0) = aX (x c) (d c) (g c) (w c) (v c) (fun i => zz (x c i) (g c) (w c)) :=
  (B5_of m ρ c main_v5_0 (by decide +kernel)).trans <| (B4_of m ρ c main_v5_0 (by decide +kernel)).trans <|
    (B3_arr m ρ c 4).trans (arr_dx (C2 m ρ) c (x c) (d c) (g c) (w c) (v c) _ (eX2 m ρ x hX c) (eG2 m ρ g hG c) (eW2 m ρ w hW c) (eV2 m ρ v hV c) (eD2 m ρ d hD c) (eZ2 m ρ x g w hX hG hW c))
include hX hG hW hV hD in
theorem dg_end (c : Dev nD) : B5 m ρ c (Proc.devRef .tc main_v5_2) = aG (x c) (d c) (w c) (v c) (fun i => zz (x c i) (g c) (w c)) :=
  (B5_of m ρ c main_v5_2 (by decide +kernel)).trans <| (B4_of m ρ c main_v5_2 (by decide +kernel)).trans <|
    (B3_arr m ρ c 6).trans (arr_dg (C2 m ρ) c (x c) (d c) (w c) (v c) _ (eX2 m ρ x hX c) (eW2 m ρ w hW c) (eV2 m ρ v hV c) (eD2 m ρ d hD c) (eZ2 m ρ x g w hX hG hW c))
include hX hG hW hV hD in
theorem eD3 (c : Dev nD) : (C3 m ρ c main_v5_1 : Vec Ideal (M2 2048 5632) .bf16) = aD (d c) (v c) (fun i => zz (x c i) (g c) (w c)) :=
  (B3_arr m ρ c 5).trans (arr_dz (C2 m ρ) c (d c) (v c) _ (eV2 m ρ v hV c) (eD2 m ρ d hD c) (eZ2 m ρ x g w hX hG hW c))
include hX hG in
theorem eH3 (c : Dev nD) : (C3 m ρ c main_v4_1 : Vec Ideal (M2 2048 1024) .bf16) = aH (x c) (g c) :=
  (B3_of m ρ c main_v4_1 (by decide +kernel)).trans (eH2 m ρ x g hX hG c)
include hX hG hW in
theorem eA4 (c : Dev nD) : (C4 m ρ c main_v4_3 : Vec Ideal (M2 2048 2816) .bf16) = aA (x c) (g c) (w c) :=
  (B4_of m ρ c main_v4_3 (by decide +kernel)).trans <| (B3_of m ρ c main_v4_3 (by decide +kernel)).trans (eA2 m ρ x g w hX hG hW c)
include hD in
theorem eE4 (c : Dev nD) : (C4 m ρ c main_v5_3 : Vec Ideal (M2 2048 1024) .bf16) = aE (d c) :=
  (B4_of m ρ c main_v5_3 (by decide +kernel)).trans <| (B3_arr m ρ c 7).trans (arr_e (C2 m ρ) c (d c) (eD2 m ρ d hD c))
include hX hG hW hV hD in
theorem w13_end (c : Dev nD) : B5 m ρ c (Proc.devRef .tc main_v6) = aW13 (fun i => hh (x c i) (g c)) (fun i => dz (d c i) (v c) (zz (x c i) (g c) (w c))) :=
  (B5_of m ρ c main_v6 (by decide +kernel)).trans <| (B4_arr m ρ c 2).trans (arr_w13 (C3 m ρ) c _ _
    (fun i k => congrFun (eH3 m ρ x g hX hG c) (ix2 i k)) (fun i k => congrFun (eD3 m ρ x d g w v hX hG hW hV hD c) (ix2 i k)))
include hX hG hW hD in
theorem w2_end (c : Dev nD) : B5 m ρ c (Proc.devRef .tc main_v7) = aW2 (fun i => act (zz (x c i) (g c) (w c))) (fun i => hd (d c i)) :=
  (B5_arr m ρ c 2).trans (arr_w2 (C4 m ρ) c _ _
    (fun i k => congrFun (eA4 m ρ x g w hX hG hW c) (ix2 i k)) (fun i k => congrFun (eE4 m ρ d hD c) (ix2 i k)))

include hX hG hW hV hD in
/-- The program ends with the layer's results and cotangents, its arguments as they were. -/
theorem ffn_value : θ_run defs (onTc (τ := τ) (main (F := Ideal))) ⟨m, fun _ => 0, ρ⟩ (fun r => ∀ c : Dev nD,
      r.2.mem ((c.tc : Thread nD τ).loc main_v4_0) = aY (x c) (g c) (w c) (v c)
      ∧ r.2.mem ((c.tc : Thread nD τ).loc main_v5_0) = aX (x c) (d c) (g c) (w c) (v c) (fun i => zz (x c i) (g c) (w c))
      ∧ r.2.mem ((c.tc : Thread nD τ).loc main_v5_2) = aG (x c) (d c) (w c) (v c) (fun i => zz (x c i) (g c) (w c))
      ∧ r.2.mem ((c.tc : Thread nD τ).loc main_v6) = aW13 (fun i => hh (x c i) (g c)) (fun i => dz (d c i) (v c) (zz (x c i) (g c) (w c)))
      ∧ r.2.mem ((c.tc : Thread nD τ).loc main_v7) = aW2 (fun i => act (zz (x c i) (g c) (w c))) (fun i => hd (d c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have arg (a : Ref sig .tc) (ha : a ∈ fArgs) (hs : ¬ (Proc.devRef .tc a : DevRef τ sig).isScoped) :
        r.2.mem ((c.tc : Thread nD τ).loc a) = m ((c.tc : Thread nD τ).loc a) := (h.1 c _ (uc_mem a hs)).trans (B5_args m ρ c a ha)
    ⟨(h.1 c _ (uc_mem main_v4_0 (by decide))).trans (y_end m ρ x g w v hX hG hW hV c),
      (h.1 c _ (uc_mem main_v5_0 (by decide))).trans (dx_end m ρ x d g w v hX hG hW hV hD c),
      (h.1 c _ (uc_mem main_v5_2 (by decide))).trans (dg_end m ρ x d g w v hX hG hW hV hD c),
      (h.1 c _ (uc_mem main_v6 (by decide))).trans (w13_end m ρ x d g w v hX hG hW hV hD c),
      (h.1 c _ (uc_mem main_v7 (by decide))).trans (w2_end m ρ x d g w hX hG hW hD c),
      arg main_arg0 (by decide) (by decide), arg main_arg1 (by decide) (by decide), arg main_arg2 (by decide) (by decide),
      arg main_arg3 (by decide) (by decide), arg main_arg4 (by decide) (by decide)⟩) (ffn_run m ρ)
end
end Cert.Ffn
end
-- ==== Proof.Fq.lean ====
module
public import proofs.«01_k».proof.Proof.Fw
public import proofs.«01_k».proof.Proof.Gen.Reference2Ideal.Read
@[expose] public section
set_option maxRecDepth 16384
noncomputable section

/-! The reference's feed-forward layer and its cotangents, on the reals. -/

namespace Cert.Ffn
open Idealize.ShloMosaic Cert.Reference2Ideal Cert.Reference2Ideal.Read
open Cert.Attn (M2 M3 c_one)

theorem at2 {α : Type} {a b : ℕ} (f : (M2 a b).Idx → α) (y : (M2 a b).Idx) (i : Fin a) (l : Fin b) (h0 : (y 0).val = i.val) (h1 : (y 1).val = l.val) : f y = f (ix2 i l) := by
  refine congrArg f ?_
  funext k; fin_cases k
  · exact Fin.ext h0
  · exact Fin.ext h1

theorem zs_v {s : EReal} {a : ℝ} (hs : s = (a : EReal)) : Ideal.ofBits .f32 0x00000000#32 + s = (a : EReal) :=
  (add_v c_zero hs).trans (by rw [zero_add])

theorem dx_alg (x d h g r vi S : ℝ) (hr : r * r = vi) :
    d + h * g * r + x * (S * (-(1 / 2) * (r * vi)) * (1 / 1024)) + S * (-(1 / 2) * (r * vi)) * (1 / 1024) * x
      = d + (r * (h * g) - x * (r * r * r) * (S * (1 / 1024))) := by
  rw [← hr]; ring

section
variable (X D : Vec Ideal (M2 2048 1024) .f32) (G : Vec Ideal (M2 1 1024) .f32) (W : Vec Ideal (M2 1024 5632) .f32) (V : Vec Ideal (M2 2816 1024) .f32)
variable (x d : Fin 2048 → Fin 1024 → ℝ) (g : Fin 1024 → ℝ) (w : Fin 1024 → Fin 5632 → ℝ) (v : Fin 2816 → Fin 1024 → ℝ)
variable (hX : ∀ i k, X (ix2 i k) = (x i k : EReal)) (hG : ∀ k, G (ix2 0 k) = (g k : EReal)) (hW : ∀ k j, W (ix2 k j) = (w k j : EReal))
  (hV : ∀ j k, V (ix2 j k) = (v j k : EReal)) (hD : ∀ i k, D (ix2 i k) = (d i k : EReal))

include hX in
theorem r6 (i : Fin 2048) : val_main_v6 (F := Ideal) X (ix2 i 0) = ((vv (x i) : ℝ) : EReal) := by
  rw [val_main_v6_apply, val_main_v4_apply, val_main_v2_apply, val_main_v1_apply]
  exact add_v (dvd_v (zs_v (sum_v fun k => (at2 (val_main_v0 X) _ i k rfl rfl).trans (mul_v (hX i k) (hX i k))))) c_eps
include hX in
theorem r7 (i : Fin 2048) : val_main_v7 (F := Ideal) X (ix2 i 0) = ((rr (x i) : ℝ) : EReal) := by
  rw [val_main_v7_apply, r6 X x hX]
  exact rsqrt_vv _
include hX in
theorem r10 (i : Fin 2048) : val_main_v10 (F := Ideal) X (ix2 i 0) = ((-(1 / 2) * (rr (x i) * (1 / vv (x i))) : ℝ) : EReal) := by
  rw [val_main_v10_apply, val_main_v8_apply, r7 X x hX, r6 X x hX]
  refine mul_v c_mhalf ?_
  exact (Ideal.div_coe (vv_pos (x i)).ne' _).trans (EReal.coe_mul _ _).symm
include hX in
theorem r12 (i : Fin 2048) (k : Fin 1024) : val_main_v12 (F := Ideal) X (ix2 i k) = ((x i k * rr (x i) : ℝ) : EReal) := by
  rw [val_main_v12_apply, val_main_v11_apply]
  exact mul_v (hX i k) ((at2 (val_main_v7 X) _ i 0 rfl rfl).trans (r7 X x hX i))
include hX hG in
theorem r14 (i : Fin 2048) (k : Fin 1024) : val_main_v14 (F := Ideal) X G (ix2 i k) = ((hh (x i) g k : ℝ) : EReal) := by
  rw [val_main_v14_apply, val_main_v13_apply]
  exact mul_v (r12 X x hX i k) ((at2 G _ 0 k rfl rfl).trans (hG k))
include hX hG hW in
theorem r15 (i : Fin 2048) (j : Fin 5632) : val_main_v15 (F := Ideal) X G W (ix2 i j) = ((zz (x i) g w j : ℝ) : EReal) := by
  rw [val_main_v15_apply]
  exact sum_v fun k => mul_v ((at2 (val_main_v14 X G) _ i k rfl rfl).trans (r14 X G x g hX hG i k)) ((at2 W _ k j rfl rfl).trans (hW k j))
include hX hG hW in
theorem r16 (i : Fin 2048) (j : Fin 2816) : val_main_v16 (F := Ideal) X G W (ix2 i j) = ((zz (x i) g w (lo j) : ℝ) : EReal) := by
  rw [val_main_v16_apply]
  exact (at2 (val_main_v15 X G W) _ i (lo j) rfl rfl).trans (r15 X G W x g w hX hG hW i _)
include hX hG hW in
theorem r17 (i : Fin 2048) (j : Fin 2816) : val_main_v17 (F := Ideal) X G W (ix2 i j) = ((zz (x i) g w (hi j) : ℝ) : EReal) := by
  rw [val_main_v17_apply]
  exact (at2 (val_main_v15 X G W) _ i (hi j) rfl rfl).trans (r15 X G W x g w hX hG hW i _)
include hX hG hW in
theorem rsg (i : Fin 2048) (j : Fin 2816) : val_main_v18_2 (F := Ideal) X G W (ix2 i j) = ((sgm (zz (x i) g w (lo j)) : ℝ) : EReal) := by
  rw [val_main_v18_2_apply, val_main_call0_v3_apply, val_main_call0_v1_apply, val_main_call0_v0_apply, r16 X G W x g w hX hG hW]
  rw [val_main_call0_v4_apply, val_main_call0_cst_0_apply, val_main_call0_v2_apply, val_main_call0_cst_apply]
  rw [show (FloatOps.ofBits .f32 0x3F800000#32 : Ideal .f32) = ((1 : ℝ) : EReal) from c_one]
  exact sgm_val _
include hX hG hW in
theorem rsl (i : Fin 2048) (j : Fin 2816) : val_main_v18_0 (F := Ideal) X G W (ix2 i j)
    = ((zz (x i) g w (lo j) * sgm (zz (x i) g w (lo j)) : ℝ) : EReal) := by
  rw [val_main_v18_0_apply]
  exact mul_v (r16 X G W x g w hX hG hW i j) (rsg X G W x g w hX hG hW i j)
include hX hG hW in
theorem rsd (i : Fin 2048) (j : Fin 2816) : val_main_v18_1 (F := Ideal) X G W (ix2 i j)
    = ((sgm (zz (x i) g w (lo j)) * (1 - sgm (zz (x i) g w (lo j))) : ℝ) : EReal) := by
  rw [val_main_v18_1_apply, val_main_call0_v7_apply, val_main_call0_v6_apply, val_main_call0_cst_1_apply]
  exact mul_v (rsg X G W x g w hX hG hW i j) (sub_v c_one (rsg X G W x g w hX hG hW i j))
include hX hG hW in
theorem r19 (i : Fin 2048) (j : Fin 2816) : val_main_v19 (F := Ideal) X G W (ix2 i j) = ((act (zz (x i) g w) j : ℝ) : EReal) := by
  rw [val_main_v19_apply]
  exact mul_v (rsl X G W x g w hX hG hW i j) (r17 X G W x g w hX hG hW i j)
include hX hG hW hV in
theorem r23 : val_main_v23 (F := Ideal) X G W V = aY x g w v := by
  funext y
  obtain ⟨i, k, rfl⟩ := ix2_of y
  rw [val_main_v23_apply, val_main_v22_apply, val_main_v20_apply, val_main_v21_apply, val_main_cst_3_apply]
  exact add_v (hX i k) (mul_v c_half (sum_v fun j => mul_v ((at2 (val_main_v19 X G W) _ i j rfl rfl).trans (r19 X G W x g w hX hG hW i j)) ((at2 V _ j k rfl rfl).trans (hV j k))))

include hD in
theorem r26 (i : Fin 2048) (k : Fin 1024) : val_main_v26 (F := Ideal) D (ix2 i k) = ((hd (d i) k : ℝ) : EReal) := by
  rw [val_main_v26_apply, val_main_v24_apply, val_main_v25_apply, val_main_cst_4_apply]
  refine mul_v c_half ((at2 D _ i k ?_ ?_).trans (hD i k))
  · show (i.val * 1024 + k.val) / 1024 = i.val; omega
  · show (i.val * 1024 + k.val) % 1024 = k.val; omega
include hV hD in
theorem r29 (i : Fin 2048) (j : Fin 2816) : val_main_v29 (F := Ideal) V D (ix2 i j) = ((da (d i) v j : ℝ) : EReal) := by
  rw [val_main_v29_apply]
  exact sum_v fun k => mul_v ((at2 (val_main_v26 D) _ i k rfl rfl).trans (r26 D d hD i k)) ((at2 V _ j k rfl rfl).trans (hV j k))
include hX hG hW hV hD in
theorem r30 (i : Fin 2048) (j : Fin 2816) : val_main_v30 (F := Ideal) X G W V D (ix2 i j) = ((uu (d i) v (zz (x i) g w) j : ℝ) : EReal) := by
  rw [val_main_v30_apply]
  refine (mul_v (rsl X G W x g w hX hG hW i j) (r29 D V d v hV hD i j)).trans (congrArg (fun r : ℝ => (r : EReal)) ?_)
  unfold uu; ring
include hX hG hW hV hD in
theorem r31 (i : Fin 2048) (j : Fin 2816) : val_main_v31 (F := Ideal) X G W V D (ix2 i j) = ((da (d i) v j * zz (x i) g w (hi j) : ℝ) : EReal) := by
  rw [val_main_v31_apply]
  exact mul_v (r29 D V d v hV hD i j) (r17 X G W x g w hX hG hW i j)
include hX hG hW hV hD in
theorem r32 (i : Fin 2048) (j : Fin 2816) : val_main_v32 (F := Ideal) X G W V D (ix2 i j) = ((gg (d i) v (zz (x i) g w) j : ℝ) : EReal) := by
  rw [val_main_v32_apply, val_main_call1_v1_apply, val_main_call1_v2_apply, val_main_call1_v0_apply]
  have h31 := r31 X D G W V x d g w v hX hG hW hV hD i j
  refine (add_v (mul_v h31 (rsg X G W x g w hX hG hW i j)) (mul_v (mul_v (r16 X G W x g w hX hG hW i j) h31) (rsd X G W x g w hX hG hW i j))).trans (congrArg (fun r : ℝ => (r : EReal)) ?_)
  unfold gg; ring
include hX hG hW hV hD in
theorem r33 (i : Fin 2048) (j : Fin 5632) : val_main_v33 (F := Ideal) X G W V D (ix2 i j) = ((dz (d i) v (zz (x i) g w) j : ℝ) : EReal) := by
  unfold val_main_v33 dz
  by_cases hj : j.val < 2816
  · rw [dif_pos hj]
    refine (concatenate_pair_apply_left (t := S2048x5632) (s₁ := S2048x2816) (s₂ := S2048x2816) 1 _ _ _ _ rfl (ix2 i ⟨j.val, hj⟩) fun b => ?_).trans (r32 X D G W V x d g w v hX hG hW hV hD i _)
    fin_cases b <;> rfl
  · rw [dif_neg hj]
    refine (concatenate_pair_apply_right (t := S2048x5632) (s₁ := S2048x2816) (s₂ := S2048x2816) 1 _ _ _ _ rfl rfl (ix2 i ⟨j.val - 2816, by omega⟩) (fun b hb => ?_) ?_).trans (r30 X D G W V x d g w v hX hG hW hV hD i _)
    · fin_cases b
      · rfl
      · exact absurd rfl hb
    · show j.val - 2816 + 2816 = j.val; omega
include hX hG hW hV hD in
theorem r36 (i : Fin 2048) (k : Fin 1024) : val_main_v36 (F := Ideal) X G W V D (ix2 i k) = ((dh (d i) w v (zz (x i) g w) k : ℝ) : EReal) := by
  rw [val_main_v36_apply]
  exact sum_v fun j => mul_v ((at2 (val_main_v33 X G W V D) _ i j rfl rfl).trans (r33 X D G W V x d g w v hX hG hW hV hD i j)) ((at2 W _ k j rfl rfl).trans (hW k j))
include hX hG hW hV hD in
theorem r39 : val_main_v39 (F := Ideal) X G W V D = aG x d w v (fun i => zz (x i) g w) := by
  funext y
  obtain ⟨a, k, rfl⟩ := ix2_of y
  rw [val_main_v39_apply, val_main_v38_apply]
  refine (zs_v (sum_v (p := fun i => x i k * rr (x i) * dh (d i) w v (zz (x i) g w) k) fun i => (at2 (val_main_v37 X G W V D) _ i k rfl ?_).trans ?_)).trans (congrArg (fun r : ℝ => (r : EReal)) (Finset.sum_congr rfl fun i _ => ?_))
  · have ha : a.val = 0 := by omega
    show a.val * 1024 + k.val = k.val; omega
  · rw [val_main_v37_apply]
    exact mul_v (r12 X x hX i k) (r36 X D G W V x d g w v hX hG hW hV hD i k)
  · show _ = dgr (x i) (d i) w v (zz (x i) g w) k
    unfold dgr; ring
include hX hG hW hV hD in
theorem r41 (i : Fin 2048) (k : Fin 1024) : val_main_v41 (F := Ideal) X G W V D (ix2 i k) = ((dh (d i) w v (zz (x i) g w) k * g k : ℝ) : EReal) := by
  rw [val_main_v41_apply, val_main_v40_apply]
  exact mul_v (r36 X D G W V x d g w v hX hG hW hV hD i k) ((at2 G _ 0 k rfl rfl).trans (hG k))
include hX hG hW hV hD in
theorem r52 (i : Fin 2048) (k : Fin 1024) : val_main_v52 (F := Ideal) X G W V D (ix2 i k)
    = (((∑ l, x i l * (dh (d i) w v (zz (x i) g w) l * g l)) * (-(1 / 2) * (rr (x i) * (1 / vv (x i)))) * (1 / 1024) : ℝ) : EReal) := by
  rw [val_main_v52_apply, val_main_v51_apply]
  refine (zs_v (sum_v (p := fun _ : Fin 1 => (∑ l, x i l * (dh (d i) w v (zz (x i) g w) l * g l)) * (-(1 / 2) * (rr (x i) * (1 / vv (x i)))) * (1 / 1024)) fun a => ?_)).trans (by rw [Fin.sum_univ_one])
  refine (at2 (val_main_v50 X G W V D) _ i 0 rfl (by show a.val = 0; omega)).trans ?_
  rw [val_main_v50_apply, val_main_v49_apply, val_main_cst_7_apply, val_main_v48_apply, val_main_v44_apply, val_main_v43_apply, r10 X x hX]
  refine dvd_v (mul_v (zs_v (sum_v fun l => (at2 (val_main_v42 X G W V D) _ i l ?_ rfl).trans ?_)) rfl)
  · show i.val * 1 + 0 = i.val; omega
  · rw [val_main_v42_apply]
    exact mul_v (hX i l) (r41 X D G W V x d g w v hX hG hW hV hD i l)
include hX hG hW hV hD in
theorem r56 : val_main_v56 (F := Ideal) X G W V D = aX x d g w v (fun i => zz (x i) g w) := by
  funext y
  obtain ⟨i, k, rfl⟩ := ix2_of y
  rw [val_main_v56_apply, val_main_v54_apply, val_main_v55_apply, val_main_v53_apply, val_main_v47_apply, val_main_v46_apply, val_main_v45_apply]
  have h52 := r52 X D G W V x d g w v hX hG hW hV hD i k
  refine (add_v (add_v (add_v (hD i k) (mul_v (r41 X D G W V x d g w v hX hG hW hV hD i k) ((at2 (val_main_v7 X) _ i 0 rfl rfl).trans (r7 X x hX i)))) (mul_v (hX i k) h52)) (mul_v h52 (hX i k))).trans
    (congrArg (fun r : ℝ => (r : EReal)) ((dx_alg _ _ _ _ _ _ _ (rr_sq (x i))).trans ?_))
  show _ = dxx (x i) g (d i) w v (zz (x i) g w) k
  unfold dxx
  rw [Finset.sum_congr rfl fun l _ => mul_comm (x i l) (dh (d i) w v (zz (x i) g w) l * g l)]
include hX hG hW hV hD in
theorem r59 : val_main_v59 (F := Ideal) X G W V D = aW13 (fun i => hh (x i) g) (fun i => dz (d i) v (zz (x i) g w)) := by
  funext y
  obtain ⟨s, k, j, rfl⟩ := ix3_of y
  rw [val_main_v59_apply, val_main_v58_apply, val_main_v57_apply]
  refine (at2 (val_main_v35 X G W V D) _ k (col s j) ?_ ?_).trans ?_
  · show ((k.val * 4 + s.val) * 1408 + j.val) / 5632 = k.val; omega
  · show ((k.val * 4 + s.val) * 1408 + j.val) % 5632 = 1408 * s.val + j.val; omega
  rw [val_main_v35_apply, val_main_v34_apply]
  refine (sum_v fun i => mul_v ((at2 (val_main_v33 X G W V D) _ i (col s j) rfl rfl).trans (r33 X D G W V x d g w v hX hG hW hV hD i _)) ((at2 (val_main_v14 X G) _ i k rfl rfl).trans (r14 X G x g hX hG i k))).trans ?_
  exact congrArg (fun r : ℝ => (r : EReal)) (Finset.sum_congr rfl fun i _ => mul_comm _ _)
include hX hG hW hD in
theorem r61 : val_main_v61 (F := Ideal) X G W D = aW2 (fun i => act (zz (x i) g w)) (fun i => hd (d i)) := by
  funext y
  obtain ⟨s, j, k, rfl⟩ := ix3_of y
  rw [val_main_v61_apply, val_main_v60_apply]
  refine (at2 (val_main_v28 X G W D) _ j k rfl rfl).trans ?_
  rw [val_main_v28_apply, val_main_v27_apply]
  refine (sum_v fun i => mul_v ((at2 (val_main_v26 D) _ i k rfl rfl).trans (r26 D d hD i k)) ((at2 (val_main_v19 X G W) _ i j rfl rfl).trans (r19 X G W x g w hX hG hW i j))).trans ?_
  exact congrArg (fun r : ℝ => (r : EReal)) (Finset.sum_congr rfl fun i _ => mul_comm _ _)
end
end Cert.Ffn
end
-- ==== Proof.Fp.lean ====
module
public import proofs.«01_k».proof.Proof.Fin
@[expose] public section
set_option maxRecDepth 16384
noncomputable section

/-! The arguments of which `finite2` holds are numbers, entry by entry. -/

namespace Cert.Ffn
open Idealize.ShloMosaic Cert.Finite

/-- The predicate's side conditions. -/
instance pre_facts : Cert.Pre_finite2.Facts where
  bcast_S_S2048x1024 := by decide
  reducesTo_S2048x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

theorem reals2 (X : FVec Ideal Cert.Pre_finite2.S2048x1024 .f32) (G : FVec Ideal Cert.Pre_finite2.S1x1024 .f32) (W : FVec Ideal Cert.Pre_finite2.S1024x5632 .f32)
    (V : FVec Ideal Cert.Pre_finite2.S2816x1024 .f32) (D : FVec Ideal Cert.Pre_finite2.S2048x1024 .f32)
    (h : Cert.Pre_finite2.fn (F := Ideal) X G W V D = fun _ => 1#1) :
    (∀ i, ∃ r : ℝ, (X i : EReal) = (r : EReal)) ∧ (∀ i, ∃ r : ℝ, (G i : EReal) = (r : EReal)) ∧ (∀ i, ∃ r : ℝ, (W i : EReal) = (r : EReal))
      ∧ (∀ i, ∃ r : ℝ, (V i : EReal) = (r : EReal)) ∧ (∀ i, ∃ r : ℝ, (D i : EReal) = (r : EReal)) := by
  have h0 := congrFun h fun k => k.elim0
  obtain ⟨h1, hd⟩ := IntOp.andi_eq_one.1 h0
  obtain ⟨h2, hv⟩ := IntOp.andi_eq_one.1 h1
  obtain ⟨h3, hw⟩ := IntOp.andi_eq_one.1 h2
  obtain ⟨hx, hg⟩ := IntOp.andi_eq_one.1 h3
  exact ⟨fun i => real_of_all X _ _ _ _ _ hx i, fun i => real_of_all G _ _ _ _ _ hg i, fun i => real_of_all W _ _ _ _ _ hw i,
    fun i => real_of_all V _ _ _ _ _ hv i, fun i => real_of_all D _ _ _ _ _ hd i⟩
end Cert.Ffn
end
-- ==== Proof.Fx.lean ====
module
public import proofs.«01_k».proof.Defs
public import proofs.«01_k».proof.Proof.Gen.Kernel2
public import proofs.«01_k».proof.Proof.Fr
@[expose] public section
set_option maxRecDepth 16384
set_option maxHeartbeats 4000000
noncomputable section

/-! The feed-forward program and its ideal reading have the same text: the frame of one is the other's. -/

namespace Cert.Ffn.Same
open Idealize.ShloMosaic Idealize.SL.Sem

theorem body0 (t : Fin Cert.Kernel2.grid0.N) (s : (w : Fin 6) → Fin (Cert.Kernel2.win0 w).nbuf) :
    Cert.Kernel2.defs₀ (F := Bits) .tc (0 : Fin 4) (t, s) = Cert.Kernel2Ideal.defs₀ (F := Bits) .tc (0 : Fin 4) (t, s) := by rfl
theorem body1 (t : Fin Cert.Kernel2.grid1.N) (s : (w : Fin 9) → Fin (Cert.Kernel2.win1 w).nbuf) :
    Cert.Kernel2.defs₀ (F := Bits) .tc (1 : Fin 4) (t, s) = Cert.Kernel2Ideal.defs₀ (F := Bits) .tc (1 : Fin 4) (t, s) := by rfl
theorem body2 (t : Fin Cert.Kernel2.grid2.N) (s : (w : Fin 3) → Fin (Cert.Kernel2.win2 w).nbuf) :
    Cert.Kernel2.defs₀ (F := Bits) .tc (2 : Fin 4) (t, s) = Cert.Kernel2Ideal.defs₀ (F := Bits) .tc (2 : Fin 4) (t, s) := by rfl
theorem body3 (t : Fin Cert.Kernel2.grid3.N) (s : (w : Fin 3) → Fin (Cert.Kernel2.win3 w).nbuf) :
    Cert.Kernel2.defs₀ (F := Bits) .tc (3 : Fin 4) (t, s) = Cert.Kernel2Ideal.defs₀ (F := Bits) .tc (3 : Fin 4) (t, s) := by rfl
/-- Label by label the two programs' bodies are one. -/
theorem bodies : ∀ (l : Fin 4) (x : Cert.Kernel2.Λ₀.Args l), Cert.Kernel2.defs₀ (F := Bits) .tc l x = Cert.Kernel2Ideal.defs₀ (F := Bits) .tc l x
  | ⟨0, _⟩, x => body0 x.1 x.2
  | ⟨1, _⟩, x => body1 x.1 x.2
  | ⟨2, _⟩, x => body2 x.1 x.2
  | ⟨3, _⟩, x => body3 x.1 x.2
theorem tables : Cert.Kernel2.defs₀ (F := Bits) = Cert.Kernel2Ideal.defs₀ (F := Bits) :=
  funext fun p => match p with
    | .tc => funext fun l => funext fun x => bodies l x
    | .scScalar _ => rfl
    | .scVector _ _ => rfl
theorem defs_same : Cert.Kernel2.defs (F := Bits) = Cert.Kernel2Ideal.defs (F := Bits) :=
  (congrArg (Pipeline.defs (Cert.Kernel2.pcfgs (F := Bits))) tables : _)

open Cert.Kernel2 in
/-- The program over bit patterns ends, with its arguments as they were and no semaphore raised. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.Ffn.ffn_frame (F := Bits) m g
end Cert.Ffn.Same
end
-- ==== Proof.Gb.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Fb

@[expose] public section

set_option maxRecDepth 16384

noncomputable section

/-! The buffers of the feed-forward calls of the third program, and what their copies and loads leave. -/

namespace Cert.Up

open Cert.Kernel3Ideal Cert.Kernel3Ideal.Gen
open Cert.Ffn (shards_whole halves_cover halves_whole sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The contents of a memref's buffer. -/
abbrev HbBuf (c : Dev nD) {sp : Space} {S : Shape} {e : EltTy} (M : Memref sig .tc sp S e) : Type := Buf (Elt F) (M.view.loc (c : Thread nD τ))
local notation "𝕄" => MT nD τ sig Unit (Elt F) ℕ (Pipeline.UD sig nD τ) ℕ

/-- A memref's buffer held whole. -/
abbrev hbPt (c : Dev nD) {sp : Space} {S : Shape} {e : EltTy} (M : Memref sig .tc sp S e) (f : HbBuf (F := F) c M) : sProp 𝕄 :=
  M.view.loc (c : Thread nD τ) ↦{fullShare} f
/-- The gate and up weights, in shards. -/
abbrev hb13 : Memref sig .tc .hbm S4x1024x1408 .bf16 := Memref.whole main_v2
/-- The down weights. -/
abbrev hb2 : Memref sig .tc .hbm S2816x1024 .bf16 := Memref.whole main_v3

/-- The first half of a block of activations. -/
def ah0 (a : Vec F S256x2816 .bf16) : Vec F S256x1408 .bf16 := fun j => a ((Rect.unit (s := S256x2816) ![0, 0] S256x1408.size inb_S256x2816_S256x1408_0_0).toLoadRect.idx j)
/-- The second half of a block of activations. -/
def ah1 (a : Vec F S256x2816 .bf16) : Vec F S256x1408 .bf16 := fun j => a ((Rect.unit (s := S256x2816) ![0, 1408] S256x1408.size inb_S256x2816_S256x1408_0_1408).toLoadRect.idx j)
/-- The result of the down call. -/
def fDn (x : Vec F S256x1024 .f32) (a : Vec F S256x2816 .bf16) (w2 : Vec F S2816x1024 .bf16) : Vec F S256x1024 .f32 :=
  k1_pay2 (ah0 a) (hf0 w2) (ah1 a) (hf1 w2) x

/-- A load of a box of a whole memref, as a function. -/
theorem box_read {sp : Space} {S : Shape} {e : EltTy} (m : Memref sig .tc sp S e) (hm : m.IsWhole) (X : S.Idx → Elt F e) (B : LoadRect S) :
    View.readAt (Elt F) m.view B (hm.unread X) = fun j => X (B.idx j) := funext fun j => hm.readAt_unread X B j

/-- A load of a whole memref's own sizes. -/
theorem full_read {sp : Space} {S : Shape} {e : EltTy} (m : Memref sig .tc sp S e) (hm : m.IsWhole) (X : S.Idx → Elt F e) {off : Fin S.rank → ℕ}
    (inb : ∀ a, off a + S.size a ≤ S.size a) :
    View.readAt (Elt F) m.view (Rect.unit off S.size inb).toLoadRect (hm.unread X) = X :=
  (View.readAt_full _ _ inb).trans (hm.read_unread X)

/-- A load of a whole block of rows. -/
theorem full_read_x {e : EltTy} (m : Memref sig .tc .vmem S256x1024 e) (hm : m.IsWhole) (X : S256x1024.Idx → Elt F e)
    (inb : ∀ a, (![0, 0] : Fin 2 → ℕ) a + (![256, 1024] : Fin 2 → ℕ) a ≤ S256x1024.size a) :
    View.readAt (Elt F) m.view (Rect.unit (s := S256x1024) ![0, 0] ![256, 1024] inb).toLoadRect (hm.unread X) = X := full_read m hm X inb

/-- A load of a whole row. -/
theorem full_read_g {e : EltTy} (m : Memref sig .tc .vmem S1x1024 e) (hm : m.IsWhole) (X : S1x1024.Idx → Elt F e)
    (inb : ∀ a, (![0, 0] : Fin 2 → ℕ) a + (![1, 1024] : Fin 2 → ℕ) a ≤ S1x1024.size a) :
    View.readAt (Elt F) m.view (Rect.unit (s := S1x1024) ![0, 0] ![1, 1024] inb).toLoadRect (hm.unread X) = X := full_read m hm X inb

/-- A load of a whole row after a store of a whole row. -/
theorem readCov_g {e : EltTy} (v : View sig .tc .vmem S1x1024 e) (X : S1x1024.Idx → Elt F e)
    (inb inb' : ∀ a, (![0, 0] : Fin 2 → ℕ) a + (![1, 1024] : Fin 2 → ℕ) a ≤ S1x1024.size a) :
    View.readCov v [⟨Rect.unit (s := S1x1024) ![0, 0] ![1, 1024] inb', X⟩] (Rect.unit (s := S1x1024) ![0, 0] ![1, 1024] inb).toLoadRect = X :=
  View.readCov_full v (s := S1x1024) inb inb' X []

end Cert.Up
end
-- ==== Proof.G0A.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb

@[expose] public section

set_option maxRecDepth 16384

noncomputable section

/-! One point of the up call, the first of the two cases. -/

namespace Cert.Up

open Cert.Kernel3Ideal Cert.Kernel3Ideal.Gen
open Cert.Ffn (shards_whole halves_cover halves_whole sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at the first point: the weights are copied in, the block is computed. -/
theorem run0A (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S256x1024 .bf16) (harg4 : arg4.IsWhole) (arg5 : Memref sig .tc .vmem S256x5632 .bf16) (harg5 : arg5.IsWhole) (arg6 : Memref sig .tc .vmem S256x2816 .bf16) (harg6 : arg6.IsWhole) (arg7 : Memref sig .tc .vmem S4x1024x1408 .bf16) (harg7 : arg7.IsWhole) (hc0 : k0_cond1 i = 1#1) (hc1 : ¬ k0_cond2 i = 1#1)
    (x0 : Vec F S256x1024 .f32) (x1 : Vec F S1x1024 .f32) (w13 : Vec F S4x1024x1408 .bf16) (W : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt c hb13 w13 ∗ owes (c : Thread nD τ) 0 W
            ∗ (iprop(owns (c : Thread nD τ) arg1 fullShare x0 ∗ owns (c : Thread nD τ) arg2 fullShare x1 ∗ owns (c : Thread nD τ) arg4 fullShare (fH x0 x1) ∗ owns (c : Thread nD τ) arg5 fullShare (fGu x0 x1 w13) ∗ owns (c : Thread nD τ) arg6 fullShare (fAct x0 x1 w13) ∗ owns (c : Thread nD τ) arg7 fullShare w13 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt c hb13 w13 ∗ (∃ W', owes (c : Thread nD τ) 0 W')) -∗ K ⟨⟩))
          ⊢ wp frame (wpE (defs₀ (F := F)) Variants.none c none) Set.univ (cc0_ffn_up i arg1 harg1 arg2 harg2 (Memref.whole main_v2) (Memref.isWhole_whole _) arg4 harg4 arg5 harg5 arg6 harg6 arg7 harg7 cc0_scratch1) K := by
    simp only [cc0_ffn_up_eq_skeleton]; unfold cc0_ffn_up_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hq0, Hq1, Hq2, Hq3, Hq4, Hq5, Hh0, HW, Hk⟩
    obtain rfl := harg1.eq_unread hf0; obtain rfl := harg2.eq_unread hf1
    sl_exec (disch := first | sl_exact hc0 | sl_exact hc1)
    have hS := shards_whole hb13 w13 arg7 harg7 fs0 w13 rfl (fun _ => rfl) (fun _ => rfl) (fun _ => rfl) (fun _ => rfl) (run0A.sl.dma0 w13) (run0A.sl.dma0_2 w13) (run0A.sl.dma0_1 w13) (run0A.sl.dma0_3 w13) rfl rfl rfl rfl
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro; refine (View.read_writes_full _ _ _ _ _).trans ?_
      try delta run0A.sl.r run0A.sl.r_1 run0A.sl.r_2 run0A.sl.r_3 run0A.sl.r_4 run0A.sl.r_5 run0A.sl.r_6 run0A.sl.v58 run0A.sl.v61 run0A.sl.v91 run0A.sl.v94 run0A.sl.cst_73
      try dsimp only
      try simp only [hS]
      try simp only [full_read, full_read_x, full_read_g]
      try simp only [box_read]
      rfl
    isplitl [H3]
    · iexists _; isplitr; swap; · iexact H3
      ipureintro; refine (View.read_writes_eq_canon _ _ _ (fun y => View.cover_of_tiledL (s := S256x5632) _ S256x1408.size (by sl_kernel_rfl) y)).trans ?_
      try delta run0A.sl.r run0A.sl.r_1 run0A.sl.r_2 run0A.sl.r_3 run0A.sl.r_4 run0A.sl.r_5 run0A.sl.r_6 run0A.sl.v58 run0A.sl.v61 run0A.sl.v91 run0A.sl.v94 run0A.sl.cst_73
      try dsimp only
      try simp only [hS]
      try simp only [full_read, full_read_x, full_read_g]
      try simp only [box_read]
      rfl
    isplitl [H4]
    · iexists _; isplitr; swap; · iexact H4
      ipureintro; refine (View.read_writes_eq_canon _ _ _ (fun y => View.cover_of_tiledL (s := S256x2816) _ S256x1408.size (by sl_kernel_rfl) y)).trans ?_
      try delta run0A.sl.r run0A.sl.r_1 run0A.sl.r_2 run0A.sl.r_3 run0A.sl.r_4 run0A.sl.r_5 run0A.sl.r_6 run0A.sl.v58 run0A.sl.v61 run0A.sl.v91 run0A.sl.v94 run0A.sl.cst_73
      try dsimp only
      try simp only [hS]
      try simp only [full_read, full_read_x, full_read_g]
      try simp only [box_read]
      rfl
    isplitl [HS0]
    · iexists _; isplitr; swap; · iexact HS0
      ipureintro; rw [hS]; exact harg7.read_unread _
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    iexists _; iexact HW

end Cert.Up
end
-- ==== Proof.G0B.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb

@[expose] public section

set_option maxRecDepth 16384

noncomputable section

/-! One point of the up call, the second of the two cases. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at a later point: the weights are there, the block is computed. -/
theorem run0B (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S256x1024 .bf16) (harg4 : arg4.IsWhole) (arg5 : Memref sig .tc .vmem S256x5632 .bf16) (harg5 : arg5.IsWhole) (arg6 : Memref sig .tc .vmem S256x2816 .bf16) (harg6 : arg6.IsWhole) (arg7 : Memref sig .tc .vmem S4x1024x1408 .bf16) (harg7 : arg7.IsWhole) (hc0 : ¬ k0_cond1 i = 1#1) (hc1 : k0_cond2 i = 1#1)
    (x0 : Vec F S256x1024 .f32) (x1 : Vec F S1x1024 .f32) (w13 : Vec F S4x1024x1408 .bf16) (W : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare w13 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt c hb13 w13 ∗ owes (c : Thread nD τ) 0 W
            ∗ (iprop(owns (c : Thread nD τ) arg1 fullShare x0 ∗ owns (c : Thread nD τ) arg2 fullShare x1 ∗ owns (c : Thread nD τ) arg4 fullShare (fH x0 x1) ∗ owns (c : Thread nD τ) arg5 fullShare (fGu x0 x1 w13) ∗ owns (c : Thread nD τ) arg6 fullShare (fAct x0 x1 w13) ∗ owns (c : Thread nD τ) arg7 fullShare w13 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt c hb13 w13 ∗ (∃ W', owes (c : Thread nD τ) 0 W')) -∗ K ⟨⟩))
          ⊢ wp frame (wpE (defs₀ (F := F)) Variants.none c none) Set.univ (cc0_ffn_up i arg1 harg1 arg2 harg2 (Memref.whole main_v2) (Memref.isWhole_whole _) arg4 harg4 arg5 harg5 arg6 harg6 arg7 harg7 cc0_scratch1) K := by
    simp only [cc0_ffn_up_eq_skeleton]; unfold cc0_ffn_up_skel
    simp only [k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hq0, Hq1, Hq2, Hq3, Hq4, Hq5, Hh0, HW, Hk⟩
    obtain rfl := harg1.eq_unread hf0; obtain rfl := harg2.eq_unread hf1; obtain rfl := harg7.eq_unread hfs0
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro; refine (View.read_writes_full _ _ _ _ _).trans ?_
      try delta run0B.sl.r run0B.sl.r_1 run0B.sl.r_2 run0B.sl.r_3
      try dsimp only
      try simp only [full_read, full_read_x, full_read_g]
      try simp only [box_read]
      rfl
    isplitl [H3]
    · iexists _; isplitr; swap; · iexact H3
      ipureintro; refine (View.read_writes_eq_canon _ _ _ (fun y => View.cover_of_tiledL (s := S256x5632) _ S256x1408.size (by sl_kernel_rfl) y)).trans ?_
      try delta run0B.sl.r run0B.sl.r_1 run0B.sl.r_2 run0B.sl.r_3
      try dsimp only
      try simp only [full_read, full_read_x, full_read_g]
      try simp only [box_read]
      rfl
    isplitl [H4]
    · iexists _; isplitr; swap; · iexact H4
      ipureintro; refine (View.read_writes_eq_canon _ _ _ (fun y => View.cover_of_tiledL (s := S256x2816) _ S256x1408.size (by sl_kernel_rfl) y)).trans ?_
      try delta run0B.sl.r run0B.sl.r_1 run0B.sl.r_2 run0B.sl.r_3
      try dsimp only
      try simp only [full_read, full_read_x, full_read_g]
      try simp only [box_read]
      rfl
    isplitl [HS0]
    · iexists _; isplitr; swap; · iexact HS0
      ipureintro; exact hfs0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    iexists _; iexact HW

end Cert.Up
end
-- ==== Proof.Gd0.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.G0A
public import proofs.«01_k».proof.Proof.G0B

@[expose] public section

set_option maxRecDepth 16384

noncomputable section

/-! What the pipeline of the up call hands its body and gets back, point by point. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem in0_0_of {c : Dev nD} (d : Dat τ (Elt F) Unit ℕ (Pipeline.UD sig nD τ) ℕ cfg0 c) (hA : d.A 0 = V c (Pipeline.arrRef spec0 0))
    (hl : ∀ t, d.after 0 t = blk0 V c 0 t) (t : Fin cfg0.N) (e) : d.before 0 t e = blk0 V c 0 t := by
  refine (d.before_in_eq_fetched 0 rfl (fun _ => rfl) (fun _ _ _ => rfl) (fun t => ?_) t e).trans ?_
  · rw [hl]; unfold Dat.blockOf blk0; rw [hA]; try rfl
  · unfold Dat.fetched Dat.blockOf blk0; rw [hA]; try rfl
theorem in0_1_of {c : Dev nD} (d : Dat τ (Elt F) Unit ℕ (Pipeline.UD sig nD τ) ℕ cfg0 c) (hA : d.A 1 = V c (Pipeline.arrRef spec0 1))
    (hl : ∀ t, d.after 1 t = blk0 V c 1 t) (t : Fin cfg0.N) (e) : d.before 1 t e = blk0 V c 1 t := by
  refine (d.before_in_eq_fetched 1 rfl (fun _ => rfl) (fun _ _ _ => rfl) (fun t => ?_) t e).trans ?_
  · rw [hl]; unfold Dat.blockOf blk0; rw [hA]; try rfl
  · unfold Dat.fetched Dat.blockOf blk0; rw [hA]; try rfl
theorem k0_cond1_iff : ∀ t : Fin cfg0.N, k0_cond1 (grid0.coords t) = 1#1 ↔ t.val = 0 :=
  (by decide +kernel : ∀ t : Fin grid0.N, k0_cond1 (grid0.coords t) = 1#1 ↔ t.val = 0)
theorem k0_cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The buffer of the weights. -/
abbrev scA0 : Memref sig .tc .vmem S4x1024x1408 .bf16 := Memref.whole cc0_scratch0
/-- The six counters of the body's own copies. -/
abbrev own0 : Fin 6 → SemLoc sig := fun j => (![SemLoc.dma 9, SemLoc.dma 10, SemLoc.dma 11, SemLoc.dma 12, SemLoc.dma 13, SemLoc.dma 14] : Fin 6 → SemLoc sig) j
theorem own0_facts : Pipeline.OwnSemFacts spec0 own0 := by decide
theorem own0_list (c : Dev nD) : (Pipeline.ownSems0 (Ix := Unit) (Name := ℕ) (U := Pipeline.UD sig nD τ) (Lvl := ℕ) (Val := Elt F) (τ := τ) own0 c : sProp 𝕄)
    = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c own0 [0, 1, 2, 3, 4, 5] (by decide) (by decide)]; rfl
/-- The weight buffer before point `n`: anything at first, then the weights. -/
def wts0 (c : Dev nD) (n : ℕ) : sProp 𝕄 :=
  if n = 0 then iprop(∃ d, owns (c : Thread nD τ) scA0 fullShare d) else owns (c : Thread nD τ) scA0 fullShare (V c main_v2)
/-- What the body keeps between points. -/
def inv0 (c : Dev nD) (n : ℕ) : sProp 𝕄 :=
  iprop(wts0 V c n ∗ (∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ hbPt c hb13 (V c main_v2)
    ∗ Pipeline.scopedRestBut (Ix := Unit) (Name := ℕ) (U := Pipeline.UD sig nD τ) (Lvl := ℕ) (Val := Elt F) spec0 c [cc0_scratch0])
theorem wts0_zero (c : Dev nD) {n : ℕ} (h : n = 0) : wts0 V c n
    = iprop(∃ d, owns (c : Thread nD τ) scA0 fullShare d) := by unfold wts0; rw [if_pos h]
theorem wts0_pos (c : Dev nD) {n : ℕ} (h : n ≠ 0) : wts0 V c n
    = owns (c : Thread nD τ) scA0 fullShare (V c main_v2) := by unfold wts0; rw [if_neg h]

/-- The pipeline's account on core `c`. -/
def fd0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => fH (blk0 V c 0 t) (blk0 V c 1 t)
    | ⟨3, _⟩ => fGu (blk0 V c 0 t) (blk0 V c 1 t) (V c main_v2)
    | ⟨4, _⟩ => fAct (blk0 V c 0 t) (blk0 V c 1 t) (V c main_v2)
  Φ t := inv0 V c t.val
  q _ := fullShare
  owed _ := 0
theorem fd0_A (c : Dev nD) (w : Fin cfg0.W) : (fd0 V c).A w = V c (Pipeline.arrRef spec0 w) := by dsimp only [fd0]
theorem fd0_0 (c : Dev nD) (t : Fin cfg0.N) : (fd0 V c).after 0 t = blk0 V c 0 t := by dsimp only [fd0]
theorem fd0_1 (c : Dev nD) (t : Fin cfg0.N) : (fd0 V c).after 1 t = blk0 V c 1 t := by dsimp only [fd0]
theorem fd0_2 (c : Dev nD) (t : Fin cfg0.N) : (fd0 V c).after 2 t = fH (blk0 V c 0 t) (blk0 V c 1 t) := by dsimp only [fd0]
theorem fd0_3 (c : Dev nD) (t : Fin cfg0.N) : (fd0 V c).after 3 t = fGu (blk0 V c 0 t) (blk0 V c 1 t) (V c main_v2) := by dsimp only [fd0]
theorem fd0_4 (c : Dev nD) (t : Fin cfg0.N) : (fd0 V c).after 4 t = fAct (blk0 V c 0 t) (blk0 V c 1 t) (V c main_v2) := by dsimp only [fd0]
theorem in0_0 (c : Dev nD) (t : Fin cfg0.N) (e) : (fd0 V c).before 0 t e = blk0 V c 0 t :=
  in0_0_of V (fd0 V c) (fd0_A V c 0) (fd0_0 V c) t e
theorem in0_1 (c : Dev nD) (t : Fin cfg0.N) (e) : (fd0 V c).before 1 t e = blk0 V c 1 t :=
  in0_1_of V (fd0 V c) (fd0_A V c 1) (fd0_1 V c) t e
theorem lv0_0 (c : Dev nD) (t : Fin cfg0.N) : (fd0 V c).leavesExact 0 t = owns (c : Thread nD τ) (st0_0 t) fullShare ((fd0 V c).after 0 t) := by
  unfold Dat.leavesExact; rw [(by decide +kernel : ∀ t : Fin grid0.N, cfg0.idle 0 (grid0.coords t) = false) t]
theorem lv0_1 (c : Dev nD) (t : Fin cfg0.N) : (fd0 V c).leavesExact 1 t = owns (c : Thread nD τ) (st0_1 t) fullShare ((fd0 V c).after 1 t) := by
  unfold Dat.leavesExact; rw [(by decide +kernel : ∀ t : Fin grid0.N, cfg0.idle 1 (grid0.coords t) = false) t]
theorem lv0_2 (c : Dev nD) (t : Fin cfg0.N) : (fd0 V c).leavesExact 2 t = owns (c : Thread nD τ) (st0_2 t) fullShare ((fd0 V c).after 2 t) := by
  unfold Dat.leavesExact; rw [(by decide +kernel : ∀ t : Fin grid0.N, cfg0.idle 2 (grid0.coords t) = false) t]
theorem lv0_3 (c : Dev nD) (t : Fin cfg0.N) : (fd0 V c).leavesExact 3 t = owns (c : Thread nD τ) (st0_3 t) fullShare ((fd0 V c).after 3 t) := by
  unfold Dat.leavesExact; rw [(by decide +kernel : ∀ t : Fin grid0.N, cfg0.idle 3 (grid0.coords t) = false) t]
theorem lv0_4 (c : Dev nD) (t : Fin cfg0.N) : (fd0 V c).leavesExact 4 t = owns (c : Thread nD τ) (st0_4 t) fullShare ((fd0 V c).after 4 t) := by
  unfold Dat.leavesExact; rw [(by decide +kernel : ∀ t : Fin grid0.N, cfg0.idle 4 (grid0.coords t) = false) t]

/-- What the body is entered with at point `t`. -/
def pre0 (c : Dev nD) (t : Fin cfg0.N) : sProp 𝕄 :=
  iprop((fd0 V c).Φ t.castSucc ∗ (fd0 V c).owesAt () t.castSucc
    ∗ (∃ d, owns (c : Thread nD τ) (st0_0 t) fullShare ((fd0 V c).before 0 t d))
    ∗ (∃ d, owns (c : Thread nD τ) (st0_1 t) fullShare ((fd0 V c).before 1 t d))
    ∗ (∃ d, owns (c : Thread nD τ) (st0_2 t) fullShare ((fd0 V c).before 2 t d))
    ∗ (∃ d, owns (c : Thread nD τ) (st0_3 t) fullShare ((fd0 V c).before 3 t d))
    ∗ (∃ d, owns (c : Thread nD τ) (st0_4 t) fullShare ((fd0 V c).before 4 t d)))
/-- What the body leaves at point `t`. -/
def post0 (c : Dev nD) (t : Fin cfg0.N) : sProp 𝕄 :=
  iprop((fd0 V c).Φ t.succ ∗ (fd0 V c).owesAt () t.succ
    ∗ (fd0 V c).leavesExact 0 t
    ∗ (fd0 V c).leavesExact 1 t
    ∗ (fd0 V c).leavesExact 2 t
    ∗ (fd0 V c).leavesExact 3 t
    ∗ (fd0 V c).leavesExact 4 t)

set_option maxHeartbeats 1600000 in
/-- The body at any point. -/
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [in0_0, in0_1]
  rw [show (fd0 V c).Φ t.castSucc = inv0 V c t.val from rfl, show (fd0 V c).Φ t.succ = inv0 V c (t.val + 1) from rfl,
    lv0_0, fd0_0, lv0_1, fd0_1, lv0_2, fd0_2, lv0_3, fd0_3, lv0_4, fd0_4]
  unfold inv0 Dat.owesAt Pipeline.owesWithin
  rw [show (fd0 V c).owed t.castSucc = 0 from rfl, show (fd0 V c).owed t.succ = 0 from rfl]
  by_cases h0 : t.val = 0
  · rw [wts0_zero V c h0, wts0_pos V c (Nat.succ_ne_zero t.val)]
    iintro ⟨⟨HS0, Hg, ⟨Hq0, Hq1, Hq2, Hq3, Hq4, Hq5⟩, Hh0, Hr⟩, ⟨%W, -, HW⟩, ⟨%d0, H0⟩, ⟨%d1, H1⟩, ⟨%d2, H2⟩, ⟨%d3, H3⟩, ⟨%d4, H4⟩⟩
    iapply ((run0A c (grid0.coords t) _ _ _ _ _ _ _ _ _ _ _ _ ((k0_cond1_iff t).mpr h0) (fun h => ((k0_cond2_iff t).mp h) h0) (blk0 V c 0 t) (blk0 V c 1 t) (V c main_v2)) W _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [HW]; · iexact HW
    iintro ⟨H0, H1, H2, H3, H4, HS0, Hq0, Hq1, Hq2, Hq3, Hq4, Hq5, Hh0, ⟨%W2, HW⟩⟩
    isplitl [HS0 Hg Hq0 Hq1 Hq2 Hq3 Hq4 Hq5 Hh0 Hr]
    · isplitl [HS0]; · iexact HS0
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0]; · iexact Hh0
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    iexact H4
  · rw [wts0_pos V c h0, wts0_pos V c (Nat.succ_ne_zero t.val)]
    iintro ⟨⟨HS0, Hg, ⟨Hq0, Hq1, Hq2, Hq3, Hq4, Hq5⟩, Hh0, Hr⟩, ⟨%W, -, HW⟩, ⟨%d0, H0⟩, ⟨%d1, H1⟩, ⟨%d2, H2⟩, ⟨%d3, H3⟩, ⟨%d4, H4⟩⟩
    iapply ((run0B c (grid0.coords t) _ _ _ _ _ _ _ _ _ _ _ _ (fun h => h0 ((k0_cond1_iff t).mp h)) ((k0_cond2_iff t).mpr h0) (blk0 V c 0 t) (blk0 V c 1 t) (V c main_v2)) W _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [HW]; · iexact HW
    iintro ⟨H0, H1, H2, H3, H4, HS0, Hq0, Hq1, Hq2, Hq3, Hq4, Hq5, Hh0, ⟨%W2, HW⟩⟩
    isplitl [HS0 Hg Hq0 Hq1 Hq2 Hq3 Hq4 Hq5 Hh0 Hr]
    · isplitl [HS0]; · iexact HS0
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0]; · iexact Hh0
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    iexact H4

theorem row0 (t : Fin cfg0.N) : defs₀ (F := F) .tc cfg0.body (cfg0.bodyArgs t (cfg0.slots t)) = bodyAt0 t := by
  unfold defs₀; rw [Defs.onTc_tc]
theorem body0 (c : Dev nD) : BodyObligation (fd0 (F := F) V c) (defs₀ (F := F)) Variants.none () Set.univ := fun t => by
  rw [bigSep_W0, bigSep_W0, row0]
  exact triple_restated (step0 V c t) rfl .rfl fun _ => .rfl
end
end Cert.Up
end
-- ==== Proof.G1A.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb

@[expose] public section

set_option maxRecDepth 16384

noncomputable section

/-! One point of the down call, the first of the two cases. -/

namespace Cert.Up

open Cert.Kernel3Ideal Cert.Kernel3Ideal.Gen
open Cert.Ffn (shards_whole halves_cover halves_whole sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at the first point: the weights are copied in, the block is computed. -/
theorem run1A (c : Dev nD) (i : grid1.Coords) (arg1 : Memref sig .tc .vmem S256x1024 .f32) (harg1 : arg1.IsWhole) (arg2 : Memref sig .tc .vmem S256x2816 .bf16) (harg2 : arg2.IsWhole) (arg4 : Memref sig .tc .vmem S256x1024 .f32) (harg4 : arg4.IsWhole) (arg5 : Memref sig .tc .vmem S2816x1024 .bf16) (harg5 : arg5.IsWhole) (hc0 : k1_cond1 i = 1#1) (hc1 : ¬ k1_cond2 i = 1#1)
    (x0 : Vec F S256x1024 .f32) (x1 : Vec F S256x2816 .bf16) (w2 : Vec F S2816x1024 .bf16) (W : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt c hb2 w2 ∗ owes (c : Thread nD τ) 0 W
            ∗ (iprop(owns (c : Thread nD τ) arg1 fullShare x0 ∗ owns (c : Thread nD τ) arg2 fullShare x1 ∗ owns (c : Thread nD τ) arg4 fullShare (fDn x0 x1 w2) ∗ owns (c : Thread nD τ) arg5 fullShare w2 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt c hb2 w2 ∗ (∃ W', owes (c : Thread nD τ) 0 W')) -∗ K ⟨⟩))
          ⊢ wp frame (wpE (defs₀ (F := F)) Variants.none c none) Set.univ (cc1_ffn_down i arg1 harg1 arg2 harg2 (Memref.whole main_v3) (Memref.isWhole_whole _) arg4 harg4 arg5 harg5 cc1_scratch1) K := by
    simp only [cc1_ffn_down_eq_skeleton]; unfold cc1_ffn_down_skel
    simp only [k1_part1_eq_skeleton]
    unfold owns
    iintro ⟨⟨%f0, %hf0, H0⟩, ⟨%f1, %hf1, H1⟩, ⟨%d2, %f2, -, H2⟩, ⟨%ds0, %fs0, -, HS0⟩, Hq0, Hq1, Hq2, Hq3, Hq4, Hq5, Hh0, HW, Hk⟩
    obtain rfl := harg1.eq_unread hf0; obtain rfl := harg2.eq_unread hf1
    sl_exec (disch := first | sl_exact hc0 | sl_exact hc1)
    have hC := halves_whole hb2 w2 w2 rfl (fun _ => rfl) (fun _ => rfl) (run1A.sl.dma0 w2) (run1A.sl.dma0_1 w2) rfl rfl
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro; refine (View.read_writes_full _ _ _ _ _).trans ?_
      try delta run1A.sl.r run1A.sl.r_1 run1A.sl.v20 run1A.sl.v28
      try dsimp only
      try simp only [View.readCov_eq_canon', hC]
      try simp only [full_read, full_read_x, full_read_g]
      try simp only [box_read]
      rfl
    isplitl [HS0]
    · iexists _; isplitr; swap; · iexact HS0
      ipureintro; exact (View.read_writes_eq_canon _ _ _ (halves_cover _ _)).trans hC
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    iexists _; iexact HW

end Cert.Up
end
-- ==== Proof.G1B.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb

@[expose] public section

set_option maxRecDepth 16384

noncomputable section

/-! One point of the down call, the second of the two cases. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at a later point: the weights are there, the block is computed. -/
theorem run1B (c : Dev nD) (i : grid1.Coords) (arg1 : Memref sig .tc .vmem S256x1024 .f32) (harg1 : arg1.IsWhole) (arg2 : Memref sig .tc .vmem S256x2816 .bf16) (harg2 : arg2.IsWhole) (arg4 : Memref sig .tc .vmem S256x1024 .f32) (harg4 : arg4.IsWhole) (arg5 : Memref sig .tc .vmem S2816x1024 .bf16) (harg5 : arg5.IsWhole) (hc0 : ¬ k1_cond1 i = 1#1) (hc1 : k1_cond2 i = 1#1)
    (x0 : Vec F S256x1024 .f32) (x1 : Vec F S256x2816 .bf16) (w2 : Vec F S2816x1024 .bf16) (W : Waits sig Unit) (K : PUnit → sProp 𝕄) :
    iprop(owns (c : Thread nD τ) arg1 fullShare x0 ∗ owns (c : Thread nD τ) arg2 fullShare x1 ∗ (∃ d, owns (c : Thread nD τ) arg4 fullShare d) ∗ owns (c : Thread nD τ) arg5 fullShare w2 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt c hb2 w2 ∗ owes (c : Thread nD τ) 0 W
            ∗ (iprop(owns (c : Thread nD τ) arg1 fullShare x0 ∗ owns (c : Thread nD τ) arg2 fullShare x1 ∗ owns (c : Thread nD τ) arg4 fullShare (fDn x0 x1 w2) ∗ owns (c : Thread nD τ) arg5 fullShare w2 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt c hb2 w2 ∗ (∃ W', owes (c : Thread nD τ) 0 W')) -∗ K ⟨⟩))
          ⊢ wp frame (wpE (defs₀ (F := F)) Variants.none c none) Set.univ (cc1_ffn_down i arg1 harg1 arg2 harg2 (Memref.whole main_v3) (Memref.isWhole_whole _) arg4 harg4 arg5 harg5 cc1_scratch1) K := by
    simp only [cc1_ffn_down_eq_skeleton]; unfold cc1_ffn_down_skel
    unfold owns
    iintro ⟨⟨%f0, %hf0, H0⟩, ⟨%f1, %hf1, H1⟩, ⟨%d2, %f2, -, H2⟩, ⟨%fs0, %hfs0, HS0⟩, Hq0, Hq1, Hq2, Hq3, Hq4, Hq5, Hh0, HW, Hk⟩
    obtain rfl := harg1.eq_unread hf0; obtain rfl := harg2.eq_unread hf1; obtain rfl := harg5.eq_unread hfs0
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro; refine (View.read_writes_full _ _ _ _ _).trans ?_
      try dsimp only
      try simp only [full_read, full_read_x, full_read_g]
      try simp only [box_read]
      rfl
    isplitl [HS0]
    · iexists _; isplitr; swap; · iexact HS0
      ipureintro; exact hfs0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    iexists _; iexact HW

end Cert.Up
end
-- ==== Proof.Gd1.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.G1A
public import proofs.«01_k».proof.Proof.G1B

@[expose] public section

set_option maxRecDepth 16384

noncomputable section

/-! What the pipeline of the down call hands its body and gets back, point by point. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem in1_0_of {c : Dev nD} (d : Dat τ (Elt F) Unit ℕ (Pipeline.UD sig nD τ) ℕ cfg1 c) (hA : d.A 0 = V c (Pipeline.arrRef spec1 0))
    (hl : ∀ t, d.after 0 t = blk1 V c 0 t) (t : Fin cfg1.N) (e) : d.before 0 t e = blk1 V c 0 t := by
  refine (d.before_in_eq_fetched 0 rfl (fun _ => rfl) (fun _ _ _ => rfl) (fun t => ?_) t e).trans ?_
  · rw [hl]; unfold Dat.blockOf blk1; rw [hA]; try rfl
  · unfold Dat.fetched Dat.blockOf blk1; rw [hA]; try rfl
theorem in1_1_of {c : Dev nD} (d : Dat τ (Elt F) Unit ℕ (Pipeline.UD sig nD τ) ℕ cfg1 c) (hA : d.A 1 = V c (Pipeline.arrRef spec1 1))
    (hl : ∀ t, d.after 1 t = blk1 V c 1 t) (t : Fin cfg1.N) (e) : d.before 1 t e = blk1 V c 1 t := by
  refine (d.before_in_eq_fetched 1 rfl (fun _ => rfl) (fun _ _ _ => rfl) (fun t => ?_) t e).trans ?_
  · rw [hl]; unfold Dat.blockOf blk1; rw [hA]; try rfl
  · unfold Dat.fetched Dat.blockOf blk1; rw [hA]; try rfl
theorem k1_cond1_iff : ∀ t : Fin cfg1.N, k1_cond1 (grid1.coords t) = 1#1 ↔ t.val = 0 :=
  (by decide +kernel : ∀ t : Fin grid1.N, k1_cond1 (grid1.coords t) = 1#1 ↔ t.val = 0)
theorem k1_cond2_iff : ∀ t : Fin cfg1.N, k1_cond2 (grid1.coords t) = 1#1 ↔ t.val ≠ 0 :=
  (by decide +kernel : ∀ t : Fin grid1.N, k1_cond2 (grid1.coords t) = 1#1 ↔ t.val ≠ 0)

/-- The buffer of the weights. -/
abbrev scA1 : Memref sig .tc .vmem S2816x1024 .bf16 := Memref.whole cc1_scratch0
/-- The six counters of the body's own copies. -/
abbrev own1 : Fin 6 → SemLoc sig := fun j => (![SemLoc.dma 21, SemLoc.dma 22, SemLoc.dma 23, SemLoc.dma 24, SemLoc.dma 25, SemLoc.dma 26] : Fin 6 → SemLoc sig) j
theorem own1_facts : Pipeline.OwnSemFacts spec1 own1 := by decide
theorem own1_list (c : Dev nD) : (Pipeline.ownSems0 (Ix := Unit) (Name := ℕ) (U := Pipeline.UD sig nD τ) (Lvl := ℕ) (Val := Elt F) (τ := τ) own1 c : sProp 𝕄)
    = iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c own1 [0, 1, 2, 3, 4, 5] (by decide) (by decide)]; rfl
/-- The weight buffer before point `n`: anything at first, then the weights. -/
def wts1 (c : Dev nD) (n : ℕ) : sProp 𝕄 :=
  if n = 0 then iprop(∃ d, owns (c : Thread nD τ) scA1 fullShare d) else owns (c : Thread nD τ) scA1 fullShare (V c main_v3)
/-- What the body keeps between points. -/
def inv1 (c : Dev nD) (n : ℕ) : sProp 𝕄 :=
  iprop(wts1 V c n ∗ (∃ r, prngReg c r) ∗ (semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ hbPt c hb2 (V c main_v3)
    ∗ Pipeline.scopedRestBut (Ix := Unit) (Name := ℕ) (U := Pipeline.UD sig nD τ) (Lvl := ℕ) (Val := Elt F) spec1 c [cc1_scratch0])
theorem wts1_zero (c : Dev nD) {n : ℕ} (h : n = 0) : wts1 V c n
    = iprop(∃ d, owns (c : Thread nD τ) scA1 fullShare d) := by unfold wts1; rw [if_pos h]
theorem wts1_pos (c : Dev nD) {n : ℕ} (h : n ≠ 0) : wts1 V c n
    = owns (c : Thread nD τ) scA1 fullShare (V c main_v3) := by unfold wts1; rw [if_neg h]

/-- The pipeline's account on core `c`. -/
def fd1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => fDn (blk1 V c 0 t) (blk1 V c 1 t) (V c main_v3)
  Φ t := inv1 V c t.val
  q _ := fullShare
  owed _ := 0
theorem fd1_A (c : Dev nD) (w : Fin cfg1.W) : (fd1 V c).A w = V c (Pipeline.arrRef spec1 w) := by dsimp only [fd1]
theorem fd1_0 (c : Dev nD) (t : Fin cfg1.N) : (fd1 V c).after 0 t = blk1 V c 0 t := by dsimp only [fd1]
theorem fd1_1 (c : Dev nD) (t : Fin cfg1.N) : (fd1 V c).after 1 t = blk1 V c 1 t := by dsimp only [fd1]
theorem fd1_2 (c : Dev nD) (t : Fin cfg1.N) : (fd1 V c).after 2 t = fDn (blk1 V c 0 t) (blk1 V c 1 t) (V c main_v3) := by dsimp only [fd1]
theorem in1_0 (c : Dev nD) (t : Fin cfg1.N) (e) : (fd1 V c).before 0 t e = blk1 V c 0 t :=
  in1_0_of V (fd1 V c) (fd1_A V c 0) (fd1_0 V c) t e
theorem in1_1 (c : Dev nD) (t : Fin cfg1.N) (e) : (fd1 V c).before 1 t e = blk1 V c 1 t :=
  in1_1_of V (fd1 V c) (fd1_A V c 1) (fd1_1 V c) t e
theorem lv1_0 (c : Dev nD) (t : Fin cfg1.N) : (fd1 V c).leavesExact 0 t = owns (c : Thread nD τ) (st1_0 t) fullShare ((fd1 V c).after 0 t) := by
  unfold Dat.leavesExact; rw [(by decide +kernel : ∀ t : Fin grid1.N, cfg1.idle 0 (grid1.coords t) = false) t]
theorem lv1_1 (c : Dev nD) (t : Fin cfg1.N) : (fd1 V c).leavesExact 1 t = owns (c : Thread nD τ) (st1_1 t) fullShare ((fd1 V c).after 1 t) := by
  unfold Dat.leavesExact; rw [(by decide +kernel : ∀ t : Fin grid1.N, cfg1.idle 1 (grid1.coords t) = false) t]
theorem lv1_2 (c : Dev nD) (t : Fin cfg1.N) : (fd1 V c).leavesExact 2 t = owns (c : Thread nD τ) (st1_2 t) fullShare ((fd1 V c).after 2 t) := by
  unfold Dat.leavesExact; rw [(by decide +kernel : ∀ t : Fin grid1.N, cfg1.idle 2 (grid1.coords t) = false) t]

/-- What the body is entered with at point `t`. -/
def pre1 (c : Dev nD) (t : Fin cfg1.N) : sProp 𝕄 :=
  iprop((fd1 V c).Φ t.castSucc ∗ (fd1 V c).owesAt () t.castSucc
    ∗ (∃ d, owns (c : Thread nD τ) (st1_0 t) fullShare ((fd1 V c).before 0 t d))
    ∗ (∃ d, owns (c : Thread nD τ) (st1_1 t) fullShare ((fd1 V c).before 1 t d))
    ∗ (∃ d, owns (c : Thread nD τ) (st1_2 t) fullShare ((fd1 V c).before 2 t d)))
/-- What the body leaves at point `t`. -/
def post1 (c : Dev nD) (t : Fin cfg1.N) : sProp 𝕄 :=
  iprop((fd1 V c).Φ t.succ ∗ (fd1 V c).owesAt () t.succ
    ∗ (fd1 V c).leavesExact 0 t
    ∗ (fd1 V c).leavesExact 1 t
    ∗ (fd1 V c).leavesExact 2 t)

set_option maxHeartbeats 1600000 in
/-- The body at any point. -/
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [in1_0, in1_1]
  rw [show (fd1 V c).Φ t.castSucc = inv1 V c t.val from rfl, show (fd1 V c).Φ t.succ = inv1 V c (t.val + 1) from rfl,
    lv1_0, fd1_0, lv1_1, fd1_1, lv1_2, fd1_2]
  unfold inv1 Dat.owesAt Pipeline.owesWithin
  rw [show (fd1 V c).owed t.castSucc = 0 from rfl, show (fd1 V c).owed t.succ = 0 from rfl]
  by_cases h0 : t.val = 0
  · rw [wts1_zero V c h0, wts1_pos V c (Nat.succ_ne_zero t.val)]
    iintro ⟨⟨HS0, Hg, ⟨Hq0, Hq1, Hq2, Hq3, Hq4, Hq5⟩, Hh0, Hr⟩, ⟨%W, -, HW⟩, ⟨%d0, H0⟩, ⟨%d1, H1⟩, ⟨%d2, H2⟩⟩
    iapply ((run1A c (grid1.coords t) _ _ _ _ _ _ _ _ ((k1_cond1_iff t).mpr h0) (fun h => ((k1_cond2_iff t).mp h) h0) (blk1 V c 0 t) (blk1 V c 1 t) (V c main_v3)) W _)
    isplitl [H0]; · iexact H0
    isplitl [H1]; · iexact H1
    isplitl [H2]; · iexists _; iexact H2
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [HW]; · iexact HW
    iintro ⟨H0, H1, H2, HS0, Hq0, Hq1, Hq2, Hq3, Hq4, Hq5, Hh0, ⟨%W2, HW⟩⟩
    isplitl [HS0 Hg Hq0 Hq1 Hq2 Hq3 Hq4 Hq5 Hh0 Hr]
    · isplitl [HS0]; · iexact HS0
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0]; · iexact Hh0
      iexact Hr
    isplitl [HW]
    · iexists W2; isplitr
      · ipureintro; exact fun _ _ => Or.inl trivial
      iexact HW
    isplitl [H0]; · iexact H0
    isplitl [H1]; · iexact H1
    iexact H2
  · rw [wts1_pos V c h0, wts1_pos V c (Nat.succ_ne_zero t.val)]
    iintro ⟨⟨HS0, Hg, ⟨Hq0, Hq1, Hq2, Hq3, Hq4, Hq5⟩, Hh0, Hr⟩, ⟨%W, -, HW⟩, ⟨%d0, H0⟩, ⟨%d1, H1⟩, ⟨%d2, H2⟩⟩
    iapply ((run1B c (grid1.coords t) _ _ _ _ _ _ _ _ (fun h => h0 ((k1_cond1_iff t).mp h)) ((k1_cond2_iff t).mpr h0) (blk1 V c 0 t) (blk1 V c 1 t) (V c main_v3)) W _)
    isplitl [H0]; · iexact H0
    isplitl [H1]; · iexact H1
    isplitl [H2]; · iexists _; iexact H2
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [HW]; · iexact HW
    iintro ⟨H0, H1, H2, HS0, Hq0, Hq1, Hq2, Hq3, Hq4, Hq5, Hh0, ⟨%W2, HW⟩⟩
    isplitl [HS0 Hg Hq0 Hq1 Hq2 Hq3 Hq4 Hq5 Hh0 Hr]
    · isplitl [HS0]; · iexact HS0
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0]; · iexact Hh0
      iexact Hr
    isplitl [HW]
    · iexists W2; isplitr
      · ipureintro; exact fun _ _ => Or.inl trivial
      iexact HW
    isplitl [H0]; · iexact H0
    isplitl [H1]; · iexact H1
    iexact H2

theorem row1 (t : Fin cfg1.N) : defs₀ (F := F) .tc cfg1.body (cfg1.bodyArgs t (cfg1.slots t)) = bodyAt1 t := by
  unfold defs₀; rw [Defs.onTc_tc]
theorem body1 (c : Dev nD) : BodyObligation (fd1 (F := F) V c) (defs₀ (F := F)) Variants.none () Set.univ := fun t => by
  rw [bigSep_W1, bigSep_W1, row1]
  exact triple_restated (step1 V c t) rfl .rfl fun _ => .rfl
end
end Cert.Up
end
-- ==== Proof.G2A.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb

@[expose] public section

set_option maxRecDepth 16384

noncomputable section

/-! One point of the backward call, the first of the two cases. -/

namespace Cert.Up

open Cert.Kernel3Ideal Cert.Kernel3Ideal.Gen
open Cert.Ffn (shards_whole halves_cover halves_whole sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at the first point: the weights are copied in, the block is computed. -/
theorem run2A (c : Dev nD) (i : grid2.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S1x1024 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4x1024x1408 .bf16) (harg12 : arg12.IsWhole) (arg13 : Memref sig .tc .vmem S2816x1024 .bf16) (harg13 : arg13.IsWhole) (hc0 : k2_cond1 i = 1#1) (hc1 : k2_cond2 i = 1#1) (hc2 : ¬ k2_cond3 i = 1#1)
    (x0 : Vec F S256x1024 .f32) (x1 : Vec F S256x1024 .f32) (x2 : Vec F S256x5632 .bf16) (x3 : Vec F S1x1024 .f32) (w13 : Vec F S4x1024x1408 .bf16) (w2 : Vec F S2816x1024 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ hbPt c hb13 w13 ∗ hbPt c hb2 w2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (bDx x0 x1 x2 x3 w13 w2) ∗ owns (c : Thread nD τ) arg8 fullShare (bDgu x0 x2 w2) ∗ owns (c : Thread nD τ) arg9 fullShare (bDg x0 x1 x2 w13 w2 k2_pay1) ∗ owns (c : Thread nD τ) arg10 fullShare (bDyh x0) ∗ owns (c : Thread nD τ) arg11 fullShare (bDxb x0 x1 x2 x3 w13 w2) ∗ owns (c : Thread nD τ) arg12 fullShare w13 ∗ owns (c : Thread nD τ) arg13 fullShare w2 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ hbPt c hb13 w13 ∗ hbPt c hb2 w2 ∗ (∃ W', owes (c : Thread nD τ) 0 W')) -∗ K ⟨⟩))
          ⊢ wp frame (wpE (defs₀ (F := F)) Variants.none c none) Set.univ (cc2_ffn_bwd i arg1 harg1 arg2 harg2 arg3 harg3 arg4 harg4 (Memref.whole main_v2) (Memref.isWhole_whole _) (Memref.whole main_v3) (Memref.isWhole_whole _) arg7 harg7 arg8 harg8 arg9 harg9 arg10 harg10 arg11 harg11 arg12 harg12 arg13 harg13 cc2_scratch2) K := by
    simp only [cc2_ffn_bwd_eq_skeleton]; unfold cc2_ffn_bwd_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hq0, Hq1, Hq2, Hq3, Hq4, Hq5, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    have hS := shards_whole hb13 w13 arg12 harg12 fs0 w13 rfl (fun _ => rfl) (fun _ => rfl) (fun _ => rfl) (fun _ => rfl) (run2A.sl.dma2_1 w13) (run2A.sl.dma2_4 w13) (run2A.sl.dma2_2 w13) (run2A.sl.dma2_5 w13) rfl rfl rfl rfl
    have hC := halves_whole hb2 w2 w2 rfl (fun _ => rfl) (fun _ => rfl) (run2A.sl.dma2 w2) (run2A.sl.dma2_3 w2) rfl rfl
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; refine (View.read_writes_full _ _ _ _ _).trans ?_
      try delta run2A.sl.r run2A.sl.r_1 run2A.sl.r_2 run2A.sl.r_3 run2A.sl.r_4 run2A.sl.r_5 run2A.sl.r_6 run2A.sl.r_7 run2A.sl.r_8 run2A.sl.r_9 run2A.sl.r_10 run2A.sl.v51 run2A.sl.v92 run2A.sl.v96 run2A.sl.v145 run2A.sl.v149 run2A.sl.v104 run2A.sl.v186 run2A.sl.H6_1
      try dsimp only
      try simp only [hS]
      try simp only [readCov_g]
      try simp only [View.readCov_eq_canon', hC]
      try simp only [full_read, full_read_x, full_read_g]
      try simp only [box_read]
      rfl
    isplitl [H5]
    · iexists _; isplitr; swap; · iexact H5
      ipureintro; refine (View.read_writes_eq_canon _ _ _ (fun y => View.cover_of_tiledL (s := S256x5632) _ S256x1408.size (by sl_kernel_rfl) y)).trans ?_
      try delta run2A.sl.r run2A.sl.r_1 run2A.sl.r_2 run2A.sl.r_3 run2A.sl.r_4 run2A.sl.r_5 run2A.sl.r_6 run2A.sl.r_7 run2A.sl.r_8 run2A.sl.r_9 run2A.sl.r_10 run2A.sl.v51 run2A.sl.v92 run2A.sl.v96 run2A.sl.v145 run2A.sl.v149 run2A.sl.v104 run2A.sl.v186 run2A.sl.H6_1
      try dsimp only
      try simp only [hS]
      try simp only [readCov_g]
      try simp only [View.readCov_eq_canon', hC]
      try simp only [full_read, full_read_x, full_read_g]
      try simp only [box_read]
      rfl
    isplitl [H6]
    · iexists _; isplitr; swap; · iexact H6
      ipureintro; refine (View.read_writes_full _ _ _ _ _).trans ?_
      try delta run2A.sl.r run2A.sl.r_1 run2A.sl.r_2 run2A.sl.r_3 run2A.sl.r_4 run2A.sl.r_5 run2A.sl.r_6 run2A.sl.r_7 run2A.sl.r_8 run2A.sl.r_9 run2A.sl.r_10 run2A.sl.v51 run2A.sl.v92 run2A.sl.v96 run2A.sl.v145 run2A.sl.v149 run2A.sl.v104 run2A.sl.v186 run2A.sl.H6_1
      try dsimp only
      try simp only [hS]
      try simp only [readCov_g]
      try simp only [View.readCov_eq_canon', hC]
      try simp only [full_read, full_read_x, full_read_g]
      try simp only [box_read]
      rfl
    isplitl [H7]
    · iexists _; isplitr; swap; · iexact H7
      ipureintro; refine (View.read_writes_full _ _ _ _ _).trans ?_
      try delta run2A.sl.r run2A.sl.r_1 run2A.sl.r_2 run2A.sl.r_3 run2A.sl.r_4 run2A.sl.r_5 run2A.sl.r_6 run2A.sl.r_7 run2A.sl.r_8 run2A.sl.r_9 run2A.sl.r_10 run2A.sl.v51 run2A.sl.v92 run2A.sl.v96 run2A.sl.v145 run2A.sl.v149 run2A.sl.v104 run2A.sl.v186 run2A.sl.H6_1
      try dsimp only
      try simp only [hS]
      try simp only [readCov_g]
      try simp only [View.readCov_eq_canon', hC]
      try simp only [full_read, full_read_x, full_read_g]
      try simp only [box_read]
      rfl
    isplitl [H8]
    · iexists _; isplitr; swap; · iexact H8
      ipureintro; refine (View.read_writes_full _ _ _ _ _).trans ?_
      try delta run2A.sl.r run2A.sl.r_1 run2A.sl.r_2 run2A.sl.r_3 run2A.sl.r_4 run2A.sl.r_5 run2A.sl.r_6 run2A.sl.r_7 run2A.sl.r_8 run2A.sl.r_9 run2A.sl.r_10 run2A.sl.v51 run2A.sl.v92 run2A.sl.v96 run2A.sl.v145 run2A.sl.v149 run2A.sl.v104 run2A.sl.v186 run2A.sl.H6_1
      try dsimp only
      try simp only [hS]
      try simp only [readCov_g]
      try simp only [View.readCov_eq_canon', hC]
      try simp only [full_read, full_read_x, full_read_g]
      try simp only [box_read]
      rfl
    isplitl [HS0]
    · iexists _; isplitr; swap; · iexact HS0
      ipureintro; rw [hS]; exact harg12.read_unread _
    isplitl [HS1]
    · iexists _; isplitr; swap; · iexact HS1
      ipureintro; exact (View.read_writes_eq_canon _ _ _ (halves_cover _ _)).trans hC
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.Up
end
-- ==== Proof.G2B.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb

@[expose] public section

set_option maxRecDepth 16384

noncomputable section

/-! One point of the backward call, the second of the two cases. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at a later point: the weights are there, the block is computed. -/
theorem run2B (c : Dev nD) (i : grid2.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S1x1024 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4x1024x1408 .bf16) (harg12 : arg12.IsWhole) (arg13 : Memref sig .tc .vmem S2816x1024 .bf16) (harg13 : arg13.IsWhole) (hc0 : ¬ k2_cond1 i = 1#1) (hc1 : ¬ k2_cond2 i = 1#1) (hc2 : k2_cond3 i = 1#1)
    (x0 : Vec F S256x1024 .f32) (x1 : Vec F S256x1024 .f32) (x2 : Vec F S256x5632 .bf16) (x3 : Vec F S1x1024 .f32) (xg : Vec F S1x1024 .f32) (w13 : Vec F S4x1024x1408 .bf16) (w2 : Vec F S2816x1024 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ owns (c : Thread nD τ) arg9 fullShare xg ∗ (∃ d, owns (c : Thread nD τ) arg10 fullShare d) ∗ (∃ d, owns (c : Thread nD τ) arg11 fullShare d) ∗ owns (c : Thread nD τ) arg12 fullShare w13 ∗ owns (c : Thread nD τ) arg13 fullShare w2 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ hbPt c hb13 w13 ∗ hbPt c hb2 w2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (bDx x0 x1 x2 x3 w13 w2) ∗ owns (c : Thread nD τ) arg8 fullShare (bDgu x0 x2 w2) ∗ owns (c : Thread nD τ) arg9 fullShare (bDg x0 x1 x2 w13 w2 xg) ∗ owns (c : Thread nD τ) arg10 fullShare (bDyh x0) ∗ owns (c : Thread nD τ) arg11 fullShare (bDxb x0 x1 x2 x3 w13 w2) ∗ owns (c : Thread nD τ) arg12 fullShare w13 ∗ owns (c : Thread nD τ) arg13 fullShare w2 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ hbPt c hb13 w13 ∗ hbPt c hb2 w2 ∗ (∃ W', owes (c : Thread nD τ) 0 W')) -∗ K ⟨⟩))
          ⊢ wp frame (wpE (defs₀ (F := F)) Variants.none c none) Set.univ (cc2_ffn_bwd i arg1 harg1 arg2 harg2 arg3 harg3 arg4 harg4 (Memref.whole main_v2) (Memref.isWhole_whole _) (Memref.whole main_v3) (Memref.isWhole_whole _) arg7 harg7 arg8 harg8 arg9 harg9 arg10 harg10 arg11 harg11 arg12 harg12 arg13 harg13 cc2_scratch2) K := by
    simp only [cc2_ffn_bwd_eq_skeleton]; unfold cc2_ffn_bwd_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hfg, H6⟩, ⟨%d7, %f7, -, H7⟩, ⟨%d8, %f8, -, H8⟩, ⟨%fs0, %hfs0, HS0⟩, ⟨%fs1, %hfs1, HS1⟩, Hq0, Hq1, Hq2, Hq3, Hq4, Hq5, Hh0, Hh1, HW, Hk⟩
    obtain rfl := harg1.eq_unread hf0; obtain rfl := harg2.eq_unread hf1; obtain rfl := harg3.eq_unread hf2; obtain rfl := harg4.eq_unread hf3; obtain rfl := harg9.eq_unread hfg; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; refine (View.read_writes_full _ _ _ _ _).trans ?_
      try delta run2B.sl.r run2B.sl.r_1 run2B.sl.r_2 run2B.sl.r_3 run2B.sl.r_4 run2B.sl.r_5 run2B.sl.r_6 run2B.sl.r_7 run2B.sl.r_8
      try dsimp only
      try simp only [full_read, full_read_x, full_read_g]
      try simp only [box_read]
      rfl
    isplitl [H5]
    · iexists _; isplitr; swap; · iexact H5
      ipureintro; refine (View.read_writes_eq_canon _ _ _ (fun y => View.cover_of_tiledL (s := S256x5632) _ S256x1408.size (by sl_kernel_rfl) y)).trans ?_
      try delta run2B.sl.r run2B.sl.r_1 run2B.sl.r_2 run2B.sl.r_3 run2B.sl.r_4 run2B.sl.r_5 run2B.sl.r_6 run2B.sl.r_7 run2B.sl.r_8
      try dsimp only
      try simp only [full_read, full_read_x, full_read_g]
      try simp only [box_read]
      rfl
    isplitl [H6]
    · iexists _; isplitr; swap; · iexact H6
      ipureintro; refine (View.read_writes_full _ _ _ _ _).trans ?_
      try delta run2B.sl.r run2B.sl.r_1 run2B.sl.r_2 run2B.sl.r_3 run2B.sl.r_4 run2B.sl.r_5 run2B.sl.r_6 run2B.sl.r_7 run2B.sl.r_8
      try dsimp only
      try simp only [full_read, full_read_x, full_read_g]
      try simp only [box_read]
      rfl
    isplitl [H7]
    · iexists _; isplitr; swap; · iexact H7
      ipureintro; refine (View.read_writes_full _ _ _ _ _).trans ?_
      try delta run2B.sl.r run2B.sl.r_1 run2B.sl.r_2 run2B.sl.r_3 run2B.sl.r_4 run2B.sl.r_5 run2B.sl.r_6 run2B.sl.r_7 run2B.sl.r_8
      try dsimp only
      try simp only [full_read, full_read_x, full_read_g]
      try simp only [box_read]
      rfl
    isplitl [H8]
    · iexists _; isplitr; swap; · iexact H8
      ipureintro; refine (View.read_writes_full _ _ _ _ _).trans ?_
      try delta run2B.sl.r run2B.sl.r_1 run2B.sl.r_2 run2B.sl.r_3 run2B.sl.r_4 run2B.sl.r_5 run2B.sl.r_6 run2B.sl.r_7 run2B.sl.r_8
      try dsimp only
      try simp only [full_read, full_read_x, full_read_g]
      try simp only [box_read]
      rfl
    isplitl [HS0]
    · iexists _; isplitr; swap; · iexact HS0
      ipureintro; exact hfs0
    isplitl [HS1]
    · iexists _; isplitr; swap; · iexact HS1
      ipureintro; exact hfs1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.Up
end
-- ==== Proof.Gd2.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.G2A
public import proofs.«01_k».proof.Proof.G2B
@[expose] public section

set_option maxRecDepth 16384

noncomputable section

/-! What the pipeline of the backward pass hands its body and gets back, point by point. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem in2_0_of {c : Dev nD} (d : Dat τ (Elt F) Unit ℕ (Pipeline.UD sig nD τ) ℕ cfg2 c) (hA : d.A 0 = V c (Pipeline.arrRef spec2 0))
    (hl : ∀ t, d.after 0 t = blk2 V c 0 t) (t : Fin cfg2.N) (e) : d.before 0 t e = blk2 V c 0 t := by
  refine (d.before_in_eq_fetched 0 rfl (fun _ => rfl) (fun _ _ _ => rfl) (fun t => ?_) t e).trans ?_
  · rw [hl]; unfold Dat.blockOf blk2; rw [hA]; try rfl
  · unfold Dat.fetched Dat.blockOf blk2; rw [hA]; try rfl
theorem in2_1_of {c : Dev nD} (d : Dat τ (Elt F) Unit ℕ (Pipeline.UD sig nD τ) ℕ cfg2 c) (hA : d.A 1 = V c (Pipeline.arrRef spec2 1))
    (hl : ∀ t, d.after 1 t = blk2 V c 1 t) (t : Fin cfg2.N) (e) : d.before 1 t e = blk2 V c 1 t := by
  refine (d.before_in_eq_fetched 1 rfl (fun _ => rfl) (fun _ _ _ => rfl) (fun t => ?_) t e).trans ?_
  · rw [hl]; unfold Dat.blockOf blk2; rw [hA]; try rfl
  · unfold Dat.fetched Dat.blockOf blk2; rw [hA]; try rfl
theorem in2_2_of {c : Dev nD} (d : Dat τ (Elt F) Unit ℕ (Pipeline.UD sig nD τ) ℕ cfg2 c) (hA : d.A 2 = V c (Pipeline.arrRef spec2 2))
    (hl : ∀ t, d.after 2 t = blk2 V c 2 t) (t : Fin cfg2.N) (e) : d.before 2 t e = blk2 V c 2 t := by
  refine (d.before_in_eq_fetched 2 rfl (fun _ => rfl) (fun _ _ _ => rfl) (fun t => ?_) t e).trans ?_
  · rw [hl]; unfold Dat.blockOf blk2; rw [hA]; try rfl
  · unfold Dat.fetched Dat.blockOf blk2; rw [hA]; try rfl
theorem in2_3_of {c : Dev nD} (d : Dat τ (Elt F) Unit ℕ (Pipeline.UD sig nD τ) ℕ cfg2 c) (hA : d.A 3 = V c (Pipeline.arrRef spec2 3))
    (hl : ∀ t, d.after 3 t = blk2 V c 3 t) (t : Fin cfg2.N) (e) : d.before 3 t e = blk2 V c 3 t := by
  refine (d.before_in_eq_fetched 3 rfl (fun _ => rfl) (fun _ _ _ => rfl) (fun t => ?_) t e).trans ?_
  · rw [hl]; unfold Dat.blockOf blk2; rw [hA]; try rfl
  · unfold Dat.fetched Dat.blockOf blk2; rw [hA]; try rfl
theorem k2_cond1_iff : ∀ t : Fin cfg2.N, k2_cond1 (grid2.coords t) = 1#1 ↔ t.val = 0 :=
  (by decide +kernel : ∀ t : Fin grid2.N, k2_cond1 (grid2.coords t) = 1#1 ↔ t.val = 0)
theorem k2_cond2_iff : ∀ t : Fin cfg2.N, k2_cond2 (grid2.coords t) = 1#1 ↔ t.val = 0 :=
  (by decide +kernel : ∀ t : Fin grid2.N, k2_cond2 (grid2.coords t) = 1#1 ↔ t.val = 0)
theorem k2_cond3_iff : ∀ t : Fin cfg2.N, k2_cond3 (grid2.coords t) = 1#1 ↔ t.val ≠ 0 :=
  (by decide +kernel : ∀ t : Fin grid2.N, k2_cond3 (grid2.coords t) = 1#1 ↔ t.val ≠ 0)

/-- The buffer of the gate and up weights. -/
abbrev scA2 : Memref sig .tc .vmem S4x1024x1408 .bf16 := Memref.whole cc2_scratch0
/-- The buffer of the down weights. -/
abbrev scB2 : Memref sig .tc .vmem S2816x1024 .bf16 := Memref.whole cc2_scratch1
/-- The six counters of the body's own copies. -/
abbrev own2 : Fin 6 → SemLoc sig := fun j => (![SemLoc.dma 43, SemLoc.dma 44, SemLoc.dma 45, SemLoc.dma 46, SemLoc.dma 47, SemLoc.dma 48] : Fin 6 → SemLoc sig) j
theorem own2_facts : Pipeline.OwnSemFacts spec2 own2 := by decide
theorem own2_list (c : Dev nD) : (Pipeline.ownSems0 (Ix := Unit) (Name := ℕ) (U := Pipeline.UD sig nD τ) (Lvl := ℕ) (Val := Elt F) (τ := τ) own2 c : sProp 𝕄)
    = iprop(semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0) := by
  rw [Pipeline.ownSems0_eq_of_list c own2 [0, 1, 2, 3, 4, 5] (by decide) (by decide)]; rfl
/-- The two weight buffers before point `n`: anything at first, then the weights. -/
def wts2 (c : Dev nD) (n : ℕ) : sProp 𝕄 :=
  if n = 0 then iprop((∃ d, owns (c : Thread nD τ) scA2 fullShare d) ∗ (∃ d, owns (c : Thread nD τ) scB2 fullShare d))
  else iprop(owns (c : Thread nD τ) scA2 fullShare (V c main_v2) ∗ owns (c : Thread nD τ) scB2 fullShare (V c main_v3))
/-- What the body keeps between points. -/
def inv2 (c : Dev nD) (n : ℕ) : sProp 𝕄 :=
  iprop(wts2 V c n ∗ (∃ r, prngReg c r) ∗ (semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0) ∗ (hbPt c hb13 (V c main_v2) ∗ hbPt c hb2 (V c main_v3))
    ∗ Pipeline.scopedRestBut (Ix := Unit) (Name := ℕ) (U := Pipeline.UD sig nD τ) (Lvl := ℕ) (Val := Elt F) spec2 c [cc2_scratch0, cc2_scratch1])
theorem wts2_zero (c : Dev nD) {n : ℕ} (h : n = 0) : wts2 V c n
    = iprop((∃ d, owns (c : Thread nD τ) scA2 fullShare d) ∗ (∃ d, owns (c : Thread nD τ) scB2 fullShare d)) := by unfold wts2; rw [if_pos h]
theorem wts2_pos (c : Dev nD) {n : ℕ} (h : n ≠ 0) : wts2 V c n
    = iprop(owns (c : Thread nD τ) scA2 fullShare (V c main_v2) ∗ owns (c : Thread nD τ) scB2 fullShare (V c main_v3)) := by unfold wts2; rw [if_neg h]

/-- Point `n`, as a point of the grid. -/
def pt2 (n : ℕ) : Fin cfg2.N := ⟨min n 7, lt_of_lt_of_eq (lt_of_le_of_lt (min_le_right n 7) (by decide : 7 < 8)) N_2.symm⟩
theorem pt2_val (t : Fin cfg2.N) : pt2 t.val = t := Fin.ext (min_eq_left (Nat.le_of_lt_succ (lt_of_lt_of_eq t.isLt N_2)))
/-- The gain's gradient after point `n`: the sum of the rows' shares so far. -/
def dg2 (c : Dev nD) : ℕ → Vec F S1x1024 .f32
  | 0 => bDg (blk2 V c 0 (pt2 0)) (blk2 V c 1 (pt2 0)) (blk2 V c 2 (pt2 0)) (V c main_v2) (V c main_v3) k2_pay1
  | n + 1 => bDg (blk2 V c 0 (pt2 (n + 1))) (blk2 V c 1 (pt2 (n + 1))) (blk2 V c 2 (pt2 (n + 1))) (V c main_v2) (V c main_v3) (dg2 c n)
theorem dg2_first (c : Dev nD) (t : Fin cfg2.N) (h : t.val = 0) : dg2 V c t.val
    = bDg (blk2 V c 0 t) (blk2 V c 1 t) (blk2 V c 2 t) (V c main_v2) (V c main_v3) k2_pay1 := by
  obtain rfl : pt2 0 = t := by rw [← h]; exact pt2_val t
  rfl
theorem dg2_next (c : Dev nD) (t : Fin cfg2.N) (h : t.val ≠ 0) : dg2 V c t.val
    = bDg (blk2 V c 0 t) (blk2 V c 1 t) (blk2 V c 2 t) (V c main_v2) (V c main_v3) (dg2 V c (t.val - 1)) := by
  obtain ⟨n, hn⟩ := Nat.exists_eq_succ_of_ne_zero h
  have e := pt2_val t
  rw [hn] at e ⊢
  rw [← e]; rfl

/-- The pipeline's account on core `c`. -/
def fd2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => bDx (blk2 V c 0 t) (blk2 V c 1 t) (blk2 V c 2 t) (blk2 V c 3 t) (V c main_v2) (V c main_v3)
    | ⟨5, _⟩ => bDgu (blk2 V c 0 t) (blk2 V c 2 t) (V c main_v3)
    | ⟨6, _⟩ => dg2 V c t.val
    | ⟨7, _⟩ => bDyh (blk2 V c 0 t)
    | ⟨8, _⟩ => bDxb (blk2 V c 0 t) (blk2 V c 1 t) (blk2 V c 2 t) (blk2 V c 3 t) (V c main_v2) (V c main_v3)
  Φ t := inv2 V c t.val
  q _ := fullShare
  owed _ := 0
theorem fd2_A (c : Dev nD) (w : Fin cfg2.W) : (fd2 V c).A w = V c (Pipeline.arrRef spec2 w) := by dsimp only [fd2]
theorem fd2_0 (c : Dev nD) (t : Fin cfg2.N) : (fd2 V c).after 0 t = blk2 V c 0 t := by dsimp only [fd2]
theorem fd2_1 (c : Dev nD) (t : Fin cfg2.N) : (fd2 V c).after 1 t = blk2 V c 1 t := by dsimp only [fd2]
theorem fd2_2 (c : Dev nD) (t : Fin cfg2.N) : (fd2 V c).after 2 t = blk2 V c 2 t := by dsimp only [fd2]
theorem fd2_3 (c : Dev nD) (t : Fin cfg2.N) : (fd2 V c).after 3 t = blk2 V c 3 t := by dsimp only [fd2]
theorem fd2_4 (c : Dev nD) (t : Fin cfg2.N) : (fd2 V c).after 4 t = bDx (blk2 V c 0 t) (blk2 V c 1 t) (blk2 V c 2 t) (blk2 V c 3 t) (V c main_v2) (V c main_v3) := by dsimp only [fd2]
theorem fd2_5 (c : Dev nD) (t : Fin cfg2.N) : (fd2 V c).after 5 t = bDgu (blk2 V c 0 t) (blk2 V c 2 t) (V c main_v3) := by dsimp only [fd2]
theorem fd2_6 (c : Dev nD) (t : Fin cfg2.N) : (fd2 V c).after 6 t = dg2 V c t.val := by dsimp only [fd2]
theorem fd2_7 (c : Dev nD) (t : Fin cfg2.N) : (fd2 V c).after 7 t = bDyh (blk2 V c 0 t) := by dsimp only [fd2]
theorem fd2_8 (c : Dev nD) (t : Fin cfg2.N) : (fd2 V c).after 8 t = bDxb (blk2 V c 0 t) (blk2 V c 1 t) (blk2 V c 2 t) (blk2 V c 3 t) (V c main_v2) (V c main_v3) := by dsimp only [fd2]
theorem in2_0 (c : Dev nD) (t : Fin cfg2.N) (e) : (fd2 V c).before 0 t e = blk2 V c 0 t :=
  in2_0_of V (fd2 V c) (fd2_A V c 0) (fd2_0 V c) t e
theorem in2_1 (c : Dev nD) (t : Fin cfg2.N) (e) : (fd2 V c).before 1 t e = blk2 V c 1 t :=
  in2_1_of V (fd2 V c) (fd2_A V c 1) (fd2_1 V c) t e
theorem in2_2 (c : Dev nD) (t : Fin cfg2.N) (e) : (fd2 V c).before 2 t e = blk2 V c 2 t :=
  in2_2_of V (fd2 V c) (fd2_A V c 2) (fd2_2 V c) t e
theorem in2_3 (c : Dev nD) (t : Fin cfg2.N) (e) : (fd2 V c).before 3 t e = blk2 V c 3 t :=
  in2_3_of V (fd2 V c) (fd2_A V c 3) (fd2_3 V c) t e
theorem in2_6 (c : Dev nD) (t : Fin cfg2.N) (h : t.val ≠ 0) (e) : (fd2 V c).before 6 t e = dg2 V c (t.val - 1) := by
  have hlt : t.val < 8 := lt_of_lt_of_eq t.isLt N_2
  have hf : (cfg2.win 6).flush ⟨t.val - 1, Nat.lt_of_le_of_lt (Nat.sub_le _ _) t.isLt⟩ = false := by
    rw [Bool.eq_false_iff]
    intro hh
    have := (flush2_6 _).mp hh
    dsimp only at this
    omega
  rw [(fd2 V c).before_out_kept 6 rfl t h hf (by decide +kernel : ∀ i : grid2.Coords, idle2 6 i = false) (fun _ _ => rfl) e, fd2_6]
theorem lv2_0 (c : Dev nD) (t : Fin cfg2.N) : (fd2 V c).leavesExact 0 t = owns (c : Thread nD τ) (st2_0 t) fullShare ((fd2 V c).after 0 t) := by
  unfold Dat.leavesExact; rw [(by decide +kernel : ∀ t : Fin grid2.N, cfg2.idle 0 (grid2.coords t) = false) t]
theorem lv2_1 (c : Dev nD) (t : Fin cfg2.N) : (fd2 V c).leavesExact 1 t = owns (c : Thread nD τ) (st2_1 t) fullShare ((fd2 V c).after 1 t) := by
  unfold Dat.leavesExact; rw [(by decide +kernel : ∀ t : Fin grid2.N, cfg2.idle 1 (grid2.coords t) = false) t]
theorem lv2_2 (c : Dev nD) (t : Fin cfg2.N) : (fd2 V c).leavesExact 2 t = owns (c : Thread nD τ) (st2_2 t) fullShare ((fd2 V c).after 2 t) := by
  unfold Dat.leavesExact; rw [(by decide +kernel : ∀ t : Fin grid2.N, cfg2.idle 2 (grid2.coords t) = false) t]
theorem lv2_3 (c : Dev nD) (t : Fin cfg2.N) : (fd2 V c).leavesExact 3 t = owns (c : Thread nD τ) (st2_3 t) fullShare ((fd2 V c).after 3 t) := by
  unfold Dat.leavesExact; rw [(by decide +kernel : ∀ t : Fin grid2.N, cfg2.idle 3 (grid2.coords t) = false) t]
theorem lv2_4 (c : Dev nD) (t : Fin cfg2.N) : (fd2 V c).leavesExact 4 t = owns (c : Thread nD τ) (st2_4 t) fullShare ((fd2 V c).after 4 t) := by
  unfold Dat.leavesExact; rw [(by decide +kernel : ∀ t : Fin grid2.N, cfg2.idle 4 (grid2.coords t) = false) t]
theorem lv2_5 (c : Dev nD) (t : Fin cfg2.N) : (fd2 V c).leavesExact 5 t = owns (c : Thread nD τ) (st2_5 t) fullShare ((fd2 V c).after 5 t) := by
  unfold Dat.leavesExact; rw [(by decide +kernel : ∀ t : Fin grid2.N, cfg2.idle 5 (grid2.coords t) = false) t]
theorem lv2_6 (c : Dev nD) (t : Fin cfg2.N) : (fd2 V c).leavesExact 6 t = owns (c : Thread nD τ) (st2_6 t) fullShare ((fd2 V c).after 6 t) := by
  unfold Dat.leavesExact; rw [(by decide +kernel : ∀ t : Fin grid2.N, cfg2.idle 6 (grid2.coords t) = false) t]
theorem lv2_7 (c : Dev nD) (t : Fin cfg2.N) : (fd2 V c).leavesExact 7 t = owns (c : Thread nD τ) (st2_7 t) fullShare ((fd2 V c).after 7 t) := by
  unfold Dat.leavesExact; rw [(by decide +kernel : ∀ t : Fin grid2.N, cfg2.idle 7 (grid2.coords t) = false) t]
theorem lv2_8 (c : Dev nD) (t : Fin cfg2.N) : (fd2 V c).leavesExact 8 t = owns (c : Thread nD τ) (st2_8 t) fullShare ((fd2 V c).after 8 t) := by
  unfold Dat.leavesExact; rw [(by decide +kernel : ∀ t : Fin grid2.N, cfg2.idle 8 (grid2.coords t) = false) t]

/-- What the body is entered with at point `t`. -/
def pre2 (c : Dev nD) (t : Fin cfg2.N) : sProp 𝕄 :=
  iprop((fd2 V c).Φ t.castSucc ∗ (fd2 V c).owesAt () t.castSucc
    ∗ (∃ d, owns (c : Thread nD τ) (st2_0 t) fullShare ((fd2 V c).before 0 t d))
    ∗ (∃ d, owns (c : Thread nD τ) (st2_1 t) fullShare ((fd2 V c).before 1 t d))
    ∗ (∃ d, owns (c : Thread nD τ) (st2_2 t) fullShare ((fd2 V c).before 2 t d))
    ∗ (∃ d, owns (c : Thread nD τ) (st2_3 t) fullShare ((fd2 V c).before 3 t d))
    ∗ (∃ d, owns (c : Thread nD τ) (st2_4 t) fullShare ((fd2 V c).before 4 t d))
    ∗ (∃ d, owns (c : Thread nD τ) (st2_5 t) fullShare ((fd2 V c).before 5 t d))
    ∗ (∃ d, owns (c : Thread nD τ) (st2_6 t) fullShare ((fd2 V c).before 6 t d))
    ∗ (∃ d, owns (c : Thread nD τ) (st2_7 t) fullShare ((fd2 V c).before 7 t d))
    ∗ (∃ d, owns (c : Thread nD τ) (st2_8 t) fullShare ((fd2 V c).before 8 t d)))
/-- What the body leaves at point `t`. -/
def post2 (c : Dev nD) (t : Fin cfg2.N) : sProp 𝕄 :=
  iprop((fd2 V c).Φ t.succ ∗ (fd2 V c).owesAt () t.succ
    ∗ (fd2 V c).leavesExact 0 t
    ∗ (fd2 V c).leavesExact 1 t
    ∗ (fd2 V c).leavesExact 2 t
    ∗ (fd2 V c).leavesExact 3 t
    ∗ (fd2 V c).leavesExact 4 t
    ∗ (fd2 V c).leavesExact 5 t
    ∗ (fd2 V c).leavesExact 6 t
    ∗ (fd2 V c).leavesExact 7 t
    ∗ (fd2 V c).leavesExact 8 t)

set_option maxHeartbeats 1600000 in
/-- The body at any point. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [in2_0, in2_1, in2_2, in2_3]
  rw [show (fd2 V c).Φ t.castSucc = inv2 V c t.val from rfl, show (fd2 V c).Φ t.succ = inv2 V c (t.val + 1) from rfl,
    lv2_0, fd2_0, lv2_1, fd2_1, lv2_2, fd2_2, lv2_3, fd2_3, lv2_4, fd2_4, lv2_5, fd2_5, lv2_6, fd2_6, lv2_7, fd2_7, lv2_8, fd2_8]
  unfold inv2 Dat.owesAt Pipeline.owesWithin
  rw [show (fd2 V c).owed t.castSucc = 0 from rfl, show (fd2 V c).owed t.succ = 0 from rfl]
  by_cases h0 : t.val = 0
  · rw [wts2_zero V c h0, wts2_pos V c (Nat.succ_ne_zero t.val)]
    rw [dg2_first V c t h0]
    iintro ⟨⟨⟨HS0, HS1⟩, Hg, ⟨Hq0, Hq1, Hq2, Hq3, Hq4, Hq5⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run2A c (grid2.coords t) _ _ _ _ _ _ _ _ _ _ _ _ _ _ _ _ _ _ _ _ _ _ ((k2_cond1_iff t).mpr h0) ((k2_cond2_iff t).mpr h0) (fun h => ((k2_cond3_iff t).mp h) h0) (blk2 V c 0 t) (blk2 V c 1 t) (blk2 V c 2 t) (blk2 V c 3 t) (V c main_v2) (V c main_v3)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, H6, H7, H8, HS0, HS1, Hq0, Hq1, Hq2, Hq3, Hq4, Hq5, Hh0, Hh1, ⟨%W2, HW⟩⟩
    isplitl [HS0 HS1 Hg Hq0 Hq1 Hq2 Hq3 Hq4 Hq5 Hh0 Hh1 Hr]
    · isplitl [HS0 HS1]
      · isplitl [HS0] <;> iassumption
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0 Hh1]
      · isplitl [Hh0] <;> iassumption
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [wts2_pos V c h0, wts2_pos V c (Nat.succ_ne_zero t.val)]
    simp only [in2_6 V c t h0]
    rw [dg2_next V c t h0]
    iintro ⟨⟨⟨HS0, HS1⟩, Hg, ⟨Hq0, Hq1, Hq2, Hq3, Hq4, Hq5⟩, ⟨Hh0, Hh1⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run2B c (grid2.coords t) _ _ _ _ _ _ _ _ _ _ _ _ _ _ _ _ _ _ _ _ _ _ (fun h => h0 ((k2_cond1_iff t).mp h)) (fun h => h0 ((k2_cond2_iff t).mp h)) ((k2_cond3_iff t).mpr h0) (blk2 V c 0 t) (blk2 V c 1 t) (blk2 V c 2 t) (blk2 V c 3 t) (dg2 V c (t.val - 1)) (V c main_v2) (V c main_v3)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, H6, H7, H8, HS0, HS1, Hq0, Hq1, Hq2, Hq3, Hq4, Hq5, Hh0, Hh1, ⟨%W2, HW⟩⟩
    isplitl [HS0 HS1 Hg Hq0 Hq1 Hq2 Hq3 Hq4 Hq5 Hh0 Hh1 Hr]
    · isplitl [HS0 HS1]
      · isplitl [HS0] <;> iassumption
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4] <;> iassumption
      isplitl [Hh0 Hh1]
      · isplitl [Hh0] <;> iassumption
      iexact Hr
    isplitl [HW]
    · iexists W2; isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem row2 (t : Fin cfg2.N) : defs₀ (F := F) .tc cfg2.body (cfg2.bodyArgs t (cfg2.slots t)) = bodyAt2 t := by
  unfold defs₀; rw [Defs.onTc_tc]
theorem body2 (c : Dev nD) : BodyObligation (fd2 (F := F) V c) (defs₀ (F := F)) Variants.none () Set.univ := fun t => by
  rw [bigSep_W2, bigSep_W2, row2]
  exact triple_restated (step2 V c t) rfl .rfl fun _ => .rfl
end
end Cert.Up
end
-- ==== Proof.Gd3.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gb
public import proofs.«01_k».proof.Proof.Fd2
@[expose] public section

set_option maxRecDepth 16384

noncomputable section

/-! The two weight-gradient pipelines: what they hand their bodies and get back. -/

namespace Cert.Up

open Cert.Kernel3Ideal Cert.Kernel3Ideal.Gen
open Cert.Ffn (gW2 gW3 sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole block of tokens. -/
theorem full_read_a {e : EltTy} (m : Memref sig .tc .vmem S2048x1024 e) (hm : m.IsWhole) (X : S2048x1024.Idx → Elt F e)
    (inb : ∀ a, (![0, 0] : Fin 2 → ℕ) a + (![2048, 1024] : Fin 2 → ℕ) a ≤ S2048x1024.size a) :
    View.readAt (Elt F) m.view (Rect.unit (s := S2048x1024) ![0, 0] ![2048, 1024] inb).toLoadRect (hm.unread X) = X := full_read m hm X inb
/-- A load of a whole block of hidden columns. -/
theorem full_read_b {e : EltTy} (m : Memref sig .tc .vmem S2048x1408 e) (hm : m.IsWhole) (X : S2048x1408.Idx → Elt F e)
    (inb : ∀ a, (![0, 0] : Fin 2 → ℕ) a + (![2048, 1408] : Fin 2 → ℕ) a ≤ S2048x1408.size a) :
    View.readAt (Elt F) m.view (Rect.unit (s := S2048x1408) ![0, 0] ![2048, 1408] inb).toLoadRect (hm.unread X) = X := full_read m hm X inb

local notation "𝕄" => MT nD τ sig Unit (Elt F) ℕ (Pipeline.UD sig nD τ) ℕ

section
variable (V : (c : Dev nD) → (b : Ref sig .tc) → Buf (Elt F) ((c : Thread nD τ).loc b))

/-- The block that window `w` reads at point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem in3_0_of {c : Dev nD} (d : Dat τ (Elt F) Unit ℕ (Pipeline.UD sig nD τ) ℕ cfg3 c) (hA : d.A 0 = V c (Pipeline.arrRef spec3 0))
    (hl : ∀ t, d.after 0 t = blk3 V c 0 t) (t : Fin cfg3.N) (e) : d.before 0 t e = blk3 V c 0 t := by
  refine (d.before_in_eq_fetched 0 rfl (fun _ => rfl) (fun _ _ _ => rfl) (fun t => ?_) t e).trans ?_
  · rw [hl]; unfold Dat.blockOf blk3; rw [hA]; try rfl
  · unfold Dat.fetched Dat.blockOf blk3; rw [hA]; try rfl
theorem in3_1_of {c : Dev nD} (d : Dat τ (Elt F) Unit ℕ (Pipeline.UD sig nD τ) ℕ cfg3 c) (hA : d.A 1 = V c (Pipeline.arrRef spec3 1))
    (hl : ∀ t, d.after 1 t = blk3 V c 1 t) (t : Fin cfg3.N) (e) : d.before 1 t e = blk3 V c 1 t := by
  refine (d.before_in_eq_fetched 1 rfl (fun _ => rfl) (fun _ _ _ => rfl) (fun t => ?_) t e).trans ?_
  · rw [hl]; unfold Dat.blockOf blk3; rw [hA]; try rfl
  · unfold Dat.fetched Dat.blockOf blk3; rw [hA]; try rfl

set_option maxHeartbeats 1000000 in
theorem run3W (c : Dev nD) (i : grid3.Coords) (arg2 : Memref sig .tc .vmem S2048x1024 .bf16) (harg2 : arg2.IsWhole) (arg3 : Memref sig .tc .vmem S2048x1408 .bf16) (harg3 : arg3.IsWhole)
    (arg4 : Memref sig .tc .vmem S1x1024x1408 .bf16) (harg4 : arg4.IsWhole) (x : Vec F S2048x1024 .bf16) (y : Vec F S2048x1408 .bf16) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (gW2 x y)) -∗ K ⟨⟩))
      ⊢ wp frame (wpE (defs₀ (F := F)) Variants.none c none) Set.univ (cc3_dw13 i arg2 harg2 arg3 harg3 arg4 harg4) K := by
  simp only [cc3_dw13_eq_skeleton]; unfold cc3_dw13_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro; refine (View.read_writes_full _ _ _ _ _).trans ?_
  simp only [full_read_a, full_read_b]
  rfl

/-- The pipeline's account on core `c`. -/
def fd3 (c : Dev nD) : Dat τ (Elt F) Unit ℕ (Pipeline.UD sig nD τ) ℕ cfg3 c where
  A w := V c (Pipeline.arrRef spec3 w)
  after w t := match w with
    | ⟨0, _⟩ => blk3 V c 0 t
    | ⟨1, _⟩ => blk3 V c 1 t
    | ⟨2, _⟩ => gW2 (blk3 V c 0 t) (blk3 V c 1 t)
  Φ _ := Pipeline.ΦA spec3 c
  q _ := fullShare
  owed _ := 0
theorem fd3_A (c : Dev nD) (w : Fin cfg3.W) : (fd3 V c).A w = V c (Pipeline.arrRef spec3 w) := by dsimp only [fd3]
theorem fd3_0 (c : Dev nD) (t : Fin cfg3.N) : (fd3 V c).after 0 t = blk3 V c 0 t := by dsimp only [fd3]
theorem fd3_1 (c : Dev nD) (t : Fin cfg3.N) : (fd3 V c).after 1 t = blk3 V c 1 t := by dsimp only [fd3]
theorem fd3_2 (c : Dev nD) (t : Fin cfg3.N) : (fd3 V c).after 2 t = gW2 (blk3 V c 0 t) (blk3 V c 1 t) := by dsimp only [fd3]
theorem in3_0 (c : Dev nD) (t : Fin cfg3.N) (e) : (fd3 V c).before 0 t e = blk3 V c 0 t := in3_0_of V (fd3 V c) (fd3_A V c 0) (fd3_0 V c) t e
theorem in3_1 (c : Dev nD) (t : Fin cfg3.N) (e) : (fd3 V c).before 1 t e = blk3 V c 1 t := in3_1_of V (fd3 V c) (fd3_A V c 1) (fd3_1 V c) t e

/-- What the body is entered with at point `t`. -/
def pre3 (c : Dev nD) (t : Fin cfg3.N) : sProp 𝕄 :=
  iprop((fd3 V c).Φ t.castSucc ∗ (fd3 V c).owesAt () t.castSucc
    ∗ (∃ d, owns (c : Thread nD τ) (st3_0 t) fullShare ((fd3 V c).before 0 t d))
    ∗ (∃ d, owns (c : Thread nD τ) (st3_1 t) fullShare ((fd3 V c).before 1 t d))
    ∗ (∃ d, owns (c : Thread nD τ) (st3_2 t) fullShare ((fd3 V c).before 2 t d)))
/-- What the body leaves at point `t`. -/
def post3 (c : Dev nD) (t : Fin cfg3.N) : sProp 𝕄 :=
  iprop((fd3 V c).Φ t.succ ∗ (fd3 V c).owesAt () t.succ
    ∗ owns (c : Thread nD τ) (st3_0 t) fullShare ((fd3 V c).after 0 t)
    ∗ owns (c : Thread nD τ) (st3_1 t) fullShare ((fd3 V c).after 1 t)
    ∗ owns (c : Thread nD τ) (st3_2 t) fullShare ((fd3 V c).after 2 t))
/-- The body at any point. -/
theorem step3 (c : Dev nD) (t : Fin cfg3.N) :
    pre3 V c t ⊢ wp frame (wpE (defs₀ (F := F)) Variants.none c none) Set.univ (bodyAt3 t) (fun _ => post3 V c t) := by
  unfold pre3 post3 bodyAt3
  simp only [in3_0, in3_1]
  rw [show (fd3 V c).Φ t.succ = (fd3 V c).Φ t.castSucc from rfl,
    show (fd3 V c).owesAt () t.succ = (fd3 V c).owesAt () t.castSucc from rfl, fd3_0, fd3_1, fd3_2]
  iintro ⟨HI, Ho, ⟨%d0, H0⟩, ⟨%d1, H1⟩, ⟨%d2, H2⟩⟩
  iapply (run3W c (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HI]; · iexact HI
  isplitl [Ho]; · iexact Ho
  isplitl [H0]; · iexact H0
  isplitl [H1] <;> iassumption
theorem row3 (t : Fin cfg3.N) : defs₀ (F := F) .tc cfg3.body (cfg3.bodyArgs t (cfg3.slots t)) = bodyAt3 t := by
  unfold defs₀; rw [Defs.onTc_tc]
theorem body3 (c : Dev nD) : BodyObligation (fd3 (F := F) V c) (defs₀ (F := F)) Variants.none () Set.univ := fun t => by
  rw [bigSep_W3, bigSep_W3, row3]
  exact triple_restated (step3 V c t) rfl .rfl fun _ => .rfl

/-- The block that window `w` reads at point `t`. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem in4_0_of {c : Dev nD} (d : Dat τ (Elt F) Unit ℕ (Pipeline.UD sig nD τ) ℕ cfg4 c) (hA : d.A 0 = V c (Pipeline.arrRef spec4 0))
    (hl : ∀ t, d.after 0 t = blk4 V c 0 t) (t : Fin cfg4.N) (e) : d.before 0 t e = blk4 V c 0 t := by
  refine (d.before_in_eq_fetched 0 rfl (fun _ => rfl) (fun _ _ _ => rfl) (fun t => ?_) t e).trans ?_
  · rw [hl]; unfold Dat.blockOf blk4; rw [hA]; try rfl
  · unfold Dat.fetched Dat.blockOf blk4; rw [hA]; try rfl
theorem in4_1_of {c : Dev nD} (d : Dat τ (Elt F) Unit ℕ (Pipeline.UD sig nD τ) ℕ cfg4 c) (hA : d.A 1 = V c (Pipeline.arrRef spec4 1))
    (hl : ∀ t, d.after 1 t = blk4 V c 1 t) (t : Fin cfg4.N) (e) : d.before 1 t e = blk4 V c 1 t := by
  refine (d.before_in_eq_fetched 1 rfl (fun _ => rfl) (fun _ _ _ => rfl) (fun t => ?_) t e).trans ?_
  · rw [hl]; unfold Dat.blockOf blk4; rw [hA]; try rfl
  · unfold Dat.fetched Dat.blockOf blk4; rw [hA]; try rfl

set_option maxHeartbeats 1000000 in
theorem run4W (c : Dev nD) (i : grid4.Coords) (arg2 : Memref sig .tc .vmem S2048x1408 .bf16) (harg2 : arg2.IsWhole) (arg3 : Memref sig .tc .vmem S2048x1024 .bf16) (harg3 : arg3.IsWhole)
    (arg4 : Memref sig .tc .vmem S1x1408x1024 .bf16) (harg4 : arg4.IsWhole) (x : Vec F S2048x1408 .bf16) (y : Vec F S2048x1024 .bf16) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (gW3 x y)) -∗ K ⟨⟩))
      ⊢ wp frame (wpE (defs₀ (F := F)) Variants.none c none) Set.univ (cc4_dw2 i arg2 harg2 arg3 harg3 arg4 harg4) K := by
  simp only [cc4_dw2_eq_skeleton]; unfold cc4_dw2_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro; refine (View.read_writes_full _ _ _ _ _).trans ?_
  simp only [full_read_a, full_read_b]
  rfl

/-- The pipeline's account on core `c`. -/
def fd4 (c : Dev nD) : Dat τ (Elt F) Unit ℕ (Pipeline.UD sig nD τ) ℕ cfg4 c where
  A w := V c (Pipeline.arrRef spec4 w)
  after w t := match w with
    | ⟨0, _⟩ => blk4 V c 0 t
    | ⟨1, _⟩ => blk4 V c 1 t
    | ⟨2, _⟩ => gW3 (blk4 V c 0 t) (blk4 V c 1 t)
  Φ _ := Pipeline.ΦA spec4 c
  q _ := fullShare
  owed _ := 0
theorem fd4_A (c : Dev nD) (w : Fin cfg4.W) : (fd4 V c).A w = V c (Pipeline.arrRef spec4 w) := by dsimp only [fd4]
theorem fd4_0 (c : Dev nD) (t : Fin cfg4.N) : (fd4 V c).after 0 t = blk4 V c 0 t := by dsimp only [fd4]
theorem fd4_1 (c : Dev nD) (t : Fin cfg4.N) : (fd4 V c).after 1 t = blk4 V c 1 t := by dsimp only [fd4]
theorem fd4_2 (c : Dev nD) (t : Fin cfg4.N) : (fd4 V c).after 2 t = gW3 (blk4 V c 0 t) (blk4 V c 1 t) := by dsimp only [fd4]
theorem in4_0 (c : Dev nD) (t : Fin cfg4.N) (e) : (fd4 V c).before 0 t e = blk4 V c 0 t := in4_0_of V (fd4 V c) (fd4_A V c 0) (fd4_0 V c) t e
theorem in4_1 (c : Dev nD) (t : Fin cfg4.N) (e) : (fd4 V c).before 1 t e = blk4 V c 1 t := in4_1_of V (fd4 V c) (fd4_A V c 1) (fd4_1 V c) t e

/-- What the body is entered with at point `t`. -/
def pre4 (c : Dev nD) (t : Fin cfg4.N) : sProp 𝕄 :=
  iprop((fd4 V c).Φ t.castSucc ∗ (fd4 V c).owesAt () t.castSucc
    ∗ (∃ d, owns (c : Thread nD τ) (st4_0 t) fullShare ((fd4 V c).before 0 t d))
    ∗ (∃ d, owns (c : Thread nD τ) (st4_1 t) fullShare ((fd4 V c).before 1 t d))
    ∗ (∃ d, owns (c : Thread nD τ) (st4_2 t) fullShare ((fd4 V c).before 2 t d)))
/-- What the body leaves at point `t`. -/
def post4 (c : Dev nD) (t : Fin cfg4.N) : sProp 𝕄 :=
  iprop((fd4 V c).Φ t.succ ∗ (fd4 V c).owesAt () t.succ
    ∗ owns (c : Thread nD τ) (st4_0 t) fullShare ((fd4 V c).after 0 t)
    ∗ owns (c : Thread nD τ) (st4_1 t) fullShare ((fd4 V c).after 1 t)
    ∗ owns (c : Thread nD τ) (st4_2 t) fullShare ((fd4 V c).after 2 t))
/-- The body at any point. -/
theorem step4 (c : Dev nD) (t : Fin cfg4.N) :
    pre4 V c t ⊢ wp frame (wpE (defs₀ (F := F)) Variants.none c none) Set.univ (bodyAt4 t) (fun _ => post4 V c t) := by
  unfold pre4 post4 bodyAt4
  simp only [in4_0, in4_1]
  rw [show (fd4 V c).Φ t.succ = (fd4 V c).Φ t.castSucc from rfl,
    show (fd4 V c).owesAt () t.succ = (fd4 V c).owesAt () t.castSucc from rfl, fd4_0, fd4_1, fd4_2]
  iintro ⟨HI, Ho, ⟨%d0, H0⟩, ⟨%d1, H1⟩, ⟨%d2, H2⟩⟩
  iapply (run4W c (grid4.coords t) _ _ _ _ _ _ (blk4 V c 0 t) (blk4 V c 1 t) _)
  isplitl [H0]; · iexact H0
  isplitl [H1]; · iexact H1
  isplitl [H2]; · iexists _; iexact H2
  iintro ⟨H0, H1, H2⟩
  isplitl [HI]; · iexact HI
  isplitl [Ho]; · iexact Ho
  isplitl [H0]; · iexact H0
  isplitl [H1] <;> iassumption
theorem row4 (t : Fin cfg4.N) : defs₀ (F := F) .tc cfg4.body (cfg4.bodyArgs t (cfg4.slots t)) = bodyAt4 t := by
  unfold defs₀; rw [Defs.onTc_tc]
theorem body4 (c : Dev nD) : BodyObligation (fd4 (F := F) V c) (defs₀ (F := F)) Variants.none () Set.univ := fun t => by
  rw [bigSep_W4, bigSep_W4, row4]
  exact triple_restated (step4 V c t) rfl .rfl fun _ => .rfl

end
end Cert.Up
end
-- ==== Proof.Gr.lean ====
module

public import proofs.«01_k».proof.Proof.Gen.Kernel3Ideal.Points
public import proofs.«01_k».proof.Proof.Gen.Kernel3Ideal.Skeleton
public import proofs.«01_k».proof.Proof.Gen.Kernel3Ideal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.UnfoldOut
public import Idealize.ShloMosaic.Lib.WordCmp
public import proofs.«01_k».proof.Proof.Gd0
public import proofs.«01_k».proof.Proof.Gd1
public import proofs.«01_k».proof.Proof.Gd2
public import proofs.«01_k».proof.Proof.Gd3
public import Idealize.ShloMosaic.Lib.Pipeline.Regions
public import Idealize.ShloMosaic.Lib.Pipeline.Frame
@[expose] public section

set_option maxRecDepth 16384

noncomputable section

/-! The run of the five pipelines of the feed-forward layer in two forward calls, with what each leaves. -/

namespace Cert.Up

open Cert.Kernel3Ideal Cert.Kernel3Ideal.Gen
open Cert.Ffn (sh0 sh1 sh2 sh3 hf0 hf1 qt0 qt1 qt2 qt3 fGu fAct0 fAct1 fAct fH bDyh bGa0 bUp0 bGa1 bUp1 bDgu bAcc bDx bDxb bDg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))
/-- The arrays the body copies from by itself. -/
def hs0 : Finset (Ref sig .tc) := {main_v2}
theorem hs0_sub : hs0 ⊆ Pipeline.restRefs sig spec0 := by decide
theorem hs0_list (c : Dev nD) : (bigSep hs0 (fun b => ((c : Thread nD τ).loc b) ↦{fullShare} V c b) : sProp 𝕄)
    = iprop(hbPt c hb13 (V c main_v2)) := by
  rw [BI.bigSep_eq_bigSepL_of_eq [main_v2] (by decide) (by decide)]; rfl
theorem rest0 (c : Dev nD) : (Pipeline.unscopedRest (Ix := Unit) (Name := ℕ) (U := Pipeline.UD sig nD τ) (Lvl := ℕ) (Pipeline.pin (pcfgs (F := F)) adm 0).spec c (V c) : sProp 𝕄)
    = iprop(hbPt c hb13 (V c main_v2) ∗ bigSep (Pipeline.restRefs sig spec0 \ hs0) fun b => ((c : Thread nD τ).loc b) ↦{fullShare} V c b) :=
  (Pipeline.unscopedRest_sdiff spec0 hs0 hs0_sub c (V c)).trans (by rw [hs0_list])
theorem inv0_in (c : Dev nD) : (iprop(((∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ hbPt c hb13 (V c main_v2))
    ∗ Pipeline.scopedRest (Ix := Unit) (Name := ℕ) (U := Pipeline.UD sig nD τ) (Lvl := ℕ) (Val := Elt F) spec0 c) : sProp 𝕄) ⊢ inv0 V c 0 := by
  unfold inv0
  rw [wts0_zero V c rfl, scopedRest0_split]
  simp only [scA0, owns_whole]
  iintro ⟨⟨Hp, Hs, Hh⟩, Hw, Hr⟩
  isplitl [Hw]; · iexact Hw
  isplitl [Hp]; · iexact Hp
  isplitl [Hs]; · iexact Hs
  isplitl [Hh] <;> iassumption
theorem inv0_out (c : Dev nD) (n : ℕ) (hn : n ≠ 0) : inv0 V c n ⊢ (iprop(((∃ r, prngReg c r) ∗ hbPt c hb13 (V c main_v2))
    ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ Pipeline.scopedRest (Ix := Unit) (Name := ℕ) (U := Pipeline.UD sig nD τ) (Lvl := ℕ) (Val := Elt F) spec0 c) : sProp 𝕄) := by
  unfold inv0
  rw [wts0_pos V c hn, scopedRest0_split]
  simp only [scA0, owns_whole]
  iintro ⟨H1, Hp, Hs, Hh, Hr⟩
  isplitl [Hp Hh]
  · isplitl [Hp] <;> iassumption
  isplitl [Hs]; · iexact Hs
  isplitl [H1]
  · iexists _; iexact H1
  iexact Hr
/-- The arrays the body copies from by itself. -/
def hs1 : Finset (Ref sig .tc) := {main_v3}
theorem hs1_sub : hs1 ⊆ Pipeline.restRefs sig spec1 := by decide
theorem hs1_list (c : Dev nD) : (bigSep hs1 (fun b => ((c : Thread nD τ).loc b) ↦{fullShare} V c b) : sProp 𝕄)
    = iprop(hbPt c hb2 (V c main_v3)) := by
  rw [BI.bigSep_eq_bigSepL_of_eq [main_v3] (by decide) (by decide)]; rfl
theorem rest1 (c : Dev nD) : (Pipeline.unscopedRest (Ix := Unit) (Name := ℕ) (U := Pipeline.UD sig nD τ) (Lvl := ℕ) (Pipeline.pin (pcfgs (F := F)) adm 1).spec c (V c) : sProp 𝕄)
    = iprop(hbPt c hb2 (V c main_v3) ∗ bigSep (Pipeline.restRefs sig spec1 \ hs1) fun b => ((c : Thread nD τ).loc b) ↦{fullShare} V c b) :=
  (Pipeline.unscopedRest_sdiff spec1 hs1 hs1_sub c (V c)).trans (by rw [hs1_list])
theorem inv1_in (c : Dev nD) : (iprop(((∃ r, prngReg c r) ∗ (semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ hbPt c hb2 (V c main_v3))
    ∗ Pipeline.scopedRest (Ix := Unit) (Name := ℕ) (U := Pipeline.UD sig nD τ) (Lvl := ℕ) (Val := Elt F) spec1 c) : sProp 𝕄) ⊢ inv1 V c 0 := by
  unfold inv1
  rw [wts1_zero V c rfl, scopedRest1_split]
  simp only [scA1, owns_whole]
  iintro ⟨⟨Hp, Hs, Hh⟩, Hw, Hr⟩
  isplitl [Hw]; · iexact Hw
  isplitl [Hp]; · iexact Hp
  isplitl [Hs]; · iexact Hs
  isplitl [Hh] <;> iassumption
theorem inv1_out (c : Dev nD) (n : ℕ) (hn : n ≠ 0) : inv1 V c n ⊢ (iprop(((∃ r, prngReg c r) ∗ hbPt c hb2 (V c main_v3))
    ∗ (semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ Pipeline.scopedRest (Ix := Unit) (Name := ℕ) (U := Pipeline.UD sig nD τ) (Lvl := ℕ) (Val := Elt F) spec1 c) : sProp 𝕄) := by
  unfold inv1
  rw [wts1_pos V c hn, scopedRest1_split]
  simp only [scA1, owns_whole]
  iintro ⟨H1, Hp, Hs, Hh, Hr⟩
  isplitl [Hp Hh]
  · isplitl [Hp] <;> iassumption
  isplitl [Hs]; · iexact Hs
  isplitl [H1]
  · iexists _; iexact H1
  iexact Hr
/-- The arrays the body copies from by itself. -/
def hs2 : Finset (Ref sig .tc) := {main_v2, main_v3}
theorem hs2_sub : hs2 ⊆ Pipeline.restRefs sig spec2 := by decide
theorem hs2_list (c : Dev nD) : (bigSep hs2 (fun b => ((c : Thread nD τ).loc b) ↦{fullShare} V c b) : sProp 𝕄)
    = iprop((hbPt c hb13 (V c main_v2) ∗ hbPt c hb2 (V c main_v3))) := by
  rw [BI.bigSep_eq_bigSepL_of_eq [main_v2, main_v3] (by decide) (by decide)]; rfl
theorem rest2 (c : Dev nD) : (Pipeline.unscopedRest (Ix := Unit) (Name := ℕ) (U := Pipeline.UD sig nD τ) (Lvl := ℕ) (Pipeline.pin (pcfgs (F := F)) adm 2).spec c (V c) : sProp 𝕄)
    = iprop((hbPt c hb13 (V c main_v2) ∗ hbPt c hb2 (V c main_v3)) ∗ bigSep (Pipeline.restRefs sig spec2 \ hs2) fun b => ((c : Thread nD τ).loc b) ↦{fullShare} V c b) :=
  (Pipeline.unscopedRest_sdiff spec2 hs2 hs2_sub c (V c)).trans (by rw [hs2_list])
theorem inv2_in (c : Dev nD) : (iprop(((∃ r, prngReg c r) ∗ (semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0) ∗ (hbPt c hb13 (V c main_v2) ∗ hbPt c hb2 (V c main_v3)))
    ∗ Pipeline.scopedRest (Ix := Unit) (Name := ℕ) (U := Pipeline.UD sig nD τ) (Lvl := ℕ) (Val := Elt F) spec2 c) : sProp 𝕄) ⊢ inv2 V c 0 := by
  unfold inv2
  rw [wts2_zero V c rfl, scopedRest2_split]
  simp only [scA2, scB2, owns_whole]
  iintro ⟨⟨Hp, Hs, Hh⟩, Hw, Hr⟩
  isplitl [Hw]; · iexact Hw
  isplitl [Hp]; · iexact Hp
  isplitl [Hs]; · iexact Hs
  isplitl [Hh] <;> iassumption
theorem inv2_out (c : Dev nD) (n : ℕ) (hn : n ≠ 0) : inv2 V c n ⊢ (iprop(((∃ r, prngReg c r) ∗ (hbPt c hb13 (V c main_v2) ∗ hbPt c hb2 (V c main_v3)))
    ∗ (semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0) ∗ Pipeline.scopedRest (Ix := Unit) (Name := ℕ) (U := Pipeline.UD sig nD τ) (Lvl := ℕ) (Val := Elt F) spec2 c) : sProp 𝕄) := by
  unfold inv2
  rw [wts2_pos V c hn, scopedRest2_split]
  simp only [scA2, scB2, owns_whole]
  iintro ⟨⟨H1, H2⟩, Hp, Hs, Hh, Hr⟩
  isplitl [Hp Hh]
  · isplitl [Hp] <;> iassumption
  isplitl [Hs]; · iexact Hs
  isplitl [H1 H2]
  · isplitl [H1]
    · iexists _; iexact H1
    iexists _; iexact H2
  iexact Hr
end

variable (m : (ℓ : Loc nD τ sig) → Buf (Elt F) ℓ) (ρ : Dev nD → PrngReg)

/-- The arguments. -/
abbrev fArgs : List (Ref sig .tc) := [main_arg0, main_arg1, main_arg2, main_arg3, main_arg4]
/-- The buffers at the start. -/
abbrev B0 (c : Dev nD) : Valuation τ sig (Elt F) := fun b => (s₀ m ρ).mem ((c : Dev nD), b)
/-- The buffers when the forward pipeline is entered. -/
abbrev B1 (c : Dev nD) : Valuation τ sig (Elt F) := StableHlo.after hostOps0 (B0 m ρ c)
/-- The same, by reference. -/
abbrev C1 : (c : Dev nD) → (b : Ref sig .tc) → Buf (Elt F) ((c : Thread nD τ).loc b) := fun c b => B1 m ρ c b
theorem B1_args (c : Dev nD) : ∀ a ∈ fArgs, B1 m ρ c (Proc.devRef .tc a) = m ((c : Thread nD τ).loc a) := fun a ha =>
  StableHlo.after_of_writes_sub hostOps0 _ hostOps0_writes ((by decide : ∀ a ∈ fArgs, a ∉ hostOps0_W) a ha)
/-- The buffers when pipeline 0 is left. -/
def B2 (c : Dev nD) : Valuation τ sig (Elt F) := Pipeline.withArrays spec0 c (B1 m ρ c) fun w => (fd0 (C1 m ρ) c).arrAt w cfg0.N
/-- The same, by reference. -/
abbrev C2 : (c : Dev nD) → (b : Ref sig .tc) → Buf (Elt F) ((c : Thread nD τ).loc b) := fun c b => B2 m ρ c b
theorem B2_arr (c : Dev nD) (w : Fin cfg0.W) : B2 m ρ c (Proc.devRef .tc (Pipeline.arrRef spec0 w)) = (fd0 (C1 m ρ) c).arrAt w cfg0.N := by
  unfold B2; exact Pipeline.withArrays_arr spec0 launch0.win.arr_inj c _ _ w
theorem B2_ne (c : Dev nD) (b : Ref sig .tc) (hb : ∀ w, Pipeline.arrRef spec0 w ≠ b) : B2 m ρ c (Proc.devRef .tc b) = B1 m ρ c (Proc.devRef .tc b) := by
  unfold B2; exact Pipeline.withArrays_of_ne spec0 c _ _ b hb
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    rw [B2_arr, (fd0 (C1 m ρ) c).arrAt_in w (h w rfl) _, fd0_A]
  · exact B2_ne m ρ c r fun w e => hw ⟨w, e⟩
theorem B2_args (c : Dev nD) : ∀ a ∈ fArgs, B2 m ρ c (Proc.devRef .tc a) = m ((c : Thread nD τ).loc a) := fun a ha =>
  (B2_of m ρ c a ((by decide +kernel : ∀ a ∈ fArgs, ∀ w : Fin cfg0.W, Pipeline.arrRef spec0 w = a → (cfg0.win w).isOut = false) a ha)).trans (B1_args m ρ c a ha)
theorem B2_rest (c : Dev nD) : ∀ b, b ∉ Finset.univ.image (Pipeline.arrRef spec0) → C2 m ρ c b = C1 m ρ c b := fun b hb =>
  B2_ne m ρ c b fun w e => hb (Finset.mem_image.mpr ⟨w, Finset.mem_univ _, e⟩)
/-- The buffers when pipeline 1 is left. -/
def B3 (c : Dev nD) : Valuation τ sig (Elt F) := Pipeline.withArrays spec1 c (B2 m ρ c) fun w => (fd1 (C2 m ρ) c).arrAt w cfg1.N
/-- The same, by reference. -/
abbrev C3 : (c : Dev nD) → (b : Ref sig .tc) → Buf (Elt F) ((c : Thread nD τ).loc b) := fun c b => B3 m ρ c b
theorem B3_arr (c : Dev nD) (w : Fin cfg1.W) : B3 m ρ c (Proc.devRef .tc (Pipeline.arrRef spec1 w)) = (fd1 (C2 m ρ) c).arrAt w cfg1.N := by
  unfold B3; exact Pipeline.withArrays_arr spec1 launch1.win.arr_inj c _ _ w
theorem B3_ne (c : Dev nD) (b : Ref sig .tc) (hb : ∀ w, Pipeline.arrRef spec1 w ≠ b) : B3 m ρ c (Proc.devRef .tc b) = B2 m ρ c (Proc.devRef .tc b) := by
  unfold B3; exact Pipeline.withArrays_of_ne spec1 c _ _ b hb
theorem B3_of (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    rw [B3_arr, (fd1 (C2 m ρ) c).arrAt_in w (h w rfl) _, fd1_A]
  · exact B3_ne m ρ c r fun w e => hw ⟨w, e⟩
theorem B3_args (c : Dev nD) : ∀ a ∈ fArgs, B3 m ρ c (Proc.devRef .tc a) = m ((c : Thread nD τ).loc a) := fun a ha =>
  (B3_of m ρ c a ((by decide +kernel : ∀ a ∈ fArgs, ∀ w : Fin cfg1.W, Pipeline.arrRef spec1 w = a → (cfg1.win w).isOut = false) a ha)).trans (B2_args m ρ c a ha)
theorem B3_rest (c : Dev nD) : ∀ b, b ∉ Finset.univ.image (Pipeline.arrRef spec1) → C3 m ρ c b = C2 m ρ c b := fun b hb =>
  B3_ne m ρ c b fun w e => hb (Finset.mem_image.mpr ⟨w, Finset.mem_univ _, e⟩)
/-- The buffers when pipeline 2 is left. -/
def B4 (c : Dev nD) : Valuation τ sig (Elt F) := Pipeline.withArrays spec2 c (B3 m ρ c) fun w => (fd2 (C3 m ρ) c).arrAt w cfg2.N
/-- The same, by reference. -/
abbrev C4 : (c : Dev nD) → (b : Ref sig .tc) → Buf (Elt F) ((c : Thread nD τ).loc b) := fun c b => B4 m ρ c b
theorem B4_arr (c : Dev nD) (w : Fin cfg2.W) : B4 m ρ c (Proc.devRef .tc (Pipeline.arrRef spec2 w)) = (fd2 (C3 m ρ) c).arrAt w cfg2.N := by
  unfold B4; exact Pipeline.withArrays_arr spec2 launch2.win.arr_inj c _ _ w
theorem B4_ne (c : Dev nD) (b : Ref sig .tc) (hb : ∀ w, Pipeline.arrRef spec2 w ≠ b) : B4 m ρ c (Proc.devRef .tc b) = B3 m ρ c (Proc.devRef .tc b) := by
  unfold B4; exact Pipeline.withArrays_of_ne spec2 c _ _ b hb
theorem B4_of (c : Dev nD) (r : Ref sig .tc) (h : ∀ w : Fin cfg2.W, Pipeline.arrRef spec2 w = r → (cfg2.win w).isOut = false) :
    B4 m ρ c (Proc.devRef .tc r) = B3 m ρ c (Proc.devRef .tc r) := by
  by_cases hw : ∃ w : Fin cfg2.W, Pipeline.arrRef spec2 w = r
  · obtain ⟨w, rfl⟩ := hw
    rw [B4_arr, (fd2 (C3 m ρ) c).arrAt_in w (h w rfl) _, fd2_A]
  · exact B4_ne m ρ c r fun w e => hw ⟨w, e⟩
theorem B4_args (c : Dev nD) : ∀ a ∈ fArgs, B4 m ρ c (Proc.devRef .tc a) = m ((c : Thread nD τ).loc a) := fun a ha =>
  (B4_of m ρ c a ((by decide +kernel : ∀ a ∈ fArgs, ∀ w : Fin cfg2.W, Pipeline.arrRef spec2 w = a → (cfg2.win w).isOut = false) a ha)).trans (B3_args m ρ c a ha)
theorem B4_rest (c : Dev nD) : ∀ b, b ∉ Finset.univ.image (Pipeline.arrRef spec2) → C4 m ρ c b = C3 m ρ c b := fun b hb =>
  B4_ne m ρ c b fun w e => hb (Finset.mem_image.mpr ⟨w, Finset.mem_univ _, e⟩)
/-- The buffers when pipeline 3 is left. -/
def B5 (c : Dev nD) : Valuation τ sig (Elt F) := Pipeline.withArrays spec3 c (B4 m ρ c) fun w => (fd3 (C4 m ρ) c).arrAt w cfg3.N
/-- The same, by reference. -/
abbrev C5 : (c : Dev nD) → (b : Ref sig .tc) → Buf (Elt F) ((c : Thread nD τ).loc b) := fun c b => B5 m ρ c b
theorem B5_arr (c : Dev nD) (w : Fin cfg3.W) : B5 m ρ c (Proc.devRef .tc (Pipeline.arrRef spec3 w)) = (fd3 (C4 m ρ) c).arrAt w cfg3.N := by
  unfold B5; exact Pipeline.withArrays_arr spec3 launch3.win.arr_inj c _ _ w
theorem B5_ne (c : Dev nD) (b : Ref sig .tc) (hb : ∀ w, Pipeline.arrRef spec3 w ≠ b) : B5 m ρ c (Proc.devRef .tc b) = B4 m ρ c (Proc.devRef .tc b) := by
  unfold B5; exact Pipeline.withArrays_of_ne spec3 c _ _ b hb
theorem B5_of (c : Dev nD) (r : Ref sig .tc) (h : ∀ w : Fin cfg3.W, Pipeline.arrRef spec3 w = r → (cfg3.win w).isOut = false) :
    B5 m ρ c (Proc.devRef .tc r) = B4 m ρ c (Proc.devRef .tc r) := by
  by_cases hw : ∃ w : Fin cfg3.W, Pipeline.arrRef spec3 w = r
  · obtain ⟨w, rfl⟩ := hw
    rw [B5_arr, (fd3 (C4 m ρ) c).arrAt_in w (h w rfl) _, fd3_A]
  · exact B5_ne m ρ c r fun w e => hw ⟨w, e⟩
theorem B5_args (c : Dev nD) : ∀ a ∈ fArgs, B5 m ρ c (Proc.devRef .tc a) = m ((c : Thread nD τ).loc a) := fun a ha =>
  (B5_of m ρ c a ((by decide +kernel : ∀ a ∈ fArgs, ∀ w : Fin cfg3.W, Pipeline.arrRef spec3 w = a → (cfg3.win w).isOut = false) a ha)).trans (B4_args m ρ c a ha)
theorem B5_rest (c : Dev nD) : ∀ b, b ∉ Finset.univ.image (Pipeline.arrRef spec3) → C5 m ρ c b = C4 m ρ c b := fun b hb =>
  B5_ne m ρ c b fun w e => hb (Finset.mem_image.mpr ⟨w, Finset.mem_univ _, e⟩)
/-- The buffers when pipeline 4 is left. -/
def B6 (c : Dev nD) : Valuation τ sig (Elt F) := Pipeline.withArrays spec4 c (B5 m ρ c) fun w => (fd4 (C5 m ρ) c).arrAt w cfg4.N
/-- The same, by reference. -/
abbrev C6 : (c : Dev nD) → (b : Ref sig .tc) → Buf (Elt F) ((c : Thread nD τ).loc b) := fun c b => B6 m ρ c b
theorem B6_arr (c : Dev nD) (w : Fin cfg4.W) : B6 m ρ c (Proc.devRef .tc (Pipeline.arrRef spec4 w)) = (fd4 (C5 m ρ) c).arrAt w cfg4.N := by
  unfold B6; exact Pipeline.withArrays_arr spec4 launch4.win.arr_inj c _ _ w
theorem B6_ne (c : Dev nD) (b : Ref sig .tc) (hb : ∀ w, Pipeline.arrRef spec4 w ≠ b) : B6 m ρ c (Proc.devRef .tc b) = B5 m ρ c (Proc.devRef .tc b) := by
  unfold B6; exact Pipeline.withArrays_of_ne spec4 c _ _ b hb
theorem B6_of (c : Dev nD) (r : Ref sig .tc) (h : ∀ w : Fin cfg4.W, Pipeline.arrRef spec4 w = r → (cfg4.win w).isOut = false) :
    B6 m ρ c (Proc.devRef .tc r) = B5 m ρ c (Proc.devRef .tc r) := by
  by_cases hw : ∃ w : Fin cfg4.W, Pipeline.arrRef spec4 w = r
  · obtain ⟨w, rfl⟩ := hw
    rw [B6_arr, (fd4 (C5 m ρ) c).arrAt_in w (h w rfl) _, fd4_A]
  · exact B6_ne m ρ c r fun w e => hw ⟨w, e⟩
theorem B6_args (c : Dev nD) : ∀ a ∈ fArgs, B6 m ρ c (Proc.devRef .tc a) = m ((c : Thread nD τ).loc a) := fun a ha =>
  (B6_of m ρ c a ((by decide +kernel : ∀ a ∈ fArgs, ∀ w : Fin cfg4.W, Pipeline.arrRef spec4 w = a → (cfg4.win w).isOut = false) a ha)).trans (B5_args m ρ c a ha)
theorem B6_rest (c : Dev nD) : ∀ b, b ∉ Finset.univ.image (Pipeline.arrRef spec4) → C6 m ρ c b = C5 m ρ c b := fun b hb =>
  B6_ne m ρ c b fun w e => hb (Finset.mem_image.mpr ⟨w, Finset.mem_univ _, e⟩)

/-- The five accounts. -/
def fdats : (p : Fin 5) → (c : Dev nD) → Dat τ (Elt F) Unit ℕ (Pipeline.UD sig nD τ) ℕ (Pipeline.pin (pcfgs (F := F)) adm p) c
  | ⟨0, _⟩ => fun c => fd0 (C1 m ρ) c
  | ⟨1, _⟩ => fun c => fd1 (C2 m ρ) c
  | ⟨2, _⟩ => fun c => fd2 (C3 m ρ) c
  | ⟨3, _⟩ => fun c => fd3 (C4 m ρ) c
  | ⟨4, _⟩ => fun c => fd4 (C5 m ρ) c
/-- No call waits for a level. -/
abbrev fL : GSem nD τ sig → Finset Unit := fun _ => ∅
/-- Every level is zero. -/
abbrev flv : GSem nD τ sig → Unit → ℕ := fun _ _ => 0
/-- What every part of the program carries along. -/
abbrev side (c : Dev nD) : sProp 𝕄 := iprop((∃ r, prngReg c r) ∗ ∃ W, owes (c : Thread nD τ) (0 : CellTallies nD τ sig Unit) W)
/-- The host's stretch: the casts, the cut into shards. -/
abbrev hostSeg : Pipeline.HostSeg (Ix := Unit) (Name := ℕ) (U := Pipeline.UD sig nD τ) (Lvl := ℕ) (pcfgs (F := F)) defs₀ Variants.none fL flv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) side
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the program ends in. -/
abbrev fEnd (c : Dev nD) : sProp 𝕄 := iprop(StableHlo.held (c : Thread nD τ) (Pipeline.ucRefs τ sig) (B6 m ρ c) ∗ ∃ r, prngReg c r)

set_option backward.isDefEq.respectTransparency.types false in
/-- Pipeline 0 as a part of the program. -/
def part0 : Pipeline.RegionSeg (pcfgs (F := F)) adm (fdats m ρ) () defs₀ Variants.none fL flv 0 where
  win := launch0.win.to₀
  block_pos := launch0.block_pos
  stage_whole := launch0.stage_whole
  K := Fin 6
  osem := own0
  ho := own0_facts
  hbody c := (body0 (C1 m ρ) c).loose
  hwaits := Pipeline.hwaits_of_owed_zero _ _ _ _ fL flv 0 fun _ _ => rfl
  pre c := iprop(StableHlo.held (c : Thread nD τ) (Pipeline.ucRefs τ sig) (B1 m ρ c) ∗ side c)
  post c := iprop(StableHlo.held (c : Thread nD τ) (Pipeline.ucRefs τ sig) (B2 m ρ c) ∗ side c)
  X c := iprop((∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ hbPt c hb13 (C1 m ρ c main_v2))
  Y c := iprop((∃ r, prngReg c r) ∗ hbPt c hb13 (C1 m ρ c main_v2))
  Z c := bigSep (Pipeline.restRefs sig spec0 \ hs0) fun b => ((c : Thread nD τ).loc b) ↦{fullShare} C1 m ρ c b
  hentry c := by
    rw [own0_list]
    have cut := Pipeline.arrays_of_unscopedBufs (p := 0) (pcfgs (F := F)) adm (fdats m ρ) launch0.win launch0.arr_whole c
      ((fdats m ρ 0 c).share_full fun _ => rfl) (C1 m ρ c) (fd0_A (C1 m ρ) c)
    rw [Pipeline.unscopedBufs_held, rest0] at cut
    iintro ⟨⟨Hub, Hp, HO⟩, Hs, -⟩
    ihave H := cut $$ Hub
    icases H with ⟨Ha, Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hs Hh]
    · isplitl [Hp]; · iexact Hp
      isplitl [Hs] <;> iassumption
    iexact Hrest
  hin c := by
    rw [show (fdats m ρ 0 c).Φ 0 = inv0 (C1 m ρ) c 0 from rfl]
    iintro ⟨Hx, -, Hr⟩
    iapply (inv0_in (C1 m ρ) c)
    isplitl [Hx] <;> iassumption
  hout c := by
    rw [own0_list, show (fdats m ρ 0 c).Φ (Fin.last _) = inv0 (C1 m ρ) c (Fin.last cfg0.N).val from rfl]
    exact inv0_out (C1 m ρ) c _ (by decide)
  hexit c := by
    have glue := Pipeline.unscopedBufs_of_arrays (p := 0) (pcfgs (F := F)) adm (Ix := Unit) (Name := ℕ) (U := Pipeline.UD sig nD τ) (Lvl := ℕ)
      launch0.win launch0.arr_whole c (fdats m ρ) ((fdats m ρ 0 c).share_full fun _ => rfl)
      (C1 m ρ c) (C2 m ρ c) ((fdats m ρ 0 c).arrAt · cfg0.N) (fun w => (B2_arr m ρ c w).symm) (B2_rest m ρ c)
    rw [Pipeline.unscopedBufs_held, rest0] at glue
    iintro ⟨Ha, HO, ⟨Hp, Hh⟩, Hrest⟩
    imodintro
    isplitl [Ha Hh Hrest]
    · iapply glue
      isplitl [Ha]; · iexact Ha
      isplitl [Hh] <;> iassumption
    isplitl [Hp]; · iexact Hp
    unfold Pipeline.Dat.owesAt Pipeline.owesWithin
    icases HO with ⟨%W, -, HO⟩; iexists W; iexact HO

set_option backward.isDefEq.respectTransparency.types false in
/-- Pipeline 1 as a part of the program. -/
def part1 : Pipeline.RegionSeg (pcfgs (F := F)) adm (fdats m ρ) () defs₀ Variants.none fL flv 1 where
  win := launch1.win.to₀
  block_pos := launch1.block_pos
  stage_whole := launch1.stage_whole
  K := Fin 6
  osem := own1
  ho := own1_facts
  hbody c := (body1 (C2 m ρ) c).loose
  hwaits := Pipeline.hwaits_of_owed_zero _ _ _ _ fL flv 1 fun _ _ => rfl
  pre c := iprop(StableHlo.held (c : Thread nD τ) (Pipeline.ucRefs τ sig) (B2 m ρ c) ∗ side c)
  post c := iprop(StableHlo.held (c : Thread nD τ) (Pipeline.ucRefs τ sig) (B3 m ρ c) ∗ side c)
  X c := iprop((∃ r, prngReg c r) ∗ (semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ hbPt c hb2 (C2 m ρ c main_v3))
  Y c := iprop((∃ r, prngReg c r) ∗ hbPt c hb2 (C2 m ρ c main_v3))
  Z c := bigSep (Pipeline.restRefs sig spec1 \ hs1) fun b => ((c : Thread nD τ).loc b) ↦{fullShare} C2 m ρ c b
  hentry c := by
    rw [own1_list]
    have cut := Pipeline.arrays_of_unscopedBufs (p := 1) (pcfgs (F := F)) adm (fdats m ρ) launch1.win launch1.arr_whole c
      ((fdats m ρ 1 c).share_full fun _ => rfl) (C2 m ρ c) (fd1_A (C2 m ρ) c)
    rw [Pipeline.unscopedBufs_held, rest1] at cut
    iintro ⟨⟨Hub, Hp, HO⟩, Hs, -⟩
    ihave H := cut $$ Hub
    icases H with ⟨Ha, Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hs Hh]
    · isplitl [Hp]; · iexact Hp
      isplitl [Hs] <;> iassumption
    iexact Hrest
  hin c := by
    rw [show (fdats m ρ 1 c).Φ 0 = inv1 (C2 m ρ) c 0 from rfl]
    iintro ⟨Hx, -, Hr⟩
    iapply (inv1_in (C2 m ρ) c)
    isplitl [Hx] <;> iassumption
  hout c := by
    rw [own1_list, show (fdats m ρ 1 c).Φ (Fin.last _) = inv1 (C2 m ρ) c (Fin.last cfg1.N).val from rfl]
    exact inv1_out (C2 m ρ) c _ (by decide)
  hexit c := by
    have glue := Pipeline.unscopedBufs_of_arrays (p := 1) (pcfgs (F := F)) adm (Ix := Unit) (Name := ℕ) (U := Pipeline.UD sig nD τ) (Lvl := ℕ)
      launch1.win launch1.arr_whole c (fdats m ρ) ((fdats m ρ 1 c).share_full fun _ => rfl)
      (C2 m ρ c) (C3 m ρ c) ((fdats m ρ 1 c).arrAt · cfg1.N) (fun w => (B3_arr m ρ c w).symm) (B3_rest m ρ c)
    rw [Pipeline.unscopedBufs_held, rest1] at glue
    iintro ⟨Ha, HO, ⟨Hp, Hh⟩, Hrest⟩
    imodintro
    isplitl [Ha Hh Hrest]
    · iapply glue
      isplitl [Ha]; · iexact Ha
      isplitl [Hh] <;> iassumption
    isplitl [Hp]; · iexact Hp
    unfold Pipeline.Dat.owesAt Pipeline.owesWithin
    icases HO with ⟨%W, -, HO⟩; iexists W; iexact HO

set_option backward.isDefEq.respectTransparency.types false in
/-- Pipeline 2 as a part of the program. -/
def part2 : Pipeline.RegionSeg (pcfgs (F := F)) adm (fdats m ρ) () defs₀ Variants.none fL flv 2 where
  win := launch2.win.to₀
  block_pos := launch2.block_pos
  stage_whole := launch2.stage_whole
  K := Fin 6
  osem := own2
  ho := own2_facts
  hbody c := (body2 (C3 m ρ) c).loose
  hwaits := Pipeline.hwaits_of_owed_zero _ _ _ _ fL flv 2 fun _ _ => rfl
  pre c := iprop(StableHlo.held (c : Thread nD τ) (Pipeline.ucRefs τ sig) (B3 m ρ c) ∗ side c)
  post c := iprop(StableHlo.held (c : Thread nD τ) (Pipeline.ucRefs τ sig) (B4 m ρ c) ∗ side c)
  X c := iprop((∃ r, prngReg c r) ∗ (semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0) ∗ (hbPt c hb13 (C3 m ρ c main_v2) ∗ hbPt c hb2 (C3 m ρ c main_v3)))
  Y c := iprop((∃ r, prngReg c r) ∗ (hbPt c hb13 (C3 m ρ c main_v2) ∗ hbPt c hb2 (C3 m ρ c main_v3)))
  Z c := bigSep (Pipeline.restRefs sig spec2 \ hs2) fun b => ((c : Thread nD τ).loc b) ↦{fullShare} C3 m ρ c b
  hentry c := by
    rw [own2_list]
    have cut := Pipeline.arrays_of_unscopedBufs (p := 2) (pcfgs (F := F)) adm (fdats m ρ) launch2.win launch2.arr_whole c
      ((fdats m ρ 2 c).share_full fun _ => rfl) (C3 m ρ c) (fd2_A (C3 m ρ) c)
    rw [Pipeline.unscopedBufs_held, rest2] at cut
    iintro ⟨⟨Hub, Hp, HO⟩, Hs, -⟩
    ihave H := cut $$ Hub
    icases H with ⟨Ha, Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hs Hh]
    · isplitl [Hp]; · iexact Hp
      isplitl [Hs] <;> iassumption
    iexact Hrest
  hin c := by
    rw [show (fdats m ρ 2 c).Φ 0 = inv2 (C3 m ρ) c 0 from rfl]
    iintro ⟨Hx, -, Hr⟩
    iapply (inv2_in (C3 m ρ) c)
    isplitl [Hx] <;> iassumption
  hout c := by
    rw [own2_list, show (fdats m ρ 2 c).Φ (Fin.last _) = inv2 (C3 m ρ) c (Fin.last cfg2.N).val from rfl]
    exact inv2_out (C3 m ρ) c _ (by decide)
  hexit c := by
    have glue := Pipeline.unscopedBufs_of_arrays (p := 2) (pcfgs (F := F)) adm (Ix := Unit) (Name := ℕ) (U := Pipeline.UD sig nD τ) (Lvl := ℕ)
      launch2.win launch2.arr_whole c (fdats m ρ) ((fdats m ρ 2 c).share_full fun _ => rfl)
      (C3 m ρ c) (C4 m ρ c) ((fdats m ρ 2 c).arrAt · cfg2.N) (fun w => (B4_arr m ρ c w).symm) (B4_rest m ρ c)
    rw [Pipeline.unscopedBufs_held, rest2] at glue
    iintro ⟨Ha, HO, ⟨Hp, Hh⟩, Hrest⟩
    imodintro
    isplitl [Ha Hh Hrest]
    · iapply glue
      isplitl [Ha]; · iexact Ha
      isplitl [Hh] <;> iassumption
    isplitl [Hp]; · iexact Hp
    unfold Pipeline.Dat.owesAt Pipeline.owesWithin
    icases HO with ⟨%W, -, HO⟩; iexists W; iexact HO

set_option backward.isDefEq.respectTransparency.types false in
/-- Pipeline 3 as a part of the program. -/
def part3 : Pipeline.RegionSeg (pcfgs (F := F)) adm (fdats m ρ) () defs₀ Variants.none fL flv 3 where
  win := launch3.win.to₀
  block_pos := launch3.block_pos
  stage_whole := launch3.stage_whole
  K := PEmpty
  osem k := k.elim
  ho := Pipeline.OwnSemFacts.none _
  hbody c := (body3 (C4 m ρ) c).loose
  hwaits := Pipeline.hwaits_of_owed_zero _ _ _ _ fL flv 3 fun _ _ => rfl
  pre c := iprop(StableHlo.held (c : Thread nD τ) (Pipeline.ucRefs τ sig) (B4 m ρ c) ∗ side c)
  post c := iprop(StableHlo.held (c : Thread nD τ) (Pipeline.ucRefs τ sig) (B5 m ρ c) ∗ side c)
  X c := iprop(∃ r, prngReg c r)
  Y c := iprop(∃ r, prngReg c r)
  Z c := Pipeline.unscopedRest (Ix := Unit) (Name := ℕ) (U := Pipeline.UD sig nD τ) (Lvl := ℕ) spec3 c (C4 m ρ c)
  hentry c := by
    rw [Pipeline.ownSems0_none]
    have cut := Pipeline.arrays_of_unscopedBufs (p := 3) (pcfgs (F := F)) adm (fdats m ρ) launch3.win launch3.arr_whole c
      ((fdats m ρ 3 c).share_full fun _ => rfl) (C4 m ρ c) (fd3_A (C4 m ρ) c)
    rw [Pipeline.unscopedBufs_held] at cut
    iintro ⟨⟨Hub, Hp, HO⟩, -, -⟩
    ihave H := cut $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    rw [show (fdats m ρ 3 c).Φ 0 = Pipeline.ΦA spec3 c from rfl]; unfold Pipeline.ΦA
    iintro ⟨Hp, -, Hr⟩
    isplitl [Hr] <;> iassumption
  hout c := by
    rw [Pipeline.ownSems0_none, show (fdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have glue := Pipeline.unscopedBufs_of_arrays (p := 3) (pcfgs (F := F)) adm (Ix := Unit) (Name := ℕ) (U := Pipeline.UD sig nD τ) (Lvl := ℕ)
      launch3.win launch3.arr_whole c (fdats m ρ) ((fdats m ρ 3 c).share_full fun _ => rfl)
      (C4 m ρ c) (C5 m ρ c) ((fdats m ρ 3 c).arrAt · cfg3.N) (fun w => (B5_arr m ρ c w).symm) (B5_rest m ρ c)
    rw [Pipeline.unscopedBufs_held] at glue
    iintro ⟨Ha, HO, Hp, Hrest⟩
    imodintro
    isplitl [Ha Hrest]
    · iapply glue; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 4 as a part of the program. -/
def part4 : Pipeline.RegionSeg (pcfgs (F := F)) adm (fdats m ρ) () defs₀ Variants.none fL flv 4 where
  win := launch4.win.to₀
  block_pos := launch4.block_pos
  stage_whole := launch4.stage_whole
  K := PEmpty
  osem k := k.elim
  ho := Pipeline.OwnSemFacts.none _
  hbody c := (body4 (C5 m ρ) c).loose
  hwaits := Pipeline.hwaits_of_owed_zero _ _ _ _ fL flv 4 fun _ _ => rfl
  pre c := iprop(StableHlo.held (c : Thread nD τ) (Pipeline.ucRefs τ sig) (B5 m ρ c) ∗ side c)
  post c := iprop(fEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec4 c (C5 m ρ c)
  hentry c := by
    rw [Pipeline.ownSems0_none]
    have cut := Pipeline.arrays_of_unscopedBufs (p := 4) (pcfgs (F := F)) adm (fdats m ρ) launch4.win launch4.arr_whole c
      ((fdats m ρ 4 c).share_full fun _ => rfl) (C5 m ρ c) (fd4_A (C5 m ρ) c)
    rw [Pipeline.unscopedBufs_held] at cut
    iintro ⟨⟨Hub, Hp, HO⟩, -, -⟩
    ihave H := cut $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    rw [show (fdats m ρ 4 c).Φ 0 = Pipeline.ΦA spec4 c from rfl]; unfold Pipeline.ΦA
    iintro ⟨Hp, -, Hr⟩
    isplitl [Hr] <;> iassumption
  hout c := by
    rw [Pipeline.ownSems0_none, show (fdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have glue := Pipeline.unscopedBufs_of_arrays (p := 4) (pcfgs (F := F)) adm (Ix := Unit) (Name := ℕ) (U := Pipeline.UD sig nD τ) (Lvl := ℕ)
      launch4.win launch4.arr_whole c (fdats m ρ) ((fdats m ρ 4 c).share_full fun _ => rfl)
      (C5 m ρ c) (C6 m ρ c) ((fdats m ρ 4 c).arrAt · cfg4.N) (fun w => (B6_arr m ρ c w).symm) (B6_rest m ρ c)
    rw [Pipeline.unscopedBufs_held] at glue
    iintro ⟨Ha, HO, Hp, Hrest⟩
    imodintro
    isplitl [Ha Hrest Hp]
    · isplitl [Ha Hrest]
      · iapply glue; isplitl [Ha] <;> iassumption
      iexact Hp
    unfold Pipeline.Dat.owesAt Pipeline.owesWithin
    icases HO with ⟨%W, -, HO⟩; iexists W; iexact HO

/-- The program's six parts. -/
abbrev parts : List (Pipeline.Seg (pcfgs (F := F)) adm (fdats m ρ) () defs₀ Variants.none fL flv) :=
  [.host (hostSeg m ρ), .region (part0 m ρ), .region (part1 m ρ), .region (part2 m ρ), .region (part3 m ρ), .region (part4 m ρ)]
theorem main_parts (c : Dev nD) : main (F := F) c = Pipeline.Seg.run (parts m ρ) := (main_chain c).trans (by chain_rfl)

set_option backward.isDefEq.respectTransparency.types false in
/-- The program ends with every array at what the five pipelines left there, and every counter at zero. -/
theorem ffn_run : θ_run defs (onTc (τ := τ) (main (F := F))) ⟨m, fun _ => 0, ρ⟩ (fun r =>
      (∀ c : Dev nD, ∀ b ∈ Pipeline.ucRefs τ sig, r.2.mem (((c : Thread nD τ)).1, b) = B6 m ρ c b) ∧ r.2.sem = fun _ => 0) :=
  Pipeline.θ_run_regions_kit_sems (pcfgs (F := F)) adm (fdats m ρ) () cellOf_inj embL defs₀ Variants.none fL flv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ side c)) (Tₙ := fEnd m ρ)
    (hch := ⟨fun _ => .rfl, fun _ => .rfl, fun _ => .rfl, fun _ => .rfl, fun _ => .rfl, fun _ => .rfl, fun _ => .rfl⟩)
    (hinit := by
      refine Pipeline.initEach fL flv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun _ h hz => ⟨h, funext fun g => hz g (.inr (regions_no_unscoped g.2))⟩)

/-- The arguments end as they were. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have at_ (a : Ref sig .tc) (ha : a ∈ fArgs) (hs : ¬ (Proc.devRef .tc a : DevRef τ sig).isScoped) :
        r.2.mem ((c.tc : Thread nD τ).loc a) = m ((c.tc : Thread nD τ).loc a) := (h.1 c _ (uc_mem a hs)).trans (B6_args m ρ c a ha)
    ⟨at_ main_arg0 (by decide) (by decide), at_ main_arg1 (by decide) (by decide), at_ main_arg2 (by decide) (by decide),
      at_ main_arg3 (by decide) (by decide), at_ main_arg4 (by decide) (by decide)⟩, h.2⟩) (ffn_run m ρ)

end Cert.Up
end
-- ==== Proof.Gw.lean ====
module
public import proofs.«01_k».proof.Proof.Fw
public import proofs.«01_k».proof.Proof.Gr
public import Idealize.ShloMosaic.Lib.Pipeline.ValueKit
@[expose] public section
set_option maxRecDepth 16384
noncomputable section

/-! What the five feed-forward pipelines leave in their arrays, on the reals. -/

namespace Cert.Up
open Idealize.ShloMosaic Idealize.SL.Sem Cert.Kernel3Ideal Cert.Kernel3Ideal.Gen
open Cert.Ffn
open Cert.Attn (M2 M3)

theorem wi0 : ∀ t : Fin cfg0.N, win0_0.index t = ![t.val, 0] ∧ win0_1.index t = ![0, 0] ∧ win0_2.index t = ![t.val, 0]
    ∧ win0_3.index t = ![t.val, 0] ∧ win0_4.index t = ![t.val, 0] := (by decide +kernel : ∀ t : Fin grid0.N, _)
theorem wi1 : ∀ t : Fin cfg1.N, win1_0.index t = ![t.val, 0] ∧ win1_1.index t = ![t.val, 0] ∧ win1_2.index t = ![t.val, 0] := (by decide +kernel : ∀ t : Fin grid1.N, _)
theorem wi2 : ∀ t : Fin cfg2.N, win2_0.index t = ![t.val, 0] ∧ win2_1.index t = ![t.val, 0] ∧ win2_2.index t = ![t.val, 0]
    ∧ win2_3.index t = ![0, 0] ∧ win2_4.index t = ![t.val, 0] ∧ win2_5.index t = ![t.val, 0]
    ∧ win2_6.index t = ![0, 0] ∧ win2_7.index t = ![t.val, 0] ∧ win2_8.index t = ![t.val, 0] :=
  (by decide +kernel : ∀ t : Fin grid2.N, _)
theorem wi3 : ∀ t : Fin cfg3.N, win3_0.index t = ![0, 0] ∧ win3_1.index t = ![0, t.val] ∧ win3_2.index t = ![t.val, 0, 0] := (by decide +kernel : ∀ t : Fin grid3.N, _)
theorem wi4 : ∀ t : Fin cfg4.N, win4_0.index t = ![0, t.val] ∧ win4_1.index t = ![0, 0] ∧ win4_2.index t = ![0, t.val, 0] := (by decide +kernel : ∀ t : Fin grid4.N, _)
theorem gN0 : cfg0.N = 8 := by decide +kernel
theorem gN1 : cfg1.N = 8 := by decide +kernel
theorem gN2 : cfg2.N = 8 := by decide +kernel
theorem gN3 : cfg3.N = 4 := by decide +kernel
theorem gN4 : cfg4.N = 2 := by decide +kernel

section Down
variable (x : Fin 1024 → ℝ) (v : Fin 2816 → Fin 1024 → ℝ) (z : Fin 5632 → ℝ)
  {X : Vec Ideal S256x1024 .f32} (i : Fin 256) (hX : ∀ k, X (ix2 i k) = (x k : EReal))
  {A : Vec Ideal S256x2816 .bf16} (hA : ∀ k, A (ix2 i k) = ((act z k : ℝ) : EReal))
  {U : Vec Ideal S2816x1024 .bf16} (hU : ∀ j k, U (ix2 j k) = (v j k : EReal))
include hX hA hU
/-- One token's result, from its gated units. -/
theorem dn_v (k : Fin 1024) : fDn (F := Ideal) X A U (ix2 i k) = ((yy x v z k : ℝ) : EReal) := by
  have m0 := nn_v (shapeCast S256x1408 (ah0 (F := Ideal) A) shapeCasts_S256x1408_S256x1408) (hf0 (F := Ideal) U) i k (fun j => (shapeCast_apply _ _ _ (ix2 i j) rfl).trans ((congrArg A (hr0 i j)).trans (hA (hal 0 j)))) fun j => hf0_v v hU j k
  have m1 := nn_v (shapeCast S256x1408 (ah1 (F := Ideal) A) shapeCasts_S256x1408_S256x1408) (hf1 (F := Ideal) U) i k (fun j => (shapeCast_apply _ _ _ (ix2 i j) rfl).trans ((congrArg A (hr1 i j)).trans (hA (hal 1 j)))) fun j => hf1_v v hU j k
  have h := add_v (hX k) (mul_v c_half (add_v m0 m1))
  refine (h : fDn (F := Ideal) X A U (ix2 i k) = _).trans ?_
  unfold yy; rw [sum_hal]
end Down

section
variable (V : (c : Dev nD) → (b : Ref sig .tc) → Buf (Elt Ideal) ((c.tc : Thread nD τ).loc b)) (c : Dev nD)
/-- A point of grid 0. -/
def q0 (t : Fin cfg0.N) : Fin 8 := ⟨t.val, lt_of_lt_of_eq t.isLt gN0⟩
/-- A point of grid 1. -/
def q1 (t : Fin cfg1.N) : Fin 8 := ⟨t.val, lt_of_lt_of_eq t.isLt gN1⟩
/-- A point of grid 2. -/
def q2 (t : Fin cfg2.N) : Fin 8 := ⟨t.val, lt_of_lt_of_eq t.isLt gN2⟩
/-- A point of grid 3. -/
def q3 (t : Fin cfg3.N) : Fin 4 := ⟨t.val, lt_of_lt_of_eq t.isLt gN3⟩
/-- A point of grid 4. -/
def q4 (t : Fin cfg4.N) : Fin 2 := ⟨t.val, lt_of_lt_of_eq t.isLt gN4⟩
theorem rf0_0 (t : Fin cfg0.N) (i : Fin 256) (l : Fin 1024) :
    (blk0 V c 0 t : Vec Ideal (M2 256 1024) .f32) (ix2 i l) = (V c main_arg0 : Vec Ideal (M2 2048 1024) .f32) (ix2 (tok (q0 t) i) l) := by
  have e : (q0 t).val = t.val := rfl
  have e' : (tok (q0 t) i).val = 256 * t.val + i.val := rfl
  blk_ext [blk0, wi0 t]
theorem rf0_1 (t : Fin cfg0.N) (i : Fin 1) (l : Fin 1024) :
    (blk0 V c 1 t : Vec Ideal (M2 1 1024) .f32) (ix2 i l) = (V c main_arg1 : Vec Ideal (M2 1 1024) .f32) (ix2 i l) := by
  have e : (q0 t).val = t.val := rfl
  blk_ext [blk0, wi0 t]
theorem rf1_0 (t : Fin cfg1.N) (i : Fin 256) (l : Fin 1024) :
    (blk1 V c 0 t : Vec Ideal (M2 256 1024) .f32) (ix2 i l) = (V c main_arg0 : Vec Ideal (M2 2048 1024) .f32) (ix2 (tok (q1 t) i) l) := by
  have e : (q1 t).val = t.val := rfl
  have e' : (tok (q1 t) i).val = 256 * t.val + i.val := rfl
  blk_ext [blk1, wi1 t]
theorem rf1_1 (t : Fin cfg1.N) (i : Fin 256) (l : Fin 2816) :
    (blk1 V c 1 t : Vec Ideal (M2 256 2816) .bf16) (ix2 i l) = (V c main_v4_2 : Vec Ideal (M2 2048 2816) .bf16) (ix2 (tok (q1 t) i) l) := by
  have e : (q1 t).val = t.val := rfl
  have e' : (tok (q1 t) i).val = 256 * t.val + i.val := rfl
  blk_ext [blk1, wi1 t]
theorem rf2_0 (t : Fin cfg2.N) (i : Fin 256) (l : Fin 1024) :
    (blk2 V c 0 t : Vec Ideal (M2 256 1024) .f32) (ix2 i l) = (V c main_arg4 : Vec Ideal (M2 2048 1024) .f32) (ix2 (tok (q2 t) i) l) := by
  have e : (q2 t).val = t.val := rfl
  have e' : (tok (q2 t) i).val = 256 * t.val + i.val := rfl
  blk_ext [blk2, wi2 t]
theorem rf2_1 (t : Fin cfg2.N) (i : Fin 256) (l : Fin 1024) :
    (blk2 V c 1 t : Vec Ideal (M2 256 1024) .f32) (ix2 i l) = (V c main_arg0 : Vec Ideal (M2 2048 1024) .f32) (ix2 (tok (q2 t) i) l) := by
  have e : (q2 t).val = t.val := rfl
  have e' : (tok (q2 t) i).val = 256 * t.val + i.val := rfl
  blk_ext [blk2, wi2 t]
theorem rf2_2 (t : Fin cfg2.N) (i : Fin 256) (l : Fin 5632) :
    (blk2 V c 2 t : Vec Ideal (M2 256 5632) .bf16) (ix2 i l) = (V c main_v4_1 : Vec Ideal (M2 2048 5632) .bf16) (ix2 (tok (q2 t) i) l) := by
  have e : (q2 t).val = t.val := rfl
  have e' : (tok (q2 t) i).val = 256 * t.val + i.val := rfl
  blk_ext [blk2, wi2 t]
theorem rf2_3 (t : Fin cfg2.N) (i : Fin 1) (l : Fin 1024) :
    (blk2 V c 3 t : Vec Ideal (M2 1 1024) .f32) (ix2 i l) = (V c main_arg1 : Vec Ideal (M2 1 1024) .f32) (ix2 i l) := by
  have e : (q2 t).val = t.val := rfl
  blk_ext [blk2, wi2 t]
theorem rf3_0 (t : Fin cfg3.N) (i : Fin 2048) (l : Fin 1024) :
    (blk3 V c 0 t : Vec Ideal (M2 2048 1024) .bf16) (ix2 i l) = (V c main_v4_0 : Vec Ideal (M2 2048 1024) .bf16) (ix2 i l) := by
  have e : (q3 t).val = t.val := rfl
  blk_ext [blk3, wi3 t]
theorem rf3_1 (t : Fin cfg3.N) (i : Fin 2048) (l : Fin 1408) :
    (blk3 V c 1 t : Vec Ideal (M2 2048 1408) .bf16) (ix2 i l) = (V c main_v6_1 : Vec Ideal (M2 2048 5632) .bf16) (ix2 i (col (q3 t) l)) := by
  have e : (q3 t).val = t.val := rfl
  have e' : (col (q3 t) l).val = 1408 * t.val + l.val := rfl
  blk_ext [blk3, wi3 t]
theorem rf4_0 (t : Fin cfg4.N) (i : Fin 2048) (l : Fin 1408) :
    (blk4 V c 0 t : Vec Ideal (M2 2048 1408) .bf16) (ix2 i l) = (V c main_v4_2 : Vec Ideal (M2 2048 2816) .bf16) (ix2 i (hal (q4 t) l)) := by
  have e : (q4 t).val = t.val := rfl
  have e' : (hal (q4 t) l).val = 1408 * t.val + l.val := rfl
  blk_ext [blk4, wi4 t]
theorem rf4_1 (t : Fin cfg4.N) (i : Fin 2048) (l : Fin 1024) :
    (blk4 V c 1 t : Vec Ideal (M2 2048 1024) .bf16) (ix2 i l) = (V c main_v6_3 : Vec Ideal (M2 2048 1024) .bf16) (ix2 i l) := by
  have e : (q4 t).val = t.val := rfl
  blk_ext [blk4, wi4 t]

variable (x d : Fin 2048 → Fin 1024 → ℝ) (g : Fin 1024 → ℝ) (w : Fin 1024 → Fin 5632 → ℝ) (v : Fin 2816 → Fin 1024 → ℝ) (z : Fin 2048 → Fin 5632 → ℝ)
section
variable (hX : ∀ i k, (V c main_arg0 : Vec Ideal (M2 2048 1024) .f32) (ix2 i k) = (x i k : EReal))
  (hG : ∀ k, (V c main_arg1 : Vec Ideal (M2 1 1024) .f32) (ix2 0 k) = (g k : EReal))
  (hW : ∀ s k j, (V c main_v2 : Vec Ideal (M3 4 1024 1408) .bf16) (ix3 s k j) = (w k (col s j) : EReal))
  (hV : ∀ j k, (V c main_v3 : Vec Ideal (M2 2816 1024) .bf16) (ix2 j k) = (v j k : EReal))
include hX in
theorem bX0 (t : Fin cfg0.N) (i : Fin 256) (k : Fin 1024) : (blk0 V c 0 t : Vec Ideal (M2 256 1024) .f32) (ix2 i k) = (x (tok (q0 t) i) k : EReal) :=
  (rf0_0 V c t i k).trans (hX _ _)
include hG in
theorem bG0 (t : Fin cfg0.N) (k : Fin 1024) : (blk0 V c 1 t : Vec Ideal (M2 1 1024) .f32) (ix2 0 k) = (g k : EReal) :=
  (rf0_1 V c t 0 k).trans (hG _)

variable (hA : ∀ i k, (V c main_v4_2 : Vec Ideal (M2 2048 2816) .bf16) (ix2 i k) = ((act (zz (x i) g w) k : ℝ) : EReal))
include hX hV hA in
theorem arr_y : (fd1 V c).arrAt 2 cfg1.N = aY x g w v := by
  refine (fd1 V c).arrAt_eq_of_covers 2 _ (by decide +kernel) fun t hf y => ?_
  blk_simp
  rw [fd1_2]
  obtain ⟨i, l, rfl⟩ := ix2_of (a := 256) (b := 1024) y
  refine (dn_v (x (tok (q1 t) i)) v (zz (x (tok (q1 t) i)) g w) i (fun k => (rf1_0 V c t i k).trans (hX _ _)) (fun k => (rf1_1 V c t i k).trans (hA _ _)) hV l).trans ?_
  have e' : (tok (q1 t) i).val = 256 * t.val + i.val := rfl
  show aY x g w v (ix2 (tok (q1 t) i) l) = _
  blk_ext [wi1 t]

include hX hG in
theorem arr_h : (fd0 V c).arrAt 2 cfg0.N = aH x g := by
  refine (fd0 V c).arrAt_eq_of_covers 2 _ (by decide +kernel) fun t hf y => ?_
  blk_simp
  rw [fd0_2]
  obtain ⟨i, l, rfl⟩ := ix2_of (a := 256) (b := 1024) y
  refine (hh_v (x (tok (q0 t) i)) i (bX0 V c x hX t i) g (bG0 V c g hG t) l).trans ?_
  have e' : (tok (q0 t) i).val = 256 * t.val + i.val := rfl
  show aH x g (ix2 (tok (q0 t) i) l) = _
  blk_ext [wi0 t]

include hX hG hW in
theorem arr_z : (fd0 V c).arrAt 3 cfg0.N = aZ x g w := by
  refine (fd0 V c).arrAt_eq_of_covers 3 _ (by decide +kernel) fun t hf y => ?_
  blk_simp
  rw [fd0_3]
  obtain ⟨i, l, rfl⟩ := ix2_of (a := 256) (b := 5632) y
  refine (gu_v (fun i => x (tok (q0 t) i)) g w (bX0 V c x hX t) (bG0 V c g hG t) hW i l).trans ?_
  have e' : (tok (q0 t) i).val = 256 * t.val + i.val := rfl
  show aZ x g w (ix2 (tok (q0 t) i) l) = _
  blk_ext [wi0 t]

include hX hG hW in
theorem arr_a : (fd0 V c).arrAt 4 cfg0.N = aA x g w := by
  refine (fd0 V c).arrAt_eq_of_covers 4 _ (by decide +kernel) fun t hf y => ?_
  blk_simp
  rw [fd0_4]
  obtain ⟨i, l, rfl⟩ := ix2_of (a := 256) (b := 2816) y
  refine (act_v (fun i => x (tok (q0 t) i)) g w (bX0 V c x hX t) (bG0 V c g hG t) hW i l).trans ?_
  have e' : (tok (q0 t) i).val = 256 * t.val + i.val := rfl
  show aA x g w (ix2 (tok (q0 t) i) l) = _
  blk_ext [wi0 t]

variable (hD : ∀ i k, (V c main_arg4 : Vec Ideal (M2 2048 1024) .f32) (ix2 i k) = (d i k : EReal))
  (hZ : ∀ i k, (V c main_v4_1 : Vec Ideal (M2 2048 5632) .bf16) (ix2 i k) = (z i k : EReal))
include hX in
theorem bX2 (t : Fin cfg2.N) (i : Fin 256) (k : Fin 1024) : (blk2 V c 1 t : Vec Ideal (M2 256 1024) .f32) (ix2 i k) = (x (tok (q2 t) i) k : EReal) :=
  (rf2_1 V c t i k).trans (hX _ _)
include hG in
theorem bG2 (t : Fin cfg2.N) (k : Fin 1024) : (blk2 V c 3 t : Vec Ideal (M2 1 1024) .f32) (ix2 0 k) = (g k : EReal) :=
  (rf2_3 V c t 0 k).trans (hG _)
include hD in
theorem bD2 (t : Fin cfg2.N) (i : Fin 256) (k : Fin 1024) : (blk2 V c 0 t : Vec Ideal (M2 256 1024) .f32) (ix2 i k) = (d (tok (q2 t) i) k : EReal) :=
  (rf2_0 V c t i k).trans (hD _ _)
include hZ in
theorem bZ2 (t : Fin cfg2.N) (i : Fin 256) (k : Fin 5632) : (blk2 V c 2 t : Vec Ideal (M2 256 5632) .bf16) (ix2 i k) = (z (tok (q2 t) i) k : EReal) :=
  (rf2_2 V c t i k).trans (hZ _ _)

include hX hG hW hV hD hZ in
theorem arr_dx : (fd2 V c).arrAt 4 cfg2.N = aX x d g w v z := by
  refine (fd2 V c).arrAt_eq_of_covers 4 _ (by decide +kernel) fun t hf y => ?_
  blk_simp
  rw [fd2_4]
  obtain ⟨i, l, rfl⟩ := ix2_of (a := 256) (b := 1024) y
  refine (dx_v (fun i => x (tok (q2 t) i)) (fun i => d (tok (q2 t) i)) g w v (fun i => z (tok (q2 t) i)) (bD2 V c d hD t) (bZ2 V c z hZ t) hV i (bX2 V c x hX t) (bG2 V c g hG t) hW l).trans ?_
  have e' : (tok (q2 t) i).val = 256 * t.val + i.val := rfl
  show aX x d g w v z (ix2 (tok (q2 t) i) l) = _
  blk_ext [wi2 t]

include hV hD hZ in
theorem arr_dz : (fd2 V c).arrAt 5 cfg2.N = aD d v z := by
  refine (fd2 V c).arrAt_eq_of_covers 5 _ (by decide +kernel) fun t hf y => ?_
  blk_simp
  rw [fd2_5]
  obtain ⟨i, l, rfl⟩ := ix2_of (a := 256) (b := 5632) y
  refine (dz_v (fun i => d (tok (q2 t) i)) v (fun i => z (tok (q2 t) i)) (bD2 V c d hD t) (bZ2 V c z hZ t) hV i l).trans ?_
  have e' : (tok (q2 t) i).val = 256 * t.val + i.val := rfl
  show aD d v z (ix2 (tok (q2 t) i) l) = _
  blk_ext [wi2 t]

include hD in
theorem arr_e : (fd2 V c).arrAt 7 cfg2.N = aE d := by
  refine (fd2 V c).arrAt_eq_of_covers 7 _ (by decide +kernel) fun t hf y => ?_
  blk_simp
  rw [fd2_7]
  obtain ⟨i, l, rfl⟩ := ix2_of (a := 256) (b := 1024) y
  refine (hd_v (fun i => d (tok (q2 t) i)) (bD2 V c d hD t) i l).trans ?_
  have e' : (tok (q2 t) i).val = 256 * t.val + i.val := rfl
  show aE d (ix2 (tok (q2 t) i) l) = _
  blk_ext [wi2 t]

include hX hW hV hD hZ in
theorem dg_at : ∀ (n : ℕ) (hn : n < 8) (k : Fin 1024), (dg2 V c n : Vec Ideal (M2 1 1024) .f32) (ix2 0 k)
    = ((∑ m : Fin (n + 1), ∑ i, dgr (x (tok ⟨m.val, by omega⟩ i)) (d (tok ⟨m.val, by omega⟩ i)) w v (z (tok ⟨m.val, by omega⟩ i)) k : ℝ) : EReal)
  | 0, hn, k => by
    have h := dg_v (fun i => x (tok (q2 (pt2 0)) i)) (fun i => d (tok (q2 (pt2 0)) i)) w v (fun i => z (tok (q2 (pt2 0)) i))
      (bD2 V c d hD (pt2 0)) (bZ2 V c z hZ (pt2 0)) hV (bX2 V c x hX (pt2 0)) hW (fun _ => 0) (P := k2_pay1 (F := Ideal)) (fun k => c_zero) k
    refine (h : (dg2 V c 0 : Vec Ideal (M2 1 1024) .f32) (ix2 0 k) = _).trans ?_
    rw [Fin.sum_univ_one, zero_add]; rfl
  | n + 1, hn, k => by
    have hp : (pt2 (n + 1)).val = n + 1 := pt2_val ⟨n + 1, by rw [gN2]; exact hn⟩ |> fun h => congrArg Fin.val h
    have h := dg_v (fun i => x (tok (q2 (pt2 (n + 1))) i)) (fun i => d (tok (q2 (pt2 (n + 1))) i)) w v (fun i => z (tok (q2 (pt2 (n + 1))) i))
      (bD2 V c d hD (pt2 (n + 1))) (bZ2 V c z hZ (pt2 (n + 1))) hV (bX2 V c x hX (pt2 (n + 1))) hW _ (P := dg2 V c n) (dg_at n (by omega)) k
    refine (h : (dg2 V c (n + 1) : Vec Ideal (M2 1 1024) .f32) (ix2 0 k) = _).trans ?_
    have hq : q2 (pt2 (n + 1)) = ⟨n + 1, hn⟩ := Fin.ext hp
    rw [hq, Fin.sum_univ_castSucc (n := n + 1)]; rfl
include hX hW hV hD hZ in
theorem arr_dg : (fd2 V c).arrAt 6 cfg2.N = aG x d w v z := by
  refine (fd2 V c).arrAt_eq_of_covers 6 _ (by decide +kernel) fun t hf y => ?_
  have ht : t.val = 7 := (by decide +kernel : ∀ t : Fin grid2.N, (cfg2.win 6).flush t = true → t.val = 7) t hf
  blk_simp
  rw [fd2_6]
  obtain ⟨i, l, rfl⟩ := ix2_of (a := 1) (b := 1024) y
  obtain rfl : i = 0 := Subsingleton.elim _ _
  rw [ht]
  refine (dg_at V c x d w v z hX hW hV hD hZ 7 (by omega) l).trans ?_
  rw [← sum_tok (fun i => dgr (x i) (d i) w v (z i) l)]
  show aG x d w v z (ix2 0 l) = _
  blk_ext [wi2 t]
end

section
variable (p : Fin 2048 → Fin 1024 → ℝ) (q : Fin 2048 → Fin 5632 → ℝ)
  (hP : ∀ i k, (V c main_v4_0 : Vec Ideal (M2 2048 1024) .bf16) (ix2 i k) = (p i k : EReal))
  (hQ : ∀ i k, (V c main_v6_1 : Vec Ideal (M2 2048 5632) .bf16) (ix2 i k) = (q i k : EReal))
include hP hQ in
theorem arr_w13 : (fd3 V c).arrAt 2 cfg3.N = aW13 p q := by
  refine (fd3 V c).arrAt_eq_of_covers 2 _ (by decide +kernel) fun t hf y => ?_
  blk_simp
  rw [fd3_2]
  obtain ⟨a, k, j, rfl⟩ := ix3_of (a := 1) (b := 1024) (c := 1408) y
  obtain rfl : a = 0 := Subsingleton.elim _ _
  refine (gw2_v k j (p := fun i => p i k) (q := fun i => q i (col (q3 t) j)) (fun i => (rf3_0 V c t i k).trans (hP i k)) (fun i => (rf3_1 V c t i j).trans (hQ i _)) 0).trans ?_
  have e : (q3 t).val = t.val := rfl
  show aW13 p q (ix3 (q3 t) k j) = _
  blk_ext [wi3 t]
end

section
variable (p : Fin 2048 → Fin 2816 → ℝ) (q : Fin 2048 → Fin 1024 → ℝ)
  (hP : ∀ i k, (V c main_v4_2 : Vec Ideal (M2 2048 2816) .bf16) (ix2 i k) = (p i k : EReal))
  (hQ : ∀ i k, (V c main_v6_3 : Vec Ideal (M2 2048 1024) .bf16) (ix2 i k) = (q i k : EReal))
include hP hQ in
theorem arr_w2 : (fd4 V c).arrAt 2 cfg4.N = aW2 p q := by
  refine (fd4 V c).arrAt_eq_of_covers 2 _ (by decide +kernel) fun t hf y => ?_
  blk_simp
  rw [fd4_2]
  obtain ⟨a, j, k, rfl⟩ := ix3_of (a := 1) (b := 1408) (c := 1024) y
  obtain rfl : a = 0 := Subsingleton.elim _ _
  refine (gw3_v j k (p := fun i => p i (hal (q4 t) j)) (q := fun i => q i k) (fun i => (rf4_0 V c t i j).trans (hP i _)) (fun i => (rf4_1 V c t i k).trans (hQ i k)) 0).trans ?_
  have e' : (hal (q4 t) j).val = 1408 * t.val + j.val := rfl
  show aW2 p q (ix3 0 (hal (q4 t) j) k) = _
  blk_ext [wi4 t]
end
end
end Cert.Up
end
-- ==== Proof.Gv.lean ====
module
public import proofs.«01_k».proof.Proof.Gw
public import proofs.«01_k».proof.Proof.Fv
public import Idealize.ShloMosaic.Lib.Pointwise.IndexVar
@[expose] public section
set_option maxRecDepth 16384
noncomputable section

/-! What the third program leaves in its results, on the reals. -/

namespace Cert.Up
open Idealize.ShloMosaic Idealize.SL.Sem Cert.Kernel3Ideal Cert.Kernel3Ideal.Gen
open Cert.Ffn
open Cert.Attn (M2 M3)

variable (m : (ℓ : Loc nD τ sig) → Buf (Elt Ideal) ℓ) (ρ : Dev nD → PrngReg)

/-- The first weights as the calls read them: by quarters of the columns. -/
theorem entry_w (c : Dev nD) : (C1 m ρ c main_v2 : Vec Ideal (M3 4 1024 1408) .bf16)
    = transpose S4x1024x1408 [1, 0, 2] (shapeCast S1024x4x1408 (truncf (F := Ideal) .bf16 (m ((c.tc : Thread nD τ).loc main_arg2) : Vec Ideal (M2 1024 5632) .f32) bitsLt_bf16_f32) shapeCasts_S1024x5632_S1024x4x1408) transposes_S1024x4x1408_S4x1024x1408_1_0_2 := by
  show StableHlo.after hostOps0 (B0 m ρ c) (Proc.devRef .tc main_v2) = _
  after_results_simp
  rfl
/-- The second weights as the calls read them. -/
theorem entry_v (c : Dev nD) : (C1 m ρ c main_v3 : Vec Ideal (M2 2816 1024) .bf16)
    = truncf (F := Ideal) .bf16 (m ((c.tc : Thread nD τ).loc main_arg3) : Vec Ideal (M2 2816 1024) .f32) bitsLt_bf16_f32 := by
  show StableHlo.after hostOps0 (B0 m ρ c) (Proc.devRef .tc main_v3) = _
  after_results_simp

section
variable (x d : Dev nD → Fin 2048 → Fin 1024 → ℝ) (g : Dev nD → Fin 1024 → ℝ) (w : Dev nD → Fin 1024 → Fin 5632 → ℝ) (v : Dev nD → Fin 2816 → Fin 1024 → ℝ)
  (hX : ∀ c i k, (m ((c.tc : Thread nD τ).loc main_arg0) : Vec Ideal (M2 2048 1024) .f32) (ix2 i k) = (x c i k : EReal))
  (hG : ∀ c k, (m ((c.tc : Thread nD τ).loc main_arg1) : Vec Ideal (M2 1 1024) .f32) (ix2 0 k) = (g c k : EReal))
  (hW : ∀ c k j, (m ((c.tc : Thread nD τ).loc main_arg2) : Vec Ideal (M2 1024 5632) .f32) (ix2 k j) = (w c k j : EReal))
  (hV : ∀ c j k, (m ((c.tc : Thread nD τ).loc main_arg3) : Vec Ideal (M2 2816 1024) .f32) (ix2 j k) = (v c j k : EReal))
  (hD : ∀ c i k, (m ((c.tc : Thread nD τ).loc main_arg4) : Vec Ideal (M2 2048 1024) .f32) (ix2 i k) = (d c i k : EReal))

include hX in
theorem eX1 (c : Dev nD) (i k) : (C1 m ρ c main_arg0 : Vec Ideal (M2 2048 1024) .f32) (ix2 i k) = (x c i k : EReal) :=
  (congrFun (B1_args m ρ c main_arg0 (by decide)) (ix2 i k)).trans (hX c i k)
include hG in
theorem eG1 (c : Dev nD) (k) : (C1 m ρ c main_arg1 : Vec Ideal (M2 1 1024) .f32) (ix2 0 k) = (g c k : EReal) :=
  (congrFun (B1_args m ρ c main_arg1 (by decide)) (ix2 0 k)).trans (hG c k)
include hW in
theorem eW1 (c : Dev nD) (s k j) : (C1 m ρ c main_v2 : Vec Ideal (M3 4 1024 1408) .bf16) (ix3 s k j) = (w c k (col s j) : EReal) :=
  (congrFun (entry_w m ρ c) (ix3 s k j)).trans ((Cert.Ffn.quart_apply _ _ _ s k j).trans (hW c k (col s j)))
include hV in
theorem eV1 (c : Dev nD) (j k) : (C1 m ρ c main_v3 : Vec Ideal (M2 2816 1024) .bf16) (ix2 j k) = (v c j k : EReal) :=
  (congrFun (entry_v m ρ c) (ix2 j k)).trans (hV c j k)
include hX in
theorem eX2 (c : Dev nD) (i k) : (C2 m ρ c main_arg0 : Vec Ideal (M2 2048 1024) .f32) (ix2 i k) = (x c i k : EReal) :=
  (congrFun (B2_args m ρ c main_arg0 (by decide)) (ix2 i k)).trans (hX c i k)
include hV in
theorem eV2 (c : Dev nD) (j k) : (C2 m ρ c main_v3 : Vec Ideal (M2 2816 1024) .bf16) (ix2 j k) = (v c j k : EReal) :=
  (congrFun (B2_of m ρ c main_v3 (by decide +kernel)) (ix2 j k)).trans (eV1 m ρ v hV c j k)
include hX hG hW in
theorem eZ2 (c : Dev nD) : (C2 m ρ c main_v4_1 : Vec Ideal (M2 2048 5632) .bf16) = aZ (x c) (g c) (w c) :=
  (B2_arr m ρ c 3).trans (arr_z (C1 m ρ) c (x c) (g c) (w c) (eX1 m ρ x hX c) (eG1 m ρ g hG c) (eW1 m ρ w hW c))
include hX hG in
theorem eH2 (c : Dev nD) : (C2 m ρ c main_v4_0 : Vec Ideal (M2 2048 1024) .bf16) = aH (x c) (g c) :=
  (B2_arr m ρ c 2).trans (arr_h (C1 m ρ) c (x c) (g c) (eX1 m ρ x hX c) (eG1 m ρ g hG c))
include hX hG hW in
theorem eA2 (c : Dev nD) : (C2 m ρ c main_v4_2 : Vec Ideal (M2 2048 2816) .bf16) = aA (x c) (g c) (w c) :=
  (B2_arr m ρ c 4).trans (arr_a (C1 m ρ) c (x c) (g c) (w c) (eX1 m ρ x hX c) (eG1 m ρ g hG c) (eW1 m ρ w hW c))
include hX in
theorem eX3 (c : Dev nD) (i k) : (C3 m ρ c main_arg0 : Vec Ideal (M2 2048 1024) .f32) (ix2 i k) = (x c i k : EReal) :=
  (congrFun (B3_args m ρ c main_arg0 (by decide)) (ix2 i k)).trans (hX c i k)
include hG in
theorem eG3 (c : Dev nD) (k) : (C3 m ρ c main_arg1 : Vec Ideal (M2 1 1024) .f32) (ix2 0 k) = (g c k : EReal) :=
  (congrFun (B3_args m ρ c main_arg1 (by decide)) (ix2 0 k)).trans (hG c k)
include hD in
theorem eD3 (c : Dev nD) (i k) : (C3 m ρ c main_arg4 : Vec Ideal (M2 2048 1024) .f32) (ix2 i k) = (d c i k : EReal) :=
  (congrFun (B3_args m ρ c main_arg4 (by decide)) (ix2 i k)).trans (hD c i k)
include hW in
theorem eW3 (c : Dev nD) (s k j) : (C3 m ρ c main_v2 : Vec Ideal (M3 4 1024 1408) .bf16) (ix3 s k j) = (w c k (col s j) : EReal) :=
  (congrFun ((B3_of m ρ c main_v2 (by decide +kernel)).trans (B2_of m ρ c main_v2 (by decide +kernel))) (ix3 s k j)).trans (eW1 m ρ w hW c s k j)
include hV in
theorem eV3 (c : Dev nD) (j k) : (C3 m ρ c main_v3 : Vec Ideal (M2 2816 1024) .bf16) (ix2 j k) = (v c j k : EReal) :=
  (congrFun (B3_of m ρ c main_v3 (by decide +kernel)) (ix2 j k)).trans (eV2 m ρ v hV c j k)
include hX hG hW in
theorem eZ3 (c : Dev nD) (i k) : (C3 m ρ c main_v4_1 : Vec Ideal (M2 2048 5632) .bf16) (ix2 i k) = ((zz (x c i) (g c) (w c) k : ℝ) : EReal) :=
  congrFun ((B3_of m ρ c main_v4_1 (by decide +kernel)).trans (eZ2 m ρ x g w hX hG hW c)) (ix2 i k)
include hX hG hW hV in
theorem y_end (c : Dev nD) : B6 m ρ c (Proc.devRef .tc main_v5) = aY (x c) (g c) (w c) (v c) :=
  (B6_of m ρ c main_v5 (by decide +kernel)).trans <| (B5_of m ρ c main_v5 (by decide +kernel)).trans <| (B4_of m ρ c main_v5 (by decide +kernel)).trans <|
    (B3_arr m ρ c 2).trans (arr_y (C2 m ρ) c (x c) (g c) (w c) (v c) (eX2 m ρ x hX c) (eV2 m ρ v hV c)
      (fun i k => congrFun (eA2 m ρ x g w hX hG hW c) (ix2 i k)))
include hX hG hW hV hD in
theorem dx_end (c : Dev nD) : B6 m ρ c (Proc.devRef .tc main_v6_0) = aX (x c) (d c) (g c) (w c) (v c) (fun i => zz (x c i) (g c) (w c)) :=
  (B6_of m ρ c main_v6_0 (by decide +kernel)).trans <| (B5_of m ρ c main_v6_0 (by decide +kernel)).trans <|
    (B4_arr m ρ c 4).trans (arr_dx (C3 m ρ) c (x c) (d c) (g c) (w c) (v c) _ (eX3 m ρ x hX c) (eG3 m ρ g hG c) (eW3 m ρ w hW c) (eV3 m ρ v hV c) (eD3 m ρ d hD c) (eZ3 m ρ x g w hX hG hW c))
include hX hG hW hV hD in
theorem dg_end (c : Dev nD) : B6 m ρ c (Proc.devRef .tc main_v6_2) = aG (x c) (d c) (w c) (v c) (fun i => zz (x c i) (g c) (w c)) :=
  (B6_of m ρ c main_v6_2 (by decide +kernel)).trans <| (B5_of m ρ c main_v6_2 (by decide +kernel)).trans <|
    (B4_arr m ρ c 6).trans (arr_dg (C3 m ρ) c (x c) (d c) (w c) (v c) _ (eX3 m ρ x hX c) (eW3 m ρ w hW c) (eV3 m ρ v hV c) (eD3 m ρ d hD c) (eZ3 m ρ x g w hX hG hW c))
include hX hG hW hV hD in
theorem eD4 (c : Dev nD) : (C4 m ρ c main_v6_1 : Vec Ideal (M2 2048 5632) .bf16) = aD (d c) (v c) (fun i => zz (x c i) (g c) (w c)) :=
  (B4_arr m ρ c 5).trans (arr_dz (C3 m ρ) c (d c) (v c) _ (eV3 m ρ v hV c) (eD3 m ρ d hD c) (eZ3 m ρ x g w hX hG hW c))
include hX hG in
theorem eH4 (c : Dev nD) : (C4 m ρ c main_v4_0 : Vec Ideal (M2 2048 1024) .bf16) = aH (x c) (g c) :=
  (B4_of m ρ c main_v4_0 (by decide +kernel)).trans <| (B3_of m ρ c main_v4_0 (by decide +kernel)).trans (eH2 m ρ x g hX hG c)
include hX hG hW in
theorem eA5 (c : Dev nD) : (C5 m ρ c main_v4_2 : Vec Ideal (M2 2048 2816) .bf16) = aA (x c) (g c) (w c) :=
  (B5_of m ρ c main_v4_2 (by decide +kernel)).trans <| (B4_of m ρ c main_v4_2 (by decide +kernel)).trans <| (B3_of m ρ c main_v4_2 (by decide +kernel)).trans (eA2 m ρ x g w hX hG hW c)
include hD in
theorem eE5 (c : Dev nD) : (C5 m ρ c main_v6_3 : Vec Ideal (M2 2048 1024) .bf16) = aE (d c) :=
  (B5_of m ρ c main_v6_3 (by decide +kernel)).trans <| (B4_arr m ρ c 7).trans (arr_e (C3 m ρ) c (d c) (eD3 m ρ d hD c))
include hX hG hW hV hD in
theorem w13_end (c : Dev nD) : B6 m ρ c (Proc.devRef .tc main_v7) = aW13 (fun i => hh (x c i) (g c)) (fun i => dz (d c i) (v c) (zz (x c i) (g c) (w c))) :=
  (B6_of m ρ c main_v7 (by decide +kernel)).trans <| (B5_arr m ρ c 2).trans (arr_w13 (C4 m ρ) c _ _
    (fun i k => congrFun (eH4 m ρ x g hX hG c) (ix2 i k)) (fun i k => congrFun (eD4 m ρ x d g w v hX hG hW hV hD c) (ix2 i k)))
include hX hG hW hD in
theorem w2_end (c : Dev nD) : B6 m ρ c (Proc.devRef .tc main_v8) = aW2 (fun i => act (zz (x c i) (g c) (w c))) (fun i => hd (d c i)) :=
  (B6_arr m ρ c 2).trans (arr_w2 (C5 m ρ) c _ _
    (fun i k => congrFun (eA5 m ρ x g w hX hG hW c) (ix2 i k)) (fun i k => congrFun (eE5 m ρ d hD c) (ix2 i k)))

include hX hG hW hV hD in
/-- The program ends with the layer's results and cotangents, its arguments as they were. -/
theorem ffn_value : θ_run defs (onTc (τ := τ) (main (F := Ideal))) ⟨m, fun _ => 0, ρ⟩ (fun r => ∀ c : Dev nD,
      r.2.mem ((c.tc : Thread nD τ).loc main_v5) = aY (x c) (g c) (w c) (v c)
      ∧ r.2.mem ((c.tc : Thread nD τ).loc main_v6_0) = aX (x c) (d c) (g c) (w c) (v c) (fun i => zz (x c i) (g c) (w c))
      ∧ r.2.mem ((c.tc : Thread nD τ).loc main_v6_2) = aG (x c) (d c) (w c) (v c) (fun i => zz (x c i) (g c) (w c))
      ∧ r.2.mem ((c.tc : Thread nD τ).loc main_v7) = aW13 (fun i => hh (x c i) (g c)) (fun i => dz (d c i) (v c) (zz (x c i) (g c) (w c)))
      ∧ r.2.mem ((c.tc : Thread nD τ).loc main_v8) = aW2 (fun i => act (zz (x c i) (g c) (w c))) (fun i => hd (d c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have arg (a : Ref sig .tc) (ha : a ∈ fArgs) (hs : ¬ (Proc.devRef .tc a : DevRef τ sig).isScoped) :
        r.2.mem ((c.tc : Thread nD τ).loc a) = m ((c.tc : Thread nD τ).loc a) := (h.1 c _ (uc_mem a hs)).trans (B6_args m ρ c a ha)
    ⟨(h.1 c _ (uc_mem main_v5 (by decide))).trans (y_end m ρ x g w v hX hG hW hV c),
      (h.1 c _ (uc_mem main_v6_0 (by decide))).trans (dx_end m ρ x d g w v hX hG hW hV hD c),
      (h.1 c _ (uc_mem main_v6_2 (by decide))).trans (dg_end m ρ x d g w v hX hG hW hV hD c),
      (h.1 c _ (uc_mem main_v7 (by decide))).trans (w13_end m ρ x d g w v hX hG hW hV hD c),
      (h.1 c _ (uc_mem main_v8 (by decide))).trans (w2_end m ρ x d g w hX hG hW hD c),
      arg main_arg0 (by decide) (by decide), arg main_arg1 (by decide) (by decide), arg main_arg2 (by decide) (by decide),
      arg main_arg3 (by decide) (by decide), arg main_arg4 (by decide) (by decide)⟩) (ffn_run m ρ)
end
end Cert.Up
end
-- ==== Proof.Gx.lean ====
module
public import proofs.«01_k».proof.Defs
public import proofs.«01_k».proof.Proof.Gen.Kernel3
public import proofs.«01_k».proof.Proof.Gr
@[expose] public section
set_option maxRecDepth 16384
set_option maxHeartbeats 4000000
noncomputable section

/-! The third program and its ideal reading have the same text: the frame of one is the other's. -/

namespace Cert.Up.Same
open Idealize.ShloMosaic Idealize.SL.Sem

theorem body0 (t : Fin Cert.Kernel3.grid0.N) (s : (w : Fin 5) → Fin (Cert.Kernel3.win0 w).nbuf) :
    Cert.Kernel3.defs₀ (F := Bits) .tc (0 : Fin 5) (t, s) = Cert.Kernel3Ideal.defs₀ (F := Bits) .tc (0 : Fin 5) (t, s) := by rfl
theorem body1 (t : Fin Cert.Kernel3.grid1.N) (s : (w : Fin 3) → Fin (Cert.Kernel3.win1 w).nbuf) :
    Cert.Kernel3.defs₀ (F := Bits) .tc (1 : Fin 5) (t, s) = Cert.Kernel3Ideal.defs₀ (F := Bits) .tc (1 : Fin 5) (t, s) := by rfl
theorem body2 (t : Fin Cert.Kernel3.grid2.N) (s : (w : Fin 9) → Fin (Cert.Kernel3.win2 w).nbuf) :
    Cert.Kernel3.defs₀ (F := Bits) .tc (2 : Fin 5) (t, s) = Cert.Kernel3Ideal.defs₀ (F := Bits) .tc (2 : Fin 5) (t, s) := by rfl
theorem body3 (t : Fin Cert.Kernel3.grid3.N) (s : (w : Fin 3) → Fin (Cert.Kernel3.win3 w).nbuf) :
    Cert.Kernel3.defs₀ (F := Bits) .tc (3 : Fin 5) (t, s) = Cert.Kernel3Ideal.defs₀ (F := Bits) .tc (3 : Fin 5) (t, s) := by rfl
theorem body4 (t : Fin Cert.Kernel3.grid4.N) (s : (w : Fin 3) → Fin (Cert.Kernel3.win4 w).nbuf) :
    Cert.Kernel3.defs₀ (F := Bits) .tc (4 : Fin 5) (t, s) = Cert.Kernel3Ideal.defs₀ (F := Bits) .tc (4 : Fin 5) (t, s) := by rfl
/-- Label by label the two programs' bodies are one. -/
theorem bodies : ∀ (l : Fin 5) (x : Cert.Kernel3.Λ₀.Args l), Cert.Kernel3.defs₀ (F := Bits) .tc l x = Cert.Kernel3Ideal.defs₀ (F := Bits) .tc l x
  | ⟨0, _⟩, x => body0 x.1 x.2
  | ⟨1, _⟩, x => body1 x.1 x.2
  | ⟨2, _⟩, x => body2 x.1 x.2
  | ⟨3, _⟩, x => body3 x.1 x.2
  | ⟨4, _⟩, x => body4 x.1 x.2
theorem tables : Cert.Kernel3.defs₀ (F := Bits) = Cert.Kernel3Ideal.defs₀ (F := Bits) :=
  funext fun p => match p with
    | .tc => funext fun l => funext fun x => bodies l x
    | .scScalar _ => rfl
    | .scVector _ _ => rfl
theorem defs_same : Cert.Kernel3.defs (F := Bits) = Cert.Kernel3Ideal.defs (F := Bits) :=
  (congrArg (Pipeline.defs (Cert.Kernel3.pcfgs (F := Bits))) tables : _)

open Cert.Kernel3 in
/-- The program over bit patterns ends, with its arguments as they were and no semaphore raised. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.Up.ffn_frame (F := Bits) m g
end Cert.Up.Same
end
-- ==== Proof.Hs.lean ====
module
public import proofs.«01_k».proof.Proof.Fs
@[expose] public section
set_option maxRecDepth 16384
noncomputable section

/-! The normalisation, the input projection and their gradients on the extended reals, one token at a time. -/

namespace Cert.Proj
open Idealize.ShloMosaic
open Cert.Ffn (eps eps_pos c_eps c_mhalf c_kilo)

section
variable (x g d' e : Fin 1024 → EReal) (w : Fin 1024 → Fin 2568 → EReal) (d : Fin 2568 → EReal)
/-- The mean square of a token, stabilised. -/
def vE : EReal := Ideal.div (∑ k, x k * x k) (Ideal.ofBits .f32 0x44800000#32) + Ideal.ofBits .f32 0x358637BD#32
/-- Its reciprocal root. -/
def rE : EReal := Ideal.rsqrt (vE x)
/-- The normalised token. -/
def hE (k : Fin 1024) : EReal := x k * rE x * g k
/-- The projected token. -/
def pE (j : Fin 2568) : EReal := ∑ k, hE x g k * w k j
/-- The gradient of the normalised token. -/
def dhE (k : Fin 1024) : EReal := ∑ j, d j * w k j
/-- The same, times the gain. -/
def tE (k : Fin 1024) : EReal := dhE w d k * g k
/-- The gradient of the token, added to what comes along the residual. -/
def dxE (k : Fin 1024) : EReal :=
  e k + (rE x * tE g w d k - x k * (rE x * rE x * rE x) * Ideal.div (∑ l, tE g w d l * x l) (Ideal.ofBits .f32 0x44800000#32))
/-- The token's share of the gain's gradient. -/
def dgE (k : Fin 1024) : EReal := dhE w d k * x k * rE x
end

theorem sq_nonneg' (a : EReal) : 0 ≤ a * a := by
  induction a with
  | bot => rw [EReal.bot_mul_bot]; exact le_top
  | top => rw [EReal.top_mul_top]; exact le_top
  | coe a => rw [← EReal.coe_mul]; exact EReal.coe_nonneg.2 (mul_self_nonneg a)

/-- The root's cube is its quotient by the mean square, and is a real. -/
theorem root_cube (x : Fin 1024 → EReal) : ∃ c : ℝ, rE x * rE x * rE x = (c : EReal) ∧ Ideal.div (rE x) (vE x) = (c : EReal) := by
  have hS : 0 ≤ ∑ k, x k * x k := Finset.sum_nonneg fun k _ => sq_nonneg' (x k)
  have hv : vE x = (∑ k, x k * x k) * ((1 / 1024 : ℝ) : EReal) + (eps : EReal) := by
    unfold vE; rw [c_kilo, c_eps, Ideal.div_coe (by norm_num)]
  unfold rE
  rw [hv]
  generalize (∑ k, x k * x k) = S at hS
  induction S with
  | bot => exact absurd hS (by simp)
  | top =>
    rw [EReal.top_mul_coe_of_pos (by norm_num), EReal.top_add_coe]
    exact ⟨0, by simp, by simp [Ideal.div]⟩
  | coe s =>
    have hs : (0 : ℝ) ≤ s := EReal.coe_nonneg.1 hS
    have hp : 0 < s * (1 / 1024) + eps := add_pos_of_nonneg_of_pos (by positivity) eps_pos
    rw [← EReal.coe_mul, ← EReal.coe_add]
    generalize s * (1 / 1024) + eps = v at hp
    have hr : Ideal.rsqrt (v : EReal) = (((Real.sqrt v)⁻¹ : ℝ) : EReal) := by
      rw [Ideal.rsqrt_coe, if_neg (not_lt.2 hp.le), if_neg hp.ne']
    rw [hr]
    refine ⟨(Real.sqrt v)⁻¹ * (1 / v), ?_, ?_⟩
    · rw [← EReal.coe_mul, ← EReal.coe_mul]
      refine congrArg (fun r : ℝ => (r : EReal)) ?_
      have h2 : Real.sqrt v * Real.sqrt v = v := Real.mul_self_sqrt hp.le
      have h3 : (Real.sqrt v)⁻¹ * (Real.sqrt v)⁻¹ = 1 / v := by rw [← mul_inv, h2, one_div]
      rw [h3, mul_comm]
    · rw [Ideal.div_coe hp.ne', EReal.coe_mul]

theorem halves (y : EReal) : y * ((1 / 2 : ℝ) : EReal) + y * ((1 / 2 : ℝ) : EReal) = y := by
  induction y with
  | bot => rw [EReal.bot_mul_coe_of_pos (by norm_num)]; rfl
  | top => rw [EReal.top_mul_coe_of_pos (by norm_num)]; rfl
  | coe y => rw [← EReal.coe_mul, ← EReal.coe_add]; refine congrArg (fun r : ℝ => (r : EReal)) ?_; ring

/-- The two shares that come through the mean square make the subtracted term. -/
theorem shares (r t x M q : EReal) (c : ℝ) (h3 : r * r * r = (c : EReal)) (hq : q = (c : EReal)) :
    t * r + x * Ideal.div (M * (Ideal.ofBits .f32 0xBF000000#32 * q)) (Ideal.ofBits .f32 0x44800000#32)
        + Ideal.div (M * (Ideal.ofBits .f32 0xBF000000#32 * q)) (Ideal.ofBits .f32 0x44800000#32) * x
      = r * t - x * (r * r * r) * Ideal.div M (Ideal.ofBits .f32 0x44800000#32) := by
  rw [h3, hq, c_mhalf, c_kilo, Ideal.div_coe (by norm_num), Ideal.div_coe (by norm_num), mul_comm t r, mul_comm (M * _ * _) x, add_assoc]
  have e : x * (M * (((-(1 / 2) : ℝ) : EReal) * (c : EReal)) * ((1 / 1024 : ℝ) : EReal))
      = -(x * (c : EReal) * (M * ((1 / 1024 : ℝ) : EReal))) * ((1 / 2 : ℝ) : EReal) := by
    have e1 : x * (M * (((-(1 / 2) : ℝ) : EReal) * (c : EReal)) * ((1 / 1024 : ℝ) : EReal))
        = x * M * ((-(1 / 2) * c * (1 / 1024) : ℝ) : EReal) := by
      rw [EReal.coe_mul, EReal.coe_mul]; simp only [mul_assoc]
    have e2 : x * (c : EReal) * (M * ((1 / 1024 : ℝ) : EReal)) = x * M * ((c * (1 / 1024) : ℝ) : EReal) := by
      rw [EReal.coe_mul, mul_assoc, mul_assoc, mul_left_comm (c : EReal)]
    rw [e1, e2, ← mul_neg, mul_assoc (x * M), ← EReal.coe_neg, ← EReal.coe_mul]
    refine congrArg (fun r : ℝ => x * M * (r : EReal)) ?_
    ring
  rw [e, halves]
  rfl

/-- The cotangent of a token as the chain rule gives it. -/
theorem dxE_eq (x g e : Fin 1024 → EReal) (w : Fin 1024 → Fin 2568 → EReal) (d : Fin 2568 → EReal) (k : Fin 1024) :
    e k + (tE g w d k * rE x + x k * Ideal.div ((∑ l, x l * tE g w d l) * (Ideal.ofBits .f32 0xBF000000#32 * Ideal.div (rE x) (vE x))) (Ideal.ofBits .f32 0x44800000#32)
        + Ideal.div ((∑ l, x l * tE g w d l) * (Ideal.ofBits .f32 0xBF000000#32 * Ideal.div (rE x) (vE x))) (Ideal.ofBits .f32 0x44800000#32) * x k)
      = dxE x g e w d k := by
  obtain ⟨c, h3, hq⟩ := root_cube x
  rw [shares _ _ _ _ _ c h3 hq]
  unfold dxE
  simp only [mul_comm (tE g w d _) (x _)]

/-- A sum over all columns, part by part; the last part is filled with zeros. -/
theorem sum_parts (f : Fin 2568 → EReal) (p : Fin 128 → EReal) (h : ∀ l : Fin 8, p ⟨l.val, by omega⟩ = f ⟨2560 + l.val, by omega⟩)
    (h0 : ∀ l : Fin 128, 8 ≤ l.val → p l = 0) :
    (∑ j : Fin 1024, f ⟨j.val, by omega⟩) + (∑ j : Fin 1536, f ⟨1024 + j.val, by omega⟩) + (∑ l, p l) = ∑ j, f j := by
  have e1 : (∑ l, p l) = ∑ l : Fin 8, f ⟨2560 + l.val, by omega⟩ := by
    refine (Fin.sum_univ_add (a := 8) (b := 120) p).trans ?_
    rw [Finset.sum_eq_zero (s := Finset.univ) (f := fun i : Fin 120 => p (Fin.natAdd 8 i)) fun l _ => h0 _ (by simp), add_zero]
    exact Finset.sum_congr rfl fun l _ => h l
  rw [e1]
  refine Eq.symm ((Fin.sum_univ_add (a := 2560) (b := 8) f).trans (congrArg₂ (· + ·) ((Fin.sum_univ_add (a := 1024) (b := 1536) _).trans rfl) rfl))

/-- A row of block `t`. -/
def row (t : Fin 4) (i : Fin 512) : Fin 2048 := ⟨512 * t.val + i.val, by omega⟩
/-- A sum over all rows, block by block. -/
theorem sum_rows (f : Fin 2048 → EReal) : ∑ i, f i = ∑ t : Fin 4, ∑ i, f (row t i) := by
  rw [← Equiv.sum_comp (finProdFinEquiv (m := 4) (n := 512)) f, Fintype.sum_prod_type]
  refine Finset.sum_congr rfl fun t _ => Finset.sum_congr rfl fun i _ => congrArg f (Fin.ext ?_)
  show i.val + 512 * t.val = 512 * t.val + i.val
  omega
end Cert.Proj
end
-- ==== Proof.Hk.lean ====
module
public import proofs.«01_k».proof.Proof.Rd
public import proofs.«01_k».proof.Proof.Hs
public import proofs.«01_k».proof.Proof.Gen.Kernel4Ideal.Skeleton
@[expose] public section
set_option maxRecDepth 16384
noncomputable section

/-! What one block of the projection's calls holds, on the extended reals. -/

namespace Cert.Proj
open Idealize.ShloMosaic Cert.Kernel4Ideal Cert.Kernel4Ideal.Gen
open Cert.Attn (M1 M2 M3 rd_nn rd_nt rd_tn rd_bRow rd_vec rd_id)

theorem mulE {a b c d : EReal} (h : a = c) (h' : b = d) : a * b = c * d := congrArg₂ (fun x y : EReal => x * y) h h'
theorem addE {a b c d : EReal} (h : a = c) (h' : b = d) : a + b = c + d := congrArg₂ (fun x y : EReal => x + y) h h'
theorem subE {a b c d : EReal} (h : a = c) (h' : b = d) : a - b = c - d := congrArg₂ (fun x y : EReal => x - y) h h'

/-- A column of the first part. -/
def cA (j : Fin 1024) : Fin 2568 := ⟨j.val, lt_trans j.isLt (by decide)⟩
/-- A column of the middle part. -/
def cB (j : Fin 1536) : Fin 2568 := ⟨1024 + j.val, lt_of_lt_of_le (Nat.add_lt_add_left j.isLt 1024) (by decide)⟩
/-- A column of the last part. -/
def cC (l : Fin 8) : Fin 2568 := ⟨2560 + l.val, Nat.add_lt_add_left l.isLt 2560⟩
/-- The row of the padded last part. -/
def lo8 (l : Fin 8) : Fin 128 := ⟨l.val, lt_trans l.isLt (by decide)⟩
/-- The column of the padded gradient. -/
def wide (j : Fin 2568) : Fin 2688 := ⟨j.val, lt_trans j.isLt (by decide)⟩

section Reads
variable {α : Type} {N : ℕ}
theorem ro_col (x : (M2 512 1).Idx → α) (h : (M2 512 1).Broadcasts (M2 512 N)) (i : Fin 512) (j : Fin N) :
    broadcastTo (M2 512 N) x h (ix2 i j) = x (ix2 i 0) := by
  pointwise
theorem ro_vcol (x : (M1 512).Idx → α) (h : (M1 512).ShapeCasts (M2 512 1)) (i : Fin 512) (j : Fin 1) :
    shapeCast (M2 512 1) x h (ix2 i j) = x (ix1 i) := by
  pointwise
theorem ro_sum1 (x : FVec Ideal (M2 512 N) .f32) (h : (M2 512 N).Reduces [1] (M1 512)) (i : Fin 512) :
    multiReduction (F := Ideal) .add [1] (M1 512) x 0x00000000#32 h (.inl rfl) rfl (ix1 i) = ∑ j : Fin N, (x (ix2 i j) : EReal) := by
  pointwise
theorem ro_sum0 (x : FVec Ideal (M2 512 N) .f32) (h : (M2 512 N).Reduces [0] (M1 N)) (j : Fin N) :
    multiReduction (F := Ideal) .add [0] (M1 N) x 0x00000000#32 h (.inl rfl) rfl (ix1 j) = ∑ i : Fin 512, (x (ix2 i j) : EReal) := by
  pointwise
theorem ro_lead {M : ℕ} (x : (M2 M N).Idx → α) (h : (M2 M N).ShapeCasts (M3 1 M N)) (a : Fin 1) (i : Fin M) (j : Fin N) :
    shapeCast (M3 1 M N) x h (ix3 a i j) = x (ix2 i j) := by
  refine shapeCast_apply _ _ _ _ ?_
  rw [Shape.rowMajor_val_three, Shape.rowMajor_val_two]
  have ha : a.val = 0 := by omega
  show i.val * N + j.val = (a.val * M + i.val) * N + j.val
  rw [ha]; simp
end Reads

section Loads
variable (D : Vec Ideal S512x2688 .bf16) (i : Fin 512)
/-- The gradient's first columns. -/
abbrev dA := View.ld D (Rect.unit (s := S512x2688) ![0, 0] S512x1024.size inb_S512x2688_S512x1024_0_0)
/-- Its middle columns. -/
abbrev dB := View.ld D (Rect.unit (s := S512x2688) ![0, 1024] S512x1536.size inb_S512x2688_S512x1536_0_1024)
/-- Its last columns. -/
abbrev dC := View.ld D (Rect.unit (s := S512x2688) ![0, 2560] S512x128.size inb_S512x2688_S512x128_0_2560)
theorem ldA (j : Fin 1024) : dA D (ix2 i j) = D (ix2 i ⟨j.val, by omega⟩) := by
  refine congrArg D ?_
  funext b; refine Fin.ext ?_; fin_cases b
  · show 0 + 1 * i.val = i.val; omega
  · show 0 + 1 * j.val = j.val; omega
theorem ldB (j : Fin 1536) : dB D (ix2 i j) = D (ix2 i ⟨1024 + j.val, by omega⟩) := by
  refine congrArg D ?_
  funext b; refine Fin.ext ?_; fin_cases b
  · show 0 + 1 * i.val = i.val; omega
  · show 1024 + 1 * j.val = 1024 + j.val; omega
theorem ldC (j : Fin 128) : dC D (ix2 i j) = D (ix2 i ⟨2560 + j.val, by omega⟩) := by
  refine congrArg D ?_
  funext b; refine Fin.ext ?_; fin_cases b
  · show 0 + 1 * i.val = i.val; omega
  · show 2560 + 1 * j.val = 2560 + j.val; omega
end Loads

section Fwd
variable {x : Fin 1024 → EReal} {g : Fin 1024 → EReal} {w : Fin 1024 → Fin 2568 → EReal}
  {X : Vec Ideal S512x1024 .f32} {i : Fin 512} (hX : ∀ k, X (ix2 i k) = x k) {G : Vec Ideal S1x1024 .f32} (hG : ∀ k, G (ix2 0 k) = g k)
  {A : Vec Ideal S1024x1024 .bf16} (hA : ∀ j k, A (ix2 j k) = w k (cA j))
  {B : Vec Ideal S1536x1024 .bf16} (hB : ∀ j k, B (ix2 j k) = w k (cB j))
  {C : Vec Ideal S128x1024 .bf16}
include hX
theorem root_at : k1_pay5 (F := Ideal) X (ix2 i 0) = rE x := by
  have h1 : shapeCast S512x1 (multiReduction (F := Ideal) .add [1] S512 (mulf X X) 0x00000000#32 reduces_S512x1024_S512 (.inl rfl) rfl) shapeCasts_S512_S512x1 (ix2 i 0) = ∑ k, x k * x k :=
    (ro_vcol _ _ i 0).trans ((ro_sum1 _ _ i).trans (Finset.sum_congr rfl fun k _ => mulE (hX k) (hX k)))
  exact congrArg (fun s : EReal => Ideal.rsqrt (Ideal.div s (Ideal.ofBits .f32 0x44800000#32) + Ideal.ofBits .f32 0x358637BD#32)) h1
include hG
theorem tok_at (k : Fin 1024) : k0_pay1 (F := Ideal) X G (ix2 i k) = hE x g k := by
  have h := mulE (mulE (hX k) ((ro_col (k1_pay5 (F := Ideal) X) broadcasts_S512x1_S512x1024 i k).trans (root_at hX))) ((rd_bRow G broadcasts_S1x1024_S512x1024 i k).trans (hG k))
  exact h
include hA in
theorem ag_at (j : Fin 1024) : k0_pay2 (F := Ideal) X G A (ix2 i j) = pE x g w (cA j) :=
  (rd_nt (k0_pay1 X G) (shapeCast S1024x1024 A shapeCasts_S1024x1024_S1024x1024) i j).trans
    (Finset.sum_congr rfl fun k _ => mulE (tok_at hX hG k) ((congrFun (rd_id A _) _).trans (hA j k)))
include hB in
theorem qkv_at (j : Fin 1536) : k0_pay3 (F := Ideal) X G B (ix2 i j) = pE x g w (cB j) :=
  (rd_nt (k0_pay1 X G) (shapeCast S1536x1024 B shapeCasts_S1536x1024_S1536x1024) i j).trans
    (Finset.sum_congr rfl fun k _ => mulE (tok_at hX hG k) ((congrFun (rd_id B _) _).trans (hB j k)))
theorem fl_at (j : Fin 128) : k0_pay4 (F := Ideal) X G C (ix2 i j) = ∑ k, hE x g k * (C (ix2 j k) : EReal) :=
  (rd_nt (k0_pay1 X G) (shapeCast S128x1024 C shapeCasts_S128x1024_S128x1024) i j).trans
    (Finset.sum_congr rfl fun k _ => mulE (tok_at hX hG k) (congrFun (rd_id C _) _))
end Fwd

section Bwd
variable {g : Fin 1024 → EReal} {w : Fin 1024 → Fin 2568 → EReal} {G : Vec Ideal S1x1024 .f32} (hG : ∀ k, G (ix2 0 k) = g k)
  {A : Vec Ideal S1024x1024 .bf16} (hA : ∀ j k, A (ix2 j k) = w k (cA j))
  {B : Vec Ideal S1536x1024 .bf16} (hB : ∀ j k, B (ix2 j k) = w k (cB j))
  {C : Vec Ideal S128x1024 .bf16} (hC : ∀ (l : Fin 8) k, C (ix2 (lo8 l) k) = w k (cC l))
  {D : Vec Ideal S512x2688 .bf16} {X E : Vec Ideal S512x1024 .f32}
section One
variable {x e : Fin 1024 → EReal} {d : Fin 2568 → EReal} {i : Fin 512} (hX : ∀ k, X (ix2 i k) = x k) (hE' : ∀ k, E (ix2 i k) = e k)
  (hD : ∀ j : Fin 2568, D (ix2 i (wide j)) = d j) (hD0 : ∀ j : Fin 2688, 2568 ≤ j.val → D (ix2 i j) = (0 : EReal))
include hA hB hC hD hD0
theorem dh_at (k : Fin 1024) : k1_pay4 (F := Ideal) (dA D) A (dB D) B (dC D) C (ix2 i k) = dhE w d k := by
  have e0 := (rd_nn (shapeCast S512x1024 (dA D) shapeCasts_S512x1024_S512x1024) (shapeCast S1024x1024 A shapeCasts_S1024x1024_S1024x1024) i k).trans
    (Finset.sum_congr rfl fun j _ => mulE ((congrFun (rd_id (dA D) _) _).trans ((ldA D i j).trans (hD (cA j)))) ((congrFun (rd_id A _) _).trans (hA j k)))
  have e1 := (rd_nn (shapeCast S512x1536 (dB D) shapeCasts_S512x1536_S512x1536) (shapeCast S1536x1024 B shapeCasts_S1536x1024_S1536x1024) i k).trans
    (Finset.sum_congr rfl fun j _ => mulE ((congrFun (rd_id (dB D) _) _).trans ((ldB D i j).trans (hD (cB j)))) ((congrFun (rd_id B _) _).trans (hB j k)))
  have e2 := (rd_nn (shapeCast S512x128 (dC D) shapeCasts_S512x128_S512x128) (shapeCast S128x1024 C shapeCasts_S128x1024_S128x1024) i k).trans
    (Finset.sum_congr rfl fun j _ => mulE ((congrFun (rd_id (dC D) _) _).trans (ldC D i j)) (congrFun (rd_id C _) _))
  refine (addE (addE e0 e1) e2).trans (sum_parts (fun j => d j * w k j) _ (fun l => mulE (hD (cC l)) (hC l k)) fun l hl => ?_)
  exact (mulE (hD0 ⟨2560 + l.val, by omega⟩ (by show 2568 ≤ 2560 + l.val; omega)) rfl).trans (zero_mul _)
include hG in
theorem t_at (k : Fin 1024) : k1_pay6 (F := Ideal) (dA D) A (dB D) B (dC D) C G (ix2 i k) = tE g w d k :=
  mulE (dh_at hA hB hC hD hD0 k) ((rd_bRow G broadcasts_S1x1024_S512x1024 i k).trans (hG k))
include hG hX in
theorem rt_at (k : Fin 1024) : k1_pay7 (F := Ideal) (dA D) A (dB D) B (dC D) C X G (ix2 i k) = rE x * tE g w d k :=
  mulE ((ro_col (k1_pay5 (F := Ideal) X) broadcasts_S512x1_S512x1024 i k).trans (root_at hX)) (t_at hG hA hB hC hD hD0 k)
include hG hX hE' in
theorem dx_at (k : Fin 1024) : k1_pay1 (F := Ideal) X (k1_pay5 X) (k1_pay6 (dA D) A (dB D) B (dC D) C G) (k1_pay7 (dA D) A (dB D) B (dC D) C X G) E (ix2 i k)
    = dxE x g e w d k := by
  have hr := root_at hX
  have hc := (ro_col (mulf (mulf (k1_pay5 (F := Ideal) X) (k1_pay5 X)) (k1_pay5 X)) broadcasts_S512x1_S512x1024 i k).trans (mulE (mulE hr hr) hr)
  have hs : shapeCast S512x1 (multiReduction (F := Ideal) .add [1] S512 (mulf (k1_pay6 (dA D) A (dB D) B (dC D) C G) X) 0x00000000#32 reduces_S512x1024_S512 (.inl rfl) rfl) shapeCasts_S512_S512x1 (ix2 i 0) = ∑ l, tE g w d l * x l :=
    (ro_vcol _ _ i 0).trans ((ro_sum1 _ _ i).trans (Finset.sum_congr rfl fun l _ => mulE (t_at hG hA hB hC hD hD0 l) (hX l)))
  have hd := congrArg (fun s : EReal => Ideal.div s (Ideal.ofBits .f32 0x44800000#32)) hs
  have hb := (ro_col (divf (shapeCast S512x1 (multiReduction (F := Ideal) .add [1] S512 (mulf (k1_pay6 (dA D) A (dB D) B (dC D) C G) X) 0x00000000#32 reduces_S512x1024_S512 (.inl rfl) rfl) shapeCasts_S512_S512x1) (broadcast S512x1 (Scalar.ofBits .f32 0x44800000#32))) broadcasts_S512x1_S512x1024 i k).trans hd
  exact addE (hE' k) (subE (rt_at hG hA hB hC hX hD hD0 k) (mulE (mulE (hX k) hc) hb))
end One
section All
variable {x : Fin 512 → Fin 1024 → EReal} {d : Fin 512 → Fin 2568 → EReal} (hX : ∀ i k, X (ix2 i k) = x i k)
  (hD : ∀ i (j : Fin 2568), D (ix2 i (wide j)) = d i j) (hD0 : ∀ i (j : Fin 2688), 2568 ≤ j.val → D (ix2 i j) = (0 : EReal))
include hA hB hC hD hD0 hX
theorem dg_at (P : Vec Ideal S1x1024 .f32) (k : Fin 1024) : k1_pay2 (F := Ideal) (k1_pay4 (dA D) A (dB D) B (dC D) C) X (k1_pay5 X) P (ix2 0 k)
    = (P (ix2 0 k) : EReal) + ∑ i, dgE (x i) w (d i) k := by
  have hs := (rd_vec (multiReduction (F := Ideal) .add [0] S1024 (mulf (mulf (k1_pay4 (dA D) A (dB D) B (dC D) C) X) (broadcastTo S512x1024 (k1_pay5 X) broadcasts_S512x1_S512x1024)) 0x00000000#32 reduces_S512x1024_S1024 (.inl rfl) rfl) shapeCasts_S1024_S1x1024 0 k).trans
    ((ro_sum0 _ _ k).trans (Finset.sum_congr rfl fun i _ => mulE (mulE (dh_at hA hB hC (hD i) (hD0 i) k) (hX i k)) ((ro_col (k1_pay5 (F := Ideal) X) broadcasts_S512x1_S512x1024 i k).trans (root_at (hX i)))))
  exact addE (congrFun (rd_id P shapeCasts_S1x1024_S1x1024) _) hs
end All
end Bwd

theorem dw_at {P : Vec Ideal S2048x384 .bf16} {H : Vec Ideal S2048x1024 .bf16} {p : Fin 2048 → EReal} {h : Fin 2048 → Fin 1024 → EReal} {j : Fin 384}
    (hP : ∀ i, P (ix2 i j) = p i) (hH : ∀ i k, H (ix2 i k) = h i k) (a : Fin 1) (k : Fin 1024) :
    k2_pay1 (F := Ideal) P H (ix3 a j k) = ∑ i, p i * h i k := by
  have e := (rd_tn dot_S2048x384_S2048x1024_S384x1024_0_0_1_1_n_n.wf (shapeCast S2048x384 P shapeCasts_S2048x384_S2048x384) (shapeCast S2048x1024 H shapeCasts_S2048x1024_S2048x1024) j k).trans
    (Finset.sum_congr rfl fun i _ => mulE ((congrFun (rd_id P _) _).trans (hP i)) ((congrFun (rd_id H _) _).trans (hH i k)))
  exact (ro_lead _ _ a j k).trans e
end Cert.Proj
end
-- ==== Proof.Hv.lean ====
module
public import proofs.«01_k».proof.Proof.Hk
public import proofs.«01_k».proof.Proof.Gen.Kernel4Ideal.Frame
public import Idealize.ShloMosaic.Lib.Pipeline.ValueKit
@[expose] public section
set_option maxRecDepth 16384
noncomputable section

/-! What the projection's three pipelines leave in their arrays. -/

namespace Cert.Proj
open Idealize.ShloMosaic Idealize.SL.Sem Cert.Kernel4Ideal Cert.Kernel4Ideal.Gen
open Cert.Attn (M1 M2 M3)

theorem ix2_of {a b : ℕ} (y : (M2 a b).Idx) : ∃ (i : Fin a) (l : Fin b), y = ix2 i l :=
  ⟨y 0, y 1, funext fun c => by fin_cases c <;> rfl⟩
theorem ix3_of {a b c : ℕ} (y : (M3 a b c).Idx) : ∃ (s : Fin a) (i : Fin b) (l : Fin c), y = ix3 s i l :=
  ⟨y 0, y 1, y 2, funext fun c => by fin_cases c <;> rfl⟩

theorem wi0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] := (by decide +kernel : ∀ t : Fin grid0.N, _)
theorem wi1 : ∀ t : Fin cfg1.N, win1_0.index t = ![t.val, 0] ∧ win1_1.index t = ![t.val, 0] ∧ win1_2.index t = ![t.val, 0] ∧ win1_3.index t = ![0, 0]
    ∧ win1_4.index t = ![0, 0] ∧ win1_5.index t = ![0, 0] ∧ win1_6.index t = ![0, 0] ∧ win1_7.index t = ![t.val, 0]
    ∧ win1_8.index t = ![0, 0] := (by decide +kernel : ∀ t : Fin grid1.N, _)
theorem wi2 : ∀ t : Fin cfg2.N, win2_0.index t = ![0, t.val] ∧ win2_1.index t = ![0, 0] ∧ win2_2.index t = ![0, t.val, 0] :=
  (by decide +kernel : ∀ t : Fin grid2.N, _)
theorem N0 : cfg0.N = 4 := by decide +kernel
theorem N1 : cfg1.N = 4 := by decide +kernel
theorem N2 : cfg2.N = 7 := by decide +kernel
/-- A grid point of the forward call. -/
def q0 (t : Fin cfg0.N) : Fin 4 := ⟨t.val, lt_of_lt_of_eq t.isLt N0⟩
/-- A grid point of the backward call. -/
def q1 (t : Fin cfg1.N) : Fin 4 := ⟨t.val, lt_of_lt_of_eq t.isLt N1⟩
/-- Column `j` of the columns that point `t` of the last call takes. -/
def col (t : Fin cfg2.N) (j : Fin 384) : Fin 2688 := ⟨384 * t.val + j.val, by have := lt_of_lt_of_eq t.isLt N2; omega⟩

variable (V : (c : Dev nD) → (b : Ref sig .tc) → Buf (Elt Ideal) ((c.tc : Thread nD τ).loc b)) (c : Dev nD)

section Reads
theorem rh0_0 (t : Fin cfg0.N) (i : Fin 512) (k : Fin 1024) :
    (iblk0 V c 0 t : Vec Ideal (M2 512 1024) .f32) (ix2 i k) = (V c main_arg0 : Vec Ideal (M2 2048 1024) .f32) (ix2 (row (q0 t) i) k) := by
  have e' : (row (q0 t) i).val = 512 * t.val + i.val := rfl
  blk_ext [iblk0, wi0 t]
theorem rh0_1 (t : Fin cfg0.N) (k : Fin 1024) :
    (iblk0 V c 1 t : Vec Ideal (M2 1 1024) .f32) (ix2 0 k) = (V c main_arg1 : Vec Ideal (M2 1 1024) .f32) (ix2 0 k) := by
  blk_ext [iblk0, wi0 t]
theorem rh0_2 (t : Fin cfg0.N) (j k : Fin 1024) :
    (iblk0 V c 2 t : Vec Ideal (M2 1024 1024) .bf16) (ix2 j k) = (V c main_v2 : Vec Ideal (M2 1024 1024) .bf16) (ix2 j k) := by
  blk_ext [iblk0, wi0 t]
theorem rh0_3 (t : Fin cfg0.N) (j : Fin 1536) (k : Fin 1024) :
    (iblk0 V c 3 t : Vec Ideal (M2 1536 1024) .bf16) (ix2 j k) = (V c main_v3 : Vec Ideal (M2 1536 1024) .bf16) (ix2 j k) := by
  blk_ext [iblk0, wi0 t]
theorem rh0_4 (t : Fin cfg0.N) (j : Fin 128) (k : Fin 1024) :
    (iblk0 V c 4 t : Vec Ideal (M2 128 1024) .bf16) (ix2 j k) = (V c main_v5 : Vec Ideal (M2 128 1024) .bf16) (ix2 j k) := by
  blk_ext [iblk0, wi0 t]
theorem rh1_0 (t : Fin cfg1.N) (i : Fin 512) (j : Fin 2688) :
    (iblk1 V c 0 t : Vec Ideal (M2 512 2688) .bf16) (ix2 i j) = (V c main_v6 : Vec Ideal (M2 2048 2688) .bf16) (ix2 (row (q1 t) i) j) := by
  have e' : (row (q1 t) i).val = 512 * t.val + i.val := rfl
  blk_ext [iblk1, wi1 t]
theorem rh1_1 (t : Fin cfg1.N) (i : Fin 512) (k : Fin 1024) :
    (iblk1 V c 1 t : Vec Ideal (M2 512 1024) .f32) (ix2 i k) = (V c main_arg4 : Vec Ideal (M2 2048 1024) .f32) (ix2 (row (q1 t) i) k) := by
  have e' : (row (q1 t) i).val = 512 * t.val + i.val := rfl
  blk_ext [iblk1, wi1 t]
theorem rh1_2 (t : Fin cfg1.N) (i : Fin 512) (k : Fin 1024) :
    (iblk1 V c 2 t : Vec Ideal (M2 512 1024) .f32) (ix2 i k) = (V c main_arg0 : Vec Ideal (M2 2048 1024) .f32) (ix2 (row (q1 t) i) k) := by
  have e' : (row (q1 t) i).val = 512 * t.val + i.val := rfl
  blk_ext [iblk1, wi1 t]
theorem rh1_3 (t : Fin cfg1.N) (k : Fin 1024) :
    (iblk1 V c 3 t : Vec Ideal (M2 1 1024) .f32) (ix2 0 k) = (V c main_arg1 : Vec Ideal (M2 1 1024) .f32) (ix2 0 k) := by
  blk_ext [iblk1, wi1 t]
theorem rh1_4 (t : Fin cfg1.N) (j k : Fin 1024) :
    (iblk1 V c 4 t : Vec Ideal (M2 1024 1024) .bf16) (ix2 j k) = (V c main_v2 : Vec Ideal (M2 1024 1024) .bf16) (ix2 j k) := by
  blk_ext [iblk1, wi1 t]
theorem rh1_5 (t : Fin cfg1.N) (j : Fin 1536) (k : Fin 1024) :
    (iblk1 V c 5 t : Vec Ideal (M2 1536 1024) .bf16) (ix2 j k) = (V c main_v3 : Vec Ideal (M2 1536 1024) .bf16) (ix2 j k) := by
  blk_ext [iblk1, wi1 t]
theorem rh1_6 (t : Fin cfg1.N) (j : Fin 128) (k : Fin 1024) :
    (iblk1 V c 6 t : Vec Ideal (M2 128 1024) .bf16) (ix2 j k) = (V c main_v5 : Vec Ideal (M2 128 1024) .bf16) (ix2 j k) := by
  blk_ext [iblk1, wi1 t]
theorem rh2_0 (t : Fin cfg2.N) (i : Fin 2048) (j : Fin 384) :
    (iblk2 V c 0 t : Vec Ideal (M2 2048 384) .bf16) (ix2 i j) = (V c main_v6 : Vec Ideal (M2 2048 2688) .bf16) (ix2 i (col t j)) := by
  have e' : (col t j).val = 384 * t.val + j.val := rfl
  blk_ext [iblk2, wi2 t]
theorem rh2_1 (t : Fin cfg2.N) (i : Fin 2048) (k : Fin 1024) :
    (iblk2 V c 1 t : Vec Ideal (M2 2048 1024) .bf16) (ix2 i k) = (V c main_v7_0 : Vec Ideal (M2 2048 1024) .bf16) (ix2 i k) := by
  blk_ext [iblk2, wi2 t]
end Reads

section Arrays
variable (x e : Fin 2048 → Fin 1024 → EReal) (g : Fin 1024 → EReal) (w : Fin 1024 → Fin 2568 → EReal) (d : Fin 2048 → Fin 2568 → EReal)
/-- The normalised tokens. -/
def aH : Vec Ideal (M2 2048 1024) .bf16 := fun y => hE (x (y 0)) g (y 1)
/-- The projection's first columns. -/
def aAg : Vec Ideal (M2 2048 1024) .f32 := fun y => pE (x (y 0)) g w (cA (y 1))
/-- Its middle columns. -/
def aQkv : Vec Ideal (M2 2048 1536) .bf16 := fun y => pE (x (y 0)) g w (cB (y 1))
/-- The normalised tokens against the rows of `C`. -/
def aFl (C : Vec Ideal (M2 128 1024) .bf16) : Vec Ideal (M2 2048 128) .f32 := fun y => ∑ k, hE (x (y 0)) g k * (C (ix2 (y 1) k) : EReal)
/-- The tokens' gradient. -/
def aDx : Vec Ideal (M2 2048 1024) .f32 := fun y => dxE (x (y 0)) g (e (y 0)) w (d (y 0)) (y 1)
/-- The gain's gradient. -/
def aDg : Vec Ideal (M2 1 1024) .f32 := fun y => ∑ i, dgE (x i) w (d i) (y 1)
/-- The columns of `P` against the normalised tokens. -/
def aDw (P : Vec Ideal (M2 2048 2688) .bf16) : Vec Ideal (M3 1 2688 1024) .bf16 := fun y => ∑ i, (P (ix2 i (y 1)) : EReal) * hE (x i) g (y 2)

variable (hX : ∀ i k, (V c main_arg0 : Vec Ideal (M2 2048 1024) .f32) (ix2 i k) = x i k)
  (hG : ∀ k, (V c main_arg1 : Vec Ideal (M2 1 1024) .f32) (ix2 0 k) = g k)
  (hA : ∀ (j : Fin 1024) k, (V c main_v2 : Vec Ideal (M2 1024 1024) .bf16) (ix2 j k) = w k (cA j))
  (hB : ∀ (j : Fin 1536) k, (V c main_v3 : Vec Ideal (M2 1536 1024) .bf16) (ix2 j k) = w k (cB j))
  (hC : ∀ (l : Fin 8) k, (V c main_v5 : Vec Ideal (M2 128 1024) .bf16) (ix2 (lo8 l) k) = w k (cC l))
  (hE' : ∀ i k, (V c main_arg4 : Vec Ideal (M2 2048 1024) .f32) (ix2 i k) = e i k)
  (hD : ∀ i (j : Fin 2568), (V c main_v6 : Vec Ideal (M2 2048 2688) .bf16) (ix2 i (wide j)) = d i j)
  (hD0 : ∀ i (j : Fin 2688), 2568 ≤ j.val → (V c main_v6 : Vec Ideal (M2 2048 2688) .bf16) (ix2 i j) = (0 : EReal))
  (hH : ∀ i k, (V c main_v7_0 : Vec Ideal (M2 2048 1024) .bf16) (ix2 i k) = hE (x i) g k)

include hX hG in
theorem arr_h : (dat0 V c).arrAt 5 cfg0.N = aH x g := by
  refine (dat0 V c).arrAt_eq_of_covers 5 _ (by decide +kernel) fun t hf y => ?_
  blk_simp
  rw [after0_5]; frame_out
  obtain ⟨i, l, rfl⟩ := ix2_of (a := 512) (b := 1024) y
  refine (tok_at (fun k => (rh0_0 V c t i k).trans (hX _ k)) (fun k => (rh0_1 V c t k).trans (hG k)) l).trans ?_
  have e' : (row (q0 t) i).val = 512 * t.val + i.val := rfl
  show aH x g (ix2 (row (q0 t) i) l) = _
  blk_ext [wi0 t]
include hX hG hA in
theorem arr_ag : (dat0 V c).arrAt 6 cfg0.N = aAg x g w := by
  refine (dat0 V c).arrAt_eq_of_covers 6 _ (by decide +kernel) fun t hf y => ?_
  blk_simp
  rw [after0_6]; frame_out
  obtain ⟨i, l, rfl⟩ := ix2_of (a := 512) (b := 1024) y
  refine (ag_at (fun k => (rh0_0 V c t i k).trans (hX _ k)) (fun k => (rh0_1 V c t k).trans (hG k)) (fun j k => (rh0_2 V c t j k).trans (hA j k)) l).trans ?_
  have e' : (row (q0 t) i).val = 512 * t.val + i.val := rfl
  show aAg x g w (ix2 (row (q0 t) i) l) = _
  blk_ext [wi0 t]
include hX hG hB in
theorem arr_qkv : (dat0 V c).arrAt 7 cfg0.N = aQkv x g w := by
  refine (dat0 V c).arrAt_eq_of_covers 7 _ (by decide +kernel) fun t hf y => ?_
  blk_simp
  rw [after0_7]; frame_out
  obtain ⟨i, l, rfl⟩ := ix2_of (a := 512) (b := 1536) y
  refine (qkv_at (fun k => (rh0_0 V c t i k).trans (hX _ k)) (fun k => (rh0_1 V c t k).trans (hG k)) (fun j k => (rh0_3 V c t j k).trans (hB j k)) l).trans ?_
  have e' : (row (q0 t) i).val = 512 * t.val + i.val := rfl
  show aQkv x g w (ix2 (row (q0 t) i) l) = _
  blk_ext [wi0 t]
include hX hG in
theorem arr_fl : (dat0 V c).arrAt 8 cfg0.N = aFl x g (V c main_v5) := by
  refine (dat0 V c).arrAt_eq_of_covers 8 _ (by decide +kernel) fun t hf y => ?_
  blk_simp
  rw [after0_8]; frame_out
  obtain ⟨i, l, rfl⟩ := ix2_of (a := 512) (b := 128) y
  refine (fl_at (fun k => (rh0_0 V c t i k).trans (hX _ k)) (fun k => (rh0_1 V c t k).trans (hG k)) l).trans ?_
  refine (Finset.sum_congr rfl fun k _ => mulE rfl (rh0_4 V c t l k)).trans ?_
  have e' : (row (q0 t) i).val = 512 * t.val + i.val := rfl
  show aFl x g (V c main_v5) (ix2 (row (q0 t) i) l) = _
  blk_ext [wi0 t]

include hX hG hA hB hC hE' hD hD0 in
theorem arr_dx : (dat1 V c).arrAt 7 cfg1.N = aDx x e g w d := by
  refine (dat1 V c).arrAt_eq_of_covers 7 _ (by decide +kernel) fun t hf y => ?_
  blk_simp
  rw [after1_7]
  obtain ⟨i, l, rfl⟩ := ix2_of (a := 512) (b := 1024) y
  have h := dx_at (g := g) (w := w) (fun k => (rh1_3 V c t k).trans (hG k)) (fun j k => (rh1_4 V c t j k).trans (hA j k)) (fun j k => (rh1_5 V c t j k).trans (hB j k))
    (fun j k => (rh1_6 V c t _ k).trans (hC j k)) (fun k => (rh1_2 V c t i k).trans (hX _ k)) (fun k => (rh1_1 V c t i k).trans (hE' _ k))
    (fun j => (rh1_0 V c t i _).trans (hD _ j)) (fun j hj => (rh1_0 V c t i j).trans (hD0 _ j hj)) l
  have e' : (row (q1 t) i).val = 512 * t.val + i.val := rfl
  have h' : aDx x e g w d (ix2 (row (q1 t) i) l) = aDx x e g w d ((win1_7.blk t).view.emb (ix2 i l)) := by blk_ext [wi1 t]
  by_cases h0 : t.val % 4 = 0
  · rw [outsAt1_A V c t h0]; frame_out
    exact h.trans h'
  · rw [outsAt1_B V c t h0]; frame_out
    exact h.trans h'

include hX hA hB hC hD hD0 in
theorem dg_last (t : Fin cfg1.N) (ht : t.val + 1 = cfg1.N) (k : Fin 1024) : ((outsAt1 V c t.val t.isLt).2 : Vec Ideal (M2 1 1024) .f32) (ix2 0 k) = ∑ i, dgE (x i) w (d i) k := by
  have h := fun (t : Fin cfg1.N) => dg_at (w := w) (fun j k => (rh1_4 V c t j k).trans (hA j k)) (fun j k => (rh1_5 V c t j k).trans (hB j k))
    (fun j k => (rh1_6 V c t _ k).trans (hC j k)) (x := fun i => x (row (q1 t) i)) (d := fun i => d (row (q1 t) i)) (fun i k => (rh1_2 V c t i k).trans (hX _ k))
    (fun i j => (rh1_0 V c t i _).trans (hD _ j)) (fun i j hj => (rh1_0 V c t i j).trans (hD0 _ j hj))
  have hs := Pipeline.eq_sum_fin_of_reset_step_last (M := EReal) (N := cfg1.N) (fun n hn => ((outsAt1 V c n hn).2 : Vec Ideal (M2 1 1024) .f32) (ix2 0 k)) 4 (0 : EReal)
    (fun t => ∑ i, dgE (x (row (q1 t) i)) w (d (row (q1 t) i)) k)
    (fun t h0 => by
      show (outsAt1 V c t.val t.isLt).2 (ix2 0 k) = _
      rw [outsAt1_A V c t h0]; frame_out
      exact (h t (k1_pay3 (F := Ideal)) k).trans (addE (show (k1_pay3 (F := Ideal)) (ix2 0 k) = (0 : EReal) from Ideal.ofBits_zero_f32) rfl))
    (fun t h0 => by
      show (outsAt1 V c t.val t.isLt).2 (ix2 0 k) = _
      rw [outsAt1_B V c t h0]; frame_out
      exact h t _ k) (le_of_eq N1) t ht
  refine hs.trans ((zero_add _).trans ?_)
  rw [sum_rows]
  exact Fintype.sum_equiv (finCongr N1) _ _ fun t => rfl

include hX hA hB hC hD hD0 in
theorem arr_dg : (dat1 V c).arrAt 8 cfg1.N = aDg x w d := by
  refine (dat1 V c).arrAt_eq_of_covers 8 _ (by decide +kernel) fun t hf y => ?_
  have ht : t.val = 3 := (by decide +kernel : ∀ t : Fin grid1.N, (cfg1.win 8).flush t = true → t.val = 3) t hf
  blk_simp
  rw [after1_8]
  obtain ⟨i, l, rfl⟩ := ix2_of (a := 1) (b := 1024) y
  obtain rfl : i = 0 := Subsingleton.elim _ _
  refine (dg_last V c x w d hX hA hB hC hD hD0 t (by rw [ht, N1]) l).trans ?_
  show aDg x w d (ix2 0 l) = _
  blk_ext [wi1 t]

include hH in
theorem arr_dw : (dat2 V c).arrAt 2 cfg2.N = aDw x g (V c main_v6) := by
  refine (dat2 V c).arrAt_eq_of_covers 2 _ (by decide +kernel) fun t hf y => ?_
  blk_simp
  rw [after2_2]; frame_out
  obtain ⟨a, j, k, rfl⟩ := ix3_of (a := 1) (b := 384) (c := 1024) y
  obtain rfl : a = 0 := Subsingleton.elim _ _
  refine (dw_at (fun i => rh2_0 V c t i j) (fun i k => (rh2_1 V c t i k).trans (hH i k)) 0 k).trans ?_
  have e' : (col t j).val = 384 * t.val + j.val := rfl
  show aDw x g (V c main_v6) (ix3 0 (col t j) k) = _
  blk_ext [wi2 t]
end Arrays
end Cert.Proj
end
-- ==== Proof.Hw.lean ====
module
public import proofs.«01_k».proof.Proof.Hv
public import Idealize.ShloMosaic.Lib.KernelVsHost
@[expose] public section
set_option maxRecDepth 16384
noncomputable section

/-! The run of the projection's program with its results. -/

namespace Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
open Cert.Attn (M1 M2 M3)

/-- The resources the run accounts for. -/
abbrev Res : Type := MT nD τ sig Unit (Elt Ideal) ℕ (UR sig nD τ) ℕ

section Host
variable {α : Type}
theorem rd_cut {a b : ℕ} (o : ℕ) (x : (M2 b 1024).Idx → α) (h : (M2 b 1024).Slices ![o, 0] (M2 a 1024)) (j : Fin a) (k : Fin 1024) (j' : Fin b) (hj : j'.val = o + j.val) :
    extractStridedSlice (M2 a 1024) ![o, 0] x h (ix2 j k) = x (ix2 j' k) := by
  refine congrArg x ?_
  funext c; refine Fin.ext ?_; fin_cases c
  · show o + j.val = j'.val; omega
  · show 0 + k.val = k.val; omega
theorem rd_left (x : (M2 2048 128).Idx → α) (h : (M2 2048 128).Slices ![0, 0] (M2 2048 8)) (i : Fin 2048) (l : Fin 8) :
    extractStridedSlice (M2 2048 8) ![0, 0] x h (ix2 i l) = x (ix2 i (lo8 l)) := by
  refine congrArg x ?_
  funext c; refine Fin.ext ?_; fin_cases c
  · show 0 + i.val = i.val; omega
  · show 0 + l.val = l.val; omega
theorem rd_tr (x : (M2 1024 2568).Idx → α) (h : (M2 1024 2568).Transposes [1, 0] (M2 2568 1024)) (j : Fin 2568) (k : Fin 1024) :
    transpose (M2 2568 1024) [1, 0] x h (ix2 j k) = x (ix2 k j) :=
  transpose_apply [1, 0] x h (ix2 j k) (ix2 k j) fun b => match b with
    | ⟨0, _⟩ => rfl
    | ⟨1, _⟩ => rfl
theorem rd_flat (x : (M3 1 2688 1024).Idx → α) (h : (M3 1 2688 1024).ShapeCasts (M2 2688 1024)) (j : Fin 2688) (k : Fin 1024) :
    shapeCast (M2 2688 1024) x h (ix2 j k) = x (ix3 0 j k) := by
  refine shapeCast_apply _ _ _ _ ?_
  rw [Shape.rowMajor_val_three, Shape.rowMajor_val_two]
  show (0 * 2688 + j.val) * 1024 + k.val = j.val * 1024 + k.val
  omega
end Host

variable (m : (ℓ : Loc nD τ sig) → Buf (Elt Ideal) ℓ) (ρ : Dev nD → PrngReg)

/-- The weights as the calls read them: turned, by columns. -/
def wT (c : Dev nD) : Vec Ideal (M2 2568 1024) .bf16 :=
  truncf (F := Ideal) .bf16 (transpose S2568x1024 [1, 0] (m ((c.tc : Thread nD τ).loc main_arg2) : Vec Ideal (M2 1024 2568) .f32) transposes_S1024x2568_S2568x1024_1_0) bitsLt_bf16_f32
theorem entry_a (c : Dev nD) : W1 m ρ c (Proc.devRef .tc main_v2) = extractStridedSlice S1024x1024 ![0, 0] (wT m c) slices_S2568x1024_S1024x1024_0_0 := by
  show StableHlo.after hostOps0 (W0 m ρ c) (Proc.devRef .tc main_v2) = _
  after_results_simp
  rfl
theorem entry_b (c : Dev nD) : W1 m ρ c (Proc.devRef .tc main_v3) = extractStridedSlice S1536x1024 ![1024, 0] (wT m c) slices_S2568x1024_S1536x1024_1024_0 := by
  show StableHlo.after hostOps0 (W0 m ρ c) (Proc.devRef .tc main_v3) = _
  after_results_simp
  rfl
theorem entry_f (c : Dev nD) : W1 m ρ c (Proc.devRef .tc main_v4) = extractStridedSlice S8x1024 ![2560, 0] (wT m c) slices_S2568x1024_S8x1024_2560_0 := by
  show StableHlo.after hostOps0 (W0 m ρ c) (Proc.devRef .tc main_v4) = _
  after_results_simp
  rfl
theorem entry_c (c : Dev nD) : ∃ v : Vec Ideal S_ .bf16, W2 m ρ c (Proc.devRef .tc main_v5)
    = pad S128x1024 ![0, 0] ![120, 0] ![0, 0] (W1 m ρ c (Proc.devRef .tc main_v4) : Vec Ideal (M2 8 1024) .bf16) v pads_S8x1024_S128x1024_01200_000 h_S_ := by
  refine ⟨sitofp (F := Ideal) .bf16 (W1 m ρ c (Proc.devRef .tc main_c)), ?_⟩
  show StableHlo.after hostOps0_1 (W1 m ρ c) (Proc.devRef .tc main_v5) = _
  generalize W1 m ρ c = U
  after_results_simp
  rfl
theorem entry_d (c : Dev nD) : W4 m ρ c (Proc.devRef .tc main_v6)
    = pad S2048x2688 ![0, 0] ![0, 120] ![0, 0] (m ((c.tc : Thread nD τ).loc main_arg3) : Vec Ideal (M2 2048 2568) .bf16)
      (sitofp (F := Ideal) .bf16 (constantI S_ 32 0#32)) pads_S2048x2568_S2048x2688_000_01200 h_S_ := by
  have h : W3 m ρ c (Proc.devRef .tc main_c_0) = constantI S_ 32 0#32 := by
    show StableHlo.after hostOps0_2 (W2 m ρ c) (Proc.devRef .tc main_c_0) = _
    generalize W2 m ρ c = U
    after_results_simp
  have h3 := W3_args m ρ c main_arg3 (by decide)
  show StableHlo.after hostOps0_3 (W3 m ρ c) (Proc.devRef .tc main_v6) = _
  rw [← h, ← h3]
  generalize W3 m ρ c = U
  after_results_simp
  rfl

section
variable (x e : Dev nD → Fin 2048 → Fin 1024 → EReal) (g : Dev nD → Fin 1024 → EReal) (w : Dev nD → Fin 1024 → Fin 2568 → EReal) (d : Dev nD → Fin 2048 → Fin 2568 → EReal)
  (hX : ∀ c i k, (m ((c.tc : Thread nD τ).loc main_arg0) : Vec Ideal (M2 2048 1024) .f32) (ix2 i k) = x c i k)
  (hG : ∀ c k, (m ((c.tc : Thread nD τ).loc main_arg1) : Vec Ideal (M2 1 1024) .f32) (ix2 0 k) = g c k)
  (hW : ∀ c k j, (m ((c.tc : Thread nD τ).loc main_arg2) : Vec Ideal (M2 1024 2568) .f32) (ix2 k j) = w c k j)
  (hD : ∀ c i j, (m ((c.tc : Thread nD τ).loc main_arg3) : Vec Ideal (M2 2048 2568) .bf16) (ix2 i j) = d c i j)
  (hE' : ∀ c i k, (m ((c.tc : Thread nD τ).loc main_arg4) : Vec Ideal (M2 2048 1024) .f32) (ix2 i k) = e c i k)

include hW in
theorem wT_at (c : Dev nD) (j : Fin 2568) (k : Fin 1024) : wT m c (ix2 j k) = w c k j := (rd_tr _ _ j k).trans (hW c k j)
include hX in
theorem x4 (c : Dev nD) (i k) : (V4 m ρ c main_arg0 : Vec Ideal (M2 2048 1024) .f32) (ix2 i k) = x c i k :=
  (congrFun (W4_args m ρ c main_arg0 (by decide)) (ix2 i k)).trans (hX c i k)
include hG in
theorem g4 (c : Dev nD) (k) : (V4 m ρ c main_arg1 : Vec Ideal (M2 1 1024) .f32) (ix2 0 k) = g c k :=
  (congrFun (W4_args m ρ c main_arg1 (by decide)) (ix2 0 k)).trans (hG c k)
include hW in
theorem a4 (c : Dev nD) (j : Fin 1024) (k) : (V4 m ρ c main_v2 : Vec Ideal (M2 1024 1024) .bf16) (ix2 j k) = w c k (cA j) :=
  (congrFun ((W4_of m ρ c main_v2 (by decide)).trans ((W3_of m ρ c main_v2 (by decide)).trans ((W2_of m ρ c main_v2 (by decide)).trans (entry_a m ρ c)))) (ix2 j k)).trans
    ((rd_cut 0 (wT m c) _ j k (cA j) (Nat.zero_add _).symm).trans (wT_at m w hW c _ k))
include hW in
theorem b4 (c : Dev nD) (j : Fin 1536) (k) : (V4 m ρ c main_v3 : Vec Ideal (M2 1536 1024) .bf16) (ix2 j k) = w c k (cB j) :=
  (congrFun ((W4_of m ρ c main_v3 (by decide)).trans ((W3_of m ρ c main_v3 (by decide)).trans ((W2_of m ρ c main_v3 (by decide)).trans (entry_b m ρ c)))) (ix2 j k)).trans
    ((rd_cut 1024 (wT m c) _ j k (cB j) rfl).trans (wT_at m w hW c _ k))
include hW in
theorem c4 (c : Dev nD) (l : Fin 8) (k) : (V4 m ρ c main_v5 : Vec Ideal (M2 128 1024) .bf16) (ix2 (lo8 l) k) = w c k (cC l) := by
  obtain ⟨v, hv⟩ := entry_c m ρ c
  refine (congrFun ((W4_of m ρ c main_v5 (by decide)).trans ((W3_of m ρ c main_v5 (by decide)).trans hv)) (ix2 (lo8 l) k)).trans ?_
  refine (pad_apply_of_inside _ _ _ _ v _ _ (ix2 (lo8 l) k) (ix2 l k) (fun a => ?_)).trans ?_
  · fin_cases a
    · show l.val = 0 + l.val * (0 + 1); omega
    · show k.val = 0 + k.val * (0 + 1); omega
  exact (congrFun (entry_f m ρ c) (ix2 l k)).trans ((rd_cut 2560 (wT m c) _ l k (cC l) rfl).trans (wT_at m w hW c _ k))
include hD in
theorem d4 (c : Dev nD) (i) (j : Fin 2568) : (V4 m ρ c main_v6 : Vec Ideal (M2 2048 2688) .bf16) (ix2 i (wide j)) = d c i j := by
  refine (congrFun (entry_d m ρ c) (ix2 i (wide j))).trans ?_
  refine (pad_apply_of_inside _ _ _ _ _ _ _ (ix2 i (wide j)) (ix2 i j) (fun a => ?_)).trans (hD c i j)
  fin_cases a
  · show i.val = 0 + i.val * (0 + 1); omega
  · show j.val = 0 + j.val * (0 + 1); omega
theorem z4 (c : Dev nD) (i) (j : Fin 2688) (hj : 2568 ≤ j.val) : (V4 m ρ c main_v6 : Vec Ideal (M2 2048 2688) .bf16) (ix2 i j) = (0 : EReal) := by
  refine (congrFun (entry_d m ρ c) (ix2 i j)).trans ?_
  refine (pad_apply_of_not_inside _ _ _ _ _ _ _ (ix2 i j) (1 : Fin 2) (fun h => ?_)).trans ?_
  · have h2 : (j.val - 0) / (0 + 1) < 2568 := h.2.2
    rw [Nat.sub_zero, Nat.div_one] at h2; omega
  · show (((0#32 : BitVec 32).toInt : ℝ) : EReal) = 0
    norm_num
theorem keep5 (c : Dev nD) (r : Ref sig .tc) (h : ∀ w : Fin cfg0.W, Pipeline.arrRef spec0 w = r → (cfg0.win w).isOut = false) : V5 m ρ c r = V4 m ρ c r := W5_of m ρ c r h
theorem keep6 (c : Dev nD) (r : Ref sig .tc) (h : ∀ w : Fin cfg1.W, Pipeline.arrRef spec1 w = r → (cfg1.win w).isOut = false) : V6 m ρ c r = V5 m ρ c r := W6_of m ρ c r h

include hX hG hW in
theorem ag_end (c : Dev nD) : W8 m ρ c (Proc.devRef .tc main_v7_1) = aAg (x c) (g c) (w c) :=
  (W8_of m ρ c main_v7_1 (by decide)).trans ((W7_of m ρ c main_v7_1 (by decide)).trans ((W6_of m ρ c main_v7_1 (by decide)).trans ((W5_arr m ρ c 6).trans
    (arr_ag (V4 m ρ) c (x c) (g c) (w c) (x4 m ρ x hX c) (g4 m ρ g hG c) (a4 m ρ w hW c)))))
include hX hG hW in
theorem qkv_end (c : Dev nD) : W8 m ρ c (Proc.devRef .tc main_v7_2) = aQkv (x c) (g c) (w c) :=
  (W8_of m ρ c main_v7_2 (by decide)).trans ((W7_of m ρ c main_v7_2 (by decide)).trans ((W6_of m ρ c main_v7_2 (by decide)).trans ((W5_arr m ρ c 7).trans
    (arr_qkv (V4 m ρ) c (x c) (g c) (w c) (x4 m ρ x hX c) (g4 m ρ g hG c) (b4 m ρ w hW c)))))
/-- The projection's last columns. -/
def aF (x : Fin 2048 → Fin 1024 → EReal) (g : Fin 1024 → EReal) (w : Fin 1024 → Fin 2568 → EReal) : Vec Ideal (M2 2048 8) .f32 := fun y => pE (x (y 0)) g w (cC (y 1))
/-- The weights' gradient, turned. -/
def aW (x : Fin 2048 → Fin 1024 → EReal) (g : Fin 1024 → EReal) (d : Fin 2048 → Fin 2568 → EReal) : Vec Ideal (M2 2568 1024) .bf16 := fun y => ∑ i, d i (y 0) * hE (x i) g (y 1)
include hX hG in
theorem fl7 (c : Dev nD) : W7 m ρ c (Proc.devRef .tc main_v7_3) = aFl (x c) (g c) (V4 m ρ c main_v5) :=
  (W7_of m ρ c main_v7_3 (by decide)).trans ((W6_of m ρ c main_v7_3 (by decide)).trans ((W5_arr m ρ c 8).trans
    (arr_fl (V4 m ρ) c (x c) (g c) (x4 m ρ x hX c) (g4 m ρ g hG c))))
include hX hG hW in
theorem f_end (c : Dev nD) : W8 m ρ c (Proc.devRef .tc main_v12) = aF (x c) (g c) (w c) := by
  have h : W8 m ρ c (Proc.devRef .tc main_v12) = extractStridedSlice S2048x8 ![0, 0] (W7 m ρ c (Proc.devRef .tc main_v7_3) : Vec Ideal (M2 2048 128) .f32) slices_S2048x128_S2048x8_0_0 := by
    show StableHlo.after hostOps3 (W7 m ρ c) (Proc.devRef .tc main_v12) = _
    generalize W7 m ρ c = U
    after_results_simp
  refine h.trans (funext fun y => ?_)
  obtain ⟨i, l, rfl⟩ := ix2_of (a := 2048) (b := 8) y
  refine (rd_left _ _ i l).trans ((congrFun (fl7 m ρ x g hX hG c) (ix2 i (lo8 l))).trans ?_)
  exact Finset.sum_congr rfl fun k _ => mulE rfl (c4 m ρ w hW c l k)
include hX hG hW hD hE' in
theorem dx_end (c : Dev nD) : W8 m ρ c (Proc.devRef .tc main_v8_0) = aDx (x c) (e c) (g c) (w c) (d c) :=
  (W8_of m ρ c main_v8_0 (by decide)).trans ((W7_of m ρ c main_v8_0 (by decide)).trans ((W6_arr m ρ c 7).trans
    (arr_dx (V5 m ρ) c (x c) (e c) (g c) (w c) (d c) (fun i k => (congrFun (W5_args m ρ c main_arg0 (by decide)) (ix2 i k)).trans (hX c i k))
      (fun k => (congrFun (W5_args m ρ c main_arg1 (by decide)) (ix2 0 k)).trans (hG c k))
      (fun j k => (congrFun (keep5 m ρ c main_v2 (by decide)) _).trans (a4 m ρ w hW c j k)) (fun j k => (congrFun (keep5 m ρ c main_v3 (by decide)) _).trans (b4 m ρ w hW c j k))
      (fun j k => (congrFun (keep5 m ρ c main_v5 (by decide)) _).trans (c4 m ρ w hW c j k)) (fun i k => (congrFun (W5_args m ρ c main_arg4 (by decide)) (ix2 i k)).trans (hE' c i k))
      (fun i j => (congrFun (keep5 m ρ c main_v6 (by decide)) _).trans (d4 m ρ d hD c i j)) (fun i j hj => (congrFun (keep5 m ρ c main_v6 (by decide)) _).trans (z4 m ρ c i j hj)))))
include hX hW hD in
theorem dg_end (c : Dev nD) : W8 m ρ c (Proc.devRef .tc main_v8_1) = aDg (x c) (w c) (d c) :=
  (W8_of m ρ c main_v8_1 (by decide)).trans ((W7_of m ρ c main_v8_1 (by decide)).trans ((W6_arr m ρ c 8).trans
    (arr_dg (V5 m ρ) c (x c) (w c) (d c) (fun i k => (congrFun (W5_args m ρ c main_arg0 (by decide)) (ix2 i k)).trans (hX c i k))
      (fun j k => (congrFun (keep5 m ρ c main_v2 (by decide)) _).trans (a4 m ρ w hW c j k)) (fun j k => (congrFun (keep5 m ρ c main_v3 (by decide)) _).trans (b4 m ρ w hW c j k))
      (fun j k => (congrFun (keep5 m ρ c main_v5 (by decide)) _).trans (c4 m ρ w hW c j k))
      (fun i j => (congrFun (keep5 m ρ c main_v6 (by decide)) _).trans (d4 m ρ d hD c i j)) (fun i j hj => (congrFun (keep5 m ρ c main_v6 (by decide)) _).trans (z4 m ρ c i j hj)))))
include hX hG in
theorem h6 (c : Dev nD) (i k) : (V6 m ρ c main_v7_0 : Vec Ideal (M2 2048 1024) .bf16) (ix2 i k) = hE (x c i) (g c) k :=
  congrFun ((keep6 m ρ c main_v7_0 (by decide)).trans ((W5_arr m ρ c 5).trans (arr_h (V4 m ρ) c (x c) (g c) (x4 m ρ x hX c) (g4 m ρ g hG c)))) (ix2 i k)
theorem dw_of (x : Fin 2048 → Fin 1024 → EReal) (g : Fin 1024 → EReal) (d : Fin 2048 → Fin 2568 → EReal) (P : Vec Ideal (M2 2048 2688) .bf16)
    (h : ∀ i j, P (ix2 i (wide j)) = d i j) (j : Fin 2568) (k : Fin 1024) : aDw x g P (ix3 0 (wide j) k) = aW x g d (ix2 j k) :=
  Finset.sum_congr rfl fun i _ => mulE (h i j) rfl
include hX hG hD in
theorem dw_end (c : Dev nD) : W8 m ρ c (Proc.devRef .tc main_v11) = aW (x c) (g c) (d c) := by
  have h : W8 m ρ c (Proc.devRef .tc main_v11) = extractStridedSlice S2568x1024 ![0, 0] (shapeCast S2688x1024 (W7 m ρ c (Proc.devRef .tc main_v9) : Vec Ideal (M3 1 2688 1024) .bf16) shapeCasts_S1x2688x1024_S2688x1024) slices_S2688x1024_S2568x1024_0_0 := by
    show StableHlo.after hostOps3 (W7 m ρ c) (Proc.devRef .tc main_v11) = _
    generalize W7 m ρ c = U
    after_results_simp
    rfl
  have h7 : W7 m ρ c (Proc.devRef .tc main_v9) = aDw (x c) (g c) (V6 m ρ c main_v6) := (W7_arr m ρ c 2).trans (arr_dw (V6 m ρ) c (x c) (g c) (h6 m ρ x g hX hG c))
  refine h.trans (funext fun y => ?_)
  obtain ⟨j, k, rfl⟩ := ix2_of (a := 2568) (b := 1024) y
  refine (rd_cut 0 _ _ j k (wide j) (Nat.zero_add _).symm).trans ((rd_flat _ _ _ k).trans ((congrFun h7 (ix3 0 (wide j) k)).trans ?_))
  exact dw_of (x c) (g c) (d c) (V6 m ρ c main_v6) (fun i j => (congrFun ((keep6 m ρ c main_v6 (by decide)).trans (keep5 m ρ c main_v6 (by decide))) (ix2 i (wide j))).trans (d4 m ρ d hD c i j)) j k

set_option backward.isDefEq.respectTransparency.types false in
include hX hG hW hD hE' in
/-- The projection's program ends with its values and gradients, its arguments as they were. -/
theorem proj_run : θ_run defs (onTc (τ := τ) (main (F := Ideal))) ⟨m, fun _ => 0, ρ⟩ (fun r => ∀ c : Dev nD,
      r.2.mem ((c.tc : Thread nD τ).loc main_v7_1) = aAg (x c) (g c) (w c)
      ∧ r.2.mem ((c.tc : Thread nD τ).loc main_v7_2) = aQkv (x c) (g c) (w c)
      ∧ r.2.mem ((c.tc : Thread nD τ).loc main_v12) = aF (x c) (g c) (w c)
      ∧ r.2.mem ((c.tc : Thread nD τ).loc main_v8_0) = aDx (x c) (e c) (g c) (w c) (d c)
      ∧ r.2.mem ((c.tc : Thread nD τ).loc main_v8_1) = aDg (x c) (w c) (d c)
      ∧ r.2.mem ((c.tc : Thread nD τ).loc main_v11) = aW (x c) (g c) (d c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v7_1 (by decide))).trans (ag_end m ρ x g w hX hG hW c),
       (h c _ (mem_uc main_v7_2 (by decide))).trans (qkv_end m ρ x g w hX hG hW c),
       (h c _ (mem_uc main_v12 (by decide))).trans (f_end m ρ x g w hX hG hW c),
       (h c _ (mem_uc main_v8_0 (by decide))).trans (dx_end m ρ x e g w d hX hG hW hD hE' c),
       (h c _ (mem_uc main_v8_1 (by decide))).trans (dg_end m ρ x w d hX hW hD c),
       (h c _ (mem_uc main_v11 (by decide))).trans (dw_end m ρ x g d hX hG hD c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)
end
end Cert.Proj
end
-- ==== Proof.Hr.lean ====
module
public import proofs.«01_k».proof.Proof.Hw
public import proofs.«01_k».proof.Proof.Gen.Reference4Ideal.Read
@[expose] public section
set_option maxRecDepth 16384
noncomputable section

/-! The projection's reference and its cotangents, on the extended reals. -/

namespace Cert.Proj
open Idealize.ShloMosaic Cert.Reference4Ideal Cert.Reference4Ideal.Read
open Cert.Attn (M1 M2 M3)

theorem at2 {α : Type} {a b : ℕ} (f : (M2 a b).Idx → α) (y : (M2 a b).Idx) (i : Fin a) (l : Fin b) (h0 : (y 0).val = i.val) (h1 : (y 1).val = l.val) : f y = f (ix2 i l) := by
  refine congrArg f ?_
  funext k; fin_cases k
  · exact Fin.ext h0
  · exact Fin.ext h1
theorem z_add {a b : EReal} (h : a = b) : Ideal.ofBits .f32 0x00000000#32 + a = b := by rw [h, Ideal.ofBits_zero_f32, zero_add]

section
variable (X E : Vec Ideal (M2 2048 1024) .f32) (G : Vec Ideal (M2 1 1024) .f32) (W : Vec Ideal (M2 1024 2568) .f32) (D : Vec Ideal (M2 2048 2568) .bf16)
variable (x e : Fin 2048 → Fin 1024 → EReal) (g : Fin 1024 → EReal) (w : Fin 1024 → Fin 2568 → EReal) (d : Fin 2048 → Fin 2568 → EReal)
variable (hX : ∀ i k, X (ix2 i k) = x i k) (hG : ∀ k, G (ix2 0 k) = g k) (hW : ∀ k j, W (ix2 k j) = w k j)
  (hD : ∀ i j, D (ix2 i j) = d i j) (hE' : ∀ i k, E (ix2 i k) = e i k)

include hX in
theorem r6 (i : Fin 2048) : val_main_v6 (F := Ideal) X (ix2 i 0) = vE (x i) := by
  rw [val_main_v6_apply, val_main_v4_apply, val_main_v2_apply, val_main_v1_apply]
  have h := z_add (Finset.sum_congr rfl fun k (_ : k ∈ Finset.univ) => (at2 (val_main_v0 X) (idx_main_v1 (idx_main_v2 (ix2 i 0)) k) i k rfl rfl).trans (mulE (hX i k) (hX i k)))
  exact congrArg (fun s : EReal => Ideal.div s (Ideal.ofBits .f32 0x44800000#32) + Ideal.ofBits .f32 0x358637BD#32) h
include hX in
theorem r7 (i : Fin 2048) : val_main_v7 (F := Ideal) X (ix2 i 0) = rE (x i) := by
  rw [val_main_v7_apply, r6 X x hX]
  rfl
include hX in
theorem r10 (i : Fin 2048) : val_main_v10 (F := Ideal) X (ix2 i 0) = Ideal.ofBits .f32 0xBF000000#32 * Ideal.div (rE (x i)) (vE (x i)) := by
  rw [val_main_v10_apply, val_main_v8_apply, r7 X x hX, r6 X x hX]
  rfl
include hX in
theorem r12 (i : Fin 2048) (k : Fin 1024) : val_main_v12 (F := Ideal) X (ix2 i k) = x i k * rE (x i) := by
  rw [val_main_v12_apply, val_main_v11_apply]
  exact mulE (hX i k) ((at2 (val_main_v7 X) _ i 0 rfl rfl).trans (r7 X x hX i))
include hX hG in
theorem r14 (i : Fin 2048) (k : Fin 1024) : val_main_v14 (F := Ideal) X G (ix2 i k) = hE (x i) g k := by
  rw [val_main_v14_apply, val_main_v13_apply]
  exact mulE (r12 X x hX i k) ((at2 G _ 0 k rfl rfl).trans (hG k))
include hX hG hW in
theorem r15 (i : Fin 2048) (j : Fin 2568) : val_main_v15 (F := Ideal) X G W (ix2 i j) = pE (x i) g w j := by
  rw [val_main_v15_apply]
  exact Finset.sum_congr rfl fun k _ => mulE ((at2 (val_main_v14 X G) _ i k rfl rfl).trans (r14 X G x g hX hG i k)) ((at2 W _ k j rfl rfl).trans (hW k j))
include hX hG hW in
theorem r39 : val_main_v39 (F := Ideal) X G W = aAg x g w := by
  funext y
  obtain ⟨i, l, rfl⟩ := ix2_of (a := 2048) (b := 1024) y
  rw [val_main_v39_apply]
  exact (at2 (val_main_v15 X G W) _ i (cA l) rfl rfl).trans (r15 X G W x g w hX hG hW i _)
include hX hG hW in
theorem r42 : val_main_v42 (F := Ideal) X G W = aQkv x g w := by
  funext y
  obtain ⟨i, l, rfl⟩ := ix2_of (a := 2048) (b := 1536) y
  rw [val_main_v42_apply, val_main_v40_apply]
  exact (at2 (val_main_v15 X G W) _ i (cB l) rfl rfl).trans (r15 X G W x g w hX hG hW i _)
include hX hG hW in
theorem r41 : val_main_v41 (F := Ideal) X G W = aF x g w := by
  funext y
  obtain ⟨i, l, rfl⟩ := ix2_of (a := 2048) (b := 8) y
  rw [val_main_v41_apply]
  exact (at2 (val_main_v15 X G W) _ i (cC l) rfl rfl).trans (r15 X G W x g w hX hG hW i _)
include hD hW in
theorem r19 (i : Fin 2048) (k : Fin 1024) : val_main_v19 (F := Ideal) W D (ix2 i k) = dhE w (d i) k := by
  rw [val_main_v19_apply]
  exact Finset.sum_congr rfl fun j _ => mulE ((at2 (val_main_v16 D) _ i j rfl rfl).trans (hD i j)) ((at2 W _ k j rfl rfl).trans (hW k j))
include hX hW hD in
theorem r22 : val_main_v22 (F := Ideal) X W D = aDg x w d := by
  funext y
  obtain ⟨a, k, rfl⟩ := ix2_of (a := 1) (b := 1024) y
  obtain rfl : a = 0 := Subsingleton.elim _ _
  rw [val_main_v22_apply, val_main_v21_apply]
  refine z_add (Finset.sum_congr rfl fun i _ => ?_)
  refine (at2 (val_main_v20 X W D) _ i k rfl (by show 0 * 1024 + k.val = k.val; omega)).trans ?_
  rw [val_main_v20_apply]
  refine (mulE (r12 X x hX i k) (r19 W D w d hW hD i k)).trans ?_
  show x i k * rE (x i) * dhE w (d i) k = dhE w (d i) k * x i k * rE (x i)
  rw [mul_comm (x i k * rE (x i)), mul_assoc]
include hG hW hD in
theorem r24 (i : Fin 2048) (k : Fin 1024) : val_main_v24 (F := Ideal) G W D (ix2 i k) = tE g w (d i) k := by
  rw [val_main_v24_apply, val_main_v23_apply]
  exact mulE (r19 W D w d hW hD i k) ((at2 G _ 0 k rfl rfl).trans (hG k))
include hX hG hW hD in
theorem r27 (i : Fin 2048) : val_main_v27 (F := Ideal) X G W D (ix2 i 0) = ∑ k, x i k * tE g w (d i) k := by
  rw [val_main_v27_apply, val_main_v26_apply]
  refine z_add (Finset.sum_congr rfl fun k _ => ?_)
  refine (at2 (val_main_v25 X G W D) _ i k (by show i.val * 1 + 0 = i.val; omega) rfl).trans ?_
  rw [val_main_v25_apply]
  exact mulE (hX i k) (r24 G W D g w d hG hW hD i k)
include hX hG hW hD in
theorem r34 (i : Fin 2048) (k : Fin 1024) : val_main_v34 (F := Ideal) X G W D (ix2 i k)
    = Ideal.div ((∑ l, x i l * tE g w (d i) l) * (Ideal.ofBits .f32 0xBF000000#32 * Ideal.div (rE (x i)) (vE (x i)))) (Ideal.ofBits .f32 0x44800000#32) := by
  rw [val_main_v34_apply]
  rw [val_main_v33_apply]
  refine z_add ?_
  rw [Fin.sum_univ_one]
  refine (at2 (val_main_v32 X G W D) _ i 0 rfl rfl).trans ?_
  rw [val_main_v32_apply, val_main_v30_apply, r27 X G W D x g w d hX hG hW hD, r10 X x hX]
  rfl
include hX hG hW hD hE' in
theorem r43 : val_main_v43 (F := Ideal) X G W D E = aDx x e g w d := by
  funext y
  obtain ⟨i, k, rfl⟩ := ix2_of (a := 2048) (b := 1024) y
  rw [val_main_v43_apply, val_main_v38_apply, val_main_v36_apply, val_main_v35_apply, val_main_v37_apply, val_main_v29_apply, val_main_v28_apply,
    r34 X G W D x g w d hX hG hW hD, r24 G W D g w d hG hW hD]
  have h7 := (at2 (val_main_v7 (F := Ideal) X) (idx_main_v28 (ix2 i k)) i 0 rfl rfl).trans (r7 X x hX i)
  exact (addE (hE' i k) (addE (addE (mulE rfl h7) (mulE (hX i k) rfl)) (mulE rfl (hX i k)))).trans (dxE_eq (x i) g (e i) w (d i) k)
include hX hG hD in
theorem r45 : val_main_v45 (F := Ideal) X G D = aW x g d := by
  funext y
  obtain ⟨j, k, rfl⟩ := ix2_of (a := 2568) (b := 1024) y
  rw [val_main_v45_apply, val_main_v44_apply]
  refine (at2 (val_main_v18 (F := Ideal) X G D) _ k j rfl rfl).trans ?_
  rw [val_main_v18_apply]
  refine (at2 (val_main_v17 (F := Ideal) X G D) _ j k rfl rfl).trans ?_
  rw [val_main_v17_apply]
  exact Finset.sum_congr rfl fun i _ => mulE ((at2 (val_main_v16 D) _ i j rfl rfl).trans (hD i j)) ((at2 (val_main_v14 X G) _ i k rfl rfl).trans (r14 X G x g hX hG i k))
end
end Cert.Proj
end
-- ==== Proof.lean ====
/- The attention, the feed-forward layers and the input projection of the training step, forward and backward: the certificate. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2
public import proofs.«01_k».proof.Proof.Run
public import proofs.«01_k».proof.Proof.Ref
public import proofs.«01_k».proof.Proof.Fin
public import proofs.«01_k».proof.Proof.Fv
public import proofs.«01_k».proof.Proof.Fq
public import proofs.«01_k».proof.Proof.Fp
public import proofs.«01_k».proof.Proof.Fx
public import proofs.«01_k».proof.Proof.Gen.Kernel3
public import proofs.«01_k».proof.Proof.Gv
public import proofs.«01_k».proof.Proof.Gx
public import proofs.«01_k».proof.Proof.Gen.Kernel4.Frame
public import proofs.«01_k».proof.Proof.Gen.Reference4Ideal.Run
public import proofs.«01_k».proof.Proof.Hw
public import proofs.«01_k».proof.Proof.Hr
public import Idealize.ShloMosaic.Adequacy
public import Idealize.ShloMosaic.Init

@[expose] public section

noncomputable section

namespace Cert.Proof

open Idealize.ShloMosaic Idealize.SL.Sem Cert.Attn

/-- The reference's program has no semaphore. -/
theorem no_sem : SemLoc Cert.ReferenceIdeal.sig → False
  | .reg s => s.elim0
  | .dma s => s.elim0

section
open Cert.ReferenceIdeal Cert.ReferenceIdeal.Gen
/-- The reference ends, with its arguments as they were and no semaphore raised. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2.2.2.2.2, funext fun s => (no_sem s.2).elim⟩) (Cert.ReferenceIdeal.Value.run (F := Ideal) m g)
end

open Cert.KernelIdeal.Value Cert.ReferenceIdeal.Value Cert.ReferenceIdeal.Read in
theorem value : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hp ha
  have hr := fun c => Cert.Finite.reals _ _ _ (hp c)
  choose x hx using fun c => (hr c).1
  choose u hu using fun c => (hr c).2.1
  choose w hw using fun c => (hr c).2.2
  refine ⟨fun c => aO (fun i l => x c (ix2 i l)) (fun h i => u c (ix2 h i)),
    fun c => aDq (fun i l => x c (ix2 i l)) (fun h i => u c (ix2 h i)) (fun i l => w c (ix2 i l)),
    fun c => aDk (fun i l => x c (ix2 i l)) (fun h i => u c (ix2 h i)) (fun i l => w c (ix2 i l)),
    fun c => aDv (fun i l => x c (ix2 i l)) (fun h i => u c (ix2 h i)) (fun i l => w c (ix2 i l)),
    fun c => aDd (fun i l => x c (ix2 i l)) (fun h i => u c (ix2 h i)) (fun i l => w c (ix2 i l)),
    Cert.KernelIdeal.Value.run m g _ _ _ (fun c i l => hx c _) (fun c i l => hu c _) (fun c i l => hw c _), ?_⟩
  refine (θ_run Cert.ReferenceIdeal.defs _ _).mono (fun r h c => ?_) (Cert.ReferenceIdeal.Value.run (F := Ideal) m' g')
  obtain ⟨h0, h1, h2, h3, h4, hargs⟩ := h c
  obtain ⟨a0, a1, a2⟩ := ha c
  refine ⟨h0.trans ?_, h1.trans ?_, h2.trans ?_, h3.trans ?_, h4.trans ?_, hargs⟩
  · rw [val_main_v55_eq, a0, a1]
    funext y
    obtain ⟨i, l, rfl⟩ := ix2_of y
    exact o_ref _ _ _ _ (fun i l => hx c _) (fun i l => hu c _) i l
  · rw [val_main_v93_eq, a0, a1, a2]
    funext y
    obtain ⟨i, l, rfl⟩ := ix2_of y
    exact dq_ref _ _ _ _ _ _ (fun i l => hx c _) (fun i l => hu c _) (fun i l => hw c _) i l
  · rw [val_main_v91_eq, a0, a1, a2]
    funext y
    obtain ⟨i, l, rfl⟩ := ix2_of y
    exact dk_ref _ _ _ _ _ _ (fun i l => hx c _) (fun i l => hu c _) (fun i l => hw c _) i l
  · rw [val_main_v89_eq, a0, a1, a2]
    funext y
    obtain ⟨i, l, rfl⟩ := ix2_of y
    exact dv_ref _ _ _ _ _ _ (fun i l => hx c _) (fun i l => hu c _) (fun i l => hw c _) i l
  · rw [val_main_v94_eq, a0, a1, a2]
    funext y
    obtain ⟨i, j, l, rfl⟩ := ix3_of y
    exact dd_ref _ _ _ _ _ _ (fun i l => hx c _) (fun i l => hu c _) (fun i l => hw c _) i j l

/-- The feed-forward reference's program has no semaphore. -/
theorem no_sem2 : SemLoc Cert.Reference2Ideal.sig → False
  | .reg s => s.elim0
  | .dma s => s.elim0

section
open Cert.Reference2Ideal Cert.Reference2Ideal.Gen
/-- The feed-forward reference ends, with its arguments as they were and no semaphore raised. -/
theorem ref2_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2.2.2, funext fun s => (no_sem2 s.2).elim⟩) (Cert.Reference2Ideal.Value.run (F := Ideal) m g)
end

open Cert.Ffn Cert.Reference2Ideal.Read in
theorem value2 : Cert.algebraic_Kernel2Ideal_Reference2Ideal_pre_finite2 (hKernel2Ideal := Cert.Kernel2Ideal.Gen.facts)
    (hReference2Ideal := Cert.Reference2Ideal.Gen.facts) (hPre_finite2 := Cert.Ffn.pre_facts) := by
  intro m g m' g' hp ha
  have hr := fun c => reals2 _ _ _ _ _ (hp c)
  choose x hx using fun c => (hr c).1
  choose s hs using fun c => (hr c).2.1
  choose w hw using fun c => (hr c).2.2.1
  choose v hv using fun c => (hr c).2.2.2.1
  choose d hd using fun c => (hr c).2.2.2.2
  let x' : Dev Cert.Kernel2Ideal.nD → Fin 2048 → Fin 1024 → ℝ := fun c i k => x c (ix2 i k)
  let s' : Dev Cert.Kernel2Ideal.nD → Fin 1024 → ℝ := fun c k => s c (ix2 0 k)
  let w' : Dev Cert.Kernel2Ideal.nD → Fin 1024 → Fin 5632 → ℝ := fun c k j => w c (ix2 k j)
  let v' : Dev Cert.Kernel2Ideal.nD → Fin 2816 → Fin 1024 → ℝ := fun c j k => v c (ix2 j k)
  let d' : Dev Cert.Kernel2Ideal.nD → Fin 2048 → Fin 1024 → ℝ := fun c i k => d c (ix2 i k)
  refine ⟨fun c => aY (x' c) (s' c) (w' c) (v' c), fun c => aX (x' c) (d' c) (s' c) (w' c) (v' c) (fun i => zz (x' c i) (s' c) (w' c)),
    fun c => aG (x' c) (d' c) (w' c) (v' c) (fun i => zz (x' c i) (s' c) (w' c)),
    fun c => aW13 (fun i => hh (x' c i) (s' c)) (fun i => dz (d' c i) (v' c) (zz (x' c i) (s' c) (w' c))),
    fun c => aW2 (fun i => act (zz (x' c i) (s' c) (w' c))) (fun i => Ffn.hd (d' c i)),
    ffn_value m g x' d' s' w' v' (fun c i k => hx c _) (fun c k => hs c _) (fun c k j => hw c _) (fun c j k => hv c _) (fun c i k => hd c _), ?_⟩
  refine (θ_run Cert.Reference2Ideal.defs _ _).mono (fun r h c => ?_) (Cert.Reference2Ideal.Value.run (F := Ideal) m' g')
  obtain ⟨h0, h1, h2, h3, h4, hargs⟩ := h c
  obtain ⟨a0, a1, a2, a3, a4⟩ := ha c
  refine ⟨h0.trans ?_, h1.trans ?_, h2.trans ?_, h3.trans ?_, h4.trans ?_, hargs⟩
  · rw [val_main_v23_eq, a0, a1, a2, a3]
    exact r23 _ _ _ _ _ _ _ _ (fun i k => hx c _) (fun k => hs c _) (fun k j => hw c _) (fun j k => hv c _)
  · rw [val_main_v56_eq, a0, a1, a2, a3, a4]
    exact r56 _ _ _ _ _ _ _ _ _ _ (fun i k => hx c _) (fun k => hs c _) (fun k j => hw c _) (fun j k => hv c _) (fun i k => hd c _)
  · rw [val_main_v39_eq, a0, a1, a2, a3, a4]
    exact r39 _ _ _ _ _ _ _ _ _ _ (fun i k => hx c _) (fun k => hs c _) (fun k j => hw c _) (fun j k => hv c _) (fun i k => hd c _)
  · rw [val_main_v59_eq, a0, a1, a2, a3, a4]
    exact r59 _ _ _ _ _ _ _ _ _ _ (fun i k => hx c _) (fun k => hs c _) (fun k j => hw c _) (fun j k => hv c _) (fun i k => hd c _)
  · rw [val_main_v61_eq, a0, a1, a2, a4]
    exact r61 _ _ _ _ _ _ _ _ (fun i k => hx c _) (fun k => hs c _) (fun k j => hw c _) (fun i k => hd c _)

open Cert.Ffn Cert.Reference2Ideal.Read in
theorem value3 : Cert.algebraic_Kernel3Ideal_Reference2Ideal_pre_finite2 (hKernel3Ideal := Cert.Kernel3Ideal.Gen.facts)
    (hReference2Ideal := Cert.Reference2Ideal.Gen.facts) (hPre_finite2 := Cert.Ffn.pre_facts) := by
  intro m g m' g' hp ha
  have hr := fun c => reals2 _ _ _ _ _ (hp c)
  choose x hx using fun c => (hr c).1
  choose s hs using fun c => (hr c).2.1
  choose w hw using fun c => (hr c).2.2.1
  choose v hv using fun c => (hr c).2.2.2.1
  choose d hd using fun c => (hr c).2.2.2.2
  let x' : Dev Cert.Kernel3Ideal.nD → Fin 2048 → Fin 1024 → ℝ := fun c i k => x c (ix2 i k)
  let s' : Dev Cert.Kernel3Ideal.nD → Fin 1024 → ℝ := fun c k => s c (ix2 0 k)
  let w' : Dev Cert.Kernel3Ideal.nD → Fin 1024 → Fin 5632 → ℝ := fun c k j => w c (ix2 k j)
  let v' : Dev Cert.Kernel3Ideal.nD → Fin 2816 → Fin 1024 → ℝ := fun c j k => v c (ix2 j k)
  let d' : Dev Cert.Kernel3Ideal.nD → Fin 2048 → Fin 1024 → ℝ := fun c i k => d c (ix2 i k)
  refine ⟨fun c => aY (x' c) (s' c) (w' c) (v' c), fun c => aX (x' c) (d' c) (s' c) (w' c) (v' c) (fun i => zz (x' c i) (s' c) (w' c)),
    fun c => aG (x' c) (d' c) (w' c) (v' c) (fun i => zz (x' c i) (s' c) (w' c)),
    fun c => aW13 (fun i => hh (x' c i) (s' c)) (fun i => dz (d' c i) (v' c) (zz (x' c i) (s' c) (w' c))),
    fun c => aW2 (fun i => act (zz (x' c i) (s' c) (w' c))) (fun i => Ffn.hd (d' c i)),
    Cert.Up.ffn_value m g x' d' s' w' v' (fun c i k => hx c _) (fun c k => hs c _) (fun c k j => hw c _) (fun c j k => hv c _) (fun c i k => hd c _), ?_⟩
  refine (θ_run Cert.Reference2Ideal.defs _ _).mono (fun r h c => ?_) (Cert.Reference2Ideal.Value.run (F := Ideal) m' g')
  obtain ⟨h0, h1, h2, h3, h4, hargs⟩ := h c
  obtain ⟨a0, a1, a2, a3, a4⟩ := ha c
  refine ⟨h0.trans ?_, h1.trans ?_, h2.trans ?_, h3.trans ?_, h4.trans ?_, hargs⟩
  · rw [val_main_v23_eq, a0, a1, a2, a3]
    exact r23 _ _ _ _ _ _ _ _ (fun i k => hx c _) (fun k => hs c _) (fun k j => hw c _) (fun j k => hv c _)
  · rw [val_main_v56_eq, a0, a1, a2, a3, a4]
    exact r56 _ _ _ _ _ _ _ _ _ _ (fun i k => hx c _) (fun k => hs c _) (fun k j => hw c _) (fun j k => hv c _) (fun i k => hd c _)
  · rw [val_main_v39_eq, a0, a1, a2, a3, a4]
    exact r39 _ _ _ _ _ _ _ _ _ _ (fun i k => hx c _) (fun k => hs c _) (fun k j => hw c _) (fun j k => hv c _) (fun i k => hd c _)
  · rw [val_main_v59_eq, a0, a1, a2, a3, a4]
    exact r59 _ _ _ _ _ _ _ _ _ _ (fun i k => hx c _) (fun k => hs c _) (fun k j => hw c _) (fun j k => hv c _) (fun i k => hd c _)
  · rw [val_main_v61_eq, a0, a1, a2, a4]
    exact r61 _ _ _ _ _ _ _ _ (fun i k => hx c _) (fun k => hs c _) (fun k j => hw c _) (fun i k => hd c _)

/-- The projection's reference has no semaphore. -/
theorem no_sem4 : SemLoc Cert.Reference4Ideal.sig → False
  | .reg s => s.elim0
  | .dma s => s.elim0

section
open Cert.Reference4Ideal Cert.Reference4Ideal.Gen
/-- The projection's reference ends, with its arguments as they were and no semaphore raised. -/
theorem ref4_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2.2.2.2, funext fun s => (no_sem4 s.2).elim⟩) (Cert.Reference4Ideal.Value.run (F := Ideal) m g)
end

open Cert.Proj Cert.Reference4Ideal.Read in
theorem value4 : Cert.algebraic_Kernel4Ideal_Reference4Ideal (hKernel4Ideal := Cert.Kernel4Ideal.Gen.facts)
    (hReference4Ideal := Cert.Reference4Ideal.Gen.facts) := by
  intro m g m' g' _ ha
  let X := fun c : Dev Cert.Kernel4Ideal.nD => (m ((c.tc : Thread Cert.Kernel4Ideal.nD Cert.Kernel4Ideal.τ).loc Cert.Kernel4Ideal.main_arg0) : Vec Ideal (M2 2048 1024) .f32)
  let G := fun c : Dev Cert.Kernel4Ideal.nD => (m ((c.tc : Thread Cert.Kernel4Ideal.nD Cert.Kernel4Ideal.τ).loc Cert.Kernel4Ideal.main_arg1) : Vec Ideal (M2 1 1024) .f32)
  let W := fun c : Dev Cert.Kernel4Ideal.nD => (m ((c.tc : Thread Cert.Kernel4Ideal.nD Cert.Kernel4Ideal.τ).loc Cert.Kernel4Ideal.main_arg2) : Vec Ideal (M2 1024 2568) .f32)
  let D := fun c : Dev Cert.Kernel4Ideal.nD => (m ((c.tc : Thread Cert.Kernel4Ideal.nD Cert.Kernel4Ideal.τ).loc Cert.Kernel4Ideal.main_arg3) : Vec Ideal (M2 2048 2568) .bf16)
  let E := fun c : Dev Cert.Kernel4Ideal.nD => (m ((c.tc : Thread Cert.Kernel4Ideal.nD Cert.Kernel4Ideal.τ).loc Cert.Kernel4Ideal.main_arg4) : Vec Ideal (M2 2048 1024) .f32)
  let x : Dev Cert.Kernel4Ideal.nD → Fin 2048 → Fin 1024 → EReal := fun c i k => X c (ix2 i k)
  let s : Dev Cert.Kernel4Ideal.nD → Fin 1024 → EReal := fun c k => G c (ix2 0 k)
  let w : Dev Cert.Kernel4Ideal.nD → Fin 1024 → Fin 2568 → EReal := fun c k j => W c (ix2 k j)
  let d : Dev Cert.Kernel4Ideal.nD → Fin 2048 → Fin 2568 → EReal := fun c i j => D c (ix2 i j)
  let e : Dev Cert.Kernel4Ideal.nD → Fin 2048 → Fin 1024 → EReal := fun c i k => E c (ix2 i k)
  refine ⟨fun c => aAg (x c) (s c) (w c), fun c => aQkv (x c) (s c) (w c), fun c => aF (x c) (s c) (w c),
    fun c => aDx (x c) (e c) (s c) (w c) (d c), fun c => aDg (x c) (w c) (d c), fun c => aW (x c) (s c) (d c),
    proj_run m g x e s w d (fun _ _ _ => rfl) (fun _ _ => rfl) (fun _ _ _ => rfl) (fun _ _ _ => rfl) (fun _ _ _ => rfl), ?_⟩
  refine (θ_run Cert.Reference4Ideal.defs _ _).mono (fun r h c => ?_) (Cert.Reference4Ideal.Value.run (F := Ideal) m' g')
  obtain ⟨h0, h1, h2, h3, h4, h5, hargs⟩ := h c
  obtain ⟨a0, a1, a2, a3, a4⟩ := ha c
  refine ⟨h0.trans ?_, h1.trans ?_, h2.trans ?_, h3.trans ?_, h4.trans ?_, h5.trans ?_, hargs⟩
  · rw [val_main_v39_eq, a0, a1, a2]
    exact r39 (X c) (G c) (W c) _ _ _ (fun _ _ => rfl) (fun _ => rfl) (fun _ _ => rfl)
  · rw [val_main_v42_eq, a0, a1, a2]
    exact r42 (X c) (G c) (W c) _ _ _ (fun _ _ => rfl) (fun _ => rfl) (fun _ _ => rfl)
  · rw [val_main_v41_eq, a0, a1, a2]
    exact r41 (X c) (G c) (W c) _ _ _ (fun _ _ => rfl) (fun _ => rfl) (fun _ _ => rfl)
  · rw [val_main_v43_eq, a0, a1, a2, a3, a4]
    exact r43 (X c) (E c) (G c) (W c) (D c) _ _ _ _ _ (fun _ _ => rfl) (fun _ => rfl) (fun _ _ => rfl) (fun _ _ => rfl) (fun _ _ => rfl)
  · rw [val_main_v22_eq, a0, a2, a3]
    exact r22 (X c) (W c) (D c) _ _ _ (fun _ _ => rfl) (fun _ _ => rfl) (fun _ _ => rfl)
  · rw [val_main_v45_eq, a0, a1, a3]
    exact r45 (X c) (G c) (D c) _ _ _ (fun _ _ => rfl) (fun _ => rfl) (fun _ _ => rfl)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts,
    Cert.Kernel4.Gen.facts, Cert.Kernel4Ideal.Gen.facts, Cert.Reference4Ideal.Gen.facts, Cert.Finite.facts, Cert.Ffn.pre_facts,
    fun m g _ => Cert.Kernel.Gen.frame m g, fun m g _ => Cert.KernelIdeal.Gen.frame m g, fun m g _ => Cert.KernelIdeal.Gen.frame m g,
    fun m g _ => ref_frame m g, fun m g _ => ref_frame m g,
    fun m g _ => Cert.Ffn.Same.frame m g,
    fun m g _ => Cert.Ffn.ffn_frame (F := Ideal) m g, fun m g _ => Cert.Ffn.ffn_frame (F := Ideal) m g,
    fun m g _ => ref2_frame m g, fun m g _ => ref2_frame m g,
    fun m g _ => Cert.Up.Same.frame m g,
    fun m g _ => Cert.Up.ffn_frame (F := Ideal) m g, fun m g _ => Cert.Up.ffn_frame (F := Ideal) m g,
    fun m g _ => Cert.Kernel4.Gen.frame m g, fun m g _ => Cert.Kernel4Ideal.Gen.frame m g, fun m g _ => ref4_frame m g,
    trivial, value, trivial, value2, trivial, value3, trivial, value4⟩

end Cert.Proof

end
